-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_spread [hPre_spread : Cert.Pre_spread.Facts] (m : (ℓ : Loc Cert.KernelIdeal.nD Cert.KernelIdeal.τ Cert.KernelIdeal.sig) → Buf (Elt Ideal) ℓ) : Prop :=
  ∀ c : Dev Cert.KernelIdeal.nD,
    (Cert.Pre_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spread [hPre_spread : Cert.Pre_spread.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_spread [hKernelIdeal : Cert.KernelIdeal.Facts] [hPre_spread : Cert.Pre_spread.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spread m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_spread [hReferenceIdeal : Cert.ReferenceIdeal.Facts] [hPre_spread : Cert.Pre_spread.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spread m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_spread [hKernelIdeal : Cert.KernelIdeal.Facts] [hReferenceIdeal : Cert.ReferenceIdeal.Facts] [hPre_spread : Cert.Pre_spread.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spread m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_spread : Cert.Pre_spread.Facts),
    quiescent_Kernel (hKernel := hKernel)
    ∧ quiescent_KernelIdeal (hKernelIdeal := hKernelIdeal)
    ∧ quiescent_KernelIdeal_pre_spread (hKernelIdeal := hKernelIdeal) (hPre_spread := hPre_spread)
    ∧ quiescent_ReferenceIdeal (hReferenceIdeal := hReferenceIdeal)
    ∧ quiescent_ReferenceIdeal_pre_spread (hReferenceIdeal := hReferenceIdeal) (hPre_spread := hPre_spread)
    ∧ preserves_Kernel_KernelIdeal
    ∧ algebraic_KernelIdeal_ReferenceIdeal_pre_spread (hKernelIdeal := hKernelIdeal) (hReferenceIdeal := hReferenceIdeal) (hPre_spread := hPre_spread)
-- ==== Pre_spread.lean ====
abbrev S128x100000 : Shape := ⟨2, ![128, 100000]⟩
abbrev S_ : Shape := ⟨0, ![]⟩
abbrev S128x6250x16 : Shape := ⟨3, ![128, 6250, 16]⟩
abbrev S128x16 : Shape := ⟨2, ![128, 16]⟩
abbrev S128x1x16 : Shape := ⟨3, ![128, 1, 16]⟩
abbrev S128 : Shape := ⟨1, ![128]⟩
abbrev S128x1x1 : Shape := ⟨3, ![128, 1, 1]⟩

class Facts : Prop where
  shapeCasts_S128x100000_S128x6250x16 : S128x100000.ShapeCasts S128x6250x16
  bcast_S_S128x6250x16 : S_.BroadcastsInDim S128x6250x16 (![] : Fin 0 → Fin S128x6250x16.rank)
  reducesTo_S128x6250x16_S128x16_d1 : S128x6250x16.ReducesTo [1] S128x16
  h_S_ : 0 < S_.numel
  bcast_S128x16_S128x1x16_0_2 : S128x16.BroadcastsInDim S128x1x16 (![0, 2] : Fin 2 → Fin S128x1x16.rank)
  bcast_S128x1x16_S128x6250x16_0_1_2 : S128x1x16.BroadcastsInDim S128x6250x16 (![0, 1, 2] : Fin 3 → Fin S128x6250x16.rank)
  reducesTo_S128x16_S128_d1 : S128x16.ReducesTo [1] S128
  bcast_S128_S128x1x1_0 : S128.BroadcastsInDim S128x1x1 (![0] : Fin 1 → Fin S128x1x1.rank)
  bcast_S128x1x1_S128x6250x16_0_1_2 : S128x1x1.BroadcastsInDim S128x6250x16 (![0, 1, 2] : Fin 3 → Fin S128x6250x16.rank)
  natLt_1_32 : 1 < 32
  bcast_S_S128x100000 : S_.BroadcastsInDim S128x100000 (![] : Fin 0 → Fin S128x100000.rank)
  reducesTo_S128x100000_S_d0_1 : S128x100000.ReducesTo [0, 1] S_
  bcast_S_S128x16 : S_.BroadcastsInDim S128x16 (![] : Fin 0 → Fin S128x16.rank)
  reducesTo_S128x16_S_d0_1 : S128x16.ReducesTo [0, 1] S_

variable [Facts]

def fn_part1 {F : FTy → Type} [FloatOps F] (main_arg0 : FVec F S128x100000 .f32) (main_v0 : FVec F S128x6250x16 .f32) (main_v17 : FVec F S128x6250x16 .f32) : IVec S_ 1 :=
  let main_v18 : IVec S128x6250x16 1 := cmpf .oge main_v0 main_v17
  let main_v19 : IVec S128x6250x16 32 := (extui 32 · natLt_1_32) main_v18
  let main_c_4 : IVec S_ 32 := constantI S_ 32 0#32
  let main_v20 : IVec S128x16 32 := (fun x v => Host.reduce IntOp.addi x v reducesTo_S128x6250x16_S128x16_d1 h_S_) main_v19 main_c_4
  let main_v21 : FVec F S128x100000 .f32 := Host.absf main_arg0
  let main_cst_5 : FVec F S_ .f32 := constant S_ .f32 0x7F800000#32
  let main_v22 : FVec F S128x100000 .f32 := broadcastInDim S128x100000 ![] bcast_S_S128x100000 main_cst_5
  let main_v23 : IVec S128x100000 1 := cmpf .olt main_v21 main_v22
  let main_c_6 : IVec S_ 1 := constantI S_ 1 1#1
  let main_v24 : IVec S_ 1 := (fun x v => Host.reduce IntOp.andi x v reducesTo_S128x100000_S_d0_1 h_S_) main_v23 main_c_6
  let main_c_7 : IVec S_ 32 := constantI S_ 32 32#32
  let main_v25 : IVec S128x16 32 := broadcastInDim S128x16 ![] bcast_S_S128x16 main_c_7
  let main_v26 : IVec S128x16 1 := cmpi .sle main_v20 main_v25
  let main_c_8 : IVec S_ 1 := constantI S_ 1 1#1
  let main_v27 : IVec S_ 1 := (fun x v => Host.reduce IntOp.andi x v reducesTo_S128x16_S_d0_1 h_S_) main_v26 main_c_8
  let main_v28 : IVec S_ 1 := andi main_v24 main_v27
  main_v28

def fn {F : FTy → Type} [FloatOps F] (main_arg0 : FVec F S128x100000 .f32) (main_arg1 : IVec S_ 32) (main_arg2 : IVec S_ 32) (main_arg3 : IVec S_ 32) : IVec S_ 1 :=
  let main_v0 : FVec F S128x6250x16 .f32 := shapeCast S128x6250x16 main_arg0 shapeCasts_S128x100000_S128x6250x16
  let main_v1 : IVec S128x6250x16 32 := iotaInDim S128x6250x16 32 1
  let main_cst : FVec F S_ .f32 := constant S_ .f32 0xFF800000#32
  let main_v2 : FVec F S128x6250x16 .f32 := broadcastInDim S128x6250x16 ![] bcast_S_S128x6250x16 main_cst
  let main_cst_0 : FVec F S_ .f32 := constant S_ .f32 0xFF800000#32
  let main_v3 : FVec F S128x16 .f32 := (fun x v => Host.reduce FloatOps.maximumf x v reducesTo_S128x6250x16_S128x16_d1 h_S_) main_v0 main_cst_0
  let main_v4 : FVec F S128x1x16 .f32 := broadcastInDim S128x1x16 ![0, 2] bcast_S128x16_S128x1x16_0_2 main_v3
  let main_v5 : FVec F S128x6250x16 .f32 := broadcastInDim S128x6250x16 ![0, 1, 2] bcast_S128x1x16_S128x6250x16_0_1_2 main_v4
  let main_v6 : IVec S128x6250x16 1 := cmpf .oeq main_v0 main_v5
  let main_c : IVec S_ 32 := constantI S_ 32 6250#32
  let main_v7 : IVec S128x6250x16 32 := broadcastInDim S128x6250x16 ![] bcast_S_S128x6250x16 main_c
  let main_v8 : IVec S128x6250x16 32 := select main_v6 main_v1 main_v7
  let main_c_1 : IVec S_ 32 := constantI S_ 32 2147483647#32
  let main_v9 : IVec S128x16 32 := (fun x v => Host.reduce IntOp.minsi x v reducesTo_S128x6250x16_S128x16_d1 h_S_) main_v8 main_c_1
  let main_v10 : IVec S128x1x16 32 := broadcastInDim S128x1x16 ![0, 2] bcast_S128x16_S128x1x16_0_2 main_v9
  let main_v11 : IVec S128x6250x16 32 := broadcastInDim S128x6250x16 ![0, 1, 2] bcast_S128x1x16_S128x6250x16_0_1_2 main_v10
  let main_v12 : IVec S128x6250x16 1 := cmpi .eq main_v1 main_v11
  let main_v13 : FVec F S128x6250x16 .f32 := select main_v12 main_v2 main_v0
  let main_cst_2 : FVec F S_ .f32 := constant S_ .f32 0xFF800000#32
  let main_v14 : FVec F S128x16 .f32 := (fun x v => Host.reduce FloatOps.maximumf x v reducesTo_S128x6250x16_S128x16_d1 h_S_) main_v13 main_cst_2
  let main_cst_3 : FVec F S_ .f32 := constant S_ .f32 0x7F800000#32
  let main_v15 : FVec F S128 .f32 := (fun x v => Host.reduce FloatOps.minimumf x v reducesTo_S128x16_S128_d1 h_S_) main_v14 main_cst_3
  let main_v16 : FVec F S128x1x1 .f32 := broadcastInDim S128x1x1 ![0] bcast_S128_S128x1x1_0 main_v15
  let main_v17 : FVec F S128x6250x16 .f32 := broadcastInDim S128x6250x16 ![0, 1, 2] bcast_S128x1x1_S128x6250x16_0_1_2 main_v16
  fn_part1 (F := F) main_arg0 main_v0 main_v17
-- ==== Kernel.lean ====
abbrev S128x100000 : Shape := ⟨2, ![128, 100000]⟩
abbrev S_ : Shape := ⟨0, ![]⟩
abbrev S128x512 : Shape := ⟨2, ![128, 512]⟩
abbrev S100000 : Shape := ⟨1, ![100000]⟩
abbrev S12496 : Shape := ⟨1, ![12496]⟩
abbrev S512 : Shape := ⟨1, ![512]⟩
abbrev S16 : Shape := ⟨1, ![16]⟩
abbrev S1x100000 : Shape := ⟨2, ![1, 100000]⟩
abbrev S1 : Shape := ⟨1, ![1]⟩
abbrev S1x512 : Shape := ⟨2, ![1, 512]⟩
abbrev S1x1 : Shape := ⟨2, ![1, 1]⟩
abbrev S128x1 : Shape := ⟨2, ![128, 1]⟩
abbrev S128 : Shape := ⟨1, ![128]⟩
abbrev S128x32 : Shape := ⟨2, ![128, 32]⟩
abbrev S32x32 : Shape := ⟨2, ![32, 32]⟩

abbrev nBuf : Table → Nat
  | .hbm => 12
  | .local .tc .vmem => 5
  | .local .scVector .vmem => 4
  | _ => 0

abbrev bufTy : (tb : Table) → Fin (nBuf tb) → BufTy
  | .hbm, ⟨0, _⟩ => ⟨S128x100000, .f32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S128x512, .f32⟩
  | .hbm, ⟨5, _⟩ => ⟨S128x512, .i32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S128x1, .i32⟩
  | .hbm, ⟨11, _⟩ => ⟨S128, .i32⟩
  | .local .tc .vmem, ⟨0, _⟩ => ⟨S1x1, .f32⟩
  | .local .tc .vmem, ⟨1, _⟩ => ⟨S1x1, .f32⟩
  | .local .tc .vmem, ⟨2, _⟩ => ⟨S128x512, .f32⟩
  | .local .tc .vmem, ⟨3, _⟩ => ⟨S128x512, .i32⟩
  | .local .tc .vmem, ⟨4, _⟩ => ⟨S128x1, .i32⟩
  | .local .scVector .vmem, ⟨0, _⟩ => ⟨S100000, .f32⟩
  | .local .scVector .vmem, ⟨1, _⟩ => ⟨S12496, .f32⟩
  | .local .scVector .vmem, ⟨2, _⟩ => ⟨S512, .f32⟩
  | .local .scVector .vmem, ⟨3, _⟩ => ⟨S512, .i32⟩
  | _, _ => ⟨S128x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_arg0_scv : Ref sig .scVector := ⟨.hbm, 0, rfl⟩
abbrev main_v0_0_scv : Ref sig .scVector := ⟨.hbm, 4, rfl⟩
abbrev main_v0_1_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v6 : BitVec 32 := Scalar.muli v1 c4_i32
  let c0_i32 : BitVec 32 := 0#32
  let v7 : BitVec 32 := Scalar.addi v6 c0_i32
  let c0_i32_241_r0 : BitVec 32 := 0#32
  ![v7.toNat, 0]
@[reducible] def k0_t1_loop : Scf.Loop 32 :=
  let c0_i32_0 : BitVec 32 := 0#32
  let c781_i32 : BitVec 32 := 781#32
  let v8 : BitVec 32 := Scalar.addi c0_i32_0 c781_i32
  let c1_i32 : BitVec 32 := 1#32
  ⟨c0_i32_0, v8, c1_i32⟩
def k0_off2 (k0_t1 : Fin k0_t1_loop.trips) (c0_i32_243 : BitVec 32) : Fin 1 → Nat :=
  let c0_i32_242 : BitVec 32 := 0#32
  let c0_i32_0 : BitVec 32 := 0#32
  let c1_i32 : BitVec 32 := 1#32
  let arg9 : BitVec 32 := Scf.iv c0_i32_0 c1_i32 k0_t1
  let c1_i32_241 : BitVec 32 := 1#32
  let v750 : BitVec 32 := Scalar.muli arg9 c1_i32_241
  let v751 : BitVec 32 := Scalar.addi c0_i32_242 v750
  let c128_i32 : BitVec 32 := 128#32
  let v752 : BitVec 32 := Scalar.muli v751 c128_i32
  let v753 : BitVec 32 := Scalar.addi v752 c0_i32_243
  let v754 : Index := Scalar.indexCast v753
  ![v754.toNat]
def k0_off3 (k0_t1 : Fin k0_t1_loop.trips) (c0_i32_244 : BitVec 32) : Fin 1 → Nat :=
  let c0_i32_242 : BitVec 32 := 0#32
  let c0_i32_0 : BitVec 32 := 0#32
  let c1_i32 : BitVec 32 := 1#32
  let arg9 : BitVec 32 := Scf.iv c0_i32_0 c1_i32 k0_t1
  let c1_i32_241 : BitVec 32 := 1#32
  let v750 : BitVec 32 := Scalar.muli arg9 c1_i32_241
  let v751 : BitVec 32 := Scalar.addi c0_i32_242 v750
  let c128_i32 : BitVec 32 := 128#32
  let v752 : BitVec 32 := Scalar.muli v751 c128_i32
  let v756 : BitVec 32 := Scalar.addi v752 c0_i32_244
  let c16_i32 : BitVec 32 := 16#32
  let v757 : BitVec 32 := Scalar.addi v756 c16_i32
  let v758 : Index := Scalar.indexCast v757
  ![v758.toNat]
def k0_off4 (k0_t1 : Fin k0_t1_loop.trips) : Fin 1 → Nat :=
  let c0_i32_242 : BitVec 32 := 0#32
  let c0_i32_0 : BitVec 32 := 0#32
  let c1_i32 : BitVec 32 := 1#32
  let arg9 : BitVec 32 := Scf.iv c0_i32_0 c1_i32 k0_t1
  let c1_i32_241 : BitVec 32 := 1#32
  let v750 : BitVec 32 := Scalar.muli arg9 c1_i32_241
  let v751 : BitVec 32 := Scalar.addi c0_i32_242 v750
  let c16_i32_252 : BitVec 32 := 16#32
  let v812 : BitVec 32 := Scalar.muli v751 c16_i32_252
  let v813 : Index := Scalar.indexCast v812
  ![v813.toNat]
@[reducible] def k0_t2_loop : Scf.Loop 32 :=
  let c0_i32_2 : BitVec 32 := 0#32
  let c32_i32_3 : BitVec 32 := 32#32
  let v78 : BitVec 32 := Scalar.addi c0_i32_2 c32_i32_3
  let c1_i32_4 : BitVec 32 := 1#32
  ⟨c0_i32_2, v78, c1_i32_4⟩
def k0_off5 (k0_t2 : Fin k0_t2_loop.trips) : Fin 1 → Nat :=
  let c0_i32_242 : BitVec 32 := 0#32
  let c0_i32_2 : BitVec 32 := 0#32
  let c1_i32_4 : BitVec 32 := 1#32
  let arg9 : BitVec 32 := Scf.iv c0_i32_2 c1_i32_4 k0_t2
  let c1_i32_241 : BitVec 32 := 1#32
  let v750 : BitVec 32 := Scalar.muli arg9 c1_i32_241
  let v751 : BitVec 32 := Scalar.addi c0_i32_242 v750
  let c16_i32 : BitVec 32 := 16#32
  let v752 : BitVec 32 := Scalar.muli v751 c16_i32
  let v753 : Index := Scalar.indexCast v752
  ![v753.toNat]
@[reducible] def k0_t3_loop : Scf.Loop 32 :=
  let c0_i32_7 : BitVec 32 := 0#32
  let c390_i32 : BitVec 32 := 390#32
  let v80 : BitVec 32 := Scalar.addi c0_i32_7 c390_i32
  let c1_i32_8 : BitVec 32 := 1#32
  ⟨c0_i32_7, v80, c1_i32_8⟩
def k0_off6 (k0_t3 : Fin k0_t3_loop.trips) : Fin 1 → Nat :=
  let c0_i32_242 : BitVec 32 := 0#32
  let c0_i32_7 : BitVec 32 := 0#32
  let c1_i32_8 : BitVec 32 := 1#32
  let arg9 : BitVec 32 := Scf.iv c0_i32_7 c1_i32_8 k0_t3
  let c1_i32_241 : BitVec 32 := 1#32
  let v750 : BitVec 32 := Scalar.muli arg9 c1_i32_241
  let v751 : BitVec 32 := Scalar.addi c0_i32_242 v750
  let c32_i32_243 : BitVec 32 := 32#32
  let v752 : BitVec 32 := Scalar.muli v751 c32_i32_243
  let v753 : Index := Scalar.indexCast v752
  ![v753.toNat]
def k0_off7 (k0_t3 : Fin k0_t3_loop.trips) : Fin 1 → Nat :=
  let c0_i32_242 : BitVec 32 := 0#32
  let c0_i32_7 : BitVec 32 := 0#32
  let c1_i32_8 : BitVec 32 := 1#32
  let arg9 : BitVec 32 := Scf.iv c0_i32_7 c1_i32_8 k0_t3
  let c1_i32_241 : BitVec 32 := 1#32
  let v750 : BitVec 32 := Scalar.muli arg9 c1_i32_241
  let v751 : BitVec 32 := Scalar.addi c0_i32_242 v750
  let c32_i32_244 : BitVec 32 := 32#32
  let v755 : BitVec 32 := Scalar.muli v751 c32_i32_244
  let c16_i32 : BitVec 32 := 16#32
  let v756 : BitVec 32 := Scalar.addi v755 c16_i32
  let v757 : Index := Scalar.indexCast v756
  ![v757.toNat]
def k0_off8 (k0_t3 : Fin k0_t3_loop.trips) (c0_i32_246 : BitVec 32) : Fin 1 → Nat :=
  let c0_i32_242 : BitVec 32 := 0#32
  let c0_i32_7 : BitVec 32 := 0#32
  let c1_i32_8 : BitVec 32 := 1#32
  let arg9 : BitVec 32 := Scf.iv c0_i32_7 c1_i32_8 k0_t3
  let c1_i32_241 : BitVec 32 := 1#32
  let v750 : BitVec 32 := Scalar.muli arg9 c1_i32_241
  let v751 : BitVec 32 := Scalar.addi c0_i32_242 v750
  let c256_i32 : BitVec 32 := 256#32
  let v811 : BitVec 32 := Scalar.muli v751 c256_i32
  let v812 : BitVec 32 := Scalar.addi v811 c0_i32_246
  let v813 : Index := Scalar.indexCast v812
  ![v813.toNat]
def k0_cond1 (v807 : BitVec 1) : BitVec 1 :=
  let v808 : BitVec 32 := Scalar.extui v807
  let c0_i32_245 : BitVec 32 := 0#32
  let v809 : BitVec 1 := Scalar.cmpi .ne v808 c0_i32_245
  v809

def k0_chk1 (v807 : BitVec 1) (v879 : IVec S16 32) : Prop :=
  (∀ (k0_h1 : k0_cond1 v807 = 1#1), ∀ a x, ((![v879] : Fin 1 → IVec S16 32) a x).toNat < S512.size a) ∧
  (∀ (k0_h1 : k0_cond1 v807 = 1#1), ∀ a x, ((![v879] : Fin 1 → IVec S16 32) a x).toNat < S512.size a)
theorem k0_idx1_inb : ∀ (v807 : BitVec 1) (v879 : IVec S16 32) (k0_hw1 : k0_chk1 v807 v879), ∀ (k0_h1 : k0_cond1 v807 = 1#1), ∀ a x, ((![v879] : Fin 1 → IVec S16 32) a x).toNat < S512.size a := fun v807 v879 k0_hw1 k0_h1 => k0_hw1.1 k0_h1
theorem k0_idx2_inb : ∀ (v807 : BitVec 1) (v879 : IVec S16 32) (k0_hw1 : k0_chk1 v807 v879), ∀ (k0_h1 : k0_cond1 v807 = 1#1), ∀ a x, ((![v879] : Fin 1 → IVec S16 32) a x).toNat < S512.size a := fun v807 v879 k0_hw1 k0_h1 => k0_hw1.2 k0_h1

def k0_chk2 (v807 : BitVec 1) (v889 : IVec S16 32) : Prop :=
  (∀ (k0_h1 : k0_cond1 v807 = 1#1), ∀ a x, ((![v889] : Fin 1 → IVec S16 32) a x).toNat < S512.size a) ∧
  (∀ (k0_h1 : k0_cond1 v807 = 1#1), ∀ a x, ((![v889] : Fin 1 → IVec S16 32) a x).toNat < S512.size a)
theorem k0_idx3_inb : ∀ (v807 : BitVec 1) (v889 : IVec S16 32) (k0_hw2 : k0_chk2 v807 v889), ∀ (k0_h1 : k0_cond1 v807 = 1#1), ∀ a x, ((![v889] : Fin 1 → IVec S16 32) a x).toNat < S512.size a := fun v807 v889 k0_hw2 k0_h1 => k0_hw2.1 k0_h1
theorem k0_idx4_inb : ∀ (v807 : BitVec 1) (v889 : IVec S16 32) (k0_hw2 : k0_chk2 v807 v889), ∀ (k0_h1 : k0_cond1 v807 = 1#1), ∀ a x, ((![v889] : Fin 1 → IVec S16 32) a x).toNat < S512.size a := fun v807 v889 k0_hw2 k0_h1 => k0_hw2.2 k0_h1

def k0_chk3 (v807 : BitVec 1) (v899 : IVec S16 32) : Prop :=
  (∀ (k0_h1 : k0_cond1 v807 = 1#1), ∀ a x, ((![v899] : Fin 1 → IVec S16 32) a x).toNat < S512.size a) ∧
  (∀ (k0_h1 : k0_cond1 v807 = 1#1), ∀ a x, ((![v899] : Fin 1 → IVec S16 32) a x).toNat < S512.size a)
theorem k0_idx5_inb : ∀ (v807 : BitVec 1) (v899 : IVec S16 32) (k0_hw3 : k0_chk3 v807 v899), ∀ (k0_h1 : k0_cond1 v807 = 1#1), ∀ a x, ((![v899] : Fin 1 → IVec S16 32) a x).toNat < S512.size a := fun v807 v899 k0_hw3 k0_h1 => k0_hw3.1 k0_h1
theorem k0_idx6_inb : ∀ (v807 : BitVec 1) (v899 : IVec S16 32) (k0_hw3 : k0_chk3 v807 v899), ∀ (k0_h1 : k0_cond1 v807 = 1#1), ∀ a x, ((![v899] : Fin 1 → IVec S16 32) a x).toNat < S512.size a := fun v807 v899 k0_hw3 k0_h1 => k0_hw3.2 k0_h1

def k0_chk4 (v807 : BitVec 1) (v909 : IVec S16 32) : Prop :=
  (∀ (k0_h1 : k0_cond1 v807 = 1#1), ∀ a x, ((![v909] : Fin 1 → IVec S16 32) a x).toNat < S512.size a) ∧
  (∀ (k0_h1 : k0_cond1 v807 = 1#1), ∀ a x, ((![v909] : Fin 1 → IVec S16 32) a x).toNat < S512.size a)
theorem k0_idx7_inb : ∀ (v807 : BitVec 1) (v909 : IVec S16 32) (k0_hw4 : k0_chk4 v807 v909), ∀ (k0_h1 : k0_cond1 v807 = 1#1), ∀ a x, ((![v909] : Fin 1 → IVec S16 32) a x).toNat < S512.size a := fun v807 v909 k0_hw4 k0_h1 => k0_hw4.1 k0_h1
theorem k0_idx8_inb : ∀ (v807 : BitVec 1) (v909 : IVec S16 32) (k0_hw4 : k0_chk4 v807 v909), ∀ (k0_h1 : k0_cond1 v807 = 1#1), ∀ a x, ((![v909] : Fin 1 → IVec S16 32) a x).toNat < S512.size a := fun v807 v909 k0_hw4 k0_h1 => k0_hw4.2 k0_h1

def k0_chk5 (v807 : BitVec 1) (v919 : IVec S16 32) : Prop :=
  (∀ (k0_h1 : k0_cond1 v807 = 1#1), ∀ a x, ((![v919] : Fin 1 → IVec S16 32) a x).toNat < S512.size a) ∧
  (∀ (k0_h1 : k0_cond1 v807 = 1#1), ∀ a x, ((![v919] : Fin 1 → IVec S16 32) a x).toNat < S512.size a)
theorem k0_idx9_inb : ∀ (v807 : BitVec 1) (v919 : IVec S16 32) (k0_hw5 : k0_chk5 v807 v919), ∀ (k0_h1 : k0_cond1 v807 = 1#1), ∀ a x, ((![v919] : Fin 1 → IVec S16 32) a x).toNat < S512.size a := fun v807 v919 k0_hw5 k0_h1 => k0_hw5.1 k0_h1
theorem k0_idx10_inb : ∀ (v807 : BitVec 1) (v919 : IVec S16 32) (k0_hw5 : k0_chk5 v807 v919), ∀ (k0_h1 : k0_cond1 v807 = 1#1), ∀ a x, ((![v919] : Fin 1 → IVec S16 32) a x).toNat < S512.size a := fun v807 v919 k0_hw5 k0_h1 => k0_hw5.2 k0_h1

def k0_chk6 (v807 : BitVec 1) (v929 : IVec S16 32) : Prop :=
  (∀ (k0_h1 : k0_cond1 v807 = 1#1), ∀ a x, ((![v929] : Fin 1 → IVec S16 32) a x).toNat < S512.size a) ∧
  (∀ (k0_h1 : k0_cond1 v807 = 1#1), ∀ a x, ((![v929] : Fin 1 → IVec S16 32) a x).toNat < S512.size a)
theorem k0_idx11_inb : ∀ (v807 : BitVec 1) (v929 : IVec S16 32) (k0_hw6 : k0_chk6 v807 v929), ∀ (k0_h1 : k0_cond1 v807 = 1#1), ∀ a x, ((![v929] : Fin 1 → IVec S16 32) a x).toNat < S512.size a := fun v807 v929 k0_hw6 k0_h1 => k0_hw6.1 k0_h1
theorem k0_idx12_inb : ∀ (v807 : BitVec 1) (v929 : IVec S16 32) (k0_hw6 : k0_chk6 v807 v929), ∀ (k0_h1 : k0_cond1 v807 = 1#1), ∀ a x, ((![v929] : Fin 1 → IVec S16 32) a x).toNat < S512.size a := fun v807 v929 k0_hw6 k0_h1 => k0_hw6.2 k0_h1

def k0_chk7 (v807 : BitVec 1) (v939 : IVec S16 32) : Prop :=
  (∀ (k0_h1 : k0_cond1 v807 = 1#1), ∀ a x, ((![v939] : Fin 1 → IVec S16 32) a x).toNat < S512.size a) ∧
  (∀ (k0_h1 : k0_cond1 v807 = 1#1), ∀ a x, ((![v939] : Fin 1 → IVec S16 32) a x).toNat < S512.size a)
theorem k0_idx13_inb : ∀ (v807 : BitVec 1) (v939 : IVec S16 32) (k0_hw7 : k0_chk7 v807 v939), ∀ (k0_h1 : k0_cond1 v807 = 1#1), ∀ a x, ((![v939] : Fin 1 → IVec S16 32) a x).toNat < S512.size a := fun v807 v939 k0_hw7 k0_h1 => k0_hw7.1 k0_h1
theorem k0_idx14_inb : ∀ (v807 : BitVec 1) (v939 : IVec S16 32) (k0_hw7 : k0_chk7 v807 v939), ∀ (k0_h1 : k0_cond1 v807 = 1#1), ∀ a x, ((![v939] : Fin 1 → IVec S16 32) a x).toNat < S512.size a := fun v807 v939 k0_hw7 k0_h1 => k0_hw7.2 k0_h1

def k0_chk8 (v807 : BitVec 1) (v949 : IVec S16 32) : Prop :=
  (∀ (k0_h1 : k0_cond1 v807 = 1#1), ∀ a x, ((![v949] : Fin 1 → IVec S16 32) a x).toNat < S512.size a) ∧
  (∀ (k0_h1 : k0_cond1 v807 = 1#1), ∀ a x, ((![v949] : Fin 1 → IVec S16 32) a x).toNat < S512.size a)
theorem k0_idx15_inb : ∀ (v807 : BitVec 1) (v949 : IVec S16 32) (k0_hw8 : k0_chk8 v807 v949), ∀ (k0_h1 : k0_cond1 v807 = 1#1), ∀ a x, ((![v949] : Fin 1 → IVec S16 32) a x).toNat < S512.size a := fun v807 v949 k0_hw8 k0_h1 => k0_hw8.1 k0_h1
theorem k0_idx16_inb : ∀ (v807 : BitVec 1) (v949 : IVec S16 32) (k0_hw8 : k0_chk8 v807 v949), ∀ (k0_h1 : k0_cond1 v807 = 1#1), ∀ a x, ((![v949] : Fin 1 → IVec S16 32) a x).toNat < S512.size a := fun v807 v949 k0_hw8 k0_h1 => k0_hw8.2 k0_h1

def k0_chk9 (v807 : BitVec 1) (v959 : IVec S16 32) : Prop :=
  (∀ (k0_h1 : k0_cond1 v807 = 1#1), ∀ a x, ((![v959] : Fin 1 → IVec S16 32) a x).toNat < S512.size a) ∧
  (∀ (k0_h1 : k0_cond1 v807 = 1#1), ∀ a x, ((![v959] : Fin 1 → IVec S16 32) a x).toNat < S512.size a)
theorem k0_idx17_inb : ∀ (v807 : BitVec 1) (v959 : IVec S16 32) (k0_hw9 : k0_chk9 v807 v959), ∀ (k0_h1 : k0_cond1 v807 = 1#1), ∀ a x, ((![v959] : Fin 1 → IVec S16 32) a x).toNat < S512.size a := fun v807 v959 k0_hw9 k0_h1 => k0_hw9.1 k0_h1
theorem k0_idx18_inb : ∀ (v807 : BitVec 1) (v959 : IVec S16 32) (k0_hw9 : k0_chk9 v807 v959), ∀ (k0_h1 : k0_cond1 v807 = 1#1), ∀ a x, ((![v959] : Fin 1 → IVec S16 32) a x).toNat < S512.size a := fun v807 v959 k0_hw9 k0_h1 => k0_hw9.2 k0_h1

def k0_chk10 (v807 : BitVec 1) (v969 : IVec S16 32) : Prop :=
  (∀ (k0_h1 : k0_cond1 v807 = 1#1), ∀ a x, ((![v969] : Fin 1 → IVec S16 32) a x).toNat < S512.size a) ∧
  (∀ (k0_h1 : k0_cond1 v807 = 1#1), ∀ a x, ((![v969] : Fin 1 → IVec S16 32) a x).toNat < S512.size a)
theorem k0_idx19_inb : ∀ (v807 : BitVec 1) (v969 : IVec S16 32) (k0_hw10 : k0_chk10 v807 v969), ∀ (k0_h1 : k0_cond1 v807 = 1#1), ∀ a x, ((![v969] : Fin 1 → IVec S16 32) a x).toNat < S512.size a := fun v807 v969 k0_hw10 k0_h1 => k0_hw10.1 k0_h1
theorem k0_idx20_inb : ∀ (v807 : BitVec 1) (v969 : IVec S16 32) (k0_hw10 : k0_chk10 v807 v969), ∀ (k0_h1 : k0_cond1 v807 = 1#1), ∀ a x, ((![v969] : Fin 1 → IVec S16 32) a x).toNat < S512.size a := fun v807 v969 k0_hw10 k0_h1 => k0_hw10.2 k0_h1

def k0_chk11 (v807 : BitVec 1) (v979 : IVec S16 32) : Prop :=
  (∀ (k0_h1 : k0_cond1 v807 = 1#1), ∀ a x, ((![v979] : Fin 1 → IVec S16 32) a x).toNat < S512.size a) ∧
  (∀ (k0_h1 : k0_cond1 v807 = 1#1), ∀ a x, ((![v979] : Fin 1 → IVec S16 32) a x).toNat < S512.size a)
theorem k0_idx21_inb : ∀ (v807 : BitVec 1) (v979 : IVec S16 32) (k0_hw11 : k0_chk11 v807 v979), ∀ (k0_h1 : k0_cond1 v807 = 1#1), ∀ a x, ((![v979] : Fin 1 → IVec S16 32) a x).toNat < S512.size a := fun v807 v979 k0_hw11 k0_h1 => k0_hw11.1 k0_h1
theorem k0_idx22_inb : ∀ (v807 : BitVec 1) (v979 : IVec S16 32) (k0_hw11 : k0_chk11 v807 v979), ∀ (k0_h1 : k0_cond1 v807 = 1#1), ∀ a x, ((![v979] : Fin 1 → IVec S16 32) a x).toNat < S512.size a := fun v807 v979 k0_hw11 k0_h1 => k0_hw11.2 k0_h1

def k0_chk12 (v807 : BitVec 1) (v989 : IVec S16 32) : Prop :=
  (∀ (k0_h1 : k0_cond1 v807 = 1#1), ∀ a x, ((![v989] : Fin 1 → IVec S16 32) a x).toNat < S512.size a) ∧
  (∀ (k0_h1 : k0_cond1 v807 = 1#1), ∀ a x, ((![v989] : Fin 1 → IVec S16 32) a x).toNat < S512.size a)
theorem k0_idx23_inb : ∀ (v807 : BitVec 1) (v989 : IVec S16 32) (k0_hw12 : k0_chk12 v807 v989), ∀ (k0_h1 : k0_cond1 v807 = 1#1), ∀ a x, ((![v989] : Fin 1 → IVec S16 32) a x).toNat < S512.size a := fun v807 v989 k0_hw12 k0_h1 => k0_hw12.1 k0_h1
theorem k0_idx24_inb : ∀ (v807 : BitVec 1) (v989 : IVec S16 32) (k0_hw12 : k0_chk12 v807 v989), ∀ (k0_h1 : k0_cond1 v807 = 1#1), ∀ a x, ((![v989] : Fin 1 → IVec S16 32) a x).toNat < S512.size a := fun v807 v989 k0_hw12 k0_h1 => k0_hw12.2 k0_h1

def k0_chk13 (v807 : BitVec 1) (v999 : IVec S16 32) : Prop :=
  (∀ (k0_h1 : k0_cond1 v807 = 1#1), ∀ a x, ((![v999] : Fin 1 → IVec S16 32) a x).toNat < S512.size a) ∧
  (∀ (k0_h1 : k0_cond1 v807 = 1#1), ∀ a x, ((![v999] : Fin 1 → IVec S16 32) a x).toNat < S512.size a)
theorem k0_idx25_inb : ∀ (v807 : BitVec 1) (v999 : IVec S16 32) (k0_hw13 : k0_chk13 v807 v999), ∀ (k0_h1 : k0_cond1 v807 = 1#1), ∀ a x, ((![v999] : Fin 1 → IVec S16 32) a x).toNat < S512.size a := fun v807 v999 k0_hw13 k0_h1 => k0_hw13.1 k0_h1
theorem k0_idx26_inb : ∀ (v807 : BitVec 1) (v999 : IVec S16 32) (k0_hw13 : k0_chk13 v807 v999), ∀ (k0_h1 : k0_cond1 v807 = 1#1), ∀ a x, ((![v999] : Fin 1 → IVec S16 32) a x).toNat < S512.size a := fun v807 v999 k0_hw13 k0_h1 => k0_hw13.2 k0_h1

def k0_chk14 (v807 : BitVec 1) (v1009 : IVec S16 32) : Prop :=
  (∀ (k0_h1 : k0_cond1 v807 = 1#1), ∀ a x, ((![v1009] : Fin 1 → IVec S16 32) a x).toNat < S512.size a) ∧
  (∀ (k0_h1 : k0_cond1 v807 = 1#1), ∀ a x, ((![v1009] : Fin 1 → IVec S16 32) a x).toNat < S512.size a)
theorem k0_idx27_inb : ∀ (v807 : BitVec 1) (v1009 : IVec S16 32) (k0_hw14 : k0_chk14 v807 v1009), ∀ (k0_h1 : k0_cond1 v807 = 1#1), ∀ a x, ((![v1009] : Fin 1 → IVec S16 32) a x).toNat < S512.size a := fun v807 v1009 k0_hw14 k0_h1 => k0_hw14.1 k0_h1
theorem k0_idx28_inb : ∀ (v807 : BitVec 1) (v1009 : IVec S16 32) (k0_hw14 : k0_chk14 v807 v1009), ∀ (k0_h1 : k0_cond1 v807 = 1#1), ∀ a x, ((![v1009] : Fin 1 → IVec S16 32) a x).toNat < S512.size a := fun v807 v1009 k0_hw14 k0_h1 => k0_hw14.2 k0_h1

def k0_chk15 (v807 : BitVec 1) (v1019 : IVec S16 32) : Prop :=
  (∀ (k0_h1 : k0_cond1 v807 = 1#1), ∀ a x, ((![v1019] : Fin 1 → IVec S16 32) a x).toNat < S512.size a) ∧
  (∀ (k0_h1 : k0_cond1 v807 = 1#1), ∀ a x, ((![v1019] : Fin 1 → IVec S16 32) a x).toNat < S512.size a)
theorem k0_idx29_inb : ∀ (v807 : BitVec 1) (v1019 : IVec S16 32) (k0_hw15 : k0_chk15 v807 v1019), ∀ (k0_h1 : k0_cond1 v807 = 1#1), ∀ a x, ((![v1019] : Fin 1 → IVec S16 32) a x).toNat < S512.size a := fun v807 v1019 k0_hw15 k0_h1 => k0_hw15.1 k0_h1
theorem k0_idx30_inb : ∀ (v807 : BitVec 1) (v1019 : IVec S16 32) (k0_hw15 : k0_chk15 v807 v1019), ∀ (k0_h1 : k0_cond1 v807 = 1#1), ∀ a x, ((![v1019] : Fin 1 → IVec S16 32) a x).toNat < S512.size a := fun v807 v1019 k0_hw15 k0_h1 => k0_hw15.2 k0_h1

def k0_chk16 (v807 : BitVec 1) (v1029 : IVec S16 32) : Prop :=
  (∀ (k0_h1 : k0_cond1 v807 = 1#1), ∀ a x, ((![v1029] : Fin 1 → IVec S16 32) a x).toNat < S512.size a) ∧
  (∀ (k0_h1 : k0_cond1 v807 = 1#1), ∀ a x, ((![v1029] : Fin 1 → IVec S16 32) a x).toNat < S512.size a)
theorem k0_idx31_inb : ∀ (v807 : BitVec 1) (v1029 : IVec S16 32) (k0_hw16 : k0_chk16 v807 v1029), ∀ (k0_h1 : k0_cond1 v807 = 1#1), ∀ a x, ((![v1029] : Fin 1 → IVec S16 32) a x).toNat < S512.size a := fun v807 v1029 k0_hw16 k0_h1 => k0_hw16.1 k0_h1
theorem k0_idx32_inb : ∀ (v807 : BitVec 1) (v1029 : IVec S16 32) (k0_hw16 : k0_chk16 v807 v1029), ∀ (k0_h1 : k0_cond1 v807 = 1#1), ∀ a x, ((![v1029] : Fin 1 → IVec S16 32) a x).toNat < S512.size a := fun v807 v1029 k0_hw16 k0_h1 => k0_hw16.2 k0_h1

def k0_chk17 (v86 : IVec S16 32) : Prop :=
  (∀ a x, ((![v86] : Fin 1 → IVec S16 32) a x).toNat < S512.size a) ∧
  (∀ a x, ((![v86] : Fin 1 → IVec S16 32) a x).toNat < S512.size a)
theorem k0_idx33_inb : ∀ (v86 : IVec S16 32) (k0_hw17 : k0_chk17 v86), ∀ a x, ((![v86] : Fin 1 → IVec S16 32) a x).toNat < S512.size a := fun v86 k0_hw17 => k0_hw17.1
theorem k0_idx34_inb : ∀ (v86 : IVec S16 32) (k0_hw17 : k0_chk17 v86), ∀ a x, ((![v86] : Fin 1 → IVec S16 32) a x).toNat < S512.size a := fun v86 k0_hw17 => k0_hw17.2

def k0_chk18 (v97 : IVec S16 32) : Prop :=
  (∀ a x, ((![v97] : Fin 1 → IVec S16 32) a x).toNat < S512.size a) ∧
  (∀ a x, ((![v97] : Fin 1 → IVec S16 32) a x).toNat < S512.size a)
theorem k0_idx35_inb : ∀ (v97 : IVec S16 32) (k0_hw18 : k0_chk18 v97), ∀ a x, ((![v97] : Fin 1 → IVec S16 32) a x).toNat < S512.size a := fun v97 k0_hw18 => k0_hw18.1
theorem k0_idx36_inb : ∀ (v97 : IVec S16 32) (k0_hw18 : k0_chk18 v97), ∀ a x, ((![v97] : Fin 1 → IVec S16 32) a x).toNat < S512.size a := fun v97 k0_hw18 => k0_hw18.2

def k0_chk19 (v108 : IVec S16 32) : Prop :=
  (∀ a x, ((![v108] : Fin 1 → IVec S16 32) a x).toNat < S512.size a) ∧
  (∀ a x, ((![v108] : Fin 1 → IVec S16 32) a x).toNat < S512.size a)
theorem k0_idx37_inb : ∀ (v108 : IVec S16 32) (k0_hw19 : k0_chk19 v108), ∀ a x, ((![v108] : Fin 1 → IVec S16 32) a x).toNat < S512.size a := fun v108 k0_hw19 => k0_hw19.1
theorem k0_idx38_inb : ∀ (v108 : IVec S16 32) (k0_hw19 : k0_chk19 v108), ∀ a x, ((![v108] : Fin 1 → IVec S16 32) a x).toNat < S512.size a := fun v108 k0_hw19 => k0_hw19.2

def k0_chk20 (v119 : IVec S16 32) : Prop :=
  (∀ a x, ((![v119] : Fin 1 → IVec S16 32) a x).toNat < S512.size a) ∧
  (∀ a x, ((![v119] : Fin 1 → IVec S16 32) a x).toNat < S512.size a)
theorem k0_idx39_inb : ∀ (v119 : IVec S16 32) (k0_hw20 : k0_chk20 v119), ∀ a x, ((![v119] : Fin 1 → IVec S16 32) a x).toNat < S512.size a := fun v119 k0_hw20 => k0_hw20.1
theorem k0_idx40_inb : ∀ (v119 : IVec S16 32) (k0_hw20 : k0_chk20 v119), ∀ a x, ((![v119] : Fin 1 → IVec S16 32) a x).toNat < S512.size a := fun v119 k0_hw20 => k0_hw20.2

def k0_chk21 (v130 : IVec S16 32) : Prop :=
  (∀ a x, ((![v130] : Fin 1 → IVec S16 32) a x).toNat < S512.size a) ∧
  (∀ a x, ((![v130] : Fin 1 → IVec S16 32) a x).toNat < S512.size a)
theorem k0_idx41_inb : ∀ (v130 : IVec S16 32) (k0_hw21 : k0_chk21 v130), ∀ a x, ((![v130] : Fin 1 → IVec S16 32) a x).toNat < S512.size a := fun v130 k0_hw21 => k0_hw21.1
theorem k0_idx42_inb : ∀ (v130 : IVec S16 32) (k0_hw21 : k0_chk21 v130), ∀ a x, ((![v130] : Fin 1 → IVec S16 32) a x).toNat < S512.size a := fun v130 k0_hw21 => k0_hw21.2

def k0_chk22 (v141 : IVec S16 32) : Prop :=
  (∀ a x, ((![v141] : Fin 1 → IVec S16 32) a x).toNat < S512.size a) ∧
  (∀ a x, ((![v141] : Fin 1 → IVec S16 32) a x).toNat < S512.size a)
theorem k0_idx43_inb : ∀ (v141 : IVec S16 32) (k0_hw22 : k0_chk22 v141), ∀ a x, ((![v141] : Fin 1 → IVec S16 32) a x).toNat < S512.size a := fun v141 k0_hw22 => k0_hw22.1
theorem k0_idx44_inb : ∀ (v141 : IVec S16 32) (k0_hw22 : k0_chk22 v141), ∀ a x, ((![v141] : Fin 1 → IVec S16 32) a x).toNat < S512.size a := fun v141 k0_hw22 => k0_hw22.2

def k0_chk23 (v152 : IVec S16 32) : Prop :=
  (∀ a x, ((![v152] : Fin 1 → IVec S16 32) a x).toNat < S512.size a) ∧
  (∀ a x, ((![v152] : Fin 1 → IVec S16 32) a x).toNat < S512.size a)
theorem k0_idx45_inb : ∀ (v152 : IVec S16 32) (k0_hw23 : k0_chk23 v152), ∀ a x, ((![v152] : Fin 1 → IVec S16 32) a x).toNat < S512.size a := fun v152 k0_hw23 => k0_hw23.1
theorem k0_idx46_inb : ∀ (v152 : IVec S16 32) (k0_hw23 : k0_chk23 v152), ∀ a x, ((![v152] : Fin 1 → IVec S16 32) a x).toNat < S512.size a := fun v152 k0_hw23 => k0_hw23.2

def k0_chk24 (v163 : IVec S16 32) : Prop :=
  (∀ a x, ((![v163] : Fin 1 → IVec S16 32) a x).toNat < S512.size a) ∧
  (∀ a x, ((![v163] : Fin 1 → IVec S16 32) a x).toNat < S512.size a)
theorem k0_idx47_inb : ∀ (v163 : IVec S16 32) (k0_hw24 : k0_chk24 v163), ∀ a x, ((![v163] : Fin 1 → IVec S16 32) a x).toNat < S512.size a := fun v163 k0_hw24 => k0_hw24.1
theorem k0_idx48_inb : ∀ (v163 : IVec S16 32) (k0_hw24 : k0_chk24 v163), ∀ a x, ((![v163] : Fin 1 → IVec S16 32) a x).toNat < S512.size a := fun v163 k0_hw24 => k0_hw24.2

def k0_chk25 (v174 : IVec S16 32) : Prop :=
  (∀ a x, ((![v174] : Fin 1 → IVec S16 32) a x).toNat < S512.size a) ∧
  (∀ a x, ((![v174] : Fin 1 → IVec S16 32) a x).toNat < S512.size a)
theorem k0_idx49_inb : ∀ (v174 : IVec S16 32) (k0_hw25 : k0_chk25 v174), ∀ a x, ((![v174] : Fin 1 → IVec S16 32) a x).toNat < S512.size a := fun v174 k0_hw25 => k0_hw25.1
theorem k0_idx50_inb : ∀ (v174 : IVec S16 32) (k0_hw25 : k0_chk25 v174), ∀ a x, ((![v174] : Fin 1 → IVec S16 32) a x).toNat < S512.size a := fun v174 k0_hw25 => k0_hw25.2

def k0_chk26 (v185 : IVec S16 32) : Prop :=
  (∀ a x, ((![v185] : Fin 1 → IVec S16 32) a x).toNat < S512.size a) ∧
  (∀ a x, ((![v185] : Fin 1 → IVec S16 32) a x).toNat < S512.size a)
theorem k0_idx51_inb : ∀ (v185 : IVec S16 32) (k0_hw26 : k0_chk26 v185), ∀ a x, ((![v185] : Fin 1 → IVec S16 32) a x).toNat < S512.size a := fun v185 k0_hw26 => k0_hw26.1
theorem k0_idx52_inb : ∀ (v185 : IVec S16 32) (k0_hw26 : k0_chk26 v185), ∀ a x, ((![v185] : Fin 1 → IVec S16 32) a x).toNat < S512.size a := fun v185 k0_hw26 => k0_hw26.2
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v6 : BitVec 32 := Scalar.muli v1 c4_i32
  let c0_i32 : BitVec 32 := 0#32
  let v7 : BitVec 32 := Scalar.addi v6 c0_i32
  let c0_i32_241_r1 : BitVec 32 := 0#32
  ![v7.toNat, 0]
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_41 : BitVec 32 := 4#32
  let v192 : BitVec 32 := Scalar.muli v1 c4_i32_41
  let c1_i32_42 : BitVec 32 := 1#32
  let v193 : BitVec 32 := Scalar.addi v192 c1_i32_42
  let c0_i32_241_r3 : BitVec 32 := 0#32
  ![v193.toNat, 0]
@[reducible] def k0_t4_loop : Scf.Loop 32 :=
  let c0_i32_43 : BitVec 32 := 0#32
  let c781_i32_44 : BitVec 32 := 781#32
  let v194 : BitVec 32 := Scalar.addi c0_i32_43 c781_i32_44
  let c1_i32_45 : BitVec 32 := 1#32
  ⟨c0_i32_43, v194, c1_i32_45⟩
def k0_off11 (k0_t4 : Fin k0_t4_loop.trips) (c0_i32_243 : BitVec 32) : Fin 1 → Nat :=
  let c0_i32_242 : BitVec 32 := 0#32
  let c0_i32_43 : BitVec 32 := 0#32
  let c1_i32_45 : BitVec 32 := 1#32
  let arg9 : BitVec 32 := Scf.iv c0_i32_43 c1_i32_45 k0_t4
  let c1_i32_241 : BitVec 32 := 1#32
  let v750 : BitVec 32 := Scalar.muli arg9 c1_i32_241
  let v751 : BitVec 32 := Scalar.addi c0_i32_242 v750
  let c128_i32 : BitVec 32 := 128#32
  let v752 : BitVec 32 := Scalar.muli v751 c128_i32
  let v753 : BitVec 32 := Scalar.addi v752 c0_i32_243
  let v754 : Index := Scalar.indexCast v753
  ![v754.toNat]
def k0_off12 (k0_t4 : Fin k0_t4_loop.trips) (c0_i32_244 : BitVec 32) : Fin 1 → Nat :=
  let c0_i32_242 : BitVec 32 := 0#32
  let c0_i32_43 : BitVec 32 := 0#32
  let c1_i32_45 : BitVec 32 := 1#32
  let arg9 : BitVec 32 := Scf.iv c0_i32_43 c1_i32_45 k0_t4
  let c1_i32_241 : BitVec 32 := 1#32
  let v750 : BitVec 32 := Scalar.muli arg9 c1_i32_241
  let v751 : BitVec 32 := Scalar.addi c0_i32_242 v750
  let c128_i32 : BitVec 32 := 128#32
  let v752 : BitVec 32 := Scalar.muli v751 c128_i32
  let v756 : BitVec 32 := Scalar.addi v752 c0_i32_244
  let c16_i32 : BitVec 32 := 16#32
  let v757 : BitVec 32 := Scalar.addi v756 c16_i32
  let v758 : Index := Scalar.indexCast v757
  ![v758.toNat]
def k0_off13 (k0_t4 : Fin k0_t4_loop.trips) : Fin 1 → Nat :=
  let c0_i32_242 : BitVec 32 := 0#32
  let c0_i32_43 : BitVec 32 := 0#32
  let c1_i32_45 : BitVec 32 := 1#32
  let arg9 : BitVec 32 := Scf.iv c0_i32_43 c1_i32_45 k0_t4
  let c1_i32_241 : BitVec 32 := 1#32
  let v750 : BitVec 32 := Scalar.muli arg9 c1_i32_241
  let v751 : BitVec 32 := Scalar.addi c0_i32_242 v750
  let c16_i32_252 : BitVec 32 := 16#32
  let v812 : BitVec 32 := Scalar.muli v751 c16_i32_252
  let v813 : Index := Scalar.indexCast v812
  ![v813.toNat]
@[reducible] def k0_t5_loop : Scf.Loop 32 :=
  let c0_i32_49 : BitVec 32 := 0#32
  let c32_i32_50 : BitVec 32 := 32#32
  let v264 : BitVec 32 := Scalar.addi c0_i32_49 c32_i32_50
  let c1_i32_51 : BitVec 32 := 1#32
  ⟨c0_i32_49, v264, c1_i32_51⟩
def k0_off14 (k0_t5 : Fin k0_t5_loop.trips) : Fin 1 → Nat :=
  let c0_i32_242 : BitVec 32 := 0#32
  let c0_i32_49 : BitVec 32 := 0#32
  let c1_i32_51 : BitVec 32 := 1#32
  let arg9 : BitVec 32 := Scf.iv c0_i32_49 c1_i32_51 k0_t5
  let c1_i32_241 : BitVec 32 := 1#32
  let v750 : BitVec 32 := Scalar.muli arg9 c1_i32_241
  let v751 : BitVec 32 := Scalar.addi c0_i32_242 v750
  let c16_i32 : BitVec 32 := 16#32
  let v752 : BitVec 32 := Scalar.muli v751 c16_i32
  let v753 : Index := Scalar.indexCast v752
  ![v753.toNat]
@[reducible] def k0_t6_loop : Scf.Loop 32 :=
  let c0_i32_54 : BitVec 32 := 0#32
  let c390_i32_55 : BitVec 32 := 390#32
  let v266 : BitVec 32 := Scalar.addi c0_i32_54 c390_i32_55
  let c1_i32_56 : BitVec 32 := 1#32
  ⟨c0_i32_54, v266, c1_i32_56⟩
def k0_off15 (k0_t6 : Fin k0_t6_loop.trips) : Fin 1 → Nat :=
  let c0_i32_242 : BitVec 32 := 0#32
  let c0_i32_54 : BitVec 32 := 0#32
  let c1_i32_56 : BitVec 32 := 1#32
  let arg9 : BitVec 32 := Scf.iv c0_i32_54 c1_i32_56 k0_t6
  let c1_i32_241 : BitVec 32 := 1#32
  let v750 : BitVec 32 := Scalar.muli arg9 c1_i32_241
  let v751 : BitVec 32 := Scalar.addi c0_i32_242 v750
  let c32_i32_243 : BitVec 32 := 32#32
  let v752 : BitVec 32 := Scalar.muli v751 c32_i32_243
  let v753 : Index := Scalar.indexCast v752
  ![v753.toNat]
def k0_off16 (k0_t6 : Fin k0_t6_loop.trips) : Fin 1 → Nat :=
  let c0_i32_242 : BitVec 32 := 0#32
  let c0_i32_54 : BitVec 32 := 0#32
  let c1_i32_56 : BitVec 32 := 1#32
  let arg9 : BitVec 32 := Scf.iv c0_i32_54 c1_i32_56 k0_t6
  let c1_i32_241 : BitVec 32 := 1#32
  let v750 : BitVec 32 := Scalar.muli arg9 c1_i32_241
  let v751 : BitVec 32 := Scalar.addi c0_i32_242 v750
  let c32_i32_244 : BitVec 32 := 32#32
  let v755 : BitVec 32 := Scalar.muli v751 c32_i32_244
  let c16_i32 : BitVec 32 := 16#32
  let v756 : BitVec 32 := Scalar.addi v755 c16_i32
  let v757 : Index := Scalar.indexCast v756
  ![v757.toNat]
def k0_off17 (k0_t6 : Fin k0_t6_loop.trips) (c0_i32_246 : BitVec 32) : Fin 1 → Nat :=
  let c0_i32_242 : BitVec 32 := 0#32
  let c0_i32_54 : BitVec 32 := 0#32
  let c1_i32_56 : BitVec 32 := 1#32
  let arg9 : BitVec 32 := Scf.iv c0_i32_54 c1_i32_56 k0_t6
  let c1_i32_241 : BitVec 32 := 1#32
  let v750 : BitVec 32 := Scalar.muli arg9 c1_i32_241
  let v751 : BitVec 32 := Scalar.addi c0_i32_242 v750
  let c256_i32 : BitVec 32 := 256#32
  let v811 : BitVec 32 := Scalar.muli v751 c256_i32
  let v812 : BitVec 32 := Scalar.addi v811 c0_i32_246
  let v813 : Index := Scalar.indexCast v812
  ![v813.toNat]
def k0_cond2 (v807 : BitVec 1) : BitVec 1 :=
  let v808 : BitVec 32 := Scalar.extui v807
  let c0_i32_245 : BitVec 32 := 0#32
  let v809 : BitVec 1 := Scalar.cmpi .ne v808 c0_i32_245
  v809

def k0_chk27 (v807 : BitVec 1) (v879 : IVec S16 32) : Prop :=
  (∀ (k0_h2 : k0_cond2 v807 = 1#1), ∀ a x, ((![v879] : Fin 1 → IVec S16 32) a x).toNat < S512.size a) ∧
  (∀ (k0_h2 : k0_cond2 v807 = 1#1), ∀ a x, ((![v879] : Fin 1 → IVec S16 32) a x).toNat < S512.size a)
theorem k0_idx53_inb : ∀ (v807 : BitVec 1) (v879 : IVec S16 32) (k0_hw27 : k0_chk27 v807 v879), ∀ (k0_h2 : k0_cond2 v807 = 1#1), ∀ a x, ((![v879] : Fin 1 → IVec S16 32) a x).toNat < S512.size a := fun v807 v879 k0_hw27 k0_h2 => k0_hw27.1 k0_h2
theorem k0_idx54_inb : ∀ (v807 : BitVec 1) (v879 : IVec S16 32) (k0_hw27 : k0_chk27 v807 v879), ∀ (k0_h2 : k0_cond2 v807 = 1#1), ∀ a x, ((![v879] : Fin 1 → IVec S16 32) a x).toNat < S512.size a := fun v807 v879 k0_hw27 k0_h2 => k0_hw27.2 k0_h2

def k0_chk28 (v807 : BitVec 1) (v889 : IVec S16 32) : Prop :=
  (∀ (k0_h2 : k0_cond2 v807 = 1#1), ∀ a x, ((![v889] : Fin 1 → IVec S16 32) a x).toNat < S512.size a) ∧
  (∀ (k0_h2 : k0_cond2 v807 = 1#1), ∀ a x, ((![v889] : Fin 1 → IVec S16 32) a x).toNat < S512.size a)
theorem k0_idx55_inb : ∀ (v807 : BitVec 1) (v889 : IVec S16 32) (k0_hw28 : k0_chk28 v807 v889), ∀ (k0_h2 : k0_cond2 v807 = 1#1), ∀ a x, ((![v889] : Fin 1 → IVec S16 32) a x).toNat < S512.size a := fun v807 v889 k0_hw28 k0_h2 => k0_hw28.1 k0_h2
theorem k0_idx56_inb : ∀ (v807 : BitVec 1) (v889 : IVec S16 32) (k0_hw28 : k0_chk28 v807 v889), ∀ (k0_h2 : k0_cond2 v807 = 1#1), ∀ a x, ((![v889] : Fin 1 → IVec S16 32) a x).toNat < S512.size a := fun v807 v889 k0_hw28 k0_h2 => k0_hw28.2 k0_h2

def k0_chk29 (v807 : BitVec 1) (v899 : IVec S16 32) : Prop :=
  (∀ (k0_h2 : k0_cond2 v807 = 1#1), ∀ a x, ((![v899] : Fin 1 → IVec S16 32) a x).toNat < S512.size a) ∧
  (∀ (k0_h2 : k0_cond2 v807 = 1#1), ∀ a x, ((![v899] : Fin 1 → IVec S16 32) a x).toNat < S512.size a)
theorem k0_idx57_inb : ∀ (v807 : BitVec 1) (v899 : IVec S16 32) (k0_hw29 : k0_chk29 v807 v899), ∀ (k0_h2 : k0_cond2 v807 = 1#1), ∀ a x, ((![v899] : Fin 1 → IVec S16 32) a x).toNat < S512.size a := fun v807 v899 k0_hw29 k0_h2 => k0_hw29.1 k0_h2
theorem k0_idx58_inb : ∀ (v807 : BitVec 1) (v899 : IVec S16 32) (k0_hw29 : k0_chk29 v807 v899), ∀ (k0_h2 : k0_cond2 v807 = 1#1), ∀ a x, ((![v899] : Fin 1 → IVec S16 32) a x).toNat < S512.size a := fun v807 v899 k0_hw29 k0_h2 => k0_hw29.2 k0_h2

def k0_chk30 (v807 : BitVec 1) (v909 : IVec S16 32) : Prop :=
  (∀ (k0_h2 : k0_cond2 v807 = 1#1), ∀ a x, ((![v909] : Fin 1 → IVec S16 32) a x).toNat < S512.size a) ∧
  (∀ (k0_h2 : k0_cond2 v807 = 1#1), ∀ a x, ((![v909] : Fin 1 → IVec S16 32) a x).toNat < S512.size a)
theorem k0_idx59_inb : ∀ (v807 : BitVec 1) (v909 : IVec S16 32) (k0_hw30 : k0_chk30 v807 v909), ∀ (k0_h2 : k0_cond2 v807 = 1#1), ∀ a x, ((![v909] : Fin 1 → IVec S16 32) a x).toNat < S512.size a := fun v807 v909 k0_hw30 k0_h2 => k0_hw30.1 k0_h2
theorem k0_idx60_inb : ∀ (v807 : BitVec 1) (v909 : IVec S16 32) (k0_hw30 : k0_chk30 v807 v909), ∀ (k0_h2 : k0_cond2 v807 = 1#1), ∀ a x, ((![v909] : Fin 1 → IVec S16 32) a x).toNat < S512.size a := fun v807 v909 k0_hw30 k0_h2 => k0_hw30.2 k0_h2

def k0_chk31 (v807 : BitVec 1) (v919 : IVec S16 32) : Prop :=
  (∀ (k0_h2 : k0_cond2 v807 = 1#1), ∀ a x, ((![v919] : Fin 1 → IVec S16 32) a x).toNat < S512.size a) ∧
  (∀ (k0_h2 : k0_cond2 v807 = 1#1), ∀ a x, ((![v919] : Fin 1 → IVec S16 32) a x).toNat < S512.size a)
theorem k0_idx61_inb : ∀ (v807 : BitVec 1) (v919 : IVec S16 32) (k0_hw31 : k0_chk31 v807 v919), ∀ (k0_h2 : k0_cond2 v807 = 1#1), ∀ a x, ((![v919] : Fin 1 → IVec S16 32) a x).toNat < S512.size a := fun v807 v919 k0_hw31 k0_h2 => k0_hw31.1 k0_h2
theorem k0_idx62_inb : ∀ (v807 : BitVec 1) (v919 : IVec S16 32) (k0_hw31 : k0_chk31 v807 v919), ∀ (k0_h2 : k0_cond2 v807 = 1#1), ∀ a x, ((![v919] : Fin 1 → IVec S16 32) a x).toNat < S512.size a := fun v807 v919 k0_hw31 k0_h2 => k0_hw31.2 k0_h2

def k0_chk32 (v807 : BitVec 1) (v929 : IVec S16 32) : Prop :=
  (∀ (k0_h2 : k0_cond2 v807 = 1#1), ∀ a x, ((![v929] : Fin 1 → IVec S16 32) a x).toNat < S512.size a) ∧
  (∀ (k0_h2 : k0_cond2 v807 = 1#1), ∀ a x, ((![v929] : Fin 1 → IVec S16 32) a x).toNat < S512.size a)
theorem k0_idx63_inb : ∀ (v807 : BitVec 1) (v929 : IVec S16 32) (k0_hw32 : k0_chk32 v807 v929), ∀ (k0_h2 : k0_cond2 v807 = 1#1), ∀ a x, ((![v929] : Fin 1 → IVec S16 32) a x).toNat < S512.size a := fun v807 v929 k0_hw32 k0_h2 => k0_hw32.1 k0_h2
theorem k0_idx64_inb : ∀ (v807 : BitVec 1) (v929 : IVec S16 32) (k0_hw32 : k0_chk32 v807 v929), ∀ (k0_h2 : k0_cond2 v807 = 1#1), ∀ a x, ((![v929] : Fin 1 → IVec S16 32) a x).toNat < S512.size a := fun v807 v929 k0_hw32 k0_h2 => k0_hw32.2 k0_h2

def k0_chk33 (v807 : BitVec 1) (v939 : IVec S16 32) : Prop :=
  (∀ (k0_h2 : k0_cond2 v807 = 1#1), ∀ a x, ((![v939] : Fin 1 → IVec S16 32) a x).toNat < S512.size a) ∧
  (∀ (k0_h2 : k0_cond2 v807 = 1#1), ∀ a x, ((![v939] : Fin 1 → IVec S16 32) a x).toNat < S512.size a)
theorem k0_idx65_inb : ∀ (v807 : BitVec 1) (v939 : IVec S16 32) (k0_hw33 : k0_chk33 v807 v939), ∀ (k0_h2 : k0_cond2 v807 = 1#1), ∀ a x, ((![v939] : Fin 1 → IVec S16 32) a x).toNat < S512.size a := fun v807 v939 k0_hw33 k0_h2 => k0_hw33.1 k0_h2
theorem k0_idx66_inb : ∀ (v807 : BitVec 1) (v939 : IVec S16 32) (k0_hw33 : k0_chk33 v807 v939), ∀ (k0_h2 : k0_cond2 v807 = 1#1), ∀ a x, ((![v939] : Fin 1 → IVec S16 32) a x).toNat < S512.size a := fun v807 v939 k0_hw33 k0_h2 => k0_hw33.2 k0_h2

def k0_chk34 (v807 : BitVec 1) (v949 : IVec S16 32) : Prop :=
  (∀ (k0_h2 : k0_cond2 v807 = 1#1), ∀ a x, ((![v949] : Fin 1 → IVec S16 32) a x).toNat < S512.size a) ∧
  (∀ (k0_h2 : k0_cond2 v807 = 1#1), ∀ a x, ((![v949] : Fin 1 → IVec S16 32) a x).toNat < S512.size a)
theorem k0_idx67_inb : ∀ (v807 : BitVec 1) (v949 : IVec S16 32) (k0_hw34 : k0_chk34 v807 v949), ∀ (k0_h2 : k0_cond2 v807 = 1#1), ∀ a x, ((![v949] : Fin 1 → IVec S16 32) a x).toNat < S512.size a := fun v807 v949 k0_hw34 k0_h2 => k0_hw34.1 k0_h2
theorem k0_idx68_inb : ∀ (v807 : BitVec 1) (v949 : IVec S16 32) (k0_hw34 : k0_chk34 v807 v949), ∀ (k0_h2 : k0_cond2 v807 = 1#1), ∀ a x, ((![v949] : Fin 1 → IVec S16 32) a x).toNat < S512.size a := fun v807 v949 k0_hw34 k0_h2 => k0_hw34.2 k0_h2

def k0_chk35 (v807 : BitVec 1) (v959 : IVec S16 32) : Prop :=
  (∀ (k0_h2 : k0_cond2 v807 = 1#1), ∀ a x, ((![v959] : Fin 1 → IVec S16 32) a x).toNat < S512.size a) ∧
  (∀ (k0_h2 : k0_cond2 v807 = 1#1), ∀ a x, ((![v959] : Fin 1 → IVec S16 32) a x).toNat < S512.size a)
theorem k0_idx69_inb : ∀ (v807 : BitVec 1) (v959 : IVec S16 32) (k0_hw35 : k0_chk35 v807 v959), ∀ (k0_h2 : k0_cond2 v807 = 1#1), ∀ a x, ((![v959] : Fin 1 → IVec S16 32) a x).toNat < S512.size a := fun v807 v959 k0_hw35 k0_h2 => k0_hw35.1 k0_h2
theorem k0_idx70_inb : ∀ (v807 : BitVec 1) (v959 : IVec S16 32) (k0_hw35 : k0_chk35 v807 v959), ∀ (k0_h2 : k0_cond2 v807 = 1#1), ∀ a x, ((![v959] : Fin 1 → IVec S16 32) a x).toNat < S512.size a := fun v807 v959 k0_hw35 k0_h2 => k0_hw35.2 k0_h2

def k0_chk36 (v807 : BitVec 1) (v969 : IVec S16 32) : Prop :=
  (∀ (k0_h2 : k0_cond2 v807 = 1#1), ∀ a x, ((![v969] : Fin 1 → IVec S16 32) a x).toNat < S512.size a) ∧
  (∀ (k0_h2 : k0_cond2 v807 = 1#1), ∀ a x, ((![v969] : Fin 1 → IVec S16 32) a x).toNat < S512.size a)
theorem k0_idx71_inb : ∀ (v807 : BitVec 1) (v969 : IVec S16 32) (k0_hw36 : k0_chk36 v807 v969), ∀ (k0_h2 : k0_cond2 v807 = 1#1), ∀ a x, ((![v969] : Fin 1 → IVec S16 32) a x).toNat < S512.size a := fun v807 v969 k0_hw36 k0_h2 => k0_hw36.1 k0_h2
theorem k0_idx72_inb : ∀ (v807 : BitVec 1) (v969 : IVec S16 32) (k0_hw36 : k0_chk36 v807 v969), ∀ (k0_h2 : k0_cond2 v807 = 1#1), ∀ a x, ((![v969] : Fin 1 → IVec S16 32) a x).toNat < S512.size a := fun v807 v969 k0_hw36 k0_h2 => k0_hw36.2 k0_h2

def k0_chk37 (v807 : BitVec 1) (v979 : IVec S16 32) : Prop :=
  (∀ (k0_h2 : k0_cond2 v807 = 1#1), ∀ a x, ((![v979] : Fin 1 → IVec S16 32) a x).toNat < S512.size a) ∧
  (∀ (k0_h2 : k0_cond2 v807 = 1#1), ∀ a x, ((![v979] : Fin 1 → IVec S16 32) a x).toNat < S512.size a)
theorem k0_idx73_inb : ∀ (v807 : BitVec 1) (v979 : IVec S16 32) (k0_hw37 : k0_chk37 v807 v979), ∀ (k0_h2 : k0_cond2 v807 = 1#1), ∀ a x, ((![v979] : Fin 1 → IVec S16 32) a x).toNat < S512.size a := fun v807 v979 k0_hw37 k0_h2 => k0_hw37.1 k0_h2
theorem k0_idx74_inb : ∀ (v807 : BitVec 1) (v979 : IVec S16 32) (k0_hw37 : k0_chk37 v807 v979), ∀ (k0_h2 : k0_cond2 v807 = 1#1), ∀ a x, ((![v979] : Fin 1 → IVec S16 32) a x).toNat < S512.size a := fun v807 v979 k0_hw37 k0_h2 => k0_hw37.2 k0_h2

def k0_chk38 (v807 : BitVec 1) (v989 : IVec S16 32) : Prop :=
  (∀ (k0_h2 : k0_cond2 v807 = 1#1), ∀ a x, ((![v989] : Fin 1 → IVec S16 32) a x).toNat < S512.size a) ∧
  (∀ (k0_h2 : k0_cond2 v807 = 1#1), ∀ a x, ((![v989] : Fin 1 → IVec S16 32) a x).toNat < S512.size a)
theorem k0_idx75_inb : ∀ (v807 : BitVec 1) (v989 : IVec S16 32) (k0_hw38 : k0_chk38 v807 v989), ∀ (k0_h2 : k0_cond2 v807 = 1#1), ∀ a x, ((![v989] : Fin 1 → IVec S16 32) a x).toNat < S512.size a := fun v807 v989 k0_hw38 k0_h2 => k0_hw38.1 k0_h2
theorem k0_idx76_inb : ∀ (v807 : BitVec 1) (v989 : IVec S16 32) (k0_hw38 : k0_chk38 v807 v989), ∀ (k0_h2 : k0_cond2 v807 = 1#1), ∀ a x, ((![v989] : Fin 1 → IVec S16 32) a x).toNat < S512.size a := fun v807 v989 k0_hw38 k0_h2 => k0_hw38.2 k0_h2

def k0_chk39 (v807 : BitVec 1) (v999 : IVec S16 32) : Prop :=
  (∀ (k0_h2 : k0_cond2 v807 = 1#1), ∀ a x, ((![v999] : Fin 1 → IVec S16 32) a x).toNat < S512.size a) ∧
  (∀ (k0_h2 : k0_cond2 v807 = 1#1), ∀ a x, ((![v999] : Fin 1 → IVec S16 32) a x).toNat < S512.size a)
theorem k0_idx77_inb : ∀ (v807 : BitVec 1) (v999 : IVec S16 32) (k0_hw39 : k0_chk39 v807 v999), ∀ (k0_h2 : k0_cond2 v807 = 1#1), ∀ a x, ((![v999] : Fin 1 → IVec S16 32) a x).toNat < S512.size a := fun v807 v999 k0_hw39 k0_h2 => k0_hw39.1 k0_h2
theorem k0_idx78_inb : ∀ (v807 : BitVec 1) (v999 : IVec S16 32) (k0_hw39 : k0_chk39 v807 v999), ∀ (k0_h2 : k0_cond2 v807 = 1#1), ∀ a x, ((![v999] : Fin 1 → IVec S16 32) a x).toNat < S512.size a := fun v807 v999 k0_hw39 k0_h2 => k0_hw39.2 k0_h2

def k0_chk40 (v807 : BitVec 1) (v1009 : IVec S16 32) : Prop :=
  (∀ (k0_h2 : k0_cond2 v807 = 1#1), ∀ a x, ((![v1009] : Fin 1 → IVec S16 32) a x).toNat < S512.size a) ∧
  (∀ (k0_h2 : k0_cond2 v807 = 1#1), ∀ a x, ((![v1009] : Fin 1 → IVec S16 32) a x).toNat < S512.size a)
theorem k0_idx79_inb : ∀ (v807 : BitVec 1) (v1009 : IVec S16 32) (k0_hw40 : k0_chk40 v807 v1009), ∀ (k0_h2 : k0_cond2 v807 = 1#1), ∀ a x, ((![v1009] : Fin 1 → IVec S16 32) a x).toNat < S512.size a := fun v807 v1009 k0_hw40 k0_h2 => k0_hw40.1 k0_h2
theorem k0_idx80_inb : ∀ (v807 : BitVec 1) (v1009 : IVec S16 32) (k0_hw40 : k0_chk40 v807 v1009), ∀ (k0_h2 : k0_cond2 v807 = 1#1), ∀ a x, ((![v1009] : Fin 1 → IVec S16 32) a x).toNat < S512.size a := fun v807 v1009 k0_hw40 k0_h2 => k0_hw40.2 k0_h2

def k0_chk41 (v807 : BitVec 1) (v1019 : IVec S16 32) : Prop :=
  (∀ (k0_h2 : k0_cond2 v807 = 1#1), ∀ a x, ((![v1019] : Fin 1 → IVec S16 32) a x).toNat < S512.size a) ∧
  (∀ (k0_h2 : k0_cond2 v807 = 1#1), ∀ a x, ((![v1019] : Fin 1 → IVec S16 32) a x).toNat < S512.size a)
theorem k0_idx81_inb : ∀ (v807 : BitVec 1) (v1019 : IVec S16 32) (k0_hw41 : k0_chk41 v807 v1019), ∀ (k0_h2 : k0_cond2 v807 = 1#1), ∀ a x, ((![v1019] : Fin 1 → IVec S16 32) a x).toNat < S512.size a := fun v807 v1019 k0_hw41 k0_h2 => k0_hw41.1 k0_h2
theorem k0_idx82_inb : ∀ (v807 : BitVec 1) (v1019 : IVec S16 32) (k0_hw41 : k0_chk41 v807 v1019), ∀ (k0_h2 : k0_cond2 v807 = 1#1), ∀ a x, ((![v1019] : Fin 1 → IVec S16 32) a x).toNat < S512.size a := fun v807 v1019 k0_hw41 k0_h2 => k0_hw41.2 k0_h2

def k0_chk42 (v807 : BitVec 1) (v1029 : IVec S16 32) : Prop :=
  (∀ (k0_h2 : k0_cond2 v807 = 1#1), ∀ a x, ((![v1029] : Fin 1 → IVec S16 32) a x).toNat < S512.size a) ∧
  (∀ (k0_h2 : k0_cond2 v807 = 1#1), ∀ a x, ((![v1029] : Fin 1 → IVec S16 32) a x).toNat < S512.size a)
theorem k0_idx83_inb : ∀ (v807 : BitVec 1) (v1029 : IVec S16 32) (k0_hw42 : k0_chk42 v807 v1029), ∀ (k0_h2 : k0_cond2 v807 = 1#1), ∀ a x, ((![v1029] : Fin 1 → IVec S16 32) a x).toNat < S512.size a := fun v807 v1029 k0_hw42 k0_h2 => k0_hw42.1 k0_h2
theorem k0_idx84_inb : ∀ (v807 : BitVec 1) (v1029 : IVec S16 32) (k0_hw42 : k0_chk42 v807 v1029), ∀ (k0_h2 : k0_cond2 v807 = 1#1), ∀ a x, ((![v1029] : Fin 1 → IVec S16 32) a x).toNat < S512.size a := fun v807 v1029 k0_hw42 k0_h2 => k0_hw42.2 k0_h2

def k0_chk43 (v272 : IVec S16 32) : Prop :=
  (∀ a x, ((![v272] : Fin 1 → IVec S16 32) a x).toNat < S512.size a) ∧
  (∀ a x, ((![v272] : Fin 1 → IVec S16 32) a x).toNat < S512.size a)
theorem k0_idx85_inb : ∀ (v272 : IVec S16 32) (k0_hw43 : k0_chk43 v272), ∀ a x, ((![v272] : Fin 1 → IVec S16 32) a x).toNat < S512.size a := fun v272 k0_hw43 => k0_hw43.1
theorem k0_idx86_inb : ∀ (v272 : IVec S16 32) (k0_hw43 : k0_chk43 v272), ∀ a x, ((![v272] : Fin 1 → IVec S16 32) a x).toNat < S512.size a := fun v272 k0_hw43 => k0_hw43.2

def k0_chk44 (v283 : IVec S16 32) : Prop :=
  (∀ a x, ((![v283] : Fin 1 → IVec S16 32) a x).toNat < S512.size a) ∧
  (∀ a x, ((![v283] : Fin 1 → IVec S16 32) a x).toNat < S512.size a)
theorem k0_idx87_inb : ∀ (v283 : IVec S16 32) (k0_hw44 : k0_chk44 v283), ∀ a x, ((![v283] : Fin 1 → IVec S16 32) a x).toNat < S512.size a := fun v283 k0_hw44 => k0_hw44.1
theorem k0_idx88_inb : ∀ (v283 : IVec S16 32) (k0_hw44 : k0_chk44 v283), ∀ a x, ((![v283] : Fin 1 → IVec S16 32) a x).toNat < S512.size a := fun v283 k0_hw44 => k0_hw44.2

def k0_chk45 (v294 : IVec S16 32) : Prop :=
  (∀ a x, ((![v294] : Fin 1 → IVec S16 32) a x).toNat < S512.size a) ∧
  (∀ a x, ((![v294] : Fin 1 → IVec S16 32) a x).toNat < S512.size a)
theorem k0_idx89_inb : ∀ (v294 : IVec S16 32) (k0_hw45 : k0_chk45 v294), ∀ a x, ((![v294] : Fin 1 → IVec S16 32) a x).toNat < S512.size a := fun v294 k0_hw45 => k0_hw45.1
theorem k0_idx90_inb : ∀ (v294 : IVec S16 32) (k0_hw45 : k0_chk45 v294), ∀ a x, ((![v294] : Fin 1 → IVec S16 32) a x).toNat < S512.size a := fun v294 k0_hw45 => k0_hw45.2

def k0_chk46 (v305 : IVec S16 32) : Prop :=
  (∀ a x, ((![v305] : Fin 1 → IVec S16 32) a x).toNat < S512.size a) ∧
  (∀ a x, ((![v305] : Fin 1 → IVec S16 32) a x).toNat < S512.size a)
theorem k0_idx91_inb : ∀ (v305 : IVec S16 32) (k0_hw46 : k0_chk46 v305), ∀ a x, ((![v305] : Fin 1 → IVec S16 32) a x).toNat < S512.size a := fun v305 k0_hw46 => k0_hw46.1
theorem k0_idx92_inb : ∀ (v305 : IVec S16 32) (k0_hw46 : k0_chk46 v305), ∀ a x, ((![v305] : Fin 1 → IVec S16 32) a x).toNat < S512.size a := fun v305 k0_hw46 => k0_hw46.2

def k0_chk47 (v316 : IVec S16 32) : Prop :=
  (∀ a x, ((![v316] : Fin 1 → IVec S16 32) a x).toNat < S512.size a) ∧
  (∀ a x, ((![v316] : Fin 1 → IVec S16 32) a x).toNat < S512.size a)
theorem k0_idx93_inb : ∀ (v316 : IVec S16 32) (k0_hw47 : k0_chk47 v316), ∀ a x, ((![v316] : Fin 1 → IVec S16 32) a x).toNat < S512.size a := fun v316 k0_hw47 => k0_hw47.1
theorem k0_idx94_inb : ∀ (v316 : IVec S16 32) (k0_hw47 : k0_chk47 v316), ∀ a x, ((![v316] : Fin 1 → IVec S16 32) a x).toNat < S512.size a := fun v316 k0_hw47 => k0_hw47.2

def k0_chk48 (v327 : IVec S16 32) : Prop :=
  (∀ a x, ((![v327] : Fin 1 → IVec S16 32) a x).toNat < S512.size a) ∧
  (∀ a x, ((![v327] : Fin 1 → IVec S16 32) a x).toNat < S512.size a)
theorem k0_idx95_inb : ∀ (v327 : IVec S16 32) (k0_hw48 : k0_chk48 v327), ∀ a x, ((![v327] : Fin 1 → IVec S16 32) a x).toNat < S512.size a := fun v327 k0_hw48 => k0_hw48.1
theorem k0_idx96_inb : ∀ (v327 : IVec S16 32) (k0_hw48 : k0_chk48 v327), ∀ a x, ((![v327] : Fin 1 → IVec S16 32) a x).toNat < S512.size a := fun v327 k0_hw48 => k0_hw48.2

def k0_chk49 (v338 : IVec S16 32) : Prop :=
  (∀ a x, ((![v338] : Fin 1 → IVec S16 32) a x).toNat < S512.size a) ∧
  (∀ a x, ((![v338] : Fin 1 → IVec S16 32) a x).toNat < S512.size a)
theorem k0_idx97_inb : ∀ (v338 : IVec S16 32) (k0_hw49 : k0_chk49 v338), ∀ a x, ((![v338] : Fin 1 → IVec S16 32) a x).toNat < S512.size a := fun v338 k0_hw49 => k0_hw49.1
theorem k0_idx98_inb : ∀ (v338 : IVec S16 32) (k0_hw49 : k0_chk49 v338), ∀ a x, ((![v338] : Fin 1 → IVec S16 32) a x).toNat < S512.size a := fun v338 k0_hw49 => k0_hw49.2

def k0_chk50 (v349 : IVec S16 32) : Prop :=
  (∀ a x, ((![v349] : Fin 1 → IVec S16 32) a x).toNat < S512.size a) ∧
  (∀ a x, ((![v349] : Fin 1 → IVec S16 32) a x).toNat < S512.size a)
theorem k0_idx99_inb : ∀ (v349 : IVec S16 32) (k0_hw50 : k0_chk50 v349), ∀ a x, ((![v349] : Fin 1 → IVec S16 32) a x).toNat < S512.size a := fun v349 k0_hw50 => k0_hw50.1
theorem k0_idx100_inb : ∀ (v349 : IVec S16 32) (k0_hw50 : k0_chk50 v349), ∀ a x, ((![v349] : Fin 1 → IVec S16 32) a x).toNat < S512.size a := fun v349 k0_hw50 => k0_hw50.2

def k0_chk51 (v360 : IVec S16 32) : Prop :=
  (∀ a x, ((![v360] : Fin 1 → IVec S16 32) a x).toNat < S512.size a) ∧
  (∀ a x, ((![v360] : Fin 1 → IVec S16 32) a x).toNat < S512.size a)
theorem k0_idx101_inb : ∀ (v360 : IVec S16 32) (k0_hw51 : k0_chk51 v360), ∀ a x, ((![v360] : Fin 1 → IVec S16 32) a x).toNat < S512.size a := fun v360 k0_hw51 => k0_hw51.1
theorem k0_idx102_inb : ∀ (v360 : IVec S16 32) (k0_hw51 : k0_chk51 v360), ∀ a x, ((![v360] : Fin 1 → IVec S16 32) a x).toNat < S512.size a := fun v360 k0_hw51 => k0_hw51.2

def k0_chk52 (v371 : IVec S16 32) : Prop :=
  (∀ a x, ((![v371] : Fin 1 → IVec S16 32) a x).toNat < S512.size a) ∧
  (∀ a x, ((![v371] : Fin 1 → IVec S16 32) a x).toNat < S512.size a)
theorem k0_idx103_inb : ∀ (v371 : IVec S16 32) (k0_hw52 : k0_chk52 v371), ∀ a x, ((![v371] : Fin 1 → IVec S16 32) a x).toNat < S512.size a := fun v371 k0_hw52 => k0_hw52.1
theorem k0_idx104_inb : ∀ (v371 : IVec S16 32) (k0_hw52 : k0_chk52 v371), ∀ a x, ((![v371] : Fin 1 → IVec S16 32) a x).toNat < S512.size a := fun v371 k0_hw52 => k0_hw52.2
def k0_off18 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_41 : BitVec 32 := 4#32
  let v192 : BitVec 32 := Scalar.muli v1 c4_i32_41
  let c1_i32_42 : BitVec 32 := 1#32
  let v193 : BitVec 32 := Scalar.addi v192 c1_i32_42
  let c0_i32_241_r4 : BitVec 32 := 0#32
  ![v193.toNat, 0]
def k0_off19 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_108 : BitVec 32 := 4#32
  let v378 : BitVec 32 := Scalar.muli v1 c4_i32_108
  let c2_i32_109 : BitVec 32 := 2#32
  let v379 : BitVec 32 := Scalar.addi v378 c2_i32_109
  let c0_i32_241_r6 : BitVec 32 := 0#32
  ![v379.toNat, 0]
@[reducible] def k0_t7_loop : Scf.Loop 32 :=
  let c0_i32_110 : BitVec 32 := 0#32
  let c781_i32_111 : BitVec 32 := 781#32
  let v380 : BitVec 32 := Scalar.addi c0_i32_110 c781_i32_111
  let c1_i32_112 : BitVec 32 := 1#32
  ⟨c0_i32_110, v380, c1_i32_112⟩
def k0_off20 (k0_t7 : Fin k0_t7_loop.trips) (c0_i32_243 : BitVec 32) : Fin 1 → Nat :=
  let c0_i32_242 : BitVec 32 := 0#32
  let c0_i32_110 : BitVec 32 := 0#32
  let c1_i32_112 : BitVec 32 := 1#32
  let arg9 : BitVec 32 := Scf.iv c0_i32_110 c1_i32_112 k0_t7
  let c1_i32_241 : BitVec 32 := 1#32
  let v750 : BitVec 32 := Scalar.muli arg9 c1_i32_241
  let v751 : BitVec 32 := Scalar.addi c0_i32_242 v750
  let c128_i32 : BitVec 32 := 128#32
  let v752 : BitVec 32 := Scalar.muli v751 c128_i32
  let v753 : BitVec 32 := Scalar.addi v752 c0_i32_243
  let v754 : Index := Scalar.indexCast v753
  ![v754.toNat]
def k0_off21 (k0_t7 : Fin k0_t7_loop.trips) (c0_i32_244 : BitVec 32) : Fin 1 → Nat :=
  let c0_i32_242 : BitVec 32 := 0#32
  let c0_i32_110 : BitVec 32 := 0#32
  let c1_i32_112 : BitVec 32 := 1#32
  let arg9 : BitVec 32 := Scf.iv c0_i32_110 c1_i32_112 k0_t7
  let c1_i32_241 : BitVec 32 := 1#32
  let v750 : BitVec 32 := Scalar.muli arg9 c1_i32_241
  let v751 : BitVec 32 := Scalar.addi c0_i32_242 v750
  let c128_i32 : BitVec 32 := 128#32
  let v752 : BitVec 32 := Scalar.muli v751 c128_i32
  let v756 : BitVec 32 := Scalar.addi v752 c0_i32_244
  let c16_i32 : BitVec 32 := 16#32
  let v757 : BitVec 32 := Scalar.addi v756 c16_i32
  let v758 : Index := Scalar.indexCast v757
  ![v758.toNat]
def k0_off22 (k0_t7 : Fin k0_t7_loop.trips) : Fin 1 → Nat :=
  let c0_i32_242 : BitVec 32 := 0#32
  let c0_i32_110 : BitVec 32 := 0#32
  let c1_i32_112 : BitVec 32 := 1#32
  let arg9 : BitVec 32 := Scf.iv c0_i32_110 c1_i32_112 k0_t7
  let c1_i32_241 : BitVec 32 := 1#32
  let v750 : BitVec 32 := Scalar.muli arg9 c1_i32_241
  let v751 : BitVec 32 := Scalar.addi c0_i32_242 v750
  let c16_i32_252 : BitVec 32 := 16#32
  let v812 : BitVec 32 := Scalar.muli v751 c16_i32_252
  let v813 : Index := Scalar.indexCast v812
  ![v813.toNat]
@[reducible] def k0_t8_loop : Scf.Loop 32 :=
  let c0_i32_116 : BitVec 32 := 0#32
  let c32_i32_117 : BitVec 32 := 32#32
  let v450 : BitVec 32 := Scalar.addi c0_i32_116 c32_i32_117
  let c1_i32_118 : BitVec 32 := 1#32
  ⟨c0_i32_116, v450, c1_i32_118⟩
def k0_off23 (k0_t8 : Fin k0_t8_loop.trips) : Fin 1 → Nat :=
  let c0_i32_242 : BitVec 32 := 0#32
  let c0_i32_116 : BitVec 32 := 0#32
  let c1_i32_118 : BitVec 32 := 1#32
  let arg9 : BitVec 32 := Scf.iv c0_i32_116 c1_i32_118 k0_t8
  let c1_i32_241 : BitVec 32 := 1#32
  let v750 : BitVec 32 := Scalar.muli arg9 c1_i32_241
  let v751 : BitVec 32 := Scalar.addi c0_i32_242 v750
  let c16_i32 : BitVec 32 := 16#32
  let v752 : BitVec 32 := Scalar.muli v751 c16_i32
  let v753 : Index := Scalar.indexCast v752
  ![v753.toNat]
@[reducible] def k0_t9_loop : Scf.Loop 32 :=
  let c0_i32_121 : BitVec 32 := 0#32
  let c390_i32_122 : BitVec 32 := 390#32
  let v452 : BitVec 32 := Scalar.addi c0_i32_121 c390_i32_122
  let c1_i32_123 : BitVec 32 := 1#32
  ⟨c0_i32_121, v452, c1_i32_123⟩
def k0_off24 (k0_t9 : Fin k0_t9_loop.trips) : Fin 1 → Nat :=
  let c0_i32_242 : BitVec 32 := 0#32
  let c0_i32_121 : BitVec 32 := 0#32
  let c1_i32_123 : BitVec 32 := 1#32
  let arg9 : BitVec 32 := Scf.iv c0_i32_121 c1_i32_123 k0_t9
  let c1_i32_241 : BitVec 32 := 1#32
  let v750 : BitVec 32 := Scalar.muli arg9 c1_i32_241
  let v751 : BitVec 32 := Scalar.addi c0_i32_242 v750
  let c32_i32_243 : BitVec 32 := 32#32
  let v752 : BitVec 32 := Scalar.muli v751 c32_i32_243
  let v753 : Index := Scalar.indexCast v752
  ![v753.toNat]
def k0_off25 (k0_t9 : Fin k0_t9_loop.trips) : Fin 1 → Nat :=
  let c0_i32_242 : BitVec 32 := 0#32
  let c0_i32_121 : BitVec 32 := 0#32
  let c1_i32_123 : BitVec 32 := 1#32
  let arg9 : BitVec 32 := Scf.iv c0_i32_121 c1_i32_123 k0_t9
  let c1_i32_241 : BitVec 32 := 1#32
  let v750 : BitVec 32 := Scalar.muli arg9 c1_i32_241
  let v751 : BitVec 32 := Scalar.addi c0_i32_242 v750
  let c32_i32_244 : BitVec 32 := 32#32
  let v755 : BitVec 32 := Scalar.muli v751 c32_i32_244
  let c16_i32 : BitVec 32 := 16#32
  let v756 : BitVec 32 := Scalar.addi v755 c16_i32
  let v757 : Index := Scalar.indexCast v756
  ![v757.toNat]
def k0_off26 (k0_t9 : Fin k0_t9_loop.trips) (c0_i32_246 : BitVec 32) : Fin 1 → Nat :=
  let c0_i32_242 : BitVec 32 := 0#32
  let c0_i32_121 : BitVec 32 := 0#32
  let c1_i32_123 : BitVec 32 := 1#32
  let arg9 : BitVec 32 := Scf.iv c0_i32_121 c1_i32_123 k0_t9
  let c1_i32_241 : BitVec 32 := 1#32
  let v750 : BitVec 32 := Scalar.muli arg9 c1_i32_241
  let v751 : BitVec 32 := Scalar.addi c0_i32_242 v750
  let c256_i32 : BitVec 32 := 256#32
  let v811 : BitVec 32 := Scalar.muli v751 c256_i32
  let v812 : BitVec 32 := Scalar.addi v811 c0_i32_246
  let v813 : Index := Scalar.indexCast v812
  ![v813.toNat]
def k0_cond3 (v807 : BitVec 1) : BitVec 1 :=
  let v808 : BitVec 32 := Scalar.extui v807
  let c0_i32_245 : BitVec 32 := 0#32
  let v809 : BitVec 1 := Scalar.cmpi .ne v808 c0_i32_245
  v809

def k0_chk53 (v807 : BitVec 1) (v879 : IVec S16 32) : Prop :=
  (∀ (k0_h3 : k0_cond3 v807 = 1#1), ∀ a x, ((![v879] : Fin 1 → IVec S16 32) a x).toNat < S512.size a) ∧
  (∀ (k0_h3 : k0_cond3 v807 = 1#1), ∀ a x, ((![v879] : Fin 1 → IVec S16 32) a x).toNat < S512.size a)
theorem k0_idx105_inb : ∀ (v807 : BitVec 1) (v879 : IVec S16 32) (k0_hw53 : k0_chk53 v807 v879), ∀ (k0_h3 : k0_cond3 v807 = 1#1), ∀ a x, ((![v879] : Fin 1 → IVec S16 32) a x).toNat < S512.size a := fun v807 v879 k0_hw53 k0_h3 => k0_hw53.1 k0_h3
theorem k0_idx106_inb : ∀ (v807 : BitVec 1) (v879 : IVec S16 32) (k0_hw53 : k0_chk53 v807 v879), ∀ (k0_h3 : k0_cond3 v807 = 1#1), ∀ a x, ((![v879] : Fin 1 → IVec S16 32) a x).toNat < S512.size a := fun v807 v879 k0_hw53 k0_h3 => k0_hw53.2 k0_h3

def k0_chk54 (v807 : BitVec 1) (v889 : IVec S16 32) : Prop :=
  (∀ (k0_h3 : k0_cond3 v807 = 1#1), ∀ a x, ((![v889] : Fin 1 → IVec S16 32) a x).toNat < S512.size a) ∧
  (∀ (k0_h3 : k0_cond3 v807 = 1#1), ∀ a x, ((![v889] : Fin 1 → IVec S16 32) a x).toNat < S512.size a)
theorem k0_idx107_inb : ∀ (v807 : BitVec 1) (v889 : IVec S16 32) (k0_hw54 : k0_chk54 v807 v889), ∀ (k0_h3 : k0_cond3 v807 = 1#1), ∀ a x, ((![v889] : Fin 1 → IVec S16 32) a x).toNat < S512.size a := fun v807 v889 k0_hw54 k0_h3 => k0_hw54.1 k0_h3
theorem k0_idx108_inb : ∀ (v807 : BitVec 1) (v889 : IVec S16 32) (k0_hw54 : k0_chk54 v807 v889), ∀ (k0_h3 : k0_cond3 v807 = 1#1), ∀ a x, ((![v889] : Fin 1 → IVec S16 32) a x).toNat < S512.size a := fun v807 v889 k0_hw54 k0_h3 => k0_hw54.2 k0_h3

def k0_chk55 (v807 : BitVec 1) (v899 : IVec S16 32) : Prop :=
  (∀ (k0_h3 : k0_cond3 v807 = 1#1), ∀ a x, ((![v899] : Fin 1 → IVec S16 32) a x).toNat < S512.size a) ∧
  (∀ (k0_h3 : k0_cond3 v807 = 1#1), ∀ a x, ((![v899] : Fin 1 → IVec S16 32) a x).toNat < S512.size a)
theorem k0_idx109_inb : ∀ (v807 : BitVec 1) (v899 : IVec S16 32) (k0_hw55 : k0_chk55 v807 v899), ∀ (k0_h3 : k0_cond3 v807 = 1#1), ∀ a x, ((![v899] : Fin 1 → IVec S16 32) a x).toNat < S512.size a := fun v807 v899 k0_hw55 k0_h3 => k0_hw55.1 k0_h3
theorem k0_idx110_inb : ∀ (v807 : BitVec 1) (v899 : IVec S16 32) (k0_hw55 : k0_chk55 v807 v899), ∀ (k0_h3 : k0_cond3 v807 = 1#1), ∀ a x, ((![v899] : Fin 1 → IVec S16 32) a x).toNat < S512.size a := fun v807 v899 k0_hw55 k0_h3 => k0_hw55.2 k0_h3

def k0_chk56 (v807 : BitVec 1) (v909 : IVec S16 32) : Prop :=
  (∀ (k0_h3 : k0_cond3 v807 = 1#1), ∀ a x, ((![v909] : Fin 1 → IVec S16 32) a x).toNat < S512.size a) ∧
  (∀ (k0_h3 : k0_cond3 v807 = 1#1), ∀ a x, ((![v909] : Fin 1 → IVec S16 32) a x).toNat < S512.size a)
theorem k0_idx111_inb : ∀ (v807 : BitVec 1) (v909 : IVec S16 32) (k0_hw56 : k0_chk56 v807 v909), ∀ (k0_h3 : k0_cond3 v807 = 1#1), ∀ a x, ((![v909] : Fin 1 → IVec S16 32) a x).toNat < S512.size a := fun v807 v909 k0_hw56 k0_h3 => k0_hw56.1 k0_h3
theorem k0_idx112_inb : ∀ (v807 : BitVec 1) (v909 : IVec S16 32) (k0_hw56 : k0_chk56 v807 v909), ∀ (k0_h3 : k0_cond3 v807 = 1#1), ∀ a x, ((![v909] : Fin 1 → IVec S16 32) a x).toNat < S512.size a := fun v807 v909 k0_hw56 k0_h3 => k0_hw56.2 k0_h3

def k0_chk57 (v807 : BitVec 1) (v919 : IVec S16 32) : Prop :=
  (∀ (k0_h3 : k0_cond3 v807 = 1#1), ∀ a x, ((![v919] : Fin 1 → IVec S16 32) a x).toNat < S512.size a) ∧
  (∀ (k0_h3 : k0_cond3 v807 = 1#1), ∀ a x, ((![v919] : Fin 1 → IVec S16 32) a x).toNat < S512.size a)
theorem k0_idx113_inb : ∀ (v807 : BitVec 1) (v919 : IVec S16 32) (k0_hw57 : k0_chk57 v807 v919), ∀ (k0_h3 : k0_cond3 v807 = 1#1), ∀ a x, ((![v919] : Fin 1 → IVec S16 32) a x).toNat < S512.size a := fun v807 v919 k0_hw57 k0_h3 => k0_hw57.1 k0_h3
theorem k0_idx114_inb : ∀ (v807 : BitVec 1) (v919 : IVec S16 32) (k0_hw57 : k0_chk57 v807 v919), ∀ (k0_h3 : k0_cond3 v807 = 1#1), ∀ a x, ((![v919] : Fin 1 → IVec S16 32) a x).toNat < S512.size a := fun v807 v919 k0_hw57 k0_h3 => k0_hw57.2 k0_h3

def k0_chk58 (v807 : BitVec 1) (v929 : IVec S16 32) : Prop :=
  (∀ (k0_h3 : k0_cond3 v807 = 1#1), ∀ a x, ((![v929] : Fin 1 → IVec S16 32) a x).toNat < S512.size a) ∧
  (∀ (k0_h3 : k0_cond3 v807 = 1#1), ∀ a x, ((![v929] : Fin 1 → IVec S16 32) a x).toNat < S512.size a)
theorem k0_idx115_inb : ∀ (v807 : BitVec 1) (v929 : IVec S16 32) (k0_hw58 : k0_chk58 v807 v929), ∀ (k0_h3 : k0_cond3 v807 = 1#1), ∀ a x, ((![v929] : Fin 1 → IVec S16 32) a x).toNat < S512.size a := fun v807 v929 k0_hw58 k0_h3 => k0_hw58.1 k0_h3
theorem k0_idx116_inb : ∀ (v807 : BitVec 1) (v929 : IVec S16 32) (k0_hw58 : k0_chk58 v807 v929), ∀ (k0_h3 : k0_cond3 v807 = 1#1), ∀ a x, ((![v929] : Fin 1 → IVec S16 32) a x).toNat < S512.size a := fun v807 v929 k0_hw58 k0_h3 => k0_hw58.2 k0_h3

def k0_chk59 (v807 : BitVec 1) (v939 : IVec S16 32) : Prop :=
  (∀ (k0_h3 : k0_cond3 v807 = 1#1), ∀ a x, ((![v939] : Fin 1 → IVec S16 32) a x).toNat < S512.size a) ∧
  (∀ (k0_h3 : k0_cond3 v807 = 1#1), ∀ a x, ((![v939] : Fin 1 → IVec S16 32) a x).toNat < S512.size a)
theorem k0_idx117_inb : ∀ (v807 : BitVec 1) (v939 : IVec S16 32) (k0_hw59 : k0_chk59 v807 v939), ∀ (k0_h3 : k0_cond3 v807 = 1#1), ∀ a x, ((![v939] : Fin 1 → IVec S16 32) a x).toNat < S512.size a := fun v807 v939 k0_hw59 k0_h3 => k0_hw59.1 k0_h3
theorem k0_idx118_inb : ∀ (v807 : BitVec 1) (v939 : IVec S16 32) (k0_hw59 : k0_chk59 v807 v939), ∀ (k0_h3 : k0_cond3 v807 = 1#1), ∀ a x, ((![v939] : Fin 1 → IVec S16 32) a x).toNat < S512.size a := fun v807 v939 k0_hw59 k0_h3 => k0_hw59.2 k0_h3

def k0_chk60 (v807 : BitVec 1) (v949 : IVec S16 32) : Prop :=
  (∀ (k0_h3 : k0_cond3 v807 = 1#1), ∀ a x, ((![v949] : Fin 1 → IVec S16 32) a x).toNat < S512.size a) ∧
  (∀ (k0_h3 : k0_cond3 v807 = 1#1), ∀ a x, ((![v949] : Fin 1 → IVec S16 32) a x).toNat < S512.size a)
theorem k0_idx119_inb : ∀ (v807 : BitVec 1) (v949 : IVec S16 32) (k0_hw60 : k0_chk60 v807 v949), ∀ (k0_h3 : k0_cond3 v807 = 1#1), ∀ a x, ((![v949] : Fin 1 → IVec S16 32) a x).toNat < S512.size a := fun v807 v949 k0_hw60 k0_h3 => k0_hw60.1 k0_h3
theorem k0_idx120_inb : ∀ (v807 : BitVec 1) (v949 : IVec S16 32) (k0_hw60 : k0_chk60 v807 v949), ∀ (k0_h3 : k0_cond3 v807 = 1#1), ∀ a x, ((![v949] : Fin 1 → IVec S16 32) a x).toNat < S512.size a := fun v807 v949 k0_hw60 k0_h3 => k0_hw60.2 k0_h3

def k0_chk61 (v807 : BitVec 1) (v959 : IVec S16 32) : Prop :=
  (∀ (k0_h3 : k0_cond3 v807 = 1#1), ∀ a x, ((![v959] : Fin 1 → IVec S16 32) a x).toNat < S512.size a) ∧
  (∀ (k0_h3 : k0_cond3 v807 = 1#1), ∀ a x, ((![v959] : Fin 1 → IVec S16 32) a x).toNat < S512.size a)
theorem k0_idx121_inb : ∀ (v807 : BitVec 1) (v959 : IVec S16 32) (k0_hw61 : k0_chk61 v807 v959), ∀ (k0_h3 : k0_cond3 v807 = 1#1), ∀ a x, ((![v959] : Fin 1 → IVec S16 32) a x).toNat < S512.size a := fun v807 v959 k0_hw61 k0_h3 => k0_hw61.1 k0_h3
theorem k0_idx122_inb : ∀ (v807 : BitVec 1) (v959 : IVec S16 32) (k0_hw61 : k0_chk61 v807 v959), ∀ (k0_h3 : k0_cond3 v807 = 1#1), ∀ a x, ((![v959] : Fin 1 → IVec S16 32) a x).toNat < S512.size a := fun v807 v959 k0_hw61 k0_h3 => k0_hw61.2 k0_h3

def k0_chk62 (v807 : BitVec 1) (v969 : IVec S16 32) : Prop :=
  (∀ (k0_h3 : k0_cond3 v807 = 1#1), ∀ a x, ((![v969] : Fin 1 → IVec S16 32) a x).toNat < S512.size a) ∧
  (∀ (k0_h3 : k0_cond3 v807 = 1#1), ∀ a x, ((![v969] : Fin 1 → IVec S16 32) a x).toNat < S512.size a)
theorem k0_idx123_inb : ∀ (v807 : BitVec 1) (v969 : IVec S16 32) (k0_hw62 : k0_chk62 v807 v969), ∀ (k0_h3 : k0_cond3 v807 = 1#1), ∀ a x, ((![v969] : Fin 1 → IVec S16 32) a x).toNat < S512.size a := fun v807 v969 k0_hw62 k0_h3 => k0_hw62.1 k0_h3
theorem k0_idx124_inb : ∀ (v807 : BitVec 1) (v969 : IVec S16 32) (k0_hw62 : k0_chk62 v807 v969), ∀ (k0_h3 : k0_cond3 v807 = 1#1), ∀ a x, ((![v969] : Fin 1 → IVec S16 32) a x).toNat < S512.size a := fun v807 v969 k0_hw62 k0_h3 => k0_hw62.2 k0_h3

def k0_chk63 (v807 : BitVec 1) (v979 : IVec S16 32) : Prop :=
  (∀ (k0_h3 : k0_cond3 v807 = 1#1), ∀ a x, ((![v979] : Fin 1 → IVec S16 32) a x).toNat < S512.size a) ∧
  (∀ (k0_h3 : k0_cond3 v807 = 1#1), ∀ a x, ((![v979] : Fin 1 → IVec S16 32) a x).toNat < S512.size a)
theorem k0_idx125_inb : ∀ (v807 : BitVec 1) (v979 : IVec S16 32) (k0_hw63 : k0_chk63 v807 v979), ∀ (k0_h3 : k0_cond3 v807 = 1#1), ∀ a x, ((![v979] : Fin 1 → IVec S16 32) a x).toNat < S512.size a := fun v807 v979 k0_hw63 k0_h3 => k0_hw63.1 k0_h3
theorem k0_idx126_inb : ∀ (v807 : BitVec 1) (v979 : IVec S16 32) (k0_hw63 : k0_chk63 v807 v979), ∀ (k0_h3 : k0_cond3 v807 = 1#1), ∀ a x, ((![v979] : Fin 1 → IVec S16 32) a x).toNat < S512.size a := fun v807 v979 k0_hw63 k0_h3 => k0_hw63.2 k0_h3

def k0_chk64 (v807 : BitVec 1) (v989 : IVec S16 32) : Prop :=
  (∀ (k0_h3 : k0_cond3 v807 = 1#1), ∀ a x, ((![v989] : Fin 1 → IVec S16 32) a x).toNat < S512.size a) ∧
  (∀ (k0_h3 : k0_cond3 v807 = 1#1), ∀ a x, ((![v989] : Fin 1 → IVec S16 32) a x).toNat < S512.size a)
theorem k0_idx127_inb : ∀ (v807 : BitVec 1) (v989 : IVec S16 32) (k0_hw64 : k0_chk64 v807 v989), ∀ (k0_h3 : k0_cond3 v807 = 1#1), ∀ a x, ((![v989] : Fin 1 → IVec S16 32) a x).toNat < S512.size a := fun v807 v989 k0_hw64 k0_h3 => k0_hw64.1 k0_h3
theorem k0_idx128_inb : ∀ (v807 : BitVec 1) (v989 : IVec S16 32) (k0_hw64 : k0_chk64 v807 v989), ∀ (k0_h3 : k0_cond3 v807 = 1#1), ∀ a x, ((![v989] : Fin 1 → IVec S16 32) a x).toNat < S512.size a := fun v807 v989 k0_hw64 k0_h3 => k0_hw64.2 k0_h3

def k0_chk65 (v807 : BitVec 1) (v999 : IVec S16 32) : Prop :=
  (∀ (k0_h3 : k0_cond3 v807 = 1#1), ∀ a x, ((![v999] : Fin 1 → IVec S16 32) a x).toNat < S512.size a) ∧
  (∀ (k0_h3 : k0_cond3 v807 = 1#1), ∀ a x, ((![v999] : Fin 1 → IVec S16 32) a x).toNat < S512.size a)
theorem k0_idx129_inb : ∀ (v807 : BitVec 1) (v999 : IVec S16 32) (k0_hw65 : k0_chk65 v807 v999), ∀ (k0_h3 : k0_cond3 v807 = 1#1), ∀ a x, ((![v999] : Fin 1 → IVec S16 32) a x).toNat < S512.size a := fun v807 v999 k0_hw65 k0_h3 => k0_hw65.1 k0_h3
theorem k0_idx130_inb : ∀ (v807 : BitVec 1) (v999 : IVec S16 32) (k0_hw65 : k0_chk65 v807 v999), ∀ (k0_h3 : k0_cond3 v807 = 1#1), ∀ a x, ((![v999] : Fin 1 → IVec S16 32) a x).toNat < S512.size a := fun v807 v999 k0_hw65 k0_h3 => k0_hw65.2 k0_h3

def k0_chk66 (v807 : BitVec 1) (v1009 : IVec S16 32) : Prop :=
  (∀ (k0_h3 : k0_cond3 v807 = 1#1), ∀ a x, ((![v1009] : Fin 1 → IVec S16 32) a x).toNat < S512.size a) ∧
  (∀ (k0_h3 : k0_cond3 v807 = 1#1), ∀ a x, ((![v1009] : Fin 1 → IVec S16 32) a x).toNat < S512.size a)
theorem k0_idx131_inb : ∀ (v807 : BitVec 1) (v1009 : IVec S16 32) (k0_hw66 : k0_chk66 v807 v1009), ∀ (k0_h3 : k0_cond3 v807 = 1#1), ∀ a x, ((![v1009] : Fin 1 → IVec S16 32) a x).toNat < S512.size a := fun v807 v1009 k0_hw66 k0_h3 => k0_hw66.1 k0_h3
theorem k0_idx132_inb : ∀ (v807 : BitVec 1) (v1009 : IVec S16 32) (k0_hw66 : k0_chk66 v807 v1009), ∀ (k0_h3 : k0_cond3 v807 = 1#1), ∀ a x, ((![v1009] : Fin 1 → IVec S16 32) a x).toNat < S512.size a := fun v807 v1009 k0_hw66 k0_h3 => k0_hw66.2 k0_h3

def k0_chk67 (v807 : BitVec 1) (v1019 : IVec S16 32) : Prop :=
  (∀ (k0_h3 : k0_cond3 v807 = 1#1), ∀ a x, ((![v1019] : Fin 1 → IVec S16 32) a x).toNat < S512.size a) ∧
  (∀ (k0_h3 : k0_cond3 v807 = 1#1), ∀ a x, ((![v1019] : Fin 1 → IVec S16 32) a x).toNat < S512.size a)
theorem k0_idx133_inb : ∀ (v807 : BitVec 1) (v1019 : IVec S16 32) (k0_hw67 : k0_chk67 v807 v1019), ∀ (k0_h3 : k0_cond3 v807 = 1#1), ∀ a x, ((![v1019] : Fin 1 → IVec S16 32) a x).toNat < S512.size a := fun v807 v1019 k0_hw67 k0_h3 => k0_hw67.1 k0_h3
theorem k0_idx134_inb : ∀ (v807 : BitVec 1) (v1019 : IVec S16 32) (k0_hw67 : k0_chk67 v807 v1019), ∀ (k0_h3 : k0_cond3 v807 = 1#1), ∀ a x, ((![v1019] : Fin 1 → IVec S16 32) a x).toNat < S512.size a := fun v807 v1019 k0_hw67 k0_h3 => k0_hw67.2 k0_h3

def k0_chk68 (v807 : BitVec 1) (v1029 : IVec S16 32) : Prop :=
  (∀ (k0_h3 : k0_cond3 v807 = 1#1), ∀ a x, ((![v1029] : Fin 1 → IVec S16 32) a x).toNat < S512.size a) ∧
  (∀ (k0_h3 : k0_cond3 v807 = 1#1), ∀ a x, ((![v1029] : Fin 1 → IVec S16 32) a x).toNat < S512.size a)
theorem k0_idx135_inb : ∀ (v807 : BitVec 1) (v1029 : IVec S16 32) (k0_hw68 : k0_chk68 v807 v1029), ∀ (k0_h3 : k0_cond3 v807 = 1#1), ∀ a x, ((![v1029] : Fin 1 → IVec S16 32) a x).toNat < S512.size a := fun v807 v1029 k0_hw68 k0_h3 => k0_hw68.1 k0_h3
theorem k0_idx136_inb : ∀ (v807 : BitVec 1) (v1029 : IVec S16 32) (k0_hw68 : k0_chk68 v807 v1029), ∀ (k0_h3 : k0_cond3 v807 = 1#1), ∀ a x, ((![v1029] : Fin 1 → IVec S16 32) a x).toNat < S512.size a := fun v807 v1029 k0_hw68 k0_h3 => k0_hw68.2 k0_h3

def k0_chk69 (v458 : IVec S16 32) : Prop :=
  (∀ a x, ((![v458] : Fin 1 → IVec S16 32) a x).toNat < S512.size a) ∧
  (∀ a x, ((![v458] : Fin 1 → IVec S16 32) a x).toNat < S512.size a)
theorem k0_idx137_inb : ∀ (v458 : IVec S16 32) (k0_hw69 : k0_chk69 v458), ∀ a x, ((![v458] : Fin 1 → IVec S16 32) a x).toNat < S512.size a := fun v458 k0_hw69 => k0_hw69.1
theorem k0_idx138_inb : ∀ (v458 : IVec S16 32) (k0_hw69 : k0_chk69 v458), ∀ a x, ((![v458] : Fin 1 → IVec S16 32) a x).toNat < S512.size a := fun v458 k0_hw69 => k0_hw69.2

def k0_chk70 (v469 : IVec S16 32) : Prop :=
  (∀ a x, ((![v469] : Fin 1 → IVec S16 32) a x).toNat < S512.size a) ∧
  (∀ a x, ((![v469] : Fin 1 → IVec S16 32) a x).toNat < S512.size a)
theorem k0_idx139_inb : ∀ (v469 : IVec S16 32) (k0_hw70 : k0_chk70 v469), ∀ a x, ((![v469] : Fin 1 → IVec S16 32) a x).toNat < S512.size a := fun v469 k0_hw70 => k0_hw70.1
theorem k0_idx140_inb : ∀ (v469 : IVec S16 32) (k0_hw70 : k0_chk70 v469), ∀ a x, ((![v469] : Fin 1 → IVec S16 32) a x).toNat < S512.size a := fun v469 k0_hw70 => k0_hw70.2

def k0_chk71 (v480 : IVec S16 32) : Prop :=
  (∀ a x, ((![v480] : Fin 1 → IVec S16 32) a x).toNat < S512.size a) ∧
  (∀ a x, ((![v480] : Fin 1 → IVec S16 32) a x).toNat < S512.size a)
theorem k0_idx141_inb : ∀ (v480 : IVec S16 32) (k0_hw71 : k0_chk71 v480), ∀ a x, ((![v480] : Fin 1 → IVec S16 32) a x).toNat < S512.size a := fun v480 k0_hw71 => k0_hw71.1
theorem k0_idx142_inb : ∀ (v480 : IVec S16 32) (k0_hw71 : k0_chk71 v480), ∀ a x, ((![v480] : Fin 1 → IVec S16 32) a x).toNat < S512.size a := fun v480 k0_hw71 => k0_hw71.2

def k0_chk72 (v491 : IVec S16 32) : Prop :=
  (∀ a x, ((![v491] : Fin 1 → IVec S16 32) a x).toNat < S512.size a) ∧
  (∀ a x, ((![v491] : Fin 1 → IVec S16 32) a x).toNat < S512.size a)
theorem k0_idx143_inb : ∀ (v491 : IVec S16 32) (k0_hw72 : k0_chk72 v491), ∀ a x, ((![v491] : Fin 1 → IVec S16 32) a x).toNat < S512.size a := fun v491 k0_hw72 => k0_hw72.1
theorem k0_idx144_inb : ∀ (v491 : IVec S16 32) (k0_hw72 : k0_chk72 v491), ∀ a x, ((![v491] : Fin 1 → IVec S16 32) a x).toNat < S512.size a := fun v491 k0_hw72 => k0_hw72.2

def k0_chk73 (v502 : IVec S16 32) : Prop :=
  (∀ a x, ((![v502] : Fin 1 → IVec S16 32) a x).toNat < S512.size a) ∧
  (∀ a x, ((![v502] : Fin 1 → IVec S16 32) a x).toNat < S512.size a)
theorem k0_idx145_inb : ∀ (v502 : IVec S16 32) (k0_hw73 : k0_chk73 v502), ∀ a x, ((![v502] : Fin 1 → IVec S16 32) a x).toNat < S512.size a := fun v502 k0_hw73 => k0_hw73.1
theorem k0_idx146_inb : ∀ (v502 : IVec S16 32) (k0_hw73 : k0_chk73 v502), ∀ a x, ((![v502] : Fin 1 → IVec S16 32) a x).toNat < S512.size a := fun v502 k0_hw73 => k0_hw73.2

def k0_chk74 (v513 : IVec S16 32) : Prop :=
  (∀ a x, ((![v513] : Fin 1 → IVec S16 32) a x).toNat < S512.size a) ∧
  (∀ a x, ((![v513] : Fin 1 → IVec S16 32) a x).toNat < S512.size a)
theorem k0_idx147_inb : ∀ (v513 : IVec S16 32) (k0_hw74 : k0_chk74 v513), ∀ a x, ((![v513] : Fin 1 → IVec S16 32) a x).toNat < S512.size a := fun v513 k0_hw74 => k0_hw74.1
theorem k0_idx148_inb : ∀ (v513 : IVec S16 32) (k0_hw74 : k0_chk74 v513), ∀ a x, ((![v513] : Fin 1 → IVec S16 32) a x).toNat < S512.size a := fun v513 k0_hw74 => k0_hw74.2

def k0_chk75 (v524 : IVec S16 32) : Prop :=
  (∀ a x, ((![v524] : Fin 1 → IVec S16 32) a x).toNat < S512.size a) ∧
  (∀ a x, ((![v524] : Fin 1 → IVec S16 32) a x).toNat < S512.size a)
theorem k0_idx149_inb : ∀ (v524 : IVec S16 32) (k0_hw75 : k0_chk75 v524), ∀ a x, ((![v524] : Fin 1 → IVec S16 32) a x).toNat < S512.size a := fun v524 k0_hw75 => k0_hw75.1
theorem k0_idx150_inb : ∀ (v524 : IVec S16 32) (k0_hw75 : k0_chk75 v524), ∀ a x, ((![v524] : Fin 1 → IVec S16 32) a x).toNat < S512.size a := fun v524 k0_hw75 => k0_hw75.2

def k0_chk76 (v535 : IVec S16 32) : Prop :=
  (∀ a x, ((![v535] : Fin 1 → IVec S16 32) a x).toNat < S512.size a) ∧
  (∀ a x, ((![v535] : Fin 1 → IVec S16 32) a x).toNat < S512.size a)
theorem k0_idx151_inb : ∀ (v535 : IVec S16 32) (k0_hw76 : k0_chk76 v535), ∀ a x, ((![v535] : Fin 1 → IVec S16 32) a x).toNat < S512.size a := fun v535 k0_hw76 => k0_hw76.1
theorem k0_idx152_inb : ∀ (v535 : IVec S16 32) (k0_hw76 : k0_chk76 v535), ∀ a x, ((![v535] : Fin 1 → IVec S16 32) a x).toNat < S512.size a := fun v535 k0_hw76 => k0_hw76.2

def k0_chk77 (v546 : IVec S16 32) : Prop :=
  (∀ a x, ((![v546] : Fin 1 → IVec S16 32) a x).toNat < S512.size a) ∧
  (∀ a x, ((![v546] : Fin 1 → IVec S16 32) a x).toNat < S512.size a)
theorem k0_idx153_inb : ∀ (v546 : IVec S16 32) (k0_hw77 : k0_chk77 v546), ∀ a x, ((![v546] : Fin 1 → IVec S16 32) a x).toNat < S512.size a := fun v546 k0_hw77 => k0_hw77.1
theorem k0_idx154_inb : ∀ (v546 : IVec S16 32) (k0_hw77 : k0_chk77 v546), ∀ a x, ((![v546] : Fin 1 → IVec S16 32) a x).toNat < S512.size a := fun v546 k0_hw77 => k0_hw77.2

def k0_chk78 (v557 : IVec S16 32) : Prop :=
  (∀ a x, ((![v557] : Fin 1 → IVec S16 32) a x).toNat < S512.size a) ∧
  (∀ a x, ((![v557] : Fin 1 → IVec S16 32) a x).toNat < S512.size a)
theorem k0_idx155_inb : ∀ (v557 : IVec S16 32) (k0_hw78 : k0_chk78 v557), ∀ a x, ((![v557] : Fin 1 → IVec S16 32) a x).toNat < S512.size a := fun v557 k0_hw78 => k0_hw78.1
theorem k0_idx156_inb : ∀ (v557 : IVec S16 32) (k0_hw78 : k0_chk78 v557), ∀ a x, ((![v557] : Fin 1 → IVec S16 32) a x).toNat < S512.size a := fun v557 k0_hw78 => k0_hw78.2
def k0_off27 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_108 : BitVec 32 := 4#32
  let v378 : BitVec 32 := Scalar.muli v1 c4_i32_108
  let c2_i32_109 : BitVec 32 := 2#32
  let v379 : BitVec 32 := Scalar.addi v378 c2_i32_109
  let c0_i32_241_r7 : BitVec 32 := 0#32
  ![v379.toNat, 0]
def k0_off28 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_175 : BitVec 32 := 4#32
  let v564 : BitVec 32 := Scalar.muli v1 c4_i32_175
  let c3_i32 : BitVec 32 := 3#32
  let v565 : BitVec 32 := Scalar.addi v564 c3_i32
  let c0_i32_241_r9 : BitVec 32 := 0#32
  ![v565.toNat, 0]
@[reducible] def k0_t10_loop : Scf.Loop 32 :=
  let c0_i32_176 : BitVec 32 := 0#32
  let c781_i32_177 : BitVec 32 := 781#32
  let v566 : BitVec 32 := Scalar.addi c0_i32_176 c781_i32_177
  let c1_i32_178 : BitVec 32 := 1#32
  ⟨c0_i32_176, v566, c1_i32_178⟩
def k0_off29 (k0_t10 : Fin k0_t10_loop.trips) (c0_i32_243 : BitVec 32) : Fin 1 → Nat :=
  let c0_i32_242 : BitVec 32 := 0#32
  let c0_i32_176 : BitVec 32 := 0#32
  let c1_i32_178 : BitVec 32 := 1#32
  let arg9 : BitVec 32 := Scf.iv c0_i32_176 c1_i32_178 k0_t10
  let c1_i32_241 : BitVec 32 := 1#32
  let v750 : BitVec 32 := Scalar.muli arg9 c1_i32_241
  let v751 : BitVec 32 := Scalar.addi c0_i32_242 v750
  let c128_i32 : BitVec 32 := 128#32
  let v752 : BitVec 32 := Scalar.muli v751 c128_i32
  let v753 : BitVec 32 := Scalar.addi v752 c0_i32_243
  let v754 : Index := Scalar.indexCast v753
  ![v754.toNat]
def k0_off30 (k0_t10 : Fin k0_t10_loop.trips) (c0_i32_244 : BitVec 32) : Fin 1 → Nat :=
  let c0_i32_242 : BitVec 32 := 0#32
  let c0_i32_176 : BitVec 32 := 0#32
  let c1_i32_178 : BitVec 32 := 1#32
  let arg9 : BitVec 32 := Scf.iv c0_i32_176 c1_i32_178 k0_t10
  let c1_i32_241 : BitVec 32 := 1#32
  let v750 : BitVec 32 := Scalar.muli arg9 c1_i32_241
  let v751 : BitVec 32 := Scalar.addi c0_i32_242 v750
  let c128_i32 : BitVec 32 := 128#32
  let v752 : BitVec 32 := Scalar.muli v751 c128_i32
  let v756 : BitVec 32 := Scalar.addi v752 c0_i32_244
  let c16_i32 : BitVec 32 := 16#32
  let v757 : BitVec 32 := Scalar.addi v756 c16_i32
  let v758 : Index := Scalar.indexCast v757
  ![v758.toNat]
def k0_off31 (k0_t10 : Fin k0_t10_loop.trips) : Fin 1 → Nat :=
  let c0_i32_242 : BitVec 32 := 0#32
  let c0_i32_176 : BitVec 32 := 0#32
  let c1_i32_178 : BitVec 32 := 1#32
  let arg9 : BitVec 32 := Scf.iv c0_i32_176 c1_i32_178 k0_t10
  let c1_i32_241 : BitVec 32 := 1#32
  let v750 : BitVec 32 := Scalar.muli arg9 c1_i32_241
  let v751 : BitVec 32 := Scalar.addi c0_i32_242 v750
  let c16_i32_252 : BitVec 32 := 16#32
  let v812 : BitVec 32 := Scalar.muli v751 c16_i32_252
  let v813 : Index := Scalar.indexCast v812
  ![v813.toNat]
@[reducible] def k0_t11_loop : Scf.Loop 32 :=
  let c0_i32_182 : BitVec 32 := 0#32
  let c32_i32_183 : BitVec 32 := 32#32
  let v636 : BitVec 32 := Scalar.addi c0_i32_182 c32_i32_183
  let c1_i32_184 : BitVec 32 := 1#32
  ⟨c0_i32_182, v636, c1_i32_184⟩
def k0_off32 (k0_t11 : Fin k0_t11_loop.trips) : Fin 1 → Nat :=
  let c0_i32_242 : BitVec 32 := 0#32
  let c0_i32_182 : BitVec 32 := 0#32
  let c1_i32_184 : BitVec 32 := 1#32
  let arg9 : BitVec 32 := Scf.iv c0_i32_182 c1_i32_184 k0_t11
  let c1_i32_241 : BitVec 32 := 1#32
  let v750 : BitVec 32 := Scalar.muli arg9 c1_i32_241
  let v751 : BitVec 32 := Scalar.addi c0_i32_242 v750
  let c16_i32 : BitVec 32 := 16#32
  let v752 : BitVec 32 := Scalar.muli v751 c16_i32
  let v753 : Index := Scalar.indexCast v752
  ![v753.toNat]
@[reducible] def k0_t12_loop : Scf.Loop 32 :=
  let c0_i32_187 : BitVec 32 := 0#32
  let c390_i32_188 : BitVec 32 := 390#32
  let v638 : BitVec 32 := Scalar.addi c0_i32_187 c390_i32_188
  let c1_i32_189 : BitVec 32 := 1#32
  ⟨c0_i32_187, v638, c1_i32_189⟩
def k0_off33 (k0_t12 : Fin k0_t12_loop.trips) : Fin 1 → Nat :=
  let c0_i32_242 : BitVec 32 := 0#32
  let c0_i32_187 : BitVec 32 := 0#32
  let c1_i32_189 : BitVec 32 := 1#32
  let arg9 : BitVec 32 := Scf.iv c0_i32_187 c1_i32_189 k0_t12
  let c1_i32_241 : BitVec 32 := 1#32
  let v750 : BitVec 32 := Scalar.muli arg9 c1_i32_241
  let v751 : BitVec 32 := Scalar.addi c0_i32_242 v750
  let c32_i32_243 : BitVec 32 := 32#32
  let v752 : BitVec 32 := Scalar.muli v751 c32_i32_243
  let v753 : Index := Scalar.indexCast v752
  ![v753.toNat]
def k0_off34 (k0_t12 : Fin k0_t12_loop.trips) : Fin 1 → Nat :=
  let c0_i32_242 : BitVec 32 := 0#32
  let c0_i32_187 : BitVec 32 := 0#32
  let c1_i32_189 : BitVec 32 := 1#32
  let arg9 : BitVec 32 := Scf.iv c0_i32_187 c1_i32_189 k0_t12
  let c1_i32_241 : BitVec 32 := 1#32
  let v750 : BitVec 32 := Scalar.muli arg9 c1_i32_241
  let v751 : BitVec 32 := Scalar.addi c0_i32_242 v750
  let c32_i32_244 : BitVec 32 := 32#32
  let v755 : BitVec 32 := Scalar.muli v751 c32_i32_244
  let c16_i32 : BitVec 32 := 16#32
  let v756 : BitVec 32 := Scalar.addi v755 c16_i32
  let v757 : Index := Scalar.indexCast v756
  ![v757.toNat]
def k0_off35 (k0_t12 : Fin k0_t12_loop.trips) (c0_i32_246 : BitVec 32) : Fin 1 → Nat :=
  let c0_i32_242 : BitVec 32 := 0#32
  let c0_i32_187 : BitVec 32 := 0#32
  let c1_i32_189 : BitVec 32 := 1#32
  let arg9 : BitVec 32 := Scf.iv c0_i32_187 c1_i32_189 k0_t12
  let c1_i32_241 : BitVec 32 := 1#32
  let v750 : BitVec 32 := Scalar.muli arg9 c1_i32_241
  let v751 : BitVec 32 := Scalar.addi c0_i32_242 v750
  let c256_i32 : BitVec 32 := 256#32
  let v811 : BitVec 32 := Scalar.muli v751 c256_i32
  let v812 : BitVec 32 := Scalar.addi v811 c0_i32_246
  let v813 : Index := Scalar.indexCast v812
  ![v813.toNat]
def k0_cond4 (v807 : BitVec 1) : BitVec 1 :=
  let v808 : BitVec 32 := Scalar.extui v807
  let c0_i32_245 : BitVec 32 := 0#32
  let v809 : BitVec 1 := Scalar.cmpi .ne v808 c0_i32_245
  v809

def k0_chk79 (v807 : BitVec 1) (v879 : IVec S16 32) : Prop :=
  (∀ (k0_h4 : k0_cond4 v807 = 1#1), ∀ a x, ((![v879] : Fin 1 → IVec S16 32) a x).toNat < S512.size a) ∧
  (∀ (k0_h4 : k0_cond4 v807 = 1#1), ∀ a x, ((![v879] : Fin 1 → IVec S16 32) a x).toNat < S512.size a)
theorem k0_idx157_inb : ∀ (v807 : BitVec 1) (v879 : IVec S16 32) (k0_hw79 : k0_chk79 v807 v879), ∀ (k0_h4 : k0_cond4 v807 = 1#1), ∀ a x, ((![v879] : Fin 1 → IVec S16 32) a x).toNat < S512.size a := fun v807 v879 k0_hw79 k0_h4 => k0_hw79.1 k0_h4
theorem k0_idx158_inb : ∀ (v807 : BitVec 1) (v879 : IVec S16 32) (k0_hw79 : k0_chk79 v807 v879), ∀ (k0_h4 : k0_cond4 v807 = 1#1), ∀ a x, ((![v879] : Fin 1 → IVec S16 32) a x).toNat < S512.size a := fun v807 v879 k0_hw79 k0_h4 => k0_hw79.2 k0_h4

def k0_chk80 (v807 : BitVec 1) (v889 : IVec S16 32) : Prop :=
  (∀ (k0_h4 : k0_cond4 v807 = 1#1), ∀ a x, ((![v889] : Fin 1 → IVec S16 32) a x).toNat < S512.size a) ∧
  (∀ (k0_h4 : k0_cond4 v807 = 1#1), ∀ a x, ((![v889] : Fin 1 → IVec S16 32) a x).toNat < S512.size a)
theorem k0_idx159_inb : ∀ (v807 : BitVec 1) (v889 : IVec S16 32) (k0_hw80 : k0_chk80 v807 v889), ∀ (k0_h4 : k0_cond4 v807 = 1#1), ∀ a x, ((![v889] : Fin 1 → IVec S16 32) a x).toNat < S512.size a := fun v807 v889 k0_hw80 k0_h4 => k0_hw80.1 k0_h4
theorem k0_idx160_inb : ∀ (v807 : BitVec 1) (v889 : IVec S16 32) (k0_hw80 : k0_chk80 v807 v889), ∀ (k0_h4 : k0_cond4 v807 = 1#1), ∀ a x, ((![v889] : Fin 1 → IVec S16 32) a x).toNat < S512.size a := fun v807 v889 k0_hw80 k0_h4 => k0_hw80.2 k0_h4

def k0_chk81 (v807 : BitVec 1) (v899 : IVec S16 32) : Prop :=
  (∀ (k0_h4 : k0_cond4 v807 = 1#1), ∀ a x, ((![v899] : Fin 1 → IVec S16 32) a x).toNat < S512.size a) ∧
  (∀ (k0_h4 : k0_cond4 v807 = 1#1), ∀ a x, ((![v899] : Fin 1 → IVec S16 32) a x).toNat < S512.size a)
theorem k0_idx161_inb : ∀ (v807 : BitVec 1) (v899 : IVec S16 32) (k0_hw81 : k0_chk81 v807 v899), ∀ (k0_h4 : k0_cond4 v807 = 1#1), ∀ a x, ((![v899] : Fin 1 → IVec S16 32) a x).toNat < S512.size a := fun v807 v899 k0_hw81 k0_h4 => k0_hw81.1 k0_h4
theorem k0_idx162_inb : ∀ (v807 : BitVec 1) (v899 : IVec S16 32) (k0_hw81 : k0_chk81 v807 v899), ∀ (k0_h4 : k0_cond4 v807 = 1#1), ∀ a x, ((![v899] : Fin 1 → IVec S16 32) a x).toNat < S512.size a := fun v807 v899 k0_hw81 k0_h4 => k0_hw81.2 k0_h4

def k0_chk82 (v807 : BitVec 1) (v909 : IVec S16 32) : Prop :=
  (∀ (k0_h4 : k0_cond4 v807 = 1#1), ∀ a x, ((![v909] : Fin 1 → IVec S16 32) a x).toNat < S512.size a) ∧
  (∀ (k0_h4 : k0_cond4 v807 = 1#1), ∀ a x, ((![v909] : Fin 1 → IVec S16 32) a x).toNat < S512.size a)
theorem k0_idx163_inb : ∀ (v807 : BitVec 1) (v909 : IVec S16 32) (k0_hw82 : k0_chk82 v807 v909), ∀ (k0_h4 : k0_cond4 v807 = 1#1), ∀ a x, ((![v909] : Fin 1 → IVec S16 32) a x).toNat < S512.size a := fun v807 v909 k0_hw82 k0_h4 => k0_hw82.1 k0_h4
theorem k0_idx164_inb : ∀ (v807 : BitVec 1) (v909 : IVec S16 32) (k0_hw82 : k0_chk82 v807 v909), ∀ (k0_h4 : k0_cond4 v807 = 1#1), ∀ a x, ((![v909] : Fin 1 → IVec S16 32) a x).toNat < S512.size a := fun v807 v909 k0_hw82 k0_h4 => k0_hw82.2 k0_h4

def k0_chk83 (v807 : BitVec 1) (v919 : IVec S16 32) : Prop :=
  (∀ (k0_h4 : k0_cond4 v807 = 1#1), ∀ a x, ((![v919] : Fin 1 → IVec S16 32) a x).toNat < S512.size a) ∧
  (∀ (k0_h4 : k0_cond4 v807 = 1#1), ∀ a x, ((![v919] : Fin 1 → IVec S16 32) a x).toNat < S512.size a)
theorem k0_idx165_inb : ∀ (v807 : BitVec 1) (v919 : IVec S16 32) (k0_hw83 : k0_chk83 v807 v919), ∀ (k0_h4 : k0_cond4 v807 = 1#1), ∀ a x, ((![v919] : Fin 1 → IVec S16 32) a x).toNat < S512.size a := fun v807 v919 k0_hw83 k0_h4 => k0_hw83.1 k0_h4
theorem k0_idx166_inb : ∀ (v807 : BitVec 1) (v919 : IVec S16 32) (k0_hw83 : k0_chk83 v807 v919), ∀ (k0_h4 : k0_cond4 v807 = 1#1), ∀ a x, ((![v919] : Fin 1 → IVec S16 32) a x).toNat < S512.size a := fun v807 v919 k0_hw83 k0_h4 => k0_hw83.2 k0_h4

def k0_chk84 (v807 : BitVec 1) (v929 : IVec S16 32) : Prop :=
  (∀ (k0_h4 : k0_cond4 v807 = 1#1), ∀ a x, ((![v929] : Fin 1 → IVec S16 32) a x).toNat < S512.size a) ∧
  (∀ (k0_h4 : k0_cond4 v807 = 1#1), ∀ a x, ((![v929] : Fin 1 → IVec S16 32) a x).toNat < S512.size a)
theorem k0_idx167_inb : ∀ (v807 : BitVec 1) (v929 : IVec S16 32) (k0_hw84 : k0_chk84 v807 v929), ∀ (k0_h4 : k0_cond4 v807 = 1#1), ∀ a x, ((![v929] : Fin 1 → IVec S16 32) a x).toNat < S512.size a := fun v807 v929 k0_hw84 k0_h4 => k0_hw84.1 k0_h4
theorem k0_idx168_inb : ∀ (v807 : BitVec 1) (v929 : IVec S16 32) (k0_hw84 : k0_chk84 v807 v929), ∀ (k0_h4 : k0_cond4 v807 = 1#1), ∀ a x, ((![v929] : Fin 1 → IVec S16 32) a x).toNat < S512.size a := fun v807 v929 k0_hw84 k0_h4 => k0_hw84.2 k0_h4

def k0_chk85 (v807 : BitVec 1) (v939 : IVec S16 32) : Prop :=
  (∀ (k0_h4 : k0_cond4 v807 = 1#1), ∀ a x, ((![v939] : Fin 1 → IVec S16 32) a x).toNat < S512.size a) ∧
  (∀ (k0_h4 : k0_cond4 v807 = 1#1), ∀ a x, ((![v939] : Fin 1 → IVec S16 32) a x).toNat < S512.size a)
theorem k0_idx169_inb : ∀ (v807 : BitVec 1) (v939 : IVec S16 32) (k0_hw85 : k0_chk85 v807 v939), ∀ (k0_h4 : k0_cond4 v807 = 1#1), ∀ a x, ((![v939] : Fin 1 → IVec S16 32) a x).toNat < S512.size a := fun v807 v939 k0_hw85 k0_h4 => k0_hw85.1 k0_h4
theorem k0_idx170_inb : ∀ (v807 : BitVec 1) (v939 : IVec S16 32) (k0_hw85 : k0_chk85 v807 v939), ∀ (k0_h4 : k0_cond4 v807 = 1#1), ∀ a x, ((![v939] : Fin 1 → IVec S16 32) a x).toNat < S512.size a := fun v807 v939 k0_hw85 k0_h4 => k0_hw85.2 k0_h4

def k0_chk86 (v807 : BitVec 1) (v949 : IVec S16 32) : Prop :=
  (∀ (k0_h4 : k0_cond4 v807 = 1#1), ∀ a x, ((![v949] : Fin 1 → IVec S16 32) a x).toNat < S512.size a) ∧
  (∀ (k0_h4 : k0_cond4 v807 = 1#1), ∀ a x, ((![v949] : Fin 1 → IVec S16 32) a x).toNat < S512.size a)
theorem k0_idx171_inb : ∀ (v807 : BitVec 1) (v949 : IVec S16 32) (k0_hw86 : k0_chk86 v807 v949), ∀ (k0_h4 : k0_cond4 v807 = 1#1), ∀ a x, ((![v949] : Fin 1 → IVec S16 32) a x).toNat < S512.size a := fun v807 v949 k0_hw86 k0_h4 => k0_hw86.1 k0_h4
theorem k0_idx172_inb : ∀ (v807 : BitVec 1) (v949 : IVec S16 32) (k0_hw86 : k0_chk86 v807 v949), ∀ (k0_h4 : k0_cond4 v807 = 1#1), ∀ a x, ((![v949] : Fin 1 → IVec S16 32) a x).toNat < S512.size a := fun v807 v949 k0_hw86 k0_h4 => k0_hw86.2 k0_h4

def k0_chk87 (v807 : BitVec 1) (v959 : IVec S16 32) : Prop :=
  (∀ (k0_h4 : k0_cond4 v807 = 1#1), ∀ a x, ((![v959] : Fin 1 → IVec S16 32) a x).toNat < S512.size a) ∧
  (∀ (k0_h4 : k0_cond4 v807 = 1#1), ∀ a x, ((![v959] : Fin 1 → IVec S16 32) a x).toNat < S512.size a)
theorem k0_idx173_inb : ∀ (v807 : BitVec 1) (v959 : IVec S16 32) (k0_hw87 : k0_chk87 v807 v959), ∀ (k0_h4 : k0_cond4 v807 = 1#1), ∀ a x, ((![v959] : Fin 1 → IVec S16 32) a x).toNat < S512.size a := fun v807 v959 k0_hw87 k0_h4 => k0_hw87.1 k0_h4
theorem k0_idx174_inb : ∀ (v807 : BitVec 1) (v959 : IVec S16 32) (k0_hw87 : k0_chk87 v807 v959), ∀ (k0_h4 : k0_cond4 v807 = 1#1), ∀ a x, ((![v959] : Fin 1 → IVec S16 32) a x).toNat < S512.size a := fun v807 v959 k0_hw87 k0_h4 => k0_hw87.2 k0_h4

def k0_chk88 (v807 : BitVec 1) (v969 : IVec S16 32) : Prop :=
  (∀ (k0_h4 : k0_cond4 v807 = 1#1), ∀ a x, ((![v969] : Fin 1 → IVec S16 32) a x).toNat < S512.size a) ∧
  (∀ (k0_h4 : k0_cond4 v807 = 1#1), ∀ a x, ((![v969] : Fin 1 → IVec S16 32) a x).toNat < S512.size a)
theorem k0_idx175_inb : ∀ (v807 : BitVec 1) (v969 : IVec S16 32) (k0_hw88 : k0_chk88 v807 v969), ∀ (k0_h4 : k0_cond4 v807 = 1#1), ∀ a x, ((![v969] : Fin 1 → IVec S16 32) a x).toNat < S512.size a := fun v807 v969 k0_hw88 k0_h4 => k0_hw88.1 k0_h4
theorem k0_idx176_inb : ∀ (v807 : BitVec 1) (v969 : IVec S16 32) (k0_hw88 : k0_chk88 v807 v969), ∀ (k0_h4 : k0_cond4 v807 = 1#1), ∀ a x, ((![v969] : Fin 1 → IVec S16 32) a x).toNat < S512.size a := fun v807 v969 k0_hw88 k0_h4 => k0_hw88.2 k0_h4

def k0_chk89 (v807 : BitVec 1) (v979 : IVec S16 32) : Prop :=
  (∀ (k0_h4 : k0_cond4 v807 = 1#1), ∀ a x, ((![v979] : Fin 1 → IVec S16 32) a x).toNat < S512.size a) ∧
  (∀ (k0_h4 : k0_cond4 v807 = 1#1), ∀ a x, ((![v979] : Fin 1 → IVec S16 32) a x).toNat < S512.size a)
theorem k0_idx177_inb : ∀ (v807 : BitVec 1) (v979 : IVec S16 32) (k0_hw89 : k0_chk89 v807 v979), ∀ (k0_h4 : k0_cond4 v807 = 1#1), ∀ a x, ((![v979] : Fin 1 → IVec S16 32) a x).toNat < S512.size a := fun v807 v979 k0_hw89 k0_h4 => k0_hw89.1 k0_h4
theorem k0_idx178_inb : ∀ (v807 : BitVec 1) (v979 : IVec S16 32) (k0_hw89 : k0_chk89 v807 v979), ∀ (k0_h4 : k0_cond4 v807 = 1#1), ∀ a x, ((![v979] : Fin 1 → IVec S16 32) a x).toNat < S512.size a := fun v807 v979 k0_hw89 k0_h4 => k0_hw89.2 k0_h4

def k0_chk90 (v807 : BitVec 1) (v989 : IVec S16 32) : Prop :=
  (∀ (k0_h4 : k0_cond4 v807 = 1#1), ∀ a x, ((![v989] : Fin 1 → IVec S16 32) a x).toNat < S512.size a) ∧
  (∀ (k0_h4 : k0_cond4 v807 = 1#1), ∀ a x, ((![v989] : Fin 1 → IVec S16 32) a x).toNat < S512.size a)
theorem k0_idx179_inb : ∀ (v807 : BitVec 1) (v989 : IVec S16 32) (k0_hw90 : k0_chk90 v807 v989), ∀ (k0_h4 : k0_cond4 v807 = 1#1), ∀ a x, ((![v989] : Fin 1 → IVec S16 32) a x).toNat < S512.size a := fun v807 v989 k0_hw90 k0_h4 => k0_hw90.1 k0_h4
theorem k0_idx180_inb : ∀ (v807 : BitVec 1) (v989 : IVec S16 32) (k0_hw90 : k0_chk90 v807 v989), ∀ (k0_h4 : k0_cond4 v807 = 1#1), ∀ a x, ((![v989] : Fin 1 → IVec S16 32) a x).toNat < S512.size a := fun v807 v989 k0_hw90 k0_h4 => k0_hw90.2 k0_h4

def k0_chk91 (v807 : BitVec 1) (v999 : IVec S16 32) : Prop :=
  (∀ (k0_h4 : k0_cond4 v807 = 1#1), ∀ a x, ((![v999] : Fin 1 → IVec S16 32) a x).toNat < S512.size a) ∧
  (∀ (k0_h4 : k0_cond4 v807 = 1#1), ∀ a x, ((![v999] : Fin 1 → IVec S16 32) a x).toNat < S512.size a)
theorem k0_idx181_inb : ∀ (v807 : BitVec 1) (v999 : IVec S16 32) (k0_hw91 : k0_chk91 v807 v999), ∀ (k0_h4 : k0_cond4 v807 = 1#1), ∀ a x, ((![v999] : Fin 1 → IVec S16 32) a x).toNat < S512.size a := fun v807 v999 k0_hw91 k0_h4 => k0_hw91.1 k0_h4
theorem k0_idx182_inb : ∀ (v807 : BitVec 1) (v999 : IVec S16 32) (k0_hw91 : k0_chk91 v807 v999), ∀ (k0_h4 : k0_cond4 v807 = 1#1), ∀ a x, ((![v999] : Fin 1 → IVec S16 32) a x).toNat < S512.size a := fun v807 v999 k0_hw91 k0_h4 => k0_hw91.2 k0_h4

def k0_chk92 (v807 : BitVec 1) (v1009 : IVec S16 32) : Prop :=
  (∀ (k0_h4 : k0_cond4 v807 = 1#1), ∀ a x, ((![v1009] : Fin 1 → IVec S16 32) a x).toNat < S512.size a) ∧
  (∀ (k0_h4 : k0_cond4 v807 = 1#1), ∀ a x, ((![v1009] : Fin 1 → IVec S16 32) a x).toNat < S512.size a)
theorem k0_idx183_inb : ∀ (v807 : BitVec 1) (v1009 : IVec S16 32) (k0_hw92 : k0_chk92 v807 v1009), ∀ (k0_h4 : k0_cond4 v807 = 1#1), ∀ a x, ((![v1009] : Fin 1 → IVec S16 32) a x).toNat < S512.size a := fun v807 v1009 k0_hw92 k0_h4 => k0_hw92.1 k0_h4
theorem k0_idx184_inb : ∀ (v807 : BitVec 1) (v1009 : IVec S16 32) (k0_hw92 : k0_chk92 v807 v1009), ∀ (k0_h4 : k0_cond4 v807 = 1#1), ∀ a x, ((![v1009] : Fin 1 → IVec S16 32) a x).toNat < S512.size a := fun v807 v1009 k0_hw92 k0_h4 => k0_hw92.2 k0_h4

def k0_chk93 (v807 : BitVec 1) (v1019 : IVec S16 32) : Prop :=
  (∀ (k0_h4 : k0_cond4 v807 = 1#1), ∀ a x, ((![v1019] : Fin 1 → IVec S16 32) a x).toNat < S512.size a) ∧
  (∀ (k0_h4 : k0_cond4 v807 = 1#1), ∀ a x, ((![v1019] : Fin 1 → IVec S16 32) a x).toNat < S512.size a)
theorem k0_idx185_inb : ∀ (v807 : BitVec 1) (v1019 : IVec S16 32) (k0_hw93 : k0_chk93 v807 v1019), ∀ (k0_h4 : k0_cond4 v807 = 1#1), ∀ a x, ((![v1019] : Fin 1 → IVec S16 32) a x).toNat < S512.size a := fun v807 v1019 k0_hw93 k0_h4 => k0_hw93.1 k0_h4
theorem k0_idx186_inb : ∀ (v807 : BitVec 1) (v1019 : IVec S16 32) (k0_hw93 : k0_chk93 v807 v1019), ∀ (k0_h4 : k0_cond4 v807 = 1#1), ∀ a x, ((![v1019] : Fin 1 → IVec S16 32) a x).toNat < S512.size a := fun v807 v1019 k0_hw93 k0_h4 => k0_hw93.2 k0_h4

def k0_chk94 (v807 : BitVec 1) (v1029 : IVec S16 32) : Prop :=
  (∀ (k0_h4 : k0_cond4 v807 = 1#1), ∀ a x, ((![v1029] : Fin 1 → IVec S16 32) a x).toNat < S512.size a) ∧
  (∀ (k0_h4 : k0_cond4 v807 = 1#1), ∀ a x, ((![v1029] : Fin 1 → IVec S16 32) a x).toNat < S512.size a)
theorem k0_idx187_inb : ∀ (v807 : BitVec 1) (v1029 : IVec S16 32) (k0_hw94 : k0_chk94 v807 v1029), ∀ (k0_h4 : k0_cond4 v807 = 1#1), ∀ a x, ((![v1029] : Fin 1 → IVec S16 32) a x).toNat < S512.size a := fun v807 v1029 k0_hw94 k0_h4 => k0_hw94.1 k0_h4
theorem k0_idx188_inb : ∀ (v807 : BitVec 1) (v1029 : IVec S16 32) (k0_hw94 : k0_chk94 v807 v1029), ∀ (k0_h4 : k0_cond4 v807 = 1#1), ∀ a x, ((![v1029] : Fin 1 → IVec S16 32) a x).toNat < S512.size a := fun v807 v1029 k0_hw94 k0_h4 => k0_hw94.2 k0_h4

def k0_chk95 (v644 : IVec S16 32) : Prop :=
  (∀ a x, ((![v644] : Fin 1 → IVec S16 32) a x).toNat < S512.size a) ∧
  (∀ a x, ((![v644] : Fin 1 → IVec S16 32) a x).toNat < S512.size a)
theorem k0_idx189_inb : ∀ (v644 : IVec S16 32) (k0_hw95 : k0_chk95 v644), ∀ a x, ((![v644] : Fin 1 → IVec S16 32) a x).toNat < S512.size a := fun v644 k0_hw95 => k0_hw95.1
theorem k0_idx190_inb : ∀ (v644 : IVec S16 32) (k0_hw95 : k0_chk95 v644), ∀ a x, ((![v644] : Fin 1 → IVec S16 32) a x).toNat < S512.size a := fun v644 k0_hw95 => k0_hw95.2

def k0_chk96 (v655 : IVec S16 32) : Prop :=
  (∀ a x, ((![v655] : Fin 1 → IVec S16 32) a x).toNat < S512.size a) ∧
  (∀ a x, ((![v655] : Fin 1 → IVec S16 32) a x).toNat < S512.size a)
theorem k0_idx191_inb : ∀ (v655 : IVec S16 32) (k0_hw96 : k0_chk96 v655), ∀ a x, ((![v655] : Fin 1 → IVec S16 32) a x).toNat < S512.size a := fun v655 k0_hw96 => k0_hw96.1
theorem k0_idx192_inb : ∀ (v655 : IVec S16 32) (k0_hw96 : k0_chk96 v655), ∀ a x, ((![v655] : Fin 1 → IVec S16 32) a x).toNat < S512.size a := fun v655 k0_hw96 => k0_hw96.2

def k0_chk97 (v666 : IVec S16 32) : Prop :=
  (∀ a x, ((![v666] : Fin 1 → IVec S16 32) a x).toNat < S512.size a) ∧
  (∀ a x, ((![v666] : Fin 1 → IVec S16 32) a x).toNat < S512.size a)
theorem k0_idx193_inb : ∀ (v666 : IVec S16 32) (k0_hw97 : k0_chk97 v666), ∀ a x, ((![v666] : Fin 1 → IVec S16 32) a x).toNat < S512.size a := fun v666 k0_hw97 => k0_hw97.1
theorem k0_idx194_inb : ∀ (v666 : IVec S16 32) (k0_hw97 : k0_chk97 v666), ∀ a x, ((![v666] : Fin 1 → IVec S16 32) a x).toNat < S512.size a := fun v666 k0_hw97 => k0_hw97.2

def k0_chk98 (v677 : IVec S16 32) : Prop :=
  (∀ a x, ((![v677] : Fin 1 → IVec S16 32) a x).toNat < S512.size a) ∧
  (∀ a x, ((![v677] : Fin 1 → IVec S16 32) a x).toNat < S512.size a)
theorem k0_idx195_inb : ∀ (v677 : IVec S16 32) (k0_hw98 : k0_chk98 v677), ∀ a x, ((![v677] : Fin 1 → IVec S16 32) a x).toNat < S512.size a := fun v677 k0_hw98 => k0_hw98.1
theorem k0_idx196_inb : ∀ (v677 : IVec S16 32) (k0_hw98 : k0_chk98 v677), ∀ a x, ((![v677] : Fin 1 → IVec S16 32) a x).toNat < S512.size a := fun v677 k0_hw98 => k0_hw98.2

def k0_chk99 (v688 : IVec S16 32) : Prop :=
  (∀ a x, ((![v688] : Fin 1 → IVec S16 32) a x).toNat < S512.size a) ∧
  (∀ a x, ((![v688] : Fin 1 → IVec S16 32) a x).toNat < S512.size a)
theorem k0_idx197_inb : ∀ (v688 : IVec S16 32) (k0_hw99 : k0_chk99 v688), ∀ a x, ((![v688] : Fin 1 → IVec S16 32) a x).toNat < S512.size a := fun v688 k0_hw99 => k0_hw99.1
theorem k0_idx198_inb : ∀ (v688 : IVec S16 32) (k0_hw99 : k0_chk99 v688), ∀ a x, ((![v688] : Fin 1 → IVec S16 32) a x).toNat < S512.size a := fun v688 k0_hw99 => k0_hw99.2

def k0_chk100 (v699 : IVec S16 32) : Prop :=
  (∀ a x, ((![v699] : Fin 1 → IVec S16 32) a x).toNat < S512.size a) ∧
  (∀ a x, ((![v699] : Fin 1 → IVec S16 32) a x).toNat < S512.size a)
theorem k0_idx199_inb : ∀ (v699 : IVec S16 32) (k0_hw100 : k0_chk100 v699), ∀ a x, ((![v699] : Fin 1 → IVec S16 32) a x).toNat < S512.size a := fun v699 k0_hw100 => k0_hw100.1
theorem k0_idx200_inb : ∀ (v699 : IVec S16 32) (k0_hw100 : k0_chk100 v699), ∀ a x, ((![v699] : Fin 1 → IVec S16 32) a x).toNat < S512.size a := fun v699 k0_hw100 => k0_hw100.2

def k0_chk101 (v710 : IVec S16 32) : Prop :=
  (∀ a x, ((![v710] : Fin 1 → IVec S16 32) a x).toNat < S512.size a) ∧
  (∀ a x, ((![v710] : Fin 1 → IVec S16 32) a x).toNat < S512.size a)
theorem k0_idx201_inb : ∀ (v710 : IVec S16 32) (k0_hw101 : k0_chk101 v710), ∀ a x, ((![v710] : Fin 1 → IVec S16 32) a x).toNat < S512.size a := fun v710 k0_hw101 => k0_hw101.1
theorem k0_idx202_inb : ∀ (v710 : IVec S16 32) (k0_hw101 : k0_chk101 v710), ∀ a x, ((![v710] : Fin 1 → IVec S16 32) a x).toNat < S512.size a := fun v710 k0_hw101 => k0_hw101.2

def k0_chk102 (v721 : IVec S16 32) : Prop :=
  (∀ a x, ((![v721] : Fin 1 → IVec S16 32) a x).toNat < S512.size a) ∧
  (∀ a x, ((![v721] : Fin 1 → IVec S16 32) a x).toNat < S512.size a)
theorem k0_idx203_inb : ∀ (v721 : IVec S16 32) (k0_hw102 : k0_chk102 v721), ∀ a x, ((![v721] : Fin 1 → IVec S16 32) a x).toNat < S512.size a := fun v721 k0_hw102 => k0_hw102.1
theorem k0_idx204_inb : ∀ (v721 : IVec S16 32) (k0_hw102 : k0_chk102 v721), ∀ a x, ((![v721] : Fin 1 → IVec S16 32) a x).toNat < S512.size a := fun v721 k0_hw102 => k0_hw102.2

def k0_chk103 (v732 : IVec S16 32) : Prop :=
  (∀ a x, ((![v732] : Fin 1 → IVec S16 32) a x).toNat < S512.size a) ∧
  (∀ a x, ((![v732] : Fin 1 → IVec S16 32) a x).toNat < S512.size a)
theorem k0_idx205_inb : ∀ (v732 : IVec S16 32) (k0_hw103 : k0_chk103 v732), ∀ a x, ((![v732] : Fin 1 → IVec S16 32) a x).toNat < S512.size a := fun v732 k0_hw103 => k0_hw103.1
theorem k0_idx206_inb : ∀ (v732 : IVec S16 32) (k0_hw103 : k0_chk103 v732), ∀ a x, ((![v732] : Fin 1 → IVec S16 32) a x).toNat < S512.size a := fun v732 k0_hw103 => k0_hw103.2

def k0_chk104 (v743 : IVec S16 32) : Prop :=
  (∀ a x, ((![v743] : Fin 1 → IVec S16 32) a x).toNat < S512.size a) ∧
  (∀ a x, ((![v743] : Fin 1 → IVec S16 32) a x).toNat < S512.size a)
theorem k0_idx207_inb : ∀ (v743 : IVec S16 32) (k0_hw104 : k0_chk104 v743), ∀ a x, ((![v743] : Fin 1 → IVec S16 32) a x).toNat < S512.size a := fun v743 k0_hw104 => k0_hw104.1
theorem k0_idx208_inb : ∀ (v743 : IVec S16 32) (k0_hw104 : k0_chk104 v743), ∀ a x, ((![v743] : Fin 1 → IVec S16 32) a x).toNat < S512.size a := fun v743 k0_hw104 => k0_hw104.2
def k0_off36 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_175 : BitVec 32 := 4#32
  let v564 : BitVec 32 := Scalar.muli v1 c4_i32_175
  let c3_i32 : BitVec 32 := 3#32
  let v565 : BitVec 32 := Scalar.addi v564 c3_i32
  let c0_i32_241_r10 : BitVec 32 := 0#32
  ![v565.toNat, 0]
abbrev grid1 : Pipeline.Grid := .none

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x512 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x100000 : Shape := ⟨2, ![128, 100000]⟩
abbrev S_ : Shape := ⟨0, ![]⟩
abbrev S128x32 : Shape := ⟨2, ![128, 32]⟩
abbrev S128 : Shape := ⟨1, ![128]⟩
abbrev S128x1 : Shape := ⟨2, ![128, 1]⟩

abbrev nBuf : Space → Nat
  | .hbm => 317
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S128x100000, .f32⟩
  | 5 => ⟨S128x100000, .i32⟩
  | 6 => ⟨S128x100000, .f32⟩
  | 7 => ⟨S128x100000, .i32⟩
  | 8 => ⟨S128x32, .i32⟩
  | 9 => ⟨S_, .f32⟩
  | 10 => ⟨S128x100000, .f32⟩
  | 11 => ⟨S128x100000, .f32⟩
  | 12 => ⟨S_, .f32⟩
  | 13 => ⟨S128, .f32⟩
  | 14 => ⟨S128x1, .f32⟩
  | 15 => ⟨S128x100000, .f32⟩
  | 16 => ⟨S128x100000, .f32⟩
  | 17 => ⟨S128x100000, .f32⟩
  | 18 => ⟨S_, .f32⟩
  | 19 => ⟨S128, .f32⟩
  | 20 => ⟨S128x1, .f32⟩
  | 21 => ⟨S128x32, .f32⟩
  | 22 => ⟨S128x32, .f32⟩
  | 23 => ⟨S_, .f32⟩
  | 24 => ⟨S128x32, .f32⟩
  | 25 => ⟨S128x32, .f32⟩
  | 26 => ⟨S128x32, .f32⟩
  | 27 => ⟨S128x32, .f32⟩
  | 28 => ⟨S128x32, .f32⟩
  | 29 => ⟨S128x32, .f32⟩
  | 30 => ⟨S128x32, .f32⟩
  | 31 => ⟨S_, .f32⟩
  | 32 => ⟨S_, .f32⟩
  | 33 => ⟨S128x32, .f32⟩
  | 34 => ⟨S128x32, .f32⟩
  | 35 => ⟨S_, .f32⟩
  | 36 => ⟨S128x32, .f32⟩
  | 37 => ⟨S128x32, .i1⟩
  | 38 => ⟨S_, .f32⟩
  | 39 => ⟨S128x32, .f32⟩
  | 40 => ⟨S128x32, .f32⟩
  | 41 => ⟨S_, .f32⟩
  | 42 => ⟨S128, .f32⟩
  | 43 => ⟨S128x1, .f32⟩
  | 44 => ⟨S128x32, .f32⟩
  | 45 => ⟨S128x32, .f32⟩
  | 46 => ⟨S128x32, .i32⟩
  | 47 => ⟨S_, .i32⟩
  | 48 => ⟨S128x32, .i32⟩
  | 49 => ⟨S128x32, .i32⟩
  | 50 => ⟨S128x32, .i32⟩
  | 51 => ⟨S_, .f32⟩
  | 52 => ⟨S128x32, .f32⟩
  | 53 => ⟨S128x32, .f32⟩
  | 54 => ⟨S128x32, .f32⟩
  | 55 => ⟨S128x32, .i32⟩
  | 56 => ⟨S_, .i32⟩
  | 57 => ⟨S128x32, .i32⟩
  | 58 => ⟨S_, .i32⟩
  | 59 => ⟨S128x32, .i32⟩
  | 60 => ⟨S128x32, .i32⟩
  | 61 => ⟨S128x32, .i32⟩
  | 62 => ⟨S_, .i32⟩
  | 63 => ⟨S128x32, .i32⟩
  | 64 => ⟨S128x32, .i32⟩
  | 65 => ⟨S_, .i32⟩
  | 66 => ⟨S128x32, .i32⟩
  | 67 => ⟨S128x32, .i32⟩
  | 68 => ⟨S128x32, .i32⟩
  | 69 => ⟨S128x32, .i32⟩
  | 70 => ⟨S128x32, .i32⟩
  | 71 => ⟨S_, .i32⟩
  | 72 => ⟨S128x32, .i32⟩
  | 73 => ⟨S128x32, .i32⟩
  | 74 => ⟨S_, .i32⟩
  | 75 => ⟨S128x32, .i32⟩
  | 76 => ⟨S128x32, .i32⟩
  | 77 => ⟨S128x32, .i32⟩
  | 78 => ⟨S128x32, .i32⟩
  | 79 => ⟨S128x32, .i32⟩
  | 80 => ⟨S_, .i32⟩
  | 81 => ⟨S128x32, .i32⟩
  | 82 => ⟨S128x32, .i32⟩
  | 83 => ⟨S_, .i32⟩
  | 84 => ⟨S128x32, .i32⟩
  | 85 => ⟨S128x32, .i32⟩
  | 86 => ⟨S128x32, .i32⟩
  | 87 => ⟨S128x32, .i32⟩
  | 88 => ⟨S128x32, .i32⟩
  | 89 => ⟨S_, .i32⟩
  | 90 => ⟨S128x32, .i32⟩
  | 91 => ⟨S128x32, .i32⟩
  | 92 => ⟨S_, .i32⟩
  | 93 => ⟨S128x32, .i32⟩
  | 94 => ⟨S128x32, .i32⟩
  | 95 => ⟨S128x32, .i32⟩
  | 96 => ⟨S128x32, .i32⟩
  | 97 => ⟨S_, .i32⟩
  | 98 => ⟨S128x32, .i32⟩
  | 99 => ⟨S128x32, .i32⟩
  | 100 => ⟨S_, .i32⟩
  | 101 => ⟨S128x32, .i32⟩
  | 102 => ⟨S128x32, .i32⟩
  | 103 => ⟨S128x32, .i32⟩
  | 104 => ⟨S_, .i32⟩
  | 105 => ⟨S128x32, .i32⟩
  | 106 => ⟨S128x32, .i32⟩
  | 107 => ⟨S_, .i32⟩
  | 108 => ⟨S128x32, .i32⟩
  | 109 => ⟨S128x32, .i32⟩
  | 110 => ⟨S128x32, .i32⟩
  | 111 => ⟨S128x32, .i32⟩
  | 112 => ⟨S128x32, .i32⟩
  | 113 => ⟨S_, .i32⟩
  | 114 => ⟨S128x32, .i32⟩
  | 115 => ⟨S128x32, .i32⟩
  | 116 => ⟨S_, .i32⟩
  | 117 => ⟨S128x32, .i32⟩
  | 118 => ⟨S128x32, .i32⟩
  | 119 => ⟨S128x32, .i32⟩
  | 120 => ⟨S128x32, .i32⟩
  | 121 => ⟨S128x32, .i32⟩
  | 122 => ⟨S_, .i32⟩
  | 123 => ⟨S128x32, .i32⟩
  | 124 => ⟨S128x32, .i32⟩
  | 125 => ⟨S_, .i32⟩
  | 126 => ⟨S128x32, .i32⟩
  | 127 => ⟨S128x32, .i32⟩
  | _ => ⟨S128x100000, .f32⟩

abbrev hbmTy0_1 (i : Nat) : BufTy := match i % 128 with
  | 0 => ⟨S128x32, .i32⟩
  | 1 => ⟨S128x32, .i32⟩
  | 2 => ⟨S128x32, .i32⟩
  | 3 => ⟨S_, .i32⟩
  | 4 => ⟨S128x32, .i32⟩
  | 5 => ⟨S128x32, .i32⟩
  | 6 => ⟨S_, .i32⟩
  | 7 => ⟨S128x32, .i32⟩
  | 8 => ⟨S128x32, .i32⟩
  | 9 => ⟨S128x32, .i32⟩
  | 10 => ⟨S128x32, .i32⟩
  | 11 => ⟨S_, .i32⟩
  | 12 => ⟨S128x32, .i32⟩
  | 13 => ⟨S128x32, .i32⟩
  | 14 => ⟨S_, .i32⟩
  | 15 => ⟨S128x32, .i32⟩
  | 16 => ⟨S128x32, .i32⟩
  | 17 => ⟨S128x32, .i32⟩
  | 18 => ⟨S_, .i32⟩
  | 19 => ⟨S128x32, .i32⟩
  | 20 => ⟨S128x32, .i32⟩
  | 21 => ⟨S_, .i32⟩
  | 22 => ⟨S128x32, .i32⟩
  | 23 => ⟨S128x32, .i32⟩
  | 24 => ⟨S128x32, .i32⟩
  | 25 => ⟨S128x32, .i32⟩
  | 26 => ⟨S128x32, .i32⟩
  | 27 => ⟨S_, .i32⟩
  | 28 => ⟨S128x32, .i32⟩
  | 29 => ⟨S128x32, .i32⟩
  | 30 => ⟨S_, .i32⟩
  | 31 => ⟨S128x32, .i32⟩
  | 32 => ⟨S128x32, .i32⟩
  | 33 => ⟨S128x32, .i32⟩
  | 34 => ⟨S128x32, .i32⟩
  | 35 => ⟨S128x32, .i32⟩
  | 36 => ⟨S_, .i32⟩
  | 37 => ⟨S128x32, .i32⟩
  | 38 => ⟨S128x32, .i32⟩
  | 39 => ⟨S_, .i32⟩
  | 40 => ⟨S128x32, .i32⟩
  | 41 => ⟨S128x32, .i32⟩
  | 42 => ⟨S128x32, .i32⟩
  | 43 => ⟨S128x32, .i32⟩
  | 44 => ⟨S128x32, .i32⟩
  | 45 => ⟨S_, .i32⟩
  | 46 => ⟨S128x32, .i32⟩
  | 47 => ⟨S128x32, .i32⟩
  | 48 => ⟨S_, .i32⟩
  | 49 => ⟨S128x32, .i32⟩
  | 50 => ⟨S128x32, .i32⟩
  | 51 => ⟨S128x32, .i32⟩
  | 52 => ⟨S128x32, .i32⟩
  | 53 => ⟨S_, .i32⟩
  | 54 => ⟨S128x32, .i32⟩
  | 55 => ⟨S128x32, .i32⟩
  | 56 => ⟨S_, .i32⟩
  | 57 => ⟨S128x32, .i32⟩
  | 58 => ⟨S128x32, .i32⟩
  | 59 => ⟨S128x32, .i32⟩
  | 60 => ⟨S_, .i32⟩
  | 61 => ⟨S128x32, .i32⟩
  | 62 => ⟨S128x32, .i32⟩
  | 63 => ⟨S_, .i32⟩
  | 64 => ⟨S128x32, .i32⟩
  | 65 => ⟨S128x32, .i32⟩
  | 66 => ⟨S128x32, .i32⟩
  | 67 => ⟨S128x32, .i32⟩
  | 68 => ⟨S128x32, .i32⟩
  | 69 => ⟨S_, .i32⟩
  | 70 => ⟨S128x32, .i32⟩
  | 71 => ⟨S128x32, .i32⟩
  | 72 => ⟨S_, .i32⟩
  | 73 => ⟨S128x32, .i32⟩
  | 74 => ⟨S128x32, .i32⟩
  | 75 => ⟨S128x32, .i32⟩
  | 76 => ⟨S128x32, .i32⟩
  | 77 => ⟨S128x32, .i32⟩
  | 78 => ⟨S_, .i32⟩
  | 79 => ⟨S128x32, .i32⟩
  | 80 => ⟨S128x32, .i32⟩
  | 81 => ⟨S_, .i32⟩
  | 82 => ⟨S128x32, .i32⟩
  | 83 => ⟨S128x32, .i32⟩
  | 84 => ⟨S128x32, .i32⟩
  | 85 => ⟨S128x32, .i32⟩
  | 86 => ⟨S128x32, .i32⟩
  | 87 => ⟨S_, .i32⟩
  | 88 => ⟨S128x32, .i32⟩
  | 89 => ⟨S128x32, .i32⟩
  | 90 => ⟨S_, .i32⟩
  | 91 => ⟨S128x32, .i32⟩
  | 92 => ⟨S128x32, .i32⟩
  | 93 => ⟨S128x32, .i32⟩
  | 94 => ⟨S128x32, .i32⟩
  | 95 => ⟨S_, .i32⟩
  | 96 => ⟨S128x32, .i32⟩
  | 97 => ⟨S128x32, .i32⟩
  | 98 => ⟨S_, .i32⟩
  | 99 => ⟨S128x32, .i32⟩
  | 100 => ⟨S128x32, .i32⟩
  | 101 => ⟨S128x32, .i32⟩
  | 102 => ⟨S_, .i32⟩
  | 103 => ⟨S128x32, .i32⟩
  | 104 => ⟨S128x32, .i32⟩
  | 105 => ⟨S_, .i32⟩
  | 106 => ⟨S128x32, .i32⟩
  | 107 => ⟨S128x32, .i32⟩
  | 108 => ⟨S128x32, .i32⟩
  | 109 => ⟨S128x32, .i32⟩
  | 110 => ⟨S128x32, .i32⟩
  | 111 => ⟨S_, .i32⟩
  | 112 => ⟨S128x32, .i32⟩
  | 113 => ⟨S128x32, .i32⟩
  | 114 => ⟨S_, .i32⟩
  | 115 => ⟨S128x32, .i32⟩
  | 116 => ⟨S128x32, .i32⟩
  | 117 => ⟨S128x32, .i32⟩
  | 118 => ⟨S128x32, .i32⟩
  | 119 => ⟨S128x32, .i32⟩
  | 120 => ⟨S_, .i32⟩
  | 121 => ⟨S128x32, .i32⟩
  | 122 => ⟨S128x32, .i32⟩
  | 123 => ⟨S_, .i32⟩
  | 124 => ⟨S128x32, .i32⟩
  | 125 => ⟨S128x32, .i32⟩
  | 126 => ⟨S128x32, .i32⟩
  | 127 => ⟨S128x32, .i32⟩
  | _ => ⟨S128x100000, .f32⟩

abbrev hbmTy0_2 (i : Nat) : BufTy := match i % 128 with
  | 0 => ⟨S128x32, .i32⟩
  | 1 => ⟨S_, .i32⟩
  | 2 => ⟨S128x32, .i32⟩
  | 3 => ⟨S128x32, .i32⟩
  | 4 => ⟨S_, .i32⟩
  | 5 => ⟨S128x32, .i32⟩
  | 6 => ⟨S128x32, .i32⟩
  | 7 => ⟨S128x32, .i32⟩
  | 8 => ⟨S128x32, .i32⟩
  | 9 => ⟨S_, .i32⟩
  | 10 => ⟨S128x32, .i32⟩
  | 11 => ⟨S128x32, .i32⟩
  | 12 => ⟨S_, .i32⟩
  | 13 => ⟨S128x32, .i32⟩
  | 14 => ⟨S128x32, .i32⟩
  | 15 => ⟨S128x32, .i32⟩
  | 16 => ⟨S_, .i32⟩
  | 17 => ⟨S128x32, .i32⟩
  | 18 => ⟨S128x32, .i32⟩
  | 19 => ⟨S_, .i32⟩
  | 20 => ⟨S128x32, .i32⟩
  | 21 => ⟨S128x32, .i32⟩
  | 22 => ⟨S128x32, .f32⟩
  | 23 => ⟨S_, .f32⟩
  | 24 => ⟨S128x32, .f32⟩
  | 25 => ⟨S128x32, .f32⟩
  | 26 => ⟨S_, .f32⟩
  | 27 => ⟨S_, .f32⟩
  | 28 => ⟨S_, .f32⟩
  | 29 => ⟨S128x32, .f32⟩
  | 30 => ⟨S128x32, .f32⟩
  | 31 => ⟨S_, .f32⟩
  | 32 => ⟨S128x32, .f32⟩
  | 33 => ⟨S128x32, .f32⟩
  | 34 => ⟨S_, .f32⟩
  | 35 => ⟨S128x32, .f32⟩
  | 36 => ⟨S128x32, .f32⟩
  | 37 => ⟨S128x32, .f32⟩
  | 38 => ⟨S128x32, .f32⟩
  | 39 => ⟨S128x32, .f32⟩
  | 40 => ⟨S128x32, .f32⟩
  | 41 => ⟨S128x32, .f32⟩
  | 42 => ⟨S128x32, .i32⟩
  | 43 => ⟨S_, .f32⟩
  | 44 => ⟨S128, .f32⟩
  | 45 => ⟨S128x1, .f32⟩
  | 46 => ⟨S128x32, .f32⟩
  | 47 => ⟨S128x32, .i1⟩
  | 48 => ⟨S_, .i32⟩
  | 49 => ⟨S128x32, .i32⟩
  | 50 => ⟨S128x32, .i32⟩
  | 51 => ⟨S_, .i32⟩
  | 52 => ⟨S128, .i32⟩
  | 53 => ⟨S128x1, .i32⟩
  | 54 => ⟨S128x32, .i32⟩
  | 55 => ⟨S128x32, .i1⟩
  | 56 => ⟨S_, .i32⟩
  | 57 => ⟨S128x32, .i32⟩
  | 58 => ⟨S128x32, .i32⟩
  | 59 => ⟨S_, .i32⟩
  | 60 => ⟨S128, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_call0_cst : Ref sig .tc := ⟨.hbm, 31, rfl⟩
abbrev main_call0_call0_v0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_4 : Ref sig .tc := ⟨.hbm, 56, rfl⟩
abbrev main_v43 : Ref sig .tc := ⟨.hbm, 57, rfl⟩
abbrev main_c_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_6 : Ref sig .tc := ⟨.hbm, 62, rfl⟩
abbrev main_v47 : Ref sig .tc := ⟨.hbm, 63, rfl⟩
abbrev main_v48 : Ref sig .tc := ⟨.hbm, 64, rfl⟩
abbrev main_c_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_8 : Ref sig .tc := ⟨.hbm, 71, rfl⟩
abbrev main_v54 : Ref sig .tc := ⟨.hbm, 72, rfl⟩
abbrev main_v55 : Ref sig .tc := ⟨.hbm, 73, rfl⟩
abbrev main_c_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_10 : Ref sig .tc := ⟨.hbm, 80, rfl⟩
abbrev main_v61 : Ref sig .tc := ⟨.hbm, 81, rfl⟩
abbrev main_v62 : Ref sig .tc := ⟨.hbm, 82, rfl⟩
abbrev main_c_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_12 : Ref sig .tc := ⟨.hbm, 89, rfl⟩
abbrev main_v68 : Ref sig .tc := ⟨.hbm, 90, rfl⟩
abbrev main_v69 : Ref sig .tc := ⟨.hbm, 91, rfl⟩
abbrev main_c_13 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_14 : Ref sig .tc := ⟨.hbm, 97, rfl⟩
abbrev main_v74 : Ref sig .tc := ⟨.hbm, 98, rfl⟩
abbrev main_v75 : Ref sig .tc := ⟨.hbm, 99, rfl⟩
abbrev main_c_15 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_16 : Ref sig .tc := ⟨.hbm, 104, rfl⟩
abbrev main_v79 : Ref sig .tc := ⟨.hbm, 105, rfl⟩
abbrev main_v80 : Ref sig .tc := ⟨.hbm, 106, rfl⟩
abbrev main_c_17 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_18 : Ref sig .tc := ⟨.hbm, 113, rfl⟩
abbrev main_v86 : Ref sig .tc := ⟨.hbm, 114, rfl⟩
abbrev main_v87 : Ref sig .tc := ⟨.hbm, 115, rfl⟩
abbrev main_c_19 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_c_20 : Ref sig .tc := ⟨.hbm, 122, rfl⟩
abbrev main_v93 : Ref sig .tc := ⟨.hbm, 123, rfl⟩
abbrev main_v94 : Ref sig .tc := ⟨.hbm, 124, rfl⟩
abbrev main_c_21 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_c_22 : Ref sig .tc := ⟨.hbm, 131, rfl⟩
abbrev main_v100 : Ref sig .tc := ⟨.hbm, 132, rfl⟩
abbrev main_v101 : Ref sig .tc := ⟨.hbm, 133, rfl⟩
abbrev main_c_23 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_c_24 : Ref sig .tc := ⟨.hbm, 139, rfl⟩
abbrev main_v106 : Ref sig .tc := ⟨.hbm, 140, rfl⟩
abbrev main_v107 : Ref sig .tc := ⟨.hbm, 141, rfl⟩
abbrev main_c_25 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_c_26 : Ref sig .tc := ⟨.hbm, 146, rfl⟩
abbrev main_v111 : Ref sig .tc := ⟨.hbm, 147, rfl⟩
abbrev main_v112 : Ref sig .tc := ⟨.hbm, 148, rfl⟩
abbrev main_c_27 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_c_28 : Ref sig .tc := ⟨.hbm, 155, rfl⟩
abbrev main_v118 : Ref sig .tc := ⟨.hbm, 156, rfl⟩
abbrev main_v119 : Ref sig .tc := ⟨.hbm, 157, rfl⟩
abbrev main_c_29 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_c_30 : Ref sig .tc := ⟨.hbm, 164, rfl⟩
abbrev main_v125 : Ref sig .tc := ⟨.hbm, 165, rfl⟩
abbrev main_v126 : Ref sig .tc := ⟨.hbm, 166, rfl⟩
abbrev main_c_31 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_c_32 : Ref sig .tc := ⟨.hbm, 173, rfl⟩
abbrev main_v132 : Ref sig .tc := ⟨.hbm, 174, rfl⟩
abbrev main_v133 : Ref sig .tc := ⟨.hbm, 175, rfl⟩
abbrev main_c_33 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_c_34 : Ref sig .tc := ⟨.hbm, 181, rfl⟩
abbrev main_v138 : Ref sig .tc := ⟨.hbm, 182, rfl⟩
abbrev main_v139 : Ref sig .tc := ⟨.hbm, 183, rfl⟩
abbrev main_c_35 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_c_36 : Ref sig .tc := ⟨.hbm, 188, rfl⟩
abbrev main_v143 : Ref sig .tc := ⟨.hbm, 189, rfl⟩
abbrev main_v144 : Ref sig .tc := ⟨.hbm, 190, rfl⟩
abbrev main_c_37 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_c_38 : Ref sig .tc := ⟨.hbm, 197, rfl⟩
abbrev main_v150 : Ref sig .tc := ⟨.hbm, 198, rfl⟩
abbrev main_v151 : Ref sig .tc := ⟨.hbm, 199, rfl⟩
abbrev main_c_39 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_c_40 : Ref sig .tc := ⟨.hbm, 206, rfl⟩
abbrev main_v157 : Ref sig .tc := ⟨.hbm, 207, rfl⟩
abbrev main_v158 : Ref sig .tc := ⟨.hbm, 208, rfl⟩
abbrev main_c_41 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_c_42 : Ref sig .tc := ⟨.hbm, 215, rfl⟩
abbrev main_v164 : Ref sig .tc := ⟨.hbm, 216, rfl⟩
abbrev main_v165 : Ref sig .tc := ⟨.hbm, 217, rfl⟩
abbrev main_c_43 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_c_44 : Ref sig .tc := ⟨.hbm, 223, rfl⟩
abbrev main_v170 : Ref sig .tc := ⟨.hbm, 224, rfl⟩
abbrev main_v171 : Ref sig .tc := ⟨.hbm, 225, rfl⟩
abbrev main_c_45 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_c_46 : Ref sig .tc := ⟨.hbm, 230, rfl⟩
abbrev main_v175 : Ref sig .tc := ⟨.hbm, 231, rfl⟩
abbrev main_v176 : Ref sig .tc := ⟨.hbm, 232, rfl⟩
abbrev main_c_47 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_c_48 : Ref sig .tc := ⟨.hbm, 239, rfl⟩
abbrev main_v182 : Ref sig .tc := ⟨.hbm, 240, rfl⟩
abbrev main_v183 : Ref sig .tc := ⟨.hbm, 241, rfl⟩
abbrev main_c_49 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_c_50 : Ref sig .tc := ⟨.hbm, 248, rfl⟩
abbrev main_v189 : Ref sig .tc := ⟨.hbm, 249, rfl⟩
abbrev main_v190 : Ref sig .tc := ⟨.hbm, 250, rfl⟩
abbrev main_c_51 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_c_52 : Ref sig .tc := ⟨.hbm, 257, rfl⟩
abbrev main_v196 : Ref sig .tc := ⟨.hbm, 258, rfl⟩
abbrev main_v197 : Ref sig .tc := ⟨.hbm, 259, rfl⟩
abbrev main_c_53 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_c_54 : Ref sig .tc := ⟨.hbm, 265, rfl⟩
abbrev main_v202 : Ref sig .tc := ⟨.hbm, 266, rfl⟩
abbrev main_v203 : Ref sig .tc := ⟨.hbm, 267, rfl⟩
abbrev main_c_55 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_c_56 : Ref sig .tc := ⟨.hbm, 272, rfl⟩
abbrev main_v207 : Ref sig .tc := ⟨.hbm, 273, rfl⟩
abbrev main_v208 : Ref sig .tc := ⟨.hbm, 274, rfl⟩
abbrev main_c_57 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_cst_58 : Ref sig .tc := ⟨.hbm, 279, rfl⟩
abbrev main_v212 : Ref sig .tc := ⟨.hbm, 280, rfl⟩
abbrev main_v213 : Ref sig .tc := ⟨.hbm, 281, rfl⟩
abbrev main_cst_59 : Ref sig .tc := ⟨.hbm, 282, rfl⟩
abbrev main_cst_60 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_cst_61 : Ref sig .tc := ⟨.hbm, 287, rfl⟩
abbrev main_v217 : Ref sig .tc := ⟨.hbm, 288, rfl⟩
abbrev main_v218 : Ref sig .tc := ⟨.hbm, 289, rfl⟩
abbrev main_cst_62 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_cst_63 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_c_64 : Ref sig .tc := ⟨.hbm, 304, rfl⟩
abbrev main_v231 : Ref sig .tc := ⟨.hbm, 305, rfl⟩
abbrev main_v232 : Ref sig .tc := ⟨.hbm, 306, rfl⟩
abbrev main_c_65 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_c_66 : Ref sig .tc := ⟨.hbm, 312, rfl⟩
abbrev main_v237 : Ref sig .tc := ⟨.hbm, 313, rfl⟩
abbrev main_v238 : Ref sig .tc := ⟨.hbm, 314, rfl⟩
abbrev main_c_67 : Ref sig .tc := ⟨.hbm, 315, rfl⟩
abbrev main_v239 : Ref sig .tc := ⟨.hbm, 316, rfl⟩

abbrev nD : Nat := 1
abbrev τ : Topo := Topo.v7x

variable {F : FTy → Type} [FloatOps F]
-- ==== Proof.Row.lean ====
/-
  One row of the SparseCore body as a program of its own, and the printed body as four of them.
  A row copies its logits into tile memory, scans them for the sixteen lanes' two largest and the block maxima, clears
  the two candidate tables, scatters every element that reaches the threshold, and copies the tables out.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 65536

noncomputable section

namespace Cert.Proof.Row

open Cert.KernelIdeal Cert.KernelIdeal.Gen
open Idealize.ShloMosaic
open Idealize.SL Idealize.SL.Sem

variable {F : FTy → Type} [FloatOps F]

abbrev TP (F : FTy → Type) [FloatOps F] (i : grid0.Coords) (α : Type) : Type _ :=
  Prog (TpuEff nD τ sig (Elt F) Λ₀ (.scVector ((i 0).castLE hcore0) ((i 1).castLE hsub0))) α

/-- Lane numbers. -/
def lanes : IVec S16 32 := iota .scVector S16 32 [0] iota_S16_d0_w32_scVector
/-- A lane's first slot. -/
def base4 : IVec S16 32 := muli lanes (broadcast S16 32#32)
/-- Where a lane's next hit goes. -/
def slot (po : IVec S16 32) : IVec S16 32 := addi base4 (minsi po (broadcast S16 31#32))
/-- The hit counts after a chunk. -/
def bump (m : IVec S16 1) (po : IVec S16 32) : IVec S16 32 :=
  addi po (select m (broadcast S16 1#32) (broadcast S16 0#32))
/-- Which elements of a chunk reach the threshold. -/
def hitMask (tv v : FVec F S16 .f32) : IVec S16 1 := cmpf .oge v tv
/-- The element numbers of a chunk. -/
def elts (e : BitVec 32) : IVec S16 32 := addi lanes (broadcast S16 e)

/-- The eight accumulators of the first pass. -/
abbrev Acc (F : FTy → Type) [FloatOps F] : Type :=
  FVec F S16 .f32 × FVec F S16 .f32 × FVec F S16 .f32 × FVec F S16 .f32 × FVec F S16 .f32 × FVec F S16 .f32 × FVec F S16 .f32 × FVec F S16 .f32

def up1 (m v w : FVec F S16 .f32) : FVec F S16 .f32 := maximumf (maximumf m v) w
def up2 (m n v w : FVec F S16 .f32) : FVec F S16 .f32 := maximumf (maximumf n (minimumf m v)) (minimumf (maximumf m v) w)

section
variable (i : grid0.Coords)
  (arg5 : Memref sig .scVector .vmem S100000 .f32) (harg5 : arg5.IsWhole)
  (arg6 : Memref sig .scVector .vmem S12496 .f32) (harg6 : arg6.IsWhole)
  (arg7 : Memref sig .scVector .vmem S512 .f32) (harg7 : arg7.IsWhole)
  (arg8 : Memref sig .scVector .vmem S512 .i32) (harg8 : arg8.IsWhole)

/-- A trip of the first pass: four pairs of chunks into four pairs of accumulators, and their lanewise maximum stored. -/
def body1 (k : Fin k0_t1_loop.trips) : Acc F → TP F i (Acc F) :=
  fun (m0, m1, m2, m3, n0, n1, n2, n3) => do
    let a0 : Vec F S16 .f32 ← Prog.lift (.load arg5 (Rect.unit (s := S100000) (k0_off2 k 0#32) S16.size (k0_off2_inb k 0)).toLoadRect (View.loadsAt_vmem h_S16))
    let b0 : Vec F S16 .f32 ← Prog.lift (.load arg5 (Rect.unit (s := S100000) (k0_off3 k 0#32) S16.size (k0_off3_inb k 0)).toLoadRect (View.loadsAt_vmem h_S16))
    let a1 : Vec F S16 .f32 ← Prog.lift (.load arg5 (Rect.unit (s := S100000) (k0_off2 k 32#32) S16.size (k0_off2_inb k 1)).toLoadRect (View.loadsAt_vmem h_S16))
    let b1 : Vec F S16 .f32 ← Prog.lift (.load arg5 (Rect.unit (s := S100000) (k0_off3 k 32#32) S16.size (k0_off3_inb k 1)).toLoadRect (View.loadsAt_vmem h_S16))
    let a2 : Vec F S16 .f32 ← Prog.lift (.load arg5 (Rect.unit (s := S100000) (k0_off2 k 64#32) S16.size (k0_off2_inb k 2)).toLoadRect (View.loadsAt_vmem h_S16))
    let b2 : Vec F S16 .f32 ← Prog.lift (.load arg5 (Rect.unit (s := S100000) (k0_off3 k 64#32) S16.size (k0_off3_inb k 2)).toLoadRect (View.loadsAt_vmem h_S16))
    let a3 : Vec F S16 .f32 ← Prog.lift (.load arg5 (Rect.unit (s := S100000) (k0_off2 k 96#32) S16.size (k0_off2_inb k 3)).toLoadRect (View.loadsAt_vmem h_S16))
    let b3 : Vec F S16 .f32 ← Prog.lift (.load arg5 (Rect.unit (s := S100000) (k0_off3 k 96#32) S16.size (k0_off3_inb k 3)).toLoadRect (View.loadsAt_vmem h_S16))
    let _ : Vec F S16 .f32 ← Prog.lift (.load arg6 (Rect.unit (s := S12496) (k0_off4 k) S16.size (k0_off4_inb k)).toLoadRect (View.loadsAt_vmem h_S16))
    Prog.lift (.store arg6 (Rect.unit (s := S12496) (k0_off4 k) S16.size (k0_off4_inb k))
      (maximumf (maximumf (maximumf a0 b0) (maximumf a1 b1)) (maximumf (maximumf a2 b2) (maximumf a3 b3))) Finset.univ (View.stores_vmem_bits_univ h_S16 rfl) (.inl rfl))
    pure (up1 m0 a0 b0, up1 m1 a1 b1, up1 m2 a2 b2, up1 m3 a3 b3, up2 m0 n0 a0 b0, up2 m1 n1 a1 b1, up2 m2 n2 a2 b2, up2 m3 n3 a3 b3)

/-- A trip of the clearing loop. -/
def body2 (k : Fin k0_t2_loop.trips) : Unit → TP F i Unit := fun _ => do
    let _ : Vec F S16 .f32 ← Prog.lift (.load arg7 (Rect.unit (s := S512) (k0_off5 k) S16.size (k0_off5_inb k)).toLoadRect (View.loadsAt_vmem h_S16))
    Prog.lift (.store arg7 (Rect.unit (s := S512) (k0_off5 k) S16.size (k0_off5_inb k)) (k0_pay282 (F := F)) Finset.univ (View.stores_vmem_bits_univ h_S16 rfl) (.inl rfl))
    let _ : Vec F S16 .i32 ← Prog.lift (.load arg8 (Rect.unit (s := S512) (k0_off5 k) S16.size (k0_off5_inb k)).toLoadRect (View.loadsAt_vmem h_S16))
    Prog.lift (.store arg8 (Rect.unit (s := S512) (k0_off5 k) S16.size (k0_off5_inb k)) k0_pay292 Finset.univ (View.stores_vmem_bits_univ h_S16 rfl) (.inl rfl))
    pure ⟨⟩

/-- Every slot names a table entry. -/
abbrev InR (p : IVec S16 32) : Prop := ∀ a x, ((![p] : Fin 1 → IVec S16 32) a x).toNat < S512.size a

/-- One chunk's hits into the tables, the check first. -/
def hit0 (P : IVec S16 32 → Prop) (dP : ∀ p, Decidable (P p)) (hP : ∀ p, P p → InR p)
    (v : Vec F S16 .f32) (e : BitVec 32) (m : IVec S16 1) (po : IVec S16 32) : TP F i PUnit := do
  let h ← Prog.lift (TpuEff.assume (P (slot po)) (dP (slot po)))
  SparseCore.vectorStoreIdx arg7 ![slot po] v m false (hP _ h.down) (View.stores_vmem_bits_univ h_S512 rfl)
  SparseCore.vectorStoreIdx arg8 ![slot po] (elts e) m false (hP _ h.down) (View.stores_vmem_bits_univ h_S512 rfl)

/-- The same, returning the hit counts after the chunk. -/
def hit (P : IVec S16 32 → Prop) (dP : ∀ p, Decidable (P p)) (hP : ∀ p, P p → InR p)
    (v : Vec F S16 .f32) (e : BitVec 32) (m : IVec S16 1) (po : IVec S16 32) : TP F i (IVec S16 32) := do
  hit0 i arg7 arg8 P dP hP v e m po
  pure (bump m po)

/-- The chunks' hits in order. -/
def hits (P : IVec S16 32 → Prop) (dP : ∀ p, Decidable (P p)) (hP : ∀ p, P p → InR p) (tv : FVec F S16 .f32) :
    List (Vec F S16 .f32 × BitVec 32) → IVec S16 32 → TP F i (IVec S16 32)
  | [], po => pure po
  | (v, e) :: l, po => do
    let po' ← hit i arg7 arg8 P dP hP v e (hitMask tv v) po
    hits P dP hP tv l po'

/-- The chunks `rs` of a block pair, read in order. -/
def loads (k : Fin k0_t3_loop.trips) (e : BitVec 32) {α : Type} : List (Fin 16) →
    (List (Vec F S16 .f32 × BitVec 32) → TP F i α) → TP F i α
  | [], K => K []
  | r :: rs, K => do
    let v : Vec F S16 .f32 ← Prog.lift (.load arg5 (Rect.unit (s := S100000) (k0_off8 k (BitVec.ofNat 32 (16 * r.val))) S16.size (k0_off8_inb k r)).toLoadRect (View.loadsAt_vmem h_S16))
    loads k e rs fun l => K ((v, Scalar.addi e (BitVec.ofNat 32 (16 * r.val))) :: l)

/-- All sixteen. -/
def all16 : List (Fin 16) := [0, 1, 2, 3, 4, 5, 6, 7, 8, 9, 10, 11, 12, 13, 14, 15]

/-- The first element of a block pair. -/
def pairBase (k : Fin k0_t3_loop.trips) : BitVec 32 := Scalar.muli (Scalar.addi 0#32 (Scalar.muli (Scf.iv 0#32 1#32 k) 1#32)) 256#32

/-- Whether a block pair can hold a hit, from its two block maxima. -/
def pairCond (t : F .f32) (a b : Vec F S16 .f32) : BitVec 1 := Scalar.cmpf .oge (k0_pay294 (k0_pay69 a b) (k0_pay70 a b)) t

/-- A trip of the collecting loop. -/
def body3 (t : F .f32) (k : Fin k0_t3_loop.trips) : IVec S16 32 → TP F i (IVec S16 32) := fun po => do
  let a : Vec F S16 .f32 ← Prog.lift (.load arg6 (Rect.unit (s := S12496) (k0_off6 k) S16.size (k0_off6_inb k)).toLoadRect (View.loadsAt_vmem h_S16))
  let b : Vec F S16 .f32 ← Prog.lift (.load arg6 (Rect.unit (s := S12496) (k0_off7 k) S16.size (k0_off7_inb k)).toLoadRect (View.loadsAt_vmem h_S16))
  let po' : IVec S16 32 ← if h : k0_cond1 (pairCond t a b) = 1#1 then
      loads i arg5 k (pairBase k) all16 fun l =>
        hits i arg7 arg8 (k0_chk1 (pairCond t a b)) (k0_chk1.dec (pairCond t a b)) (fun _ hp => hp.1 h) (broadcast S16 t) l po
    else pure po
  pure po'

theorem inb_tail : ∀ r : Fin 10, ∀ a, (![99840 + 16 * r.val] : Fin 1 → ℕ) a + S16.size a ≤ S100000.size a := by decide

/-- The ten chunks after the last block pair. -/
def tail (tv : FVec F S16 .f32) : List (Fin 10) → IVec S16 32 → TP F i (IVec S16 32)
  | [], po => pure po
  | r :: rs, po => do
    let v : Vec F S16 .f32 ← Prog.lift (.load arg5 (Rect.unit (s := S100000) ![99840 + 16 * r.val] S16.size (inb_tail r)).toLoadRect (View.loadsAt_vmem h_S16))
    let po' ← hit i arg7 arg8 k0_chk17 k0_chk17.dec (fun _ hp => hp.1) v (BitVec.ofNat 32 (99840 + 16 * r.val)) (hitMask tv v) po
    tail tv rs po'

/-- The threshold: the least of the sixteen lanes' second largest elements. -/
def thr (x : Acc F) (v w : FVec F S16 .f32) : F .f32 :=
  match x with
  | (m0, m1, m2, m3, n0, n1, n2, n3) =>
    k0_pay290 (k0_pay287 m0 m1 m2 m3 n0 n1 n2 n3 v w) (k0_pay288 m0 m1 m2 m3 n0 n1 n2 n3 v w) (k0_pay289 m0 m1 m2 m3 n0 n1 n2 n3 v w)

/-- The ten tail chunks. -/
def all10 : List (Fin 10) := [0, 1, 2, 3, 4, 5, 6, 7, 8, 9]

/-- The accumulators' start. -/
def acc0 : Acc F := (k0_pay282 (F := F), k0_pay282 (F := F), k0_pay282 (F := F), k0_pay282 (F := F), k0_pay282 (F := F), k0_pay282 (F := F), k0_pay282 (F := F), k0_pay282 (F := F))

/-- A row: its logits in, the two candidate tables out. -/
def row (arg2 : Memref sig .scVector .hbm S128x100000 .f32) (arg3 : Memref sig .scVector .hbm S128x512 .f32) (arg4 : Memref sig .scVector .hbm S128x512 .i32)
    (off : Fin 2 → ℕ) (hin : ∀ a, off a + S1x100000.size a ≤ S128x100000.size a)
    (off' : Fin 2 → ℕ) (hin' : ∀ a, off' a + S1x512.size a ≤ S128x512.size a)
    (s0 s1 s2 : DmaSems sig S_) : TP F i PUnit := do
  Prog.lift (.enqueueDma ((arg2.slice (Rect.unit (s := S128x100000) off S1x100000.size hin) (fun _ => rfl)).squeeze S100000 squeezes_S1x100000_S100000) (.here arg5) (.dma s0.sem) ((View.wordExact_bits rfl).reshape _ _) harg5.wordExact ⟨Or.inl rfl, trivial⟩)
  Prog.lift (.waitDma2 s0.sem ((arg2.slice (Rect.unit (s := S128x100000) off S1x100000.size hin) (fun _ => rfl)).squeeze S100000 squeezes_S1x100000_S100000) arg5 ((View.wordExact_bits rfl).reshape _ _) harg5.wordExact)
  let x ← Scf.Loop.for k0_t1_loop k0_t1_ok (acc0 (F := F)) (body1 i arg5 arg6)
  let v : Vec F S16 .f32 ← Prog.lift (.load arg5 (Rect.unit (s := S100000) ![99968] S16.size inb_S100000_S16_99968).toLoadRect (View.loadsAt_vmem h_S16))
  let w : Vec F S16 .f32 ← Prog.lift (.load arg5 (Rect.unit (s := S100000) ![99984] S16.size inb_S100000_S16_99984).toLoadRect (View.loadsAt_vmem h_S16))
  Scf.Loop.for k0_t2_loop k0_t2_ok ⟨⟩ (body2 i arg7 arg8)
  let po : IVec S16 32 ← Scf.Loop.for k0_t3_loop k0_t3_ok k0_pay293 (body3 i arg5 arg6 arg7 arg8 (thr x v w))
  let _ ← tail i arg5 arg7 arg8 (broadcast S16 (thr x v w)) all10 po
  Prog.lift (.enqueueDma arg7 (.here ((arg3.slice (Rect.unit (s := S128x512) off' S1x512.size hin') (fun _ => rfl)).squeeze S512 squeezes_S1x512_S512)) (.dma s1.sem) harg7.wordExact ((View.wordExact_bits rfl).reshape _ _) ⟨Or.inl rfl, trivial⟩)
  Prog.lift (.waitDma2 s1.sem arg7 ((arg3.slice (Rect.unit (s := S128x512) off' S1x512.size hin') (fun _ => rfl)).squeeze S512 squeezes_S1x512_S512) harg7.wordExact ((View.wordExact_bits rfl).reshape _ _))
  Prog.lift (.enqueueDma arg8 (.here ((arg4.slice (Rect.unit (s := S128x512) off' S1x512.size hin') (fun _ => rfl)).squeeze S512 squeezes_S1x512_S512)) (.dma s2.sem) harg8.wordExact ((View.wordExact_bits rfl).reshape _ _) ⟨Or.inl rfl, trivial⟩)
  Prog.lift (.waitDma2 s2.sem arg8 ((arg4.slice (Rect.unit (s := S128x512) off' S1x512.size hin') (fun _ => rfl)).squeeze S512 squeezes_S1x512_S512) harg8.wordExact ((View.wordExact_bits rfl).reshape _ _))

end

end Cert.Proof.Row
-- ==== Proof.Vals.lean ====
/-
  What a row's run leaves, as plain functions of the row's logits: chunks, block maxima, the accumulators, the
  threshold, and the two candidate tables with the sixteen lanes' hit counts.
-/
module

public import proofs.«01_k».proof.Proof.Row

@[expose] public section

set_option maxRecDepth 65536

noncomputable section

namespace Cert.Proof.Row

open Cert.KernelIdeal Cert.KernelIdeal.Gen
open Idealize.ShloMosaic
open Idealize.SL Idealize.SL.Sem

variable {F : FTy → Type} [FloatOps F]

/-- The sixteen entries from `16 * n` of a one-axis array (wrapped past its end). -/
def cut {α : Type} {N : ℕ} (hN : 0 < N) (x : (⟨1, ![N]⟩ : Shape).Idx → α) (n : ℕ) : S16.Idx → α :=
  fun l => x fun a => ⟨(16 * n + (l 0).val) % N, by
    have : a = 0 := Subsingleton.elim _ _
    subst this; exact Nat.mod_lt _ hN⟩

/-- A row's chunk `n`. -/
def chunk (x : S100000.Idx → F .f32) (n : ℕ) : FVec F S16 .f32 := cut (by decide) x n

/-- The lanewise maximum of eight chunks. -/
def blk (x : S100000.Idx → F .f32) (i : ℕ) : FVec F S16 .f32 :=
  maximumf (maximumf (maximumf (chunk x (8 * i)) (chunk x (8 * i + 1))) (maximumf (chunk x (8 * i + 2)) (chunk x (8 * i + 3))))
    (maximumf (maximumf (chunk x (8 * i + 4)) (chunk x (8 * i + 5))) (maximumf (chunk x (8 * i + 6)) (chunk x (8 * i + 7))))

/-- The accumulators after a trip. -/
def accStep (x : S100000.Idx → F .f32) (k : ℕ) : Acc F → Acc F :=
  fun (m0, m1, m2, m3, n0, n1, n2, n3) =>
    (up1 m0 (chunk x (8 * k)) (chunk x (8 * k + 1)), up1 m1 (chunk x (8 * k + 2)) (chunk x (8 * k + 3)),
     up1 m2 (chunk x (8 * k + 4)) (chunk x (8 * k + 5)), up1 m3 (chunk x (8 * k + 6)) (chunk x (8 * k + 7)),
     up2 m0 n0 (chunk x (8 * k)) (chunk x (8 * k + 1)), up2 m1 n1 (chunk x (8 * k + 2)) (chunk x (8 * k + 3)),
     up2 m2 n2 (chunk x (8 * k + 4)) (chunk x (8 * k + 5)), up2 m3 n3 (chunk x (8 * k + 6)) (chunk x (8 * k + 7)))

/-- The accumulators after `k` trips. -/
def accs (x : S100000.Idx → F .f32) : ℕ → Acc F
  | 0 => acc0
  | k + 1 => accStep x k (accs x k)

/-- The row's threshold. -/
def tOf (x : S100000.Idx → F .f32) : F .f32 := thr (accs x 781) (chunk x 6248) (chunk x 6249)

/-- The two tables and the hit counts. -/
abbrev St (F : FTy → Type) [FloatOps F] : Type := (S512.Idx → F .f32) × (S512.Idx → BitVec 32) × IVec S16 32

/-- A masked scatter of sixteen entries, the slots in range. -/
def put {e : EltTy} (f : Vec F S512 e) (p : IVec S16 32) (v : Vec F S16 e) (m : IVec S16 1) : Vec F S512 e :=
  if h : InR p then storeIdx f ![p] v m false h else f

/-- A chunk's hits into the tables. -/
def stepHit (t : F .f32) (v : Vec F S16 .f32) (e : BitVec 32) (s : St F) : St F :=
  (put (F := F) (e := .f32) s.1 (slot s.2.2) v (hitMask (broadcast S16 t) v),
   put (F := F) (e := .i32) s.2.1 (slot s.2.2) (elts e) (hitMask (broadcast S16 t) v),
   bump (hitMask (broadcast S16 t) v) s.2.2)

/-- Chunk `n`'s. -/
def hitAt (t : F .f32) (x : S100000.Idx → F .f32) (s : St F) (n : ℕ) : St F := stepHit t (chunk x n) (BitVec.ofNat 32 (16 * n)) s

/-- The sixteen chunks of block pair `k`. -/
def pairHits (t : F .f32) (x : S100000.Idx → F .f32) (k : ℕ) (s : St F) : St F :=
  (all16.map fun r => 16 * k + r.val).foldl (hitAt t x) s

/-- The tables after `k` block pairs. -/
def collect (t : F .f32) (x : S100000.Idx → F .f32) : ℕ → St F
  | 0 => (k0_payNeg, fun _ => 0#32, k0_pay293)
  | k + 1 => if k0_cond1 (pairCond t (blk x (2 * k)) (blk x (2 * k + 1))) = 1#1 then pairHits t x k (collect t x k) else collect t x k
where
  /-- The cleared value table. -/
  k0_payNeg : S512.Idx → F .f32 := fun _ => k0_pay282 (F := F) fun a => ⟨0, by revert a; decide⟩

/-- The row's tables. -/
def outSt (x : S100000.Idx → F .f32) : St F :=
  (all10.map fun r => 6240 + r.val).foldl (hitAt (tOf x) x) (collect (tOf x) x 390)

/-! ## The hit counts stay small -/

/-- Every lane has at most `B` hits. -/
def PoLe (po : IVec S16 32) (B : ℕ) : Prop := ∀ l, (po l).toNat ≤ B

theorem PoLe.mono {po : IVec S16 32} {B B' : ℕ} (h : PoLe po B) (hb : B ≤ B') : PoLe po B' := fun l => (h l).trans hb

theorem PoLe.bump {po : IVec S16 32} {B : ℕ} (h : PoLe po B) (hB : B < 10000) (m : IVec S16 1) : PoLe (bump m po) (B + 1) := by
  intro l
  have := h l
  show (po l + (if m l = 1 then 1#32 else 0#32)).toNat ≤ _
  split
  · rw [BitVec.toNat_add]; simp; omega
  · simp; omega

theorem lanes_apply (l : S16.Idx) : lanes l = BitVec.ofNat 32 (l 0).val := by
  show BitVec.ofNat 32 (0 * 16 + (l 0).val) = _
  rw [Nat.zero_mul, Nat.zero_add]

theorem base4_toNat (l : S16.Idx) : (base4 l).toNat = 32 * (l 0).val := by
  have h3 : (l 0).val < 16 := (l 0).isLt
  show (lanes l * 32#32).toNat = _
  rw [lanes_apply, BitVec.toNat_mul]
  simp
  omega

theorem slot_toNat {po : IVec S16 32} {B : ℕ} (h : PoLe po B) (hB : B < 10000) (l : S16.Idx) :
    (slot po l).toNat = 32 * (l 0).val + min (po l).toNat 31 := by
  have h1 := h l
  have h2 := base4_toNat l
  have h3 : (l 0).val < 16 := (l 0).isLt
  have e : (minsi po (broadcast S16 31#32) l).toNat = min (po l).toNat 31 := by
    show (if (po l).slt 31#32 then po l else 31#32).toNat = _
    have : (po l).toInt = (po l).toNat := BitVec.toInt_eq_toNat_of_lt (by omega)
    simp only [BitVec.slt, this]
    split
    · rename_i hh; simp at hh; omega
    · rename_i hh; simp at hh; simp; omega
  show (base4 l + minsi po (broadcast S16 31#32) l).toNat = _
  rw [BitVec.toNat_add, e, h2]
  omega

theorem inR_slot {po : IVec S16 32} {B : ℕ} (h : PoLe po B) (hB : B < 10000) : InR (slot po) := by
  intro a x
  have ha : a = 0 := Subsingleton.elim _ _
  subst ha
  show (slot po x).toNat < 512
  rw [slot_toNat h hB]
  have h3 : (x 0).val < 16 := (x 0).isLt
  omega

theorem hitAt_poLe {t : F .f32} {x : S100000.Idx → F .f32} : ∀ (l : List ℕ) (s : St F) (B : ℕ), PoLe s.2.2 B → B + l.length < 10000 →
    PoLe (l.foldl (hitAt t x) s).2.2 (B + l.length)
  | [], s, B, h, _ => h
  | n :: l, s, B, h, hB => by
    have := hitAt_poLe (t := t) (x := x) l (hitAt t x s n) (B + 1) (h.bump (by simp at hB; omega) _) (by simp at hB ⊢; omega)
    simpa [Nat.add_assoc, Nat.add_comm 1] using this

theorem collect_poLe (t : F .f32) (x : S100000.Idx → F .f32) : ∀ k, k ≤ 390 → PoLe (collect t x k).2.2 (16 * k)
  | 0, _ => fun l => le_of_eq rfl
  | k + 1, hk => by
    have ih := collect_poLe t x k (by omega)
    rw [collect]
    split
    · exact hitAt_poLe _ _ _ ih (by simp [all16]; omega)
    · exact ih.mono (by omega)

/-- The element a loop's chunk starts at. -/
theorem pairBase_add (k : Fin k0_t3_loop.trips) (r : Fin 16) :
    Scalar.addi (pairBase k) (BitVec.ofNat 32 (16 * r.val)) = BitVec.ofNat 32 (16 * (16 * k.val + r.val)) := by
  unfold pairBase Scf.iv
  have h1 : k.val < 390 := Nat.lt_of_lt_of_le k.isLt k0_t3_abs.2.1
  have h2 := r.isLt
  show (0#32 + (0#32 + BitVec.ofNat 32 k.val * 1#32) * 1#32) * 256#32 + BitVec.ofNat 32 (16 * r.val) = _
  apply BitVec.eq_of_toNat_eq
  simp [BitVec.toNat_add, BitVec.toNat_mul]
  omega

end Cert.Proof.Row
-- ==== Proof.Tile.lean ====
/-
  The set-up of the run (the launch's labels, the resource algebra, the buffers a tile uses) and the rules for a
  tile's loads and stores of sixteen entries and for its masked scatters, each at the plain functions of Vals.lean.
-/
module

public import proofs.«01_k».proof.Proof.Vals

@[expose] public section

set_option maxRecDepth 65536

noncomputable section

namespace Cert.Proof.Sc

open Cert.KernelIdeal Cert.KernelIdeal.Gen Cert.Proof.Row

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-- The rounds of the one staged call's copies. -/
def EP : Emb UP (MT nD τ sig (HIx 1) (Elt F) ℕ UU ℕ) :=
  (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by unfold EP; infer_instance

abbrev cV (L : grid0.Coords) : Fin τ.nSC := (L 0).castLE hcore0
abbrev jV (L : grid0.Coords) : Fin τ.nSub := (L 1).castLE hsub0

/-- The row, the block maxima and the two tables in tile memory. -/
abbrev sX : Memref sig .scVector .vmem S100000 .f32 := Memref.whole cc0_scratch0
abbrev sB : Memref sig .scVector .vmem S12496 .f32 := Memref.whole cc0_scratch1
abbrev sV : Memref sig .scVector .vmem S512 .f32 := Memref.whole cc0_scratch2
abbrev sI : Memref sig .scVector .vmem S512 .i32 := Memref.whole cc0_scratch3

variable [FloatOps F]
abbrev D : Defs nD τ sig (Elt F) (ΛP (F := F)) := Pipeline.defs pcfgs defs₀

/-! ## Sixteen entries of a whole buffer -/

section Cut
variable {N : ℕ} {e : EltTy}

theorem emb16 (off : Fin 1 → ℕ) (hb : ∀ a, off a + S16.size a ≤ (⟨1, ![N]⟩ : Shape).size a) (n : ℕ) (h : off = ![16 * n]) (hN : 0 < N) (l : S16.Idx) :
    (Rect.unit (s := ⟨1, ![N]⟩) off S16.size hb).emb l = fun a => ⟨(16 * n + (l 0).val) % N, by
      have : a = 0 := Subsingleton.elim _ _
      subst this; exact Nat.mod_lt _ hN⟩ := by
  subst h
  have h0 : 16 * n + 16 ≤ N := hb 0
  have hl : (l 0).val < 16 := (l 0).isLt
  funext a
  have : a = 0 := Subsingleton.elim _ _
  subst this
  apply Fin.ext
  show 16 * n + 1 * (l 0).val = (16 * n + (l 0).val) % N
  rw [Nat.mod_eq_of_lt (by omega), Nat.one_mul]

end Cut

variable (d : Dev nD) (L : grid0.Coords)

abbrev thrd : Thread nD τ := V d (cV L) (jV L)

theorem readX (x : S100000.Idx → F .f32) {off : Fin 1 → ℕ} (hb : ∀ a, off a + S16.size a ≤ S100000.size a) {n : ℕ} (h : off = ![16 * n]) :
    ((sX).access (Rect.unit (s := S100000) off S16.size hb)).read (Elt F) x = chunk x n :=
  funext fun l => congrArg x (emb16 off hb n h (by decide) l)

theorem readB (x : S12496.Idx → F .f32) {off : Fin 1 → ℕ} (hb : ∀ a, off a + S16.size a ≤ S12496.size a) {n : ℕ} (h : off = ![16 * n]) :
    ((sB).access (Rect.unit (s := S12496) off S16.size hb)).read (Elt F) x = cut (by decide) x n :=
  funext fun l => congrArg x (emb16 off hb n h (by decide) l)

theorem readV (x : S512.Idx → F .f32) {off : Fin 1 → ℕ} (hb : ∀ a, off a + S16.size a ≤ S512.size a) {n : ℕ} (h : off = ![16 * n]) :
    ((sV).access (Rect.unit (s := S512) off S16.size hb)).read (Elt F) x = cut (by decide) x n :=
  funext fun l => congrArg x (emb16 off hb n h (by decide) l)

theorem readI (x : S512.Idx → BitVec 32) {off : Fin 1 → ℕ} (hb : ∀ a, off a + S16.size a ≤ S512.size a) {n : ℕ} (h : off = ![16 * n]) :
    ((sI).access (Rect.unit (s := S512) off S16.size hb)).read (Elt F) x = cut (by decide) x n :=
  funext fun l => congrArg x (emb16 off hb n h (by decide) l)

/-- Distinct groups of sixteen do not meet. -/
theorem off_ne {N : ℕ} {off : Fin 1 → ℕ} (hb : ∀ a, off a + S16.size a ≤ (⟨1, ![N]⟩ : Shape).size a) {n i : ℕ} (h : off = ![16 * n]) (hi : i ≠ n)
    (hiN : 16 * i + 16 ≤ N) (hN : 0 < N) (l : S16.Idx) (y : S16.Idx) :
    (Rect.unit (s := ⟨1, ![N]⟩) off S16.size hb).emb y ≠ fun a => ⟨(16 * i + (l 0).val) % N, by
      have : a = 0 := Subsingleton.elim _ _
      subst this; exact Nat.mod_lt _ hN⟩ := by
  subst h
  intro e
  have h0 : 16 * n + 16 ≤ N := hb 0
  have e0 := congrArg Fin.val (congrFun e 0)
  have hl : (l 0).val < 16 := (l 0).isLt
  have hy : (y 0).val < 16 := (y 0).isLt
  have e1 : 16 * n + 1 * (y 0).val = (16 * i + (l 0).val) % N := e0
  rw [Nat.mod_eq_of_lt (by omega)] at e1
  omega

theorem cutB_write (f : S12496.Idx → F .f32) (w : S16.Idx → F .f32) {off : Fin 1 → ℕ} (hb : ∀ a, off a + S16.size a ≤ S12496.size a) {n : ℕ} (h : off = ![16 * n])
    (i : ℕ) (hi : 16 * i + 16 ≤ 12496) :
    cut (by decide) (((sB).access (Rect.unit (s := S12496) off S16.size hb)).write (Elt F) f w Finset.univ) i = if i = n then w else cut (by decide) f i := by
  split
  · rename_i e; subst e
    rw [← readB (F := F) _ hb h]; exact View.read_write_univ _ _
  · rename_i e
    funext l
    exact View.write_of_not_mem _ _ _ fun hm => by
      obtain ⟨y, -, hy⟩ := Finset.mem_map.mp hm
      exact off_ne hb h e hi (by decide) l y hy

theorem cutV_write (f : S512.Idx → F .f32) (w : S16.Idx → F .f32) {off : Fin 1 → ℕ} (hb : ∀ a, off a + S16.size a ≤ S512.size a) {n : ℕ} (h : off = ![16 * n])
    (i : ℕ) (hi : 16 * i + 16 ≤ 512) :
    cut (by decide) (((sV).access (Rect.unit (s := S512) off S16.size hb)).write (Elt F) f w Finset.univ) i = if i = n then w else cut (by decide) f i := by
  split
  · rename_i e; subst e
    rw [← readV (F := F) _ hb h]; exact View.read_write_univ _ _
  · rename_i e
    funext l
    exact View.write_of_not_mem _ _ _ fun hm => by
      obtain ⟨y, -, hy⟩ := Finset.mem_map.mp hm
      exact off_ne hb h e hi (by decide) l y hy

theorem cutI_write (f : S512.Idx → BitVec 32) (w : S16.Idx → BitVec 32) {off : Fin 1 → ℕ} (hb : ∀ a, off a + S16.size a ≤ S512.size a) {n : ℕ} (h : off = ![16 * n])
    (i : ℕ) (hi : 16 * i + 16 ≤ 512) :
    cut (by decide) (((sI).access (Rect.unit (s := S512) off S16.size hb)).write (Elt F) f w Finset.univ) i = if i = n then w else cut (by decide) f i := by
  split
  · rename_i e; subst e
    rw [← readI (F := F) _ hb h]; exact View.read_write_univ _ _
  · rename_i e
    funext l
    exact View.write_of_not_mem _ _ _ fun hm => by
      obtain ⟨y, -, hy⟩ := Finset.mem_map.mp hm
      exact off_ne hb h e hi (by decide) l y hy

/-! ## The rules -/

abbrev pX (x : S100000.Idx → F .f32) : sProp 𝕄 := (sX).view.loc (thrd d L) ↦{fullShare} x
abbrev pB (x : S12496.Idx → F .f32) : sProp 𝕄 := (sB).view.loc (thrd d L) ↦{fullShare} x
abbrev pV (x : S512.Idx → F .f32) : sProp 𝕄 := (sV).view.loc (thrd d L) ↦{fullShare} x
abbrev pI (x : S512.Idx → BitVec 32) : sProp 𝕄 := (sI).view.loc (thrd d L) ↦{fullShare} x

/-- A tile program's weakest precondition. -/
abbrev W {α : Type} (p : TP F L α) (Q : α → sProp 𝕄) : sProp 𝕄 :=
  wp frame (wpE (defs₀ (F := F)) 𝒱₀ (thrd d L) none) Set.univ p Q

variable {α : Type}

theorem ldX (x : S100000.Idx → F .f32) {off : Fin 1 → ℕ} {hb : ∀ a, off a + S16.size a ≤ S100000.size a} (n : ℕ) (h : off = ![16 * n])
    {hl} {k : FVec F S16 .f32 → TP F L α} {Q : α → sProp 𝕄} :
    pX d L x ⊢ iprop((pX d L x -∗ W d L (k (chunk x n)) Q)
      -∗ W d L (Prog.lift (.load (sX) (Rect.unit (s := S100000) off S16.size hb).toLoadRect hl) >>= k) Q) := by
  have H := wp_load_rect (defs := defs₀ (F := F)) 𝒱₀ (thrd d L) none Set.univ (m := sX) (r := Rect.unit (s := S100000) off S16.size hb) (hl := hl)
    (k := k) (S := Finset.univ) (q := fullShare) (f := x) (Q := Q) (Γ := .empty) (Finset.subset_univ _)
  rw [readX (F := F) x hb h] at H
  exact H

theorem ldB (x : S12496.Idx → F .f32) {off : Fin 1 → ℕ} {hb : ∀ a, off a + S16.size a ≤ S12496.size a} (n : ℕ) (h : off = ![16 * n])
    {hl} {k : FVec F S16 .f32 → TP F L α} {Q : α → sProp 𝕄} :
    pB d L x ⊢ iprop((pB d L x -∗ W d L (k (cut (by decide) x n)) Q)
      -∗ W d L (Prog.lift (.load (sB) (Rect.unit (s := S12496) off S16.size hb).toLoadRect hl) >>= k) Q) := by
  have H := wp_load_rect (defs := defs₀ (F := F)) 𝒱₀ (thrd d L) none Set.univ (m := sB) (r := Rect.unit (s := S12496) off S16.size hb) (hl := hl)
    (k := k) (S := Finset.univ) (q := fullShare) (f := x) (Q := Q) (Γ := .empty) (Finset.subset_univ _)
  rw [readB (F := F) x hb h] at H
  exact H

theorem ldV (x : S512.Idx → F .f32) {off : Fin 1 → ℕ} {hb : ∀ a, off a + S16.size a ≤ S512.size a} (n : ℕ) (h : off = ![16 * n])
    {hl} {k : FVec F S16 .f32 → TP F L α} {Q : α → sProp 𝕄} :
    pV d L x ⊢ iprop((pV d L x -∗ W d L (k (cut (by decide) x n)) Q)
      -∗ W d L (Prog.lift (.load (sV) (Rect.unit (s := S512) off S16.size hb).toLoadRect hl) >>= k) Q) := by
  have H := wp_load_rect (defs := defs₀ (F := F)) 𝒱₀ (thrd d L) none Set.univ (m := sV) (r := Rect.unit (s := S512) off S16.size hb) (hl := hl)
    (k := k) (S := Finset.univ) (q := fullShare) (f := x) (Q := Q) (Γ := .empty) (Finset.subset_univ _)
  rw [readV (F := F) x hb h] at H
  exact H

theorem ldI (x : S512.Idx → BitVec 32) {off : Fin 1 → ℕ} {hb : ∀ a, off a + S16.size a ≤ S512.size a} (n : ℕ) (h : off = ![16 * n])
    {hl} {k : IVec S16 32 → TP F L α} {Q : α → sProp 𝕄} :
    pI d L x ⊢ iprop((pI d L x -∗ W d L (k (cut (by decide) x n)) Q)
      -∗ W d L (Prog.lift (.load (sI) (Rect.unit (s := S512) off S16.size hb).toLoadRect hl) >>= k) Q) := by
  have H := wp_load_rect (defs := defs₀ (F := F)) 𝒱₀ (thrd d L) none Set.univ (m := sI) (r := Rect.unit (s := S512) off S16.size hb) (hl := hl)
    (k := k) (S := Finset.univ) (q := fullShare) (f := x) (Q := Q) (Γ := .empty) (Finset.subset_univ _)
  rw [readI (F := F) x hb h] at H
  exact H

theorem stB (f : S12496.Idx → F .f32) {w : S16.Idx → F .f32} {off : Fin 1 → ℕ} {hb : ∀ a, off a + S16.size a ≤ S12496.size a} {hx hm} {k : PUnit → TP F L α} {Q : α → sProp 𝕄} :
    pB d L f ⊢ iprop((pB d L (((sB).access (Rect.unit (s := S12496) off S16.size hb)).write (Elt F) f w Finset.univ) -∗ W d L (k ⟨⟩) Q)
      -∗ W d L (Prog.lift (.store (sB) (Rect.unit (s := S12496) off S16.size hb) w Finset.univ hx hm) >>= k) Q) :=
  wp_store (defs := defs₀ (F := F)) 𝒱₀ (thrd d L) none Set.univ (m := sB) (r := Rect.unit (s := S12496) off S16.size hb) (w := w) (Mk := Finset.univ) (hx := hx) (hm := hm)
    (k := k) (S := Finset.univ) (f := f) (Q := Q) (Finset.subset_univ _)

theorem stV (f : S512.Idx → F .f32) {w : S16.Idx → F .f32} {off : Fin 1 → ℕ} {hb : ∀ a, off a + S16.size a ≤ S512.size a} {hx hm} {k : PUnit → TP F L α} {Q : α → sProp 𝕄} :
    pV d L f ⊢ iprop((pV d L (((sV).access (Rect.unit (s := S512) off S16.size hb)).write (Elt F) f w Finset.univ) -∗ W d L (k ⟨⟩) Q)
      -∗ W d L (Prog.lift (.store (sV) (Rect.unit (s := S512) off S16.size hb) w Finset.univ hx hm) >>= k) Q) :=
  wp_store (defs := defs₀ (F := F)) 𝒱₀ (thrd d L) none Set.univ (m := sV) (r := Rect.unit (s := S512) off S16.size hb) (w := w) (Mk := Finset.univ) (hx := hx) (hm := hm)
    (k := k) (S := Finset.univ) (f := f) (Q := Q) (Finset.subset_univ _)

theorem stI (f : S512.Idx → BitVec 32) {w : S16.Idx → BitVec 32} {off : Fin 1 → ℕ} {hb : ∀ a, off a + S16.size a ≤ S512.size a} {hx hm} {k : PUnit → TP F L α} {Q : α → sProp 𝕄} :
    pI d L f ⊢ iprop((pI d L (((sI).access (Rect.unit (s := S512) off S16.size hb)).write (Elt F) f w Finset.univ) -∗ W d L (k ⟨⟩) Q)
      -∗ W d L (Prog.lift (.store (sI) (Rect.unit (s := S512) off S16.size hb) w Finset.univ hx hm) >>= k) Q) :=
  wp_store (defs := defs₀ (F := F)) 𝒱₀ (thrd d L) none Set.univ (m := sI) (r := Rect.unit (s := S512) off S16.size hb) (w := w) (Mk := Finset.univ) (hx := hx) (hm := hm)
    (k := k) (S := Finset.univ) (f := f) (Q := Q) (Finset.subset_univ _)

/-- A scatter into the value table, held whole. -/
theorem scV (f : S512.Idx → F .f32) {p : IVec S16 32} {v : Vec F S16 .f32} {m : IVec S16 1} (h : InR p) {hs} {k : PUnit → TP F L α} {Q : α → sProp 𝕄} :
    pV d L f ⊢ iprop((pV d L (storeIdx f ![p] v m false h) -∗ W d L (k ⟨⟩) Q)
      -∗ W d L (SparseCore.vectorStoreIdx (sV) ![p] v m false h hs >>= k) Q) := by
  have H := SparseCore.wp_vectorStoreIdx (defs := defs₀ (F := F)) 𝒱₀ (thrd d L) none Set.univ (base := sV) (idxs := ![p]) (v := v) (mask := m) (add := false) (h := h) (hs := hs)
    (k := k) (f := f) (Q := Q)
  rw [show ((sV).access (.whole S512)).set = Finset.univ from Memref.set_access_whole (cc0_scratch2 : Ref sig .scVector),
    show ((sV).access (.whole S512)).read (Elt F) f = f from Memref.read_access_whole (Elt F) (cc0_scratch2 : Ref sig .scVector) f,
    show ∀ w, ((sV).access (.whole S512)).write (Elt F) f w Finset.univ = w from fun w => Memref.write_access_whole_univ (Elt F) (cc0_scratch2 : Ref sig .scVector) f w] at H
  exact H

/-- A scatter into the number table, held whole. -/
theorem scI (f : S512.Idx → BitVec 32) {p : IVec S16 32} {v : IVec S16 32} {m : IVec S16 1} (h : InR p) {hs} {k : PUnit → TP F L α} {Q : α → sProp 𝕄} :
    pI d L f ⊢ iprop((pI d L (storeIdx (F := F) (e := .i32) f ![p] v m false h) -∗ W d L (k ⟨⟩) Q)
      -∗ W d L (SparseCore.vectorStoreIdx (sI) ![p] v m false h hs >>= k) Q) := by
  have H := SparseCore.wp_vectorStoreIdx (defs := defs₀ (F := F)) 𝒱₀ (thrd d L) none Set.univ (base := sI) (idxs := ![p]) (v := v) (mask := m) (add := false) (h := h) (hs := hs)
    (k := k) (f := f) (Q := Q)
  rw [show ((sI).access (.whole S512)).set = Finset.univ from Memref.set_access_whole (cc0_scratch3 : Ref sig .scVector),
    show ((sI).access (.whole S512)).read (Elt F) f = f from Memref.read_access_whole (Elt F) (cc0_scratch3 : Ref sig .scVector) f,
    show ∀ w, ((sI).access (.whole S512)).write (Elt F) f w Finset.univ = w from fun w => Memref.write_access_whole_univ (Elt F) (cc0_scratch3 : Ref sig .scVector) f w] at H
  exact H

theorem put_eq {e : EltTy} (f : Vec F S512 e) {p : IVec S16 32} {v : Vec F S16 e} {m : IVec S16 1} (h : InR p) :
    put f p v m = storeIdx f ![p] v m false h := dif_pos h

/-- A chunk's hits. -/
theorem hit0_wp (fv : S512.Idx → F .f32) (fi : S512.Idx → BitVec 32) {P : IVec S16 32 → Prop} {dP : ∀ p, Decidable (P p)} {hP : ∀ p, P p → InR p}
    {v : Vec F S16 .f32} {e : BitVec 32} {m : IVec S16 1} {po : IVec S16 32} (h : P (slot po)) {k : PUnit → TP F L α} {Q : α → sProp 𝕄} :
    iprop(pV d L fv ∗ pI d L fi) ⊢ iprop((pV d L (put (F := F) (e := .f32) fv (slot po) v m) -∗ pI d L (put (F := F) (e := .i32) fi (slot po) (elts e) m) -∗ W d L (k ⟨⟩) Q)
      -∗ W d L (hit0 L (sV) (sI) P dP hP v e m po >>= k) Q) := by
  rw [put_eq _ (hP _ h), put_eq _ (hP _ h)]
  have e0 : W d L (hit0 L (sV) (sI) P dP hP v e m po >>= k) Q
      = W d L (SparseCore.vectorStoreIdx (sV) ![slot po] v m false (hP _ h) (View.stores_vmem_bits_univ h_S512 rfl) >>= fun _ =>
          SparseCore.vectorStoreIdx (sI) ![slot po] (elts e) m false (hP _ h) (View.stores_vmem_bits_univ h_S512 rfl) >>= k) Q := by
    unfold hit0
    simp only [bind_assoc]
    exact wp_assume_of (defs := defs₀ (F := F)) 𝒱₀ (thrd d L) none Set.univ h
  rw [e0]
  iintro ⟨Hv, Hi⟩ HK
  iapply (scV d L fv (hP _ h)) $$ Hv; iintro Hv
  iapply (scI d L fi (hP _ h)) $$ Hi; iintro Hi
  iapply HK $$ Hv Hi

end Cert.Proof.Sc
-- ==== Proof.Loops.lean ====
/-
  The loops of a row's run at the plain functions of Vals.lean.
-/
module

public import proofs.«01_k».proof.Proof.Tile
public import Idealize.ShloMosaic.Lib.Scf

@[expose] public section

set_option maxRecDepth 65536

noncomputable section

namespace Cert.Proof.Sc

open Cert.KernelIdeal Cert.KernelIdeal.Gen Cert.Proof.Row

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) {α : Type}

theorem trips1 : k0_t1_loop.trips = 781 := by decide +kernel
theorem trips2 : k0_t2_loop.trips = 32 := by decide +kernel
theorem trips3 : k0_t3_loop.trips = 390 := by decide +kernel

/-! ## Hits in order -/

theorem hits_wp {P : IVec S16 32 → Prop} {dP : ∀ p, Decidable (P p)} {hP : ∀ p, P p → InR p} (h : ∀ p, InR p → P p) (t : F .f32) {Q : α → sProp 𝕄} {k : IVec S16 32 → TP F L α} :
    ∀ (l : List (Vec F S16 .f32 × BitVec 32)) (s : St F) (B : ℕ), PoLe s.2.2 B → B + l.length < 10000 →
    iprop(pV d L s.1 ∗ pI d L s.2.1) ⊢ iprop((pV d L (l.foldl (fun s p => stepHit t p.1 p.2 s) s).1 -∗ pI d L (l.foldl (fun s p => stepHit t p.1 p.2 s) s).2.1
        -∗ W d L (k (l.foldl (fun s p => stepHit t p.1 p.2 s) s).2.2) Q)
      -∗ W d L (hits L (sV) (sI) P dP hP (broadcast S16 t) l s.2.2 >>= k) Q)
  | [], s, B, hs, hB => by
    simp only [List.foldl_nil, hits, pure_bind]
    iintro ⟨Hv, Hi⟩ HK
    iapply HK $$ Hv Hi
  | (v, e) :: l, s, B, hs, hB => by
    have ih := hits_wp (hP := hP) (dP := dP) h t (Q := Q) (k := k) l (stepHit t v e s) (B + 1) (hs.bump (by simp at hB; omega) _) (by simp at hB ⊢; omega)
    simp only [hits, hit, bind_assoc, pure_bind]
    iintro ⟨Hv, Hi⟩ HK
    iapply (hit0_wp d L s.1 s.2.1 (P := P) (h _ (inR_slot hs (by simp at hB; omega)))) $$ [Hv Hi]
    · isplitl [Hv] <;> iassumption
    iintro Hv Hi
    iapply ih $$ [Hv Hi]
    · isplitl [Hv]; · iexact Hv
      iexact Hi
    iexact HK

theorem loads_wp (x : S100000.Idx → F .f32) (k : Fin k0_t3_loop.trips) {Q : α → sProp 𝕄} :
    ∀ (rs : List (Fin 16)) {G : List (Vec F S16 .f32 × BitVec 32) → TP F L α},
    pX d L x ⊢ iprop((pX d L x -∗ W d L (G (rs.map fun r => (chunk x (16 * k.val + r.val), BitVec.ofNat 32 (16 * (16 * k.val + r.val))))) Q)
      -∗ W d L (loads L (sX) k (pairBase k) rs G) Q)
  | [], G => by
    iintro Hx HK
    iapply HK $$ Hx
  | r :: rs, G => by
    rw [loads]
    iintro Hx HK
    iapply (ldX d L x (16 * k.val + r.val) ((k0_off8_eq k r).trans (by congr 1; omega))) $$ Hx; iintro Hx
    iapply (loads_wp x k rs) $$ Hx; iintro Hx
    rw [pairBase_add]
    iapply HK $$ Hx

theorem tail_wp (x : S100000.Idx → F .f32) (t : F .f32) {Q : α → sProp 𝕄} {k : IVec S16 32 → TP F L α} :
    ∀ (rs : List (Fin 10)) (s : St F) (B : ℕ), PoLe s.2.2 B → B + rs.length < 10000 →
    iprop(pX d L x ∗ pV d L s.1 ∗ pI d L s.2.1) ⊢ iprop((pX d L x -∗ pV d L ((rs.map fun r => 6240 + r.val).foldl (hitAt t x) s).1 -∗ pI d L ((rs.map fun r => 6240 + r.val).foldl (hitAt t x) s).2.1
        -∗ W d L (k ((rs.map fun r => 6240 + r.val).foldl (hitAt t x) s).2.2) Q)
      -∗ W d L (tail L (sX) (sV) (sI) (broadcast S16 t) rs s.2.2 >>= k) Q)
  | [], s, B, hs, hB => by
    simp only [List.map_nil, List.foldl_nil, tail, pure_bind]
    iintro ⟨Hx, Hv, Hi⟩ HK
    iapply HK $$ Hx Hv Hi
  | r :: rs, s, B, hs, hB => by
    have ih := tail_wp x t (Q := Q) (k := k) rs (hitAt t x s (6240 + r.val)) (B + 1) (hs.bump (by simp at hB; omega) _) (by simp at hB ⊢; omega)
    have e : 99840 + 16 * r.val = 16 * (6240 + r.val) := by omega
    simp only [tail, hit, bind_assoc, pure_bind]
    iintro ⟨Hx, Hv, Hi⟩ HK
    iapply (ldX d L x (6240 + r.val) (by rw [e])) $$ Hx; iintro Hx
    have hr := inR_slot hs (by simp at hB; omega)
    iapply (hit0_wp d L s.1 s.2.1 (P := k0_chk17) (show k0_chk17 _ from ⟨hr, hr⟩)) $$ [Hv Hi]
    · isplitl [Hv] <;> iassumption
    iintro Hv Hi
    rw [e]
    iapply ih $$ [Hx Hv Hi]
    · isplitl [Hx]; · iexact Hx
      isplitl [Hv]; · iexact Hv
      iexact Hi
    iexact HK

/-! ## The first pass -/

/-- After `k` trips of the first pass. -/
def I1 (x : S100000.Idx → F .f32) (k : ℕ) (a : Acc F) : sProp 𝕄 :=
  iprop(pX d L x ∗ (∃ f, ⌜∀ i, i < k → cut (by decide) f i = blk x i⌝ ∗ pB d L f) ∗ ⌜a = accs x k⌝)

theorem body1_wp (x : S100000.Idx → F .f32) (k : Fin k0_t1_loop.trips) (a : Acc F) :
    I1 d L x k.val a ⊢ W d L (body1 L (sX) (sB) k a) (I1 d L x (k.val + 1)) := by
  obtain ⟨m0, m1, m2, m3, n0, n1, n2, n3⟩ := a
  have hk : k.val < 781 := lt_of_lt_of_eq k.isLt trips1
  have o2 : ∀ r : Fin 4, k0_off2 k (BitVec.ofNat 32 (32 * r.val)) = ![16 * (8 * k.val + 2 * r.val)] := fun r => (k0_off2_eq k r).trans (by congr 1; omega)
  have o3 : ∀ r : Fin 4, k0_off3 k (BitVec.ofNat 32 (32 * r.val)) = ![16 * (8 * k.val + 2 * r.val + 1)] := fun r => (k0_off3_eq k r).trans (by congr 1; omega)
  unfold I1 body1
  iintro ⟨Hx, ⟨%f, %hf, Hb⟩, %ha⟩
  iapply (ldX d L x _ (o2 0)) $$ Hx; iintro Hx
  iapply (ldX d L x _ (o3 0)) $$ Hx; iintro Hx
  iapply (ldX d L x _ (o2 1)) $$ Hx; iintro Hx
  iapply (ldX d L x _ (o3 1)) $$ Hx; iintro Hx
  iapply (ldX d L x _ (o2 2)) $$ Hx; iintro Hx
  iapply (ldX d L x _ (o3 2)) $$ Hx; iintro Hx
  iapply (ldX d L x _ (o2 3)) $$ Hx; iintro Hx
  iapply (ldX d L x _ (o3 3)) $$ Hx; iintro Hx
  iapply (ldB d L f _ (k0_off4_eq k)) $$ Hb; iintro Hb
  iapply (stB d L f) $$ Hb; iintro Hb
  unfold W
  sl_step
  isplitl [Hx]; · iexact Hx
  isplitl [Hb]
  · iexists _; isplitr
    swap; · iexact Hb
    ipureintro
    intro i hi
    rw [cutB_write f _ _ (k0_off4_eq k) i (by omega)]
    split
    · rename_i e; subst e; rfl
    · exact hf i (by omega)
  · ipureintro
    rw [accs, ← ha]; rfl

/-! ## The clearing loop -/

/-- After `k` trips of the clearing loop. -/
def I2 (k : ℕ) (_ : Unit) : sProp 𝕄 :=
  iprop((∃ f, ⌜∀ i, i < k → cut (by decide) f i = k0_pay282 (F := F)⌝ ∗ pV d L f) ∗ (∃ f, ⌜∀ i, i < k → cut (by decide) f i = k0_pay292⌝ ∗ pI d L f))

theorem body2_wp (k : Fin k0_t2_loop.trips) (a : Unit) : I2 d L k.val a ⊢ W d L (body2 (F := F) L (sV) (sI) k a) (I2 d L (k.val + 1)) := by
  have hk : k.val < 32 := lt_of_lt_of_eq k.isLt trips2
  unfold I2 body2
  iintro ⟨⟨%f, %hf, Hv⟩, ⟨%g, %hg, Hi⟩⟩
  iapply (ldV d L f _ (k0_off5_eq k)) $$ Hv; iintro Hv
  iapply (stV d L f) $$ Hv; iintro Hv
  iapply (ldI d L g _ (k0_off5_eq k)) $$ Hi; iintro Hi
  iapply (stI d L g) $$ Hi; iintro Hi
  unfold W
  sl_step
  isplitl [Hv]
  · iexists _; isplitr
    swap; · iexact Hv
    ipureintro
    intro i hi
    rw [cutV_write f _ _ (k0_off5_eq k) i (by omega)]
    split
    · rfl
    · exact hf i (by omega)
  · iexists _; isplitr
    swap; · iexact Hi
    ipureintro
    intro i hi
    rw [cutI_write (F := F) g _ _ (k0_off5_eq k) i (by omega)]
    split
    · rfl
    · exact hg i (by omega)

/-! ## The collecting loop -/

/-- After `k` block pairs. -/
def I3 (x : S100000.Idx → F .f32) (f : S12496.Idx → F .f32) (t : F .f32) (k : ℕ) (po : IVec S16 32) : sProp 𝕄 :=
  iprop(pX d L x ∗ pB d L f ∗ pV d L (collect t x k).1 ∗ pI d L (collect t x k).2.1 ∗ ⌜po = (collect t x k).2.2⌝)

theorem body3_wp (x : S100000.Idx → F .f32) (f : S12496.Idx → F .f32) (hf : ∀ i, i < 781 → cut (by decide) f i = blk x i) (t : F .f32)
    (k : Fin k0_t3_loop.trips) (po : IVec S16 32) :
    I3 d L x f t k.val po ⊢ W d L (body3 L (sX) (sB) (sV) (sI) t k po) (I3 d L x f t (k.val + 1)) := by
  have hk : k.val < 390 := lt_of_lt_of_eq k.isLt trips3
  unfold I3 body3
  iintro ⟨Hx, Hb, Hv, Hi, %hpo⟩
  iapply (ldB d L f (2 * k.val) ((k0_off6_eq k).trans (by congr 1; omega))) $$ Hb; iintro Hb
  iapply (ldB d L f (2 * k.val + 1) ((k0_off7_eq k).trans (by congr 1; omega))) $$ Hb; iintro Hb
  rw [hf _ (by omega), hf _ (by omega), collect]
  simp only [bind_pure, pure_bind]
  split
  · rename_i h
    iapply (loads_wp d L x k all16) $$ Hx; iintro Hx
    subst hpo
    rw [← bind_pure (hits _ _ _ _ _ _ _ _ _)]
    iapply (hits_wp d L (P := k0_chk1 (pairCond t (blk x (2 * k.val)) (blk x (2 * k.val + 1)))) (fun p hp => ⟨fun _ => hp, fun _ => hp⟩) t _ (collect t x k.val) (16 * k.val)
      (collect_poLe t x k.val (by omega)) (by simp [all16]; omega)) $$ [Hv Hi]
    · isplitl [Hv] <;> iassumption
    iintro Hv Hi
    have e : (all16.map fun r => (chunk x (16 * k.val + r.val), BitVec.ofNat 32 (16 * (16 * k.val + r.val)))).foldl (fun s p => stepHit t p.1 p.2 s) (collect t x k.val)
        = pairHits t x k.val (collect t x k.val) := by
      unfold pairHits
      rw [List.foldl_map, List.foldl_map]; rfl
    rw [e]
    unfold W
    sl_step
    isplitl [Hx]; · iexact Hx
    isplitl [Hb]; · iexact Hb
    isplitl [Hv]; · iexact Hv
    isplitl [Hi]; · iexact Hi
    ipureintro; rfl
  · unfold W
    sl_step
    isplitl [Hx]; · iexact Hx
    isplitl [Hb]; · iexact Hb
    isplitl [Hv]; · iexact Hv
    isplitl [Hi]; · iexact Hi
    ipureintro; exact hpo

end Cert.Proof.Sc
-- ==== Proof.RowRun.lean ====
/-
  A row's run: its logits copied in, the loops, the two tables copied out.
-/
module

public import proofs.«01_k».proof.Proof.Loops

@[expose] public section

set_option maxRecDepth 65536

noncomputable section

namespace Cert.Proof.Sc

open Cert.KernelIdeal Cert.KernelIdeal.Gen Cert.Proof.Row

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The logits and the two tables in the main memory, as a tile names them. -/
abbrev aX : Memref sig .scVector .hbm S128x100000 .f32 := Memref.whole main_arg0_scv
abbrev aV : Memref sig .scVector .hbm S128x512 .f32 := Memref.whole main_v0_0_scv
abbrev aI : Memref sig .scVector .hbm S128x512 .i32 := Memref.whole main_v0_1_scv

/-- A row of each, at the printed offsets. -/
abbrev rX (off : Fin 2 → ℕ) (hin : ∀ a, off a + S1x100000.size a ≤ S128x100000.size a) : Memref sig .scVector .hbm S100000 .f32 :=
  ((aX).slice (Rect.unit (s := S128x100000) off S1x100000.size hin) (fun _ => rfl)).squeeze S100000 squeezes_S1x100000_S100000
abbrev rV (off : Fin 2 → ℕ) (hin : ∀ a, off a + S1x512.size a ≤ S128x512.size a) : Memref sig .scVector .hbm S512 .f32 :=
  ((aV).slice (Rect.unit (s := S128x512) off S1x512.size hin) (fun _ => rfl)).squeeze S512 squeezes_S1x512_S512
abbrev rI (off : Fin 2 → ℕ) (hin : ∀ a, off a + S1x512.size a ≤ S128x512.size a) : Memref sig .scVector .hbm S512 .i32 :=
  ((aI).slice (Rect.unit (s := S128x512) off S1x512.size hin) (fun _ => rfl)).squeeze S512 squeezes_S1x512_S512

theorem all_of_cut {α : Type} {f : S512.Idx → α} {c : α} {w : S16.Idx → α} (hw : ∀ l, w l = c) (h : ∀ i, i < 32 → cut (by decide) f i = w) : f = fun _ => c := by
  funext j
  have hj : (j 0).val < 512 := (j 0).isLt
  have := congrFun (h ((j 0).val / 16) (by omega)) fun a => ⟨(j 0).val % 16, by
    have : a = 0 := Subsingleton.elim _ _
    subst this; exact Nat.mod_lt _ (by decide)⟩
  rw [hw] at this
  rw [← this]
  unfold cut
  congr 1
  funext a
  have : a = 0 := Subsingleton.elim _ _
  subst this
  apply Fin.ext
  show (j 0).val = (16 * ((j 0).val / 16) + (j 0).val % 16) % 512
  omega

variable (off : Fin 2 → ℕ) (hin : ∀ a, off a + S1x100000.size a ≤ S128x100000.size a)
    (off' : Fin 2 → ℕ) (hin' : ∀ a, off' a + S1x512.size a ≤ S128x512.size a) (s0 s1 s2 : DmaSems sig S_)

set_option maxHeartbeats 4000000 in
theorem row_wp (O : CellTallies nD τ sig (HIx 1)) (Wt : Waits sig (HIx 1)) (hO : ∀ g, O g none = 0)
    (f0 : S128x100000.Idx → F .f32) (g : S128x512.Idx → F .f32) (g' : S128x512.Idx → BitVec 32) :
    iprop(levAts (K (F := F)).L (K (F := F)).lev
        ∗ ((rX off hin).view.loc (thrd d L) ↦[(rX off hin).view.set]{fullShare} f0)
        ∗ ((rV off' hin').view.loc (thrd d L) ↦[(rV off' hin').view.set]{fullShare} g)
        ∗ ((rI off' hin').view.loc (thrd d L) ↦[(rI off' hin').view.set]{fullShare} g')
        ∗ (∃ f, pX d L f) ∗ (∃ f, pB d L f) ∗ (∃ f, pV d L f) ∗ (∃ f, pI d L f)
        ∗ semVal (thrd d L, .dma s0.sem) 0 ∗ semVal (thrd d L, .dma s1.sem) 0 ∗ semVal (thrd d L, .dma s2.sem) 0
        ∗ owes (thrd d L) O Wt)
      ⊢ W d L (row (F := F) L (sX) (Memref.isWhole_whole _) (sB) (sV) (Memref.isWhole_whole _) (sI) (Memref.isWhole_whole _) (aX) (aV) (aI) off hin off' hin' s0 s1 s2)
          fun _ => iprop(((rX off hin).view.loc (thrd d L) ↦[(rX off hin).view.set]{fullShare} f0)
            ∗ ((rV off' hin').view.loc (thrd d L) ↦[(rV off' hin').view.set]{fullShare} (rV off' hin').view.write (Elt F) g (outSt ((rX off hin).view.read (Elt F) f0)).1 Finset.univ)
            ∗ ((rI off' hin').view.loc (thrd d L) ↦[(rI off' hin').view.set]{fullShare} (rI off' hin').view.write (Elt F) g' (outSt ((rX off hin).view.read (Elt F) f0)).2.1 Finset.univ)
            ∗ (∃ f, pX d L f) ∗ (∃ f, pB d L f) ∗ (∃ f, pV d L f) ∗ (∃ f, pI d L f)
            ∗ semVal (thrd d L, .dma s0.sem) 0 ∗ semVal (thrd d L, .dma s1.sem) 0 ∗ semVal (thrd d L, .dma s2.sem) 0
            ∗ ∃ W', ⌜∀ p ∈ W', p ∈ Wt ∨ p.2 = none⌝ ∗ owes (thrd d L) O W') := by
  unfold row W
  iintro ⟨#Hlv, HrX, HrV, HrI, ⟨%f5, Hx⟩, ⟨%f6, Hb⟩, ⟨%f7, Hv⟩, ⟨%f8, Hi⟩, Hs0, Hs1, Hs2, HO⟩
  ihave Hmw := (show levAts (K (F := F)).L (K (F := F)).lev ⊢ Transfers.MayWaits (thrd d L) (default : HIx 1) O from
    (K (F := F)).mayWaits_none (thr := thrd d L) hO) $$ Hlv
  unfold pX
  sl_exec
  have hp : ∀ x y : Buf (Elt F) ((sX).view.loc (thrd d L)), (sX).view.write (Elt F) x y Finset.univ = y := fun x y =>
    View.write_whole_univ (Val := Elt F) cc0_scratch0 x y
  have hr : row_wp.sl.dma0 off hin f0 = (rX off hin).view.read (Elt F) f0 := rfl
  rw [hp, hr]
  generalize (rX off hin).view.read (Elt F) f0 = x
  iapply (Scf.wp_for_bind Idealize.ShloMosaic.frame (wpE defs₀ 𝒱₀ (thrd d L) none) Set.univ _ _ _ k0_t1_ok acc0 (body1 L (sX) (sB)) (I1 d L x) (fun k a => body1_wp d L x k a)) $$ [Hx Hb]
  · unfold I1 pX
    isplitl [Hx]; · iexact Hx
    isplitl [Hb]
    · iexists f6; isplitr
      · ipureintro; intro i hi; omega
      · iexact Hb
    · ipureintro; rfl
  iintro %a HI
  have e1 : k0_t1_loop.trips = 781 := trips1
  unfold I1
  icases HI with ⟨Hx, ⟨%fb, %hfb, Hb⟩, %ha⟩
  iapply (ldX d L x 6248 (by rfl)) $$ Hx; iintro Hx
  iapply (ldX d L x 6249 (by rfl)) $$ Hx; iintro Hx
  replace ha := ha.trans (congrArg (accs x) trips1)
  have ht : thr a (chunk x 6248) (chunk x 6249) = tOf x := by rw [ha]; rfl
  rw [ht]
  iapply (Scf.wp_for_bind Idealize.ShloMosaic.frame (wpE defs₀ 𝒱₀ (thrd d L) none) Set.univ _ _ _ k0_t2_ok ⟨⟩ (body2 (F := F) L (sV) (sI)) (I2 d L) (fun k a => body2_wp d L k a)) $$ [Hv Hi]
  · unfold I2
    isplitl [Hv]
    · iexists f7; isplitr
      · ipureintro; intro i hi; omega
      · iexact Hv
    · iexists f8; isplitr
      · ipureintro; intro i hi; omega
      · iexact Hi
  iintro %u HI
  have e2 : k0_t2_loop.trips = 32 := trips2
  unfold I2
  icases HI with ⟨⟨%fv, %hfv, Hv⟩, ⟨%fi, %hfi, Hi⟩⟩
  have hv : fv = (collect (tOf x) x 0).1 := all_of_cut (w := k0_pay282 (F := F)) (fun l => rfl) fun i hi => hfv i (lt_of_lt_of_eq hi trips2.symm)
  have hi : fi = (collect (tOf x) x 0).2.1 := all_of_cut (w := k0_pay292) (fun l => rfl) fun i hi => hfi i (lt_of_lt_of_eq hi trips2.symm)
  subst hv hi
  iapply (Scf.wp_for_bind Idealize.ShloMosaic.frame (wpE defs₀ 𝒱₀ (thrd d L) none) Set.univ _ _ _ k0_t3_ok k0_pay293 (body3 (F := F) L (sX) (sB) (sV) (sI) (tOf x)) (I3 d L x fb (tOf x)) (fun k a => body3_wp d L x fb (fun i hi => hfb i (lt_of_lt_of_eq hi trips1.symm)) (tOf x) k a)) $$ [Hx Hb Hv Hi]
  · unfold I3
    isplitl [Hx]; · iexact Hx
    isplitl [Hb]; · iexact Hb
    isplitl [Hv]; · iexact Hv
    isplitl [Hi]; · iexact Hi
    ipureintro; rfl
  iintro %po HI
  have e3 : k0_t3_loop.trips = 390 := trips3
  unfold I3
  icases HI with ⟨Hx, Hb, Hv, Hi, %hpo⟩
  replace hpo := hpo.trans (congrArg (fun n => (collect (tOf x) x n).2.2) trips3)
  rw [show (collect (tOf x) x (Scf.trips _ _ _)) = collect (tOf x) x 390 from congrArg (collect (tOf x) x) trips3]
  subst hpo
  iapply (tail_wp d L x (tOf x) all10 (collect (tOf x) x 390) 6240 ((collect_poLe _ _ 390 le_rfl).mono (by omega)) (by decide)) $$ [Hx Hv Hi]
  · isplitl [Hx]; · iexact Hx
    isplitl [Hv]; · iexact Hv
    iexact Hi
  iintro Hx Hv Hi
  have ho : (all10.map fun r => 6240 + r.val).foldl (hitAt (tOf x) x) (collect (tOf x) x 390) = outSt x := rfl
  rw [ho]
  generalize outSt x = o
  unfold W pV pI
  sl_exec
  rw [← View.write_univ_eq_writes_whole (rV off' hin').view, ← View.write_univ_eq_writes_whole (rI off' hin').view, View.writes_nil, View.writes_nil]
  sl_step
  isplitl [HrX]; · iexact HrX
  isplitl [HrV]; · iexact HrV
  isplitl [HrI]; · iexact HrI
  isplitl [Hx]; · iexists _; iexact Hx
  isplitl [Hb]; · iexists _; iexact Hb
  isplitl [Hv]; · iexists _; iexact Hv
  isplitl [Hi]; · iexists _; iexact Hi
  isplitl [Hs0]; · iexact Hs0
  isplitl [Hs1]; · iexact Hs1
  isplitl [Hs2]; · iexact Hs2
  iexists _
  isplitr
  swap; · iexact HO
  ipureintro
  intro p hp
  simp only [Finset.mem_insert] at hp
  rcases hp with rfl | rfl | rfl | h
  · exact Or.inr rfl
  · exact Or.inr rfl
  · exact Or.inr rfl
  · exact Or.inl h

end Cert.Proof.Sc
-- ==== Proof.Rows.lean ====
/-
  Rows of the three buffers the SparseCore call touches: their elements, the tiles' parts, the split.
-/
module

public import proofs.«01_k».proof.Proof.RowRun

@[expose] public section

set_option maxRecDepth 65536

noncomputable section

namespace Cert.Proof.Sc

open Cert.KernelIdeal Cert.KernelIdeal.Gen Cert.Proof.Row

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Row `r` of a table of 128 rows. -/
def rowS (N : ℕ) (r : Fin 128) : Finset (⟨2, ![128, N]⟩ : Shape).Idx := Finset.univ.filter fun i => (i 0).val = r.val

theorem rowS_disjoint {N : ℕ} {r r' : Fin 128} (h : r ≠ r') : Disjoint (rowS N r) (rowS N r') := by
  rw [Finset.disjoint_left]
  intro i hi hi'
  simp only [rowS, Finset.mem_filter] at hi hi'
  exact h (Fin.ext (hi.2.symm.trans hi'.2))

/-- Entry `(r, j)`. -/
def at2 {N : ℕ} (r : Fin 128) (j : (⟨1, ![N]⟩ : Shape).Idx) : (⟨2, ![128, N]⟩ : Shape).Idx :=
  fun | 0 => r | 1 => j 0 | ⟨_ + 2, h⟩ => absurd h (Nat.not_lt.2 (Nat.le_add_left _ _))

/-- Entry `n` of a vector. -/
def col {N : ℕ} (n : Fin N) : (⟨1, ![N]⟩ : Shape).Idx :=
  fun | 0 => n | ⟨_ + 1, h⟩ => absurd h (Nat.not_lt.2 (Nat.le_add_left _ _))

theorem one_idx {N : ℕ} (j : (⟨1, ![N]⟩ : Shape).Idx) : col (j 0) = j := by
  funext a
  match a with
  | 0 => rfl

/-- The row. -/
def rowOf {α : Type} {N : ℕ} (f : (⟨2, ![128, N]⟩ : Shape).Idx → α) (r : Fin 128) : (⟨1, ![N]⟩ : Shape).Idx → α := fun j => f (at2 r j)

theorem reshape_row {N : ℕ} (h : (⟨1, ![N]⟩ : Shape).numel = (⟨2, ![1, N]⟩ : Shape).numel) (j : (⟨1, ![N]⟩ : Shape).Idx) (a : Fin 2) :
    ((Shape.reshapeEquiv (s := ⟨2, ![1, N]⟩) h j) a).val = (![0, (j 0).val] : Fin 2 → ℕ) a := by
  have e : Shape.reshapeEquiv (s := ⟨2, ![1, N]⟩) h j = fun | 0 => (⟨0, Nat.one_pos⟩ : Fin 1) | 1 => j 0 | ⟨_ + 2, h⟩ => absurd h (Nat.not_lt.2 (Nat.le_add_left _ _)) := by
    apply Shape.reshapeEquiv_eq_of_rowMajor
    rw [Shape.rowMajor_val_one, Shape.rowMajor_val_two]
    show (0 * N + (j 0).val) = (j 0).val
    omega
  rw [e]
  match a with
  | 0 => rfl
  | 1 => rfl

theorem rect_row {N : ℕ} (off : Fin 2 → ℕ) (hin : ∀ a, off a + (⟨2, ![1, N]⟩ : Shape).size a ≤ (⟨2, ![128, N]⟩ : Shape).size a) (r : Fin 128) (h : off = ![r.val, 0])
    (hN : (⟨1, ![N]⟩ : Shape).numel = (⟨2, ![1, N]⟩ : Shape).numel) (j : (⟨1, ![N]⟩ : Shape).Idx) :
    (Rect.unit (s := ⟨2, ![128, N]⟩) off (⟨2, ![1, N]⟩ : Shape).size hin).emb (Shape.reshapeEquiv (s := ⟨2, ![1, N]⟩) hN j) = at2 r j := by
  funext a
  apply Fin.ext
  have := reshape_row hN j
  subst h
  match a with
  | 0 =>
    show r.val + 1 * _ = r.val
    rw [this 0]; rfl
  | 1 =>
    show 0 + 1 * _ = (j 0).val
    rw [this 1]; simp

theorem embX (off : Fin 2 → ℕ) (hin) (r : Fin 128) (h : off = ![r.val, 0]) (j : S100000.Idx) : (rX off hin).view.emb j = at2 r j :=
  rect_row off hin r h _ j
theorem embV (off : Fin 2 → ℕ) (hin) (r : Fin 128) (h : off = ![r.val, 0]) (j : S512.Idx) : (rV off hin).view.emb j = at2 r j :=
  rect_row off hin r h _ j
theorem embI (off : Fin 2 → ℕ) (hin) (r : Fin 128) (h : off = ![r.val, 0]) (j : S512.Idx) : (rI off hin).view.emb j = at2 r j :=
  rect_row off hin r h _ j

theorem mem_rowS {N : ℕ} {r : Fin 128} {i : (⟨2, ![128, N]⟩ : Shape).Idx} : i ∈ rowS N r ↔ ∃ j, at2 r j = i := by
  simp only [rowS, Finset.mem_filter, Finset.mem_univ, true_and]
  constructor
  · intro h
    refine ⟨fun a => Fin.cast (by rw [Subsingleton.elim a 0]; rfl) (i 1), ?_⟩
    funext a
    match a with
    | 0 => exact Fin.ext h.symm
    | 1 => rfl
  · rintro ⟨j, rfl⟩; rfl

theorem setX (off : Fin 2 → ℕ) (hin) (r : Fin 128) (h : off = ![r.val, 0]) : (rX off hin).view.set = rowS 100000 r := by
  ext i; rw [mem_rowS]
  simp only [View.set, Finset.mem_map, Finset.mem_univ, true_and, embX off hin r h]
theorem setV (off : Fin 2 → ℕ) (hin) (r : Fin 128) (h : off = ![r.val, 0]) : (rV off hin).view.set = rowS 512 r := by
  ext i; rw [mem_rowS]
  simp only [View.set, Finset.mem_map, Finset.mem_univ, true_and, embV off hin r h]
theorem setI (off : Fin 2 → ℕ) (hin) (r : Fin 128) (h : off = ![r.val, 0]) : (rI off hin).view.set = rowS 512 r := by
  ext i; rw [mem_rowS]
  simp only [View.set, Finset.mem_map, Finset.mem_univ, true_and, embI off hin r h]

theorem readRow (off : Fin 2 → ℕ) (hin) (r : Fin 128) (h : off = ![r.val, 0]) (f : S128x100000.Idx → F .f32) :
    (rX off hin).view.read (Elt F) f = rowOf f r := by
  funext j
  exact ((View.read_apply _ _).trans (cast_eq _ _)).trans (congrArg f (embX off hin r h j))

/-- The tables the call leaves. -/
def vTab (f : S128x100000.Idx → F .f32) : S128x512.Idx → F .f32 := fun i => (outSt (rowOf f (i 0))).1 (col (i 1))
def iTab (f : S128x100000.Idx → F .f32) : S128x512.Idx → BitVec 32 := fun i => (outSt (rowOf f (i 0))).2.1 (col (i 1))

variable (d : Dev nD)

abbrev xLoc : Loc nD τ sig := (SparseCore.T d).loc main_arg0
abbrev vLoc : Loc nD τ sig := (SparseCore.T d).loc main_v0_0
abbrev iLoc : Loc nD τ sig := (SparseCore.T d).loc main_v0_1

abbrev rPX (r : Fin 128) (f : S128x100000.Idx → F .f32) : sProp 𝕄 := xLoc d ↦[rowS 100000 r]{fullShare} f
abbrev rPV (r : Fin 128) (f : S128x512.Idx → F .f32) : sProp 𝕄 := vLoc d ↦[rowS 512 r]{fullShare} f
abbrev rPI (r : Fin 128) (f : S128x512.Idx → BitVec 32) : sProp 𝕄 := iLoc d ↦[rowS 512 r]{fullShare} f

variable (L : grid0.Coords)

theorem ptsX (off : Fin 2 → ℕ) (hin) (r : Fin 128) (h : off = ![r.val, 0]) (f : S128x100000.Idx → F .f32) :
    ((rX off hin).view.loc (thrd d L) ↦[(rX off hin).view.set]{fullShare} f : sProp 𝕄) = rPX d r f := by
  rw [setX off hin r h]
theorem ptsV (off : Fin 2 → ℕ) (hin) (r : Fin 128) (h : off = ![r.val, 0]) (f : S128x512.Idx → F .f32) :
    ((rV off hin).view.loc (thrd d L) ↦[(rV off hin).view.set]{fullShare} f : sProp 𝕄) = rPV d r f := by
  rw [setV off hin r h]
theorem ptsI (off : Fin 2 → ℕ) (hin) (r : Fin 128) (h : off = ![r.val, 0]) (f : S128x512.Idx → BitVec 32) :
    ((rI off hin).view.loc (thrd d L) ↦[(rI off hin).view.set]{fullShare} f : sProp 𝕄) = rPI d r f := by
  rw [setI off hin r h]

theorem doneV (off : Fin 2 → ℕ) (hin) (r : Fin 128) (h : off = ![r.val, 0]) (g : S128x512.Idx → F .f32) (f0 : S128x100000.Idx → F .f32) :
    ((rV off hin).view.loc (thrd d L) ↦[(rV off hin).view.set]{fullShare} (rV off hin).view.write (Elt F) g (outSt (rowOf f0 r)).1 Finset.univ : sProp 𝕄) = rPV d r (vTab f0) := by
  rw [← ptsV d L off hin r h]
  refine pointsTo_congr fun i hi => ?_
  obtain ⟨x, -, rfl⟩ := Finset.mem_map.mp hi
  rw [View.write_emb_of_mem _ _ (Finset.mem_univ _), embV off hin r h]
  refine (cast_eq _ _).trans ?_
  exact (congrArg (outSt (rowOf f0 r)).1 (one_idx x)).symm
theorem doneI (off : Fin 2 → ℕ) (hin) (r : Fin 128) (h : off = ![r.val, 0]) (g : S128x512.Idx → BitVec 32) (f0 : S128x100000.Idx → F .f32) :
    ((rI off hin).view.loc (thrd d L) ↦[(rI off hin).view.set]{fullShare} (rI off hin).view.write (Elt F) g (outSt (rowOf f0 r)).2.1 Finset.univ : sProp 𝕄) = rPI d r (iTab f0) := by
  rw [← ptsI d L off hin r h]
  refine pointsTo_congr fun i hi => ?_
  obtain ⟨x, -, rfl⟩ := Finset.mem_map.mp hi
  rw [View.write_emb_of_mem _ _ (Finset.mem_univ _), embI off hin r h]
  refine (cast_eq _ _).trans ?_
  exact (congrArg (outSt (rowOf f0 r)).2.1 (one_idx x)).symm

/-! ## The tiles' rows -/

/-- Row `j` of tile `(c, s)`. -/
def rid (c : Fin 2) (s : Fin 16) (j : Fin 4) : Fin 128 := ⟨8 * s.val + 4 * c.val + j.val, by omega⟩

theorem rid_inj {p q : Fin 2 × Fin 16 × Fin 4} (h : rid p.1 p.2.1 p.2.2 = rid q.1 q.2.1 q.2.2) : p = q := by
  obtain ⟨c, s, j⟩ := p; obtain ⟨c', s', j'⟩ := q
  simp only [rid, Fin.mk.injEq] at h
  have := c.isLt; have := c'.isLt; have := j.isLt; have := j'.isLt
  simp only [Prod.mk.injEq]
  refine ⟨Fin.ext ?_, Fin.ext ?_, Fin.ext ?_⟩ <;> omega

theorem split_rows {N : ℕ} {ℓ : Loc nD τ sig} (S : Fin 128 → Finset (Idx ℓ)) (hd : ∀ r r', r ≠ r' → Disjoint (S r) (S r')) (hc : ∀ i, ∃ r, i ∈ S r) (f : Buf (Elt F) ℓ) :
    (ℓ ↦{fullShare} f : sProp 𝕄) = bigSep Finset.univ fun c : Fin 2 => bigSep Finset.univ fun s : Fin 16 => bigSep Finset.univ fun j : Fin 4 => ℓ ↦[S (rid c s j)]{fullShare} f := by
  have e : (Finset.univ : Finset (Fin 2 × Fin 16 × Fin 4)).biUnion (fun p => S (rid p.1 p.2.1 p.2.2)) = Finset.univ := by
    ext i
    simp only [Finset.mem_biUnion, Finset.mem_univ, true_and, iff_true]
    obtain ⟨r, hr⟩ := hc i
    refine ⟨(⟨r.val / 4 % 2, by omega⟩, ⟨r.val / 8, by omega⟩, ⟨r.val % 4, by omega⟩), ?_⟩
    convert hr
    apply Fin.ext
    simp only [rid]; omega
  rw [← e, pointsTo_biUnion Finset.univ (ℓ := ℓ) (fun p : Fin 2 × Fin 16 × Fin 4 => S (rid p.1 p.2.1 p.2.2)) (fun p _ q _ h => hd _ _ fun e => h (rid_inj e)),
    bigSep_univ_prod]
  exact bigSep_congr fun c _ => bigSep_univ_prod _

end Cert.Proof.Sc
-- ==== Proof.RowEq.lean ====
/-
  The printed loop bodies of the SparseCore kernel are the four rows' common ones.
-/
module

public import proofs.«01_k».proof.Proof.Row

@[expose] public section

set_option maxRecDepth 65536

noncomputable section

namespace Cert.Proof.Row

open Cert.KernelIdeal Cert.KernelIdeal.Gen
open Idealize.ShloMosaic
open Idealize.SL Idealize.SL.Sem

variable {F : FTy → Type} [FloatOps F]

section
variable (i : grid0.Coords) (arg2 : Memref sig .scVector .hbm S128x100000 .f32) (harg2 : arg2.IsWhole) (arg3 : Memref sig .scVector .hbm S128x512 .f32) (harg3 : arg3.IsWhole) (arg4 : Memref sig .scVector .hbm S128x512 .i32) (harg4 : arg4.IsWhole) (arg5 : Memref sig .scVector .vmem S100000 .f32) (harg5 : arg5.IsWhole) (arg6 : Memref sig .scVector .vmem S12496 .f32) (harg6 : arg6.IsWhole) (arg7 : Memref sig .scVector .vmem S512 .f32) (harg7 : arg7.IsWhole) (arg8 : Memref sig .scVector .vmem S512 .i32) (harg8 : arg8.IsWhole)
  (v750_r0 v750_r1 v750_r2 v750_r3 v750_r4 v750_r5 v750_r6 v750_r7 v750_r8 v750_r9 v750_r10 v750_r11 : DmaSems sig S_)

set_option maxHeartbeats 4000000 in
theorem t1_eq  : k0_t1_body (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11  = body1 i arg5 arg6 :=
  funext fun _ => funext fun (_, _, _, _, _, _, _, _) => rfl

set_option maxHeartbeats 4000000 in
theorem t2_eq (v2 : IVec S16 32) (v4 : IVec S16 32)  (v29 : FVec F S16 .f32) (v31 : F .f32) (v32 : FVec F S1 .f32) : k0_t2_body (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 v2 v4 (k0_pay282 (F := F)) v29 v31 v32 = body2 i arg7 arg8 :=
  funext fun _ => funext fun _ => rfl

set_option maxHeartbeats 4000000 in
theorem t4_eq (v1 : BitVec 32) (v2 : IVec S16 32) (v5 : FVec F S16 .f32) (v180 : IVec S16 32) (v182 : IVec S16 1) (v185 : IVec S16 32) (k0_hw26 : k0_chk26 v185) (c99984_i32 : BitVec 32) : k0_t4_body (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 v1 v2 v5 v180 v182 v185 k0_hw26 c99984_i32 = body1 i arg5 arg6 :=
  funext fun _ => funext fun (_, _, _, _, _, _, _, _) => rfl

set_option maxHeartbeats 4000000 in
theorem t5_eq (v2 : IVec S16 32) (v4 : IVec S16 32)  (v215 : FVec F S16 .f32) (v250 : F .f32) (v252 : F .f32) : k0_t5_body (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 v2 v4 (k0_pay282 (F := F)) v215 v250 v252 = body2 i arg7 arg8 :=
  funext fun _ => funext fun _ => rfl

set_option maxHeartbeats 4000000 in
theorem t7_eq (v1 : BitVec 32) (v5 : FVec F S16 .f32) : k0_t7_body (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 v1 v5 = body1 i arg5 arg6 :=
  funext fun _ => funext fun (_, _, _, _, _, _, _, _) => rfl

set_option maxHeartbeats 4000000 in
theorem t8_eq (v2 : IVec S16 32) (v4 : IVec S16 32)  (v401 : FVec F S16 .f32) (v412 : F .f32) : k0_t8_body (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 v2 v4 (k0_pay282 (F := F)) v401 v412 = body2 i arg7 arg8 :=
  funext fun _ => funext fun _ => rfl

set_option maxHeartbeats 4000000 in
theorem t10_eq (v1 : BitVec 32) (v5 : FVec F S16 .f32) (v552 : IVec S16 32) (v562 : IVec S16 32) : k0_t10_body (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 v1 v5 v552 v562 = body1 i arg5 arg6 :=
  funext fun _ => funext fun (_, _, _, _, _, _, _, _) => rfl

set_option maxHeartbeats 4000000 in
theorem t11_eq (v2 : IVec S16 32) (v4 : IVec S16 32)  (v631 : F .f32) (v632 : FVec F S1 .f32) : k0_t11_body (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 v2 v4 (k0_pay282 (F := F)) v631 v632 = body2 i arg7 arg8 :=
  funext fun _ => funext fun _ => rfl

end

end Cert.Proof.Row
-- ==== Proof.RowHits.lean ====
/-
  The printed loop bodies of the SparseCore kernel are the four rows' common ones.
-/
module

public import proofs.«01_k».proof.Proof.RowEq

@[expose] public section

set_option maxRecDepth 65536

noncomputable section

namespace Cert.Proof.Row

open Cert.KernelIdeal Cert.KernelIdeal.Gen
open Idealize.ShloMosaic
open Idealize.SL Idealize.SL.Sem

variable {F : FTy → Type} [FloatOps F]

section
variable (i : grid0.Coords) (arg2 : Memref sig .scVector .hbm S128x100000 .f32) (harg2 : arg2.IsWhole) (arg3 : Memref sig .scVector .hbm S128x512 .f32) (harg3 : arg3.IsWhole) (arg4 : Memref sig .scVector .hbm S128x512 .i32) (harg4 : arg4.IsWhole) (arg5 : Memref sig .scVector .vmem S100000 .f32) (harg5 : arg5.IsWhole) (arg6 : Memref sig .scVector .vmem S12496 .f32) (harg6 : arg6.IsWhole) (arg7 : Memref sig .scVector .vmem S512 .f32) (harg7 : arg7.IsWhole) (arg8 : Memref sig .scVector .vmem S512 .i32) (harg8 : arg8.IsWhole)
  (v750_r0 v750_r1 v750_r2 v750_r3 v750_r4 v750_r5 v750_r6 v750_r7 v750_r8 v750_r9 v750_r10 v750_r11 : DmaSems sig S_)

theorem p2_0 (k : Fin k0_t3_loop.trips) (b : BitVec 32) : k0_part2 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 k b = (do
    let w0 : Vec F S16 .f32 ← Prog.lift (.load arg5 (Rect.unit (s := S100000) (k0_off8 k 0#32) S16.size (k0_off8_inb k 0)).toLoadRect (View.loadsAt_vmem h_S16))
    let w1 : Vec F S16 .f32 ← Prog.lift (.load arg5 (Rect.unit (s := S100000) (k0_off8 k 16#32) S16.size (k0_off8_inb k 1)).toLoadRect (View.loadsAt_vmem h_S16))
    let w2 : Vec F S16 .f32 ← Prog.lift (.load arg5 (Rect.unit (s := S100000) (k0_off8 k 32#32) S16.size (k0_off8_inb k 2)).toLoadRect (View.loadsAt_vmem h_S16))
    let w3 : Vec F S16 .f32 ← Prog.lift (.load arg5 (Rect.unit (s := S100000) (k0_off8 k 48#32) S16.size (k0_off8_inb k 3)).toLoadRect (View.loadsAt_vmem h_S16))
    let w4 : Vec F S16 .f32 ← Prog.lift (.load arg5 (Rect.unit (s := S100000) (k0_off8 k 64#32) S16.size (k0_off8_inb k 4)).toLoadRect (View.loadsAt_vmem h_S16))
    let w5 : Vec F S16 .f32 ← Prog.lift (.load arg5 (Rect.unit (s := S100000) (k0_off8 k 80#32) S16.size (k0_off8_inb k 5)).toLoadRect (View.loadsAt_vmem h_S16))
    let w6 : Vec F S16 .f32 ← Prog.lift (.load arg5 (Rect.unit (s := S100000) (k0_off8 k 96#32) S16.size (k0_off8_inb k 6)).toLoadRect (View.loadsAt_vmem h_S16))
    let w7 : Vec F S16 .f32 ← Prog.lift (.load arg5 (Rect.unit (s := S100000) (k0_off8 k 112#32) S16.size (k0_off8_inb k 7)).toLoadRect (View.loadsAt_vmem h_S16))
    let w8 : Vec F S16 .f32 ← Prog.lift (.load arg5 (Rect.unit (s := S100000) (k0_off8 k 128#32) S16.size (k0_off8_inb k 8)).toLoadRect (View.loadsAt_vmem h_S16))
    let w9 : Vec F S16 .f32 ← Prog.lift (.load arg5 (Rect.unit (s := S100000) (k0_off8 k 144#32) S16.size (k0_off8_inb k 9)).toLoadRect (View.loadsAt_vmem h_S16))
    let w10 : Vec F S16 .f32 ← Prog.lift (.load arg5 (Rect.unit (s := S100000) (k0_off8 k 160#32) S16.size (k0_off8_inb k 10)).toLoadRect (View.loadsAt_vmem h_S16))
    let w11 : Vec F S16 .f32 ← Prog.lift (.load arg5 (Rect.unit (s := S100000) (k0_off8 k 176#32) S16.size (k0_off8_inb k 11)).toLoadRect (View.loadsAt_vmem h_S16))
    let w12 : Vec F S16 .f32 ← Prog.lift (.load arg5 (Rect.unit (s := S100000) (k0_off8 k 192#32) S16.size (k0_off8_inb k 12)).toLoadRect (View.loadsAt_vmem h_S16))
    let w13 : Vec F S16 .f32 ← Prog.lift (.load arg5 (Rect.unit (s := S100000) (k0_off8 k 208#32) S16.size (k0_off8_inb k 13)).toLoadRect (View.loadsAt_vmem h_S16))
    pure ⟨Scalar.muli b 256#32, w0, w1, w2, w3, w4, w5, w6, w7, w8, w9, w10, w11, w12, w13, Scalar.addi (Scalar.muli b 256#32) 224#32⟩) := rfl

theorem p3_0 (k : Fin k0_t3_loop.trips) (tv : FVec F S16 .f32) (po : IVec S16 32) (c : BitVec 1) (h : k0_cond1 c = 1#1) (e : BitVec 32) (w0 w1 w2 w3 w4 w5 w6 w7 w8 w9 w10 w11 w12 w13 : Vec F S16 .f32) (e' : BitVec 32) :
    k0_part3 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 tv k po c h e w0 w1 w2 w3 w4 w5 w6 w7 w8 w9 w10 w11 w12 w13 e' = (do
    let w14 : Vec F S16 .f32 ← Prog.lift (.load arg5 (Rect.unit (s := S100000) (k0_off8 k 224#32) S16.size (k0_off8_inb k 14)).toLoadRect (View.loadsAt_vmem h_S16))
    let w15 : Vec F S16 .f32 ← Prog.lift (.load arg5 (Rect.unit (s := S100000) (k0_off8 k 240#32) S16.size (k0_off8_inb k 15)).toLoadRect (View.loadsAt_vmem h_S16))
    hit0 i arg7 arg8 (k0_chk1 c) (k0_chk1.dec c) (fun _ hp => hp.1 h) w0 (Scalar.addi e 0#32) (hitMask tv w0) po
    hit0 i arg7 arg8 (k0_chk1 c) (k0_chk1.dec c) (fun _ hp => hp.1 h) w1 (Scalar.addi e 16#32) (hitMask tv w1) (bump (hitMask tv w0) po)
    pure ⟨w14, w15, hitMask tv w2, hitMask tv w3, hitMask tv w4, hitMask tv w5, hitMask tv w6, hitMask tv w7, hitMask tv w8, hitMask tv w9, hitMask tv w10, hitMask tv w11, hitMask tv w12, hitMask tv w13, hitMask tv w14, hitMask tv w15, bump (hitMask tv w1) (bump (hitMask tv w0) po), Scalar.addi e 32#32, broadcast S16 31#32⟩) := rfl

theorem p4_0 (c : BitVec 1) (h : k0_cond1 c = 1#1) (e : BitVec 32) (w2 w3 w4 w5 : Vec F S16 .f32) (m2 m3 m4 m5 : IVec S16 1) (po : IVec S16 32) :
    k0_part4 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 c h e w2 w3 w4 w5 m2 m3 m4 m5 po (Scalar.addi e 32#32) (broadcast S16 31#32) = (do
    hit0 i arg7 arg8 (k0_chk1 c) (k0_chk1.dec c) (fun _ hp => hp.1 h) w2 (Scalar.addi e 32#32) m2 po
    hit0 i arg7 arg8 (k0_chk1 c) (k0_chk1.dec c) (fun _ hp => hp.1 h) w3 (Scalar.addi e 48#32) m3 (bump m2 po)
    hit0 i arg7 arg8 (k0_chk1 c) (k0_chk1.dec c) (fun _ hp => hp.1 h) w4 (Scalar.addi e 64#32) m4 (bump m3 (bump m2 po))
    hit0 i arg7 arg8 (k0_chk1 c) (k0_chk1.dec c) (fun _ hp => hp.1 h) w5 (Scalar.addi e 80#32) m5 (bump m4 (bump m3 (bump m2 po)))
    pure ⟨(bump m4 (bump m3 (bump m2 po))), 1#32, 0#32⟩) := rfl

theorem p5_0 (c : BitVec 1) (h : k0_cond1 c = 1#1) (e : BitVec 32) (w6 w7 w8 : Vec F S16 .f32) (m5 m6 m7 m8 : IVec S16 1) (po : IVec S16 32) :
    k0_part5 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 c h e w6 w7 w8 m5 m6 m7 m8 po 1#32 0#32 = (do
    hit0 i arg7 arg8 (k0_chk1 c) (k0_chk1.dec c) (fun _ hp => hp.1 h) w6 (Scalar.addi e 96#32) m6 (bump m5 po)
    hit0 i arg7 arg8 (k0_chk1 c) (k0_chk1.dec c) (fun _ hp => hp.1 h) w7 (Scalar.addi e 112#32) m7 (bump m6 (bump m5 po))
    hit0 i arg7 arg8 (k0_chk1 c) (k0_chk1.dec c) (fun _ hp => hp.1 h) w8 (Scalar.addi e 128#32) m8 (bump m7 (bump m6 (bump m5 po)))
    pure ⟨(bump m8 (bump m7 (bump m6 (bump m5 po)))), Scalar.addi e 144#32, minsi (bump m8 (bump m7 (bump m6 (bump m5 po)))) (broadcast S16 31#32)⟩) := rfl

theorem p6_0 (c : BitVec 1) (h : k0_cond1 c = 1#1) (e : BitVec 32) (w9 w10 w11 w12 : Vec F S16 .f32) (m9 m10 m11 m12 : IVec S16 1) (po : IVec S16 32) :
    k0_part6 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 c h e w9 w10 w11 w12 m9 m10 m11 m12 po (Scalar.addi e 144#32) (minsi po (broadcast S16 31#32)) = (do
    hit0 i arg7 arg8 (k0_chk1 c) (k0_chk1.dec c) (fun _ hp => hp.1 h) w9 (Scalar.addi e 144#32) m9 po
    hit0 i arg7 arg8 (k0_chk1 c) (k0_chk1.dec c) (fun _ hp => hp.1 h) w10 (Scalar.addi e 160#32) m10 (bump m9 po)
    hit0 i arg7 arg8 (k0_chk1 c) (k0_chk1.dec c) (fun _ hp => hp.1 h) w11 (Scalar.addi e 176#32) m11 (bump m10 (bump m9 po))
    hit0 i arg7 arg8 (k0_chk1 c) (k0_chk1.dec c) (fun _ hp => hp.1 h) w12 (Scalar.addi e 192#32) m12 (bump m11 (bump m10 (bump m9 po)))
    pure ⟨(bump m11 (bump m10 (bump m9 po))), 0#32, broadcast S16 1#32⟩) := rfl

theorem p7_0 (k : Fin k0_t3_loop.trips) : k0_part7 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 0#32 1#32 k = (do
    let a : Vec F S16 .f32 ← Prog.lift (.load arg6 (Rect.unit (s := S12496) (k0_off6 k) S16.size (k0_off6_inb k)).toLoadRect (View.loadsAt_vmem h_S16))
    let b : Vec F S16 .f32 ← Prog.lift (.load arg6 (Rect.unit (s := S12496) (k0_off7 k) S16.size (k0_off7_inb k)).toLoadRect (View.loadsAt_vmem h_S16))
    pure ⟨Scalar.addi 0#32 (Scalar.muli (Scf.iv 0#32 1#32 k) 1#32), k0_pay69 a b, k0_pay70 a b⟩) := rfl

theorem p2_1 (k : Fin k0_t6_loop.trips) (b : BitVec 32) : k0_part9 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 k b = (do
    let w0 : Vec F S16 .f32 ← Prog.lift (.load arg5 (Rect.unit (s := S100000) (k0_off8 k 0#32) S16.size (k0_off8_inb k 0)).toLoadRect (View.loadsAt_vmem h_S16))
    let w1 : Vec F S16 .f32 ← Prog.lift (.load arg5 (Rect.unit (s := S100000) (k0_off8 k 16#32) S16.size (k0_off8_inb k 1)).toLoadRect (View.loadsAt_vmem h_S16))
    let w2 : Vec F S16 .f32 ← Prog.lift (.load arg5 (Rect.unit (s := S100000) (k0_off8 k 32#32) S16.size (k0_off8_inb k 2)).toLoadRect (View.loadsAt_vmem h_S16))
    let w3 : Vec F S16 .f32 ← Prog.lift (.load arg5 (Rect.unit (s := S100000) (k0_off8 k 48#32) S16.size (k0_off8_inb k 3)).toLoadRect (View.loadsAt_vmem h_S16))
    let w4 : Vec F S16 .f32 ← Prog.lift (.load arg5 (Rect.unit (s := S100000) (k0_off8 k 64#32) S16.size (k0_off8_inb k 4)).toLoadRect (View.loadsAt_vmem h_S16))
    let w5 : Vec F S16 .f32 ← Prog.lift (.load arg5 (Rect.unit (s := S100000) (k0_off8 k 80#32) S16.size (k0_off8_inb k 5)).toLoadRect (View.loadsAt_vmem h_S16))
    let w6 : Vec F S16 .f32 ← Prog.lift (.load arg5 (Rect.unit (s := S100000) (k0_off8 k 96#32) S16.size (k0_off8_inb k 6)).toLoadRect (View.loadsAt_vmem h_S16))
    let w7 : Vec F S16 .f32 ← Prog.lift (.load arg5 (Rect.unit (s := S100000) (k0_off8 k 112#32) S16.size (k0_off8_inb k 7)).toLoadRect (View.loadsAt_vmem h_S16))
    let w8 : Vec F S16 .f32 ← Prog.lift (.load arg5 (Rect.unit (s := S100000) (k0_off8 k 128#32) S16.size (k0_off8_inb k 8)).toLoadRect (View.loadsAt_vmem h_S16))
    let w9 : Vec F S16 .f32 ← Prog.lift (.load arg5 (Rect.unit (s := S100000) (k0_off8 k 144#32) S16.size (k0_off8_inb k 9)).toLoadRect (View.loadsAt_vmem h_S16))
    let w10 : Vec F S16 .f32 ← Prog.lift (.load arg5 (Rect.unit (s := S100000) (k0_off8 k 160#32) S16.size (k0_off8_inb k 10)).toLoadRect (View.loadsAt_vmem h_S16))
    let w11 : Vec F S16 .f32 ← Prog.lift (.load arg5 (Rect.unit (s := S100000) (k0_off8 k 176#32) S16.size (k0_off8_inb k 11)).toLoadRect (View.loadsAt_vmem h_S16))
    let w12 : Vec F S16 .f32 ← Prog.lift (.load arg5 (Rect.unit (s := S100000) (k0_off8 k 192#32) S16.size (k0_off8_inb k 12)).toLoadRect (View.loadsAt_vmem h_S16))
    let w13 : Vec F S16 .f32 ← Prog.lift (.load arg5 (Rect.unit (s := S100000) (k0_off8 k 208#32) S16.size (k0_off8_inb k 13)).toLoadRect (View.loadsAt_vmem h_S16))
    pure ⟨Scalar.muli b 256#32, w0, w1, w2, w3, w4, w5, w6, w7, w8, w9, w10, w11, w12, w13, Scalar.addi (Scalar.muli b 256#32) 224#32⟩) := rfl

theorem p3_1 (k : Fin k0_t6_loop.trips) (tv : FVec F S16 .f32) (po : IVec S16 32) (c : BitVec 1) (h : k0_cond2 c = 1#1) (e : BitVec 32) (w0 w1 w2 w3 w4 w5 w6 w7 w8 w9 w10 w11 w12 w13 : Vec F S16 .f32) (e' : BitVec 32) :
    k0_part10 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 tv k po c h e w0 w1 w2 w3 w4 w5 w6 w7 w8 w9 w10 w11 w12 w13 e' = (do
    let w14 : Vec F S16 .f32 ← Prog.lift (.load arg5 (Rect.unit (s := S100000) (k0_off8 k 224#32) S16.size (k0_off8_inb k 14)).toLoadRect (View.loadsAt_vmem h_S16))
    let w15 : Vec F S16 .f32 ← Prog.lift (.load arg5 (Rect.unit (s := S100000) (k0_off8 k 240#32) S16.size (k0_off8_inb k 15)).toLoadRect (View.loadsAt_vmem h_S16))
    hit0 i arg7 arg8 (k0_chk1 c) (k0_chk1.dec c) (fun _ hp => hp.1 h) w0 (Scalar.addi e 0#32) (hitMask tv w0) po
    hit0 i arg7 arg8 (k0_chk1 c) (k0_chk1.dec c) (fun _ hp => hp.1 h) w1 (Scalar.addi e 16#32) (hitMask tv w1) (bump (hitMask tv w0) po)
    pure ⟨w14, w15, hitMask tv w2, hitMask tv w3, hitMask tv w4, hitMask tv w5, hitMask tv w6, hitMask tv w7, hitMask tv w8, hitMask tv w9, hitMask tv w10, hitMask tv w11, hitMask tv w12, hitMask tv w13, hitMask tv w14, hitMask tv w15, bump (hitMask tv w1) (bump (hitMask tv w0) po), Scalar.addi e 32#32, broadcast S16 31#32⟩) := rfl

theorem p4_1 (c : BitVec 1) (h : k0_cond2 c = 1#1) (e : BitVec 32) (w2 w3 w4 w5 : Vec F S16 .f32) (m2 m3 m4 m5 : IVec S16 1) (po : IVec S16 32) :
    k0_part11 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 c h e w2 w3 w4 w5 m2 m3 m4 m5 po (Scalar.addi e 32#32) (broadcast S16 31#32) = (do
    hit0 i arg7 arg8 (k0_chk1 c) (k0_chk1.dec c) (fun _ hp => hp.1 h) w2 (Scalar.addi e 32#32) m2 po
    hit0 i arg7 arg8 (k0_chk1 c) (k0_chk1.dec c) (fun _ hp => hp.1 h) w3 (Scalar.addi e 48#32) m3 (bump m2 po)
    hit0 i arg7 arg8 (k0_chk1 c) (k0_chk1.dec c) (fun _ hp => hp.1 h) w4 (Scalar.addi e 64#32) m4 (bump m3 (bump m2 po))
    hit0 i arg7 arg8 (k0_chk1 c) (k0_chk1.dec c) (fun _ hp => hp.1 h) w5 (Scalar.addi e 80#32) m5 (bump m4 (bump m3 (bump m2 po)))
    pure ⟨(bump m4 (bump m3 (bump m2 po))), 1#32, 0#32⟩) := rfl

theorem p5_1 (c : BitVec 1) (h : k0_cond2 c = 1#1) (e : BitVec 32) (w6 w7 w8 : Vec F S16 .f32) (m5 m6 m7 m8 : IVec S16 1) (po : IVec S16 32) :
    k0_part12 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 c h e w6 w7 w8 m5 m6 m7 m8 po 1#32 0#32 = (do
    hit0 i arg7 arg8 (k0_chk1 c) (k0_chk1.dec c) (fun _ hp => hp.1 h) w6 (Scalar.addi e 96#32) m6 (bump m5 po)
    hit0 i arg7 arg8 (k0_chk1 c) (k0_chk1.dec c) (fun _ hp => hp.1 h) w7 (Scalar.addi e 112#32) m7 (bump m6 (bump m5 po))
    hit0 i arg7 arg8 (k0_chk1 c) (k0_chk1.dec c) (fun _ hp => hp.1 h) w8 (Scalar.addi e 128#32) m8 (bump m7 (bump m6 (bump m5 po)))
    pure ⟨(bump m8 (bump m7 (bump m6 (bump m5 po)))), Scalar.addi e 144#32, minsi (bump m8 (bump m7 (bump m6 (bump m5 po)))) (broadcast S16 31#32)⟩) := rfl

theorem p6_1 (c : BitVec 1) (h : k0_cond2 c = 1#1) (e : BitVec 32) (w9 w10 w11 w12 : Vec F S16 .f32) (m9 m10 m11 m12 : IVec S16 1) (po : IVec S16 32) :
    k0_part13 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 c h e w9 w10 w11 w12 m9 m10 m11 m12 po (Scalar.addi e 144#32) (minsi po (broadcast S16 31#32)) = (do
    hit0 i arg7 arg8 (k0_chk1 c) (k0_chk1.dec c) (fun _ hp => hp.1 h) w9 (Scalar.addi e 144#32) m9 po
    hit0 i arg7 arg8 (k0_chk1 c) (k0_chk1.dec c) (fun _ hp => hp.1 h) w10 (Scalar.addi e 160#32) m10 (bump m9 po)
    hit0 i arg7 arg8 (k0_chk1 c) (k0_chk1.dec c) (fun _ hp => hp.1 h) w11 (Scalar.addi e 176#32) m11 (bump m10 (bump m9 po))
    hit0 i arg7 arg8 (k0_chk1 c) (k0_chk1.dec c) (fun _ hp => hp.1 h) w12 (Scalar.addi e 192#32) m12 (bump m11 (bump m10 (bump m9 po)))
    pure ⟨(bump m11 (bump m10 (bump m9 po))), 0#32, broadcast S16 1#32⟩) := rfl

theorem p7_1 (k : Fin k0_t6_loop.trips) : k0_part14 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 0#32 1#32 k = (do
    let a : Vec F S16 .f32 ← Prog.lift (.load arg6 (Rect.unit (s := S12496) (k0_off6 k) S16.size (k0_off6_inb k)).toLoadRect (View.loadsAt_vmem h_S16))
    let b : Vec F S16 .f32 ← Prog.lift (.load arg6 (Rect.unit (s := S12496) (k0_off7 k) S16.size (k0_off7_inb k)).toLoadRect (View.loadsAt_vmem h_S16))
    pure ⟨Scalar.addi 0#32 (Scalar.muli (Scf.iv 0#32 1#32 k) 1#32), k0_pay69 a b, k0_pay70 a b⟩) := rfl

theorem p2_2 (k : Fin k0_t9_loop.trips) (b : BitVec 32) : k0_part16 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 k b = (do
    let w0 : Vec F S16 .f32 ← Prog.lift (.load arg5 (Rect.unit (s := S100000) (k0_off8 k 0#32) S16.size (k0_off8_inb k 0)).toLoadRect (View.loadsAt_vmem h_S16))
    let w1 : Vec F S16 .f32 ← Prog.lift (.load arg5 (Rect.unit (s := S100000) (k0_off8 k 16#32) S16.size (k0_off8_inb k 1)).toLoadRect (View.loadsAt_vmem h_S16))
    let w2 : Vec F S16 .f32 ← Prog.lift (.load arg5 (Rect.unit (s := S100000) (k0_off8 k 32#32) S16.size (k0_off8_inb k 2)).toLoadRect (View.loadsAt_vmem h_S16))
    let w3 : Vec F S16 .f32 ← Prog.lift (.load arg5 (Rect.unit (s := S100000) (k0_off8 k 48#32) S16.size (k0_off8_inb k 3)).toLoadRect (View.loadsAt_vmem h_S16))
    let w4 : Vec F S16 .f32 ← Prog.lift (.load arg5 (Rect.unit (s := S100000) (k0_off8 k 64#32) S16.size (k0_off8_inb k 4)).toLoadRect (View.loadsAt_vmem h_S16))
    let w5 : Vec F S16 .f32 ← Prog.lift (.load arg5 (Rect.unit (s := S100000) (k0_off8 k 80#32) S16.size (k0_off8_inb k 5)).toLoadRect (View.loadsAt_vmem h_S16))
    let w6 : Vec F S16 .f32 ← Prog.lift (.load arg5 (Rect.unit (s := S100000) (k0_off8 k 96#32) S16.size (k0_off8_inb k 6)).toLoadRect (View.loadsAt_vmem h_S16))
    let w7 : Vec F S16 .f32 ← Prog.lift (.load arg5 (Rect.unit (s := S100000) (k0_off8 k 112#32) S16.size (k0_off8_inb k 7)).toLoadRect (View.loadsAt_vmem h_S16))
    let w8 : Vec F S16 .f32 ← Prog.lift (.load arg5 (Rect.unit (s := S100000) (k0_off8 k 128#32) S16.size (k0_off8_inb k 8)).toLoadRect (View.loadsAt_vmem h_S16))
    let w9 : Vec F S16 .f32 ← Prog.lift (.load arg5 (Rect.unit (s := S100000) (k0_off8 k 144#32) S16.size (k0_off8_inb k 9)).toLoadRect (View.loadsAt_vmem h_S16))
    let w10 : Vec F S16 .f32 ← Prog.lift (.load arg5 (Rect.unit (s := S100000) (k0_off8 k 160#32) S16.size (k0_off8_inb k 10)).toLoadRect (View.loadsAt_vmem h_S16))
    let w11 : Vec F S16 .f32 ← Prog.lift (.load arg5 (Rect.unit (s := S100000) (k0_off8 k 176#32) S16.size (k0_off8_inb k 11)).toLoadRect (View.loadsAt_vmem h_S16))
    let w12 : Vec F S16 .f32 ← Prog.lift (.load arg5 (Rect.unit (s := S100000) (k0_off8 k 192#32) S16.size (k0_off8_inb k 12)).toLoadRect (View.loadsAt_vmem h_S16))
    let w13 : Vec F S16 .f32 ← Prog.lift (.load arg5 (Rect.unit (s := S100000) (k0_off8 k 208#32) S16.size (k0_off8_inb k 13)).toLoadRect (View.loadsAt_vmem h_S16))
    pure ⟨Scalar.muli b 256#32, w0, w1, w2, w3, w4, w5, w6, w7, w8, w9, w10, w11, w12, w13, Scalar.addi (Scalar.muli b 256#32) 224#32⟩) := rfl

theorem p3_2 (k : Fin k0_t9_loop.trips) (tv : FVec F S16 .f32) (po : IVec S16 32) (c : BitVec 1) (h : k0_cond3 c = 1#1) (e : BitVec 32) (w0 w1 w2 w3 w4 w5 w6 w7 w8 w9 w10 w11 w12 w13 : Vec F S16 .f32) (e' : BitVec 32) :
    k0_part17 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 tv k po c h e w0 w1 w2 w3 w4 w5 w6 w7 w8 w9 w10 w11 w12 w13 e' = (do
    let w14 : Vec F S16 .f32 ← Prog.lift (.load arg5 (Rect.unit (s := S100000) (k0_off8 k 224#32) S16.size (k0_off8_inb k 14)).toLoadRect (View.loadsAt_vmem h_S16))
    let w15 : Vec F S16 .f32 ← Prog.lift (.load arg5 (Rect.unit (s := S100000) (k0_off8 k 240#32) S16.size (k0_off8_inb k 15)).toLoadRect (View.loadsAt_vmem h_S16))
    hit0 i arg7 arg8 (k0_chk1 c) (k0_chk1.dec c) (fun _ hp => hp.1 h) w0 (Scalar.addi e 0#32) (hitMask tv w0) po
    hit0 i arg7 arg8 (k0_chk1 c) (k0_chk1.dec c) (fun _ hp => hp.1 h) w1 (Scalar.addi e 16#32) (hitMask tv w1) (bump (hitMask tv w0) po)
    pure ⟨w14, w15, hitMask tv w2, hitMask tv w3, hitMask tv w4, hitMask tv w5, hitMask tv w6, hitMask tv w7, hitMask tv w8, hitMask tv w9, hitMask tv w10, hitMask tv w11, hitMask tv w12, hitMask tv w13, hitMask tv w14, hitMask tv w15, bump (hitMask tv w1) (bump (hitMask tv w0) po), Scalar.addi e 32#32, broadcast S16 31#32⟩) := rfl

theorem p4_2 (c : BitVec 1) (h : k0_cond3 c = 1#1) (e : BitVec 32) (w2 w3 w4 w5 : Vec F S16 .f32) (m2 m3 m4 m5 : IVec S16 1) (po : IVec S16 32) :
    k0_part18 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 c h e w2 w3 w4 w5 m2 m3 m4 m5 po (Scalar.addi e 32#32) (broadcast S16 31#32) = (do
    hit0 i arg7 arg8 (k0_chk1 c) (k0_chk1.dec c) (fun _ hp => hp.1 h) w2 (Scalar.addi e 32#32) m2 po
    hit0 i arg7 arg8 (k0_chk1 c) (k0_chk1.dec c) (fun _ hp => hp.1 h) w3 (Scalar.addi e 48#32) m3 (bump m2 po)
    hit0 i arg7 arg8 (k0_chk1 c) (k0_chk1.dec c) (fun _ hp => hp.1 h) w4 (Scalar.addi e 64#32) m4 (bump m3 (bump m2 po))
    hit0 i arg7 arg8 (k0_chk1 c) (k0_chk1.dec c) (fun _ hp => hp.1 h) w5 (Scalar.addi e 80#32) m5 (bump m4 (bump m3 (bump m2 po)))
    pure ⟨(bump m4 (bump m3 (bump m2 po))), 1#32, 0#32⟩) := rfl

theorem p5_2 (c : BitVec 1) (h : k0_cond3 c = 1#1) (e : BitVec 32) (w6 w7 w8 : Vec F S16 .f32) (m5 m6 m7 m8 : IVec S16 1) (po : IVec S16 32) :
    k0_part19 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 c h e w6 w7 w8 m5 m6 m7 m8 po 1#32 0#32 = (do
    hit0 i arg7 arg8 (k0_chk1 c) (k0_chk1.dec c) (fun _ hp => hp.1 h) w6 (Scalar.addi e 96#32) m6 (bump m5 po)
    hit0 i arg7 arg8 (k0_chk1 c) (k0_chk1.dec c) (fun _ hp => hp.1 h) w7 (Scalar.addi e 112#32) m7 (bump m6 (bump m5 po))
    hit0 i arg7 arg8 (k0_chk1 c) (k0_chk1.dec c) (fun _ hp => hp.1 h) w8 (Scalar.addi e 128#32) m8 (bump m7 (bump m6 (bump m5 po)))
    pure ⟨(bump m8 (bump m7 (bump m6 (bump m5 po)))), Scalar.addi e 144#32, minsi (bump m8 (bump m7 (bump m6 (bump m5 po)))) (broadcast S16 31#32)⟩) := rfl

theorem p6_2 (c : BitVec 1) (h : k0_cond3 c = 1#1) (e : BitVec 32) (w9 w10 w11 w12 : Vec F S16 .f32) (m9 m10 m11 m12 : IVec S16 1) (po : IVec S16 32) :
    k0_part20 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 c h e w9 w10 w11 w12 m9 m10 m11 m12 po (Scalar.addi e 144#32) (minsi po (broadcast S16 31#32)) = (do
    hit0 i arg7 arg8 (k0_chk1 c) (k0_chk1.dec c) (fun _ hp => hp.1 h) w9 (Scalar.addi e 144#32) m9 po
    hit0 i arg7 arg8 (k0_chk1 c) (k0_chk1.dec c) (fun _ hp => hp.1 h) w10 (Scalar.addi e 160#32) m10 (bump m9 po)
    hit0 i arg7 arg8 (k0_chk1 c) (k0_chk1.dec c) (fun _ hp => hp.1 h) w11 (Scalar.addi e 176#32) m11 (bump m10 (bump m9 po))
    hit0 i arg7 arg8 (k0_chk1 c) (k0_chk1.dec c) (fun _ hp => hp.1 h) w12 (Scalar.addi e 192#32) m12 (bump m11 (bump m10 (bump m9 po)))
    pure ⟨(bump m11 (bump m10 (bump m9 po))), 0#32, broadcast S16 1#32⟩) := rfl

theorem p7_2 (k : Fin k0_t9_loop.trips) : k0_part21 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 0#32 1#32 k = (do
    let a : Vec F S16 .f32 ← Prog.lift (.load arg6 (Rect.unit (s := S12496) (k0_off6 k) S16.size (k0_off6_inb k)).toLoadRect (View.loadsAt_vmem h_S16))
    let b : Vec F S16 .f32 ← Prog.lift (.load arg6 (Rect.unit (s := S12496) (k0_off7 k) S16.size (k0_off7_inb k)).toLoadRect (View.loadsAt_vmem h_S16))
    pure ⟨Scalar.addi 0#32 (Scalar.muli (Scf.iv 0#32 1#32 k) 1#32), k0_pay69 a b, k0_pay70 a b⟩) := rfl

theorem p2_3 (k : Fin k0_t12_loop.trips) (b : BitVec 32) : k0_part23 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 k b = (do
    let w0 : Vec F S16 .f32 ← Prog.lift (.load arg5 (Rect.unit (s := S100000) (k0_off8 k 0#32) S16.size (k0_off8_inb k 0)).toLoadRect (View.loadsAt_vmem h_S16))
    let w1 : Vec F S16 .f32 ← Prog.lift (.load arg5 (Rect.unit (s := S100000) (k0_off8 k 16#32) S16.size (k0_off8_inb k 1)).toLoadRect (View.loadsAt_vmem h_S16))
    let w2 : Vec F S16 .f32 ← Prog.lift (.load arg5 (Rect.unit (s := S100000) (k0_off8 k 32#32) S16.size (k0_off8_inb k 2)).toLoadRect (View.loadsAt_vmem h_S16))
    let w3 : Vec F S16 .f32 ← Prog.lift (.load arg5 (Rect.unit (s := S100000) (k0_off8 k 48#32) S16.size (k0_off8_inb k 3)).toLoadRect (View.loadsAt_vmem h_S16))
    let w4 : Vec F S16 .f32 ← Prog.lift (.load arg5 (Rect.unit (s := S100000) (k0_off8 k 64#32) S16.size (k0_off8_inb k 4)).toLoadRect (View.loadsAt_vmem h_S16))
    let w5 : Vec F S16 .f32 ← Prog.lift (.load arg5 (Rect.unit (s := S100000) (k0_off8 k 80#32) S16.size (k0_off8_inb k 5)).toLoadRect (View.loadsAt_vmem h_S16))
    let w6 : Vec F S16 .f32 ← Prog.lift (.load arg5 (Rect.unit (s := S100000) (k0_off8 k 96#32) S16.size (k0_off8_inb k 6)).toLoadRect (View.loadsAt_vmem h_S16))
    let w7 : Vec F S16 .f32 ← Prog.lift (.load arg5 (Rect.unit (s := S100000) (k0_off8 k 112#32) S16.size (k0_off8_inb k 7)).toLoadRect (View.loadsAt_vmem h_S16))
    let w8 : Vec F S16 .f32 ← Prog.lift (.load arg5 (Rect.unit (s := S100000) (k0_off8 k 128#32) S16.size (k0_off8_inb k 8)).toLoadRect (View.loadsAt_vmem h_S16))
    let w9 : Vec F S16 .f32 ← Prog.lift (.load arg5 (Rect.unit (s := S100000) (k0_off8 k 144#32) S16.size (k0_off8_inb k 9)).toLoadRect (View.loadsAt_vmem h_S16))
    let w10 : Vec F S16 .f32 ← Prog.lift (.load arg5 (Rect.unit (s := S100000) (k0_off8 k 160#32) S16.size (k0_off8_inb k 10)).toLoadRect (View.loadsAt_vmem h_S16))
    let w11 : Vec F S16 .f32 ← Prog.lift (.load arg5 (Rect.unit (s := S100000) (k0_off8 k 176#32) S16.size (k0_off8_inb k 11)).toLoadRect (View.loadsAt_vmem h_S16))
    let w12 : Vec F S16 .f32 ← Prog.lift (.load arg5 (Rect.unit (s := S100000) (k0_off8 k 192#32) S16.size (k0_off8_inb k 12)).toLoadRect (View.loadsAt_vmem h_S16))
    let w13 : Vec F S16 .f32 ← Prog.lift (.load arg5 (Rect.unit (s := S100000) (k0_off8 k 208#32) S16.size (k0_off8_inb k 13)).toLoadRect (View.loadsAt_vmem h_S16))
    pure ⟨Scalar.muli b 256#32, w0, w1, w2, w3, w4, w5, w6, w7, w8, w9, w10, w11, w12, w13, Scalar.addi (Scalar.muli b 256#32) 224#32⟩) := rfl

theorem p3_3 (k : Fin k0_t12_loop.trips) (tv : FVec F S16 .f32) (po : IVec S16 32) (c : BitVec 1) (h : k0_cond4 c = 1#1) (e : BitVec 32) (w0 w1 w2 w3 w4 w5 w6 w7 w8 w9 w10 w11 w12 w13 : Vec F S16 .f32) (e' : BitVec 32) :
    k0_part24 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 tv k po c h e w0 w1 w2 w3 w4 w5 w6 w7 w8 w9 w10 w11 w12 w13 e' = (do
    let w14 : Vec F S16 .f32 ← Prog.lift (.load arg5 (Rect.unit (s := S100000) (k0_off8 k 224#32) S16.size (k0_off8_inb k 14)).toLoadRect (View.loadsAt_vmem h_S16))
    let w15 : Vec F S16 .f32 ← Prog.lift (.load arg5 (Rect.unit (s := S100000) (k0_off8 k 240#32) S16.size (k0_off8_inb k 15)).toLoadRect (View.loadsAt_vmem h_S16))
    hit0 i arg7 arg8 (k0_chk1 c) (k0_chk1.dec c) (fun _ hp => hp.1 h) w0 (Scalar.addi e 0#32) (hitMask tv w0) po
    hit0 i arg7 arg8 (k0_chk1 c) (k0_chk1.dec c) (fun _ hp => hp.1 h) w1 (Scalar.addi e 16#32) (hitMask tv w1) (bump (hitMask tv w0) po)
    pure ⟨w14, w15, hitMask tv w2, hitMask tv w3, hitMask tv w4, hitMask tv w5, hitMask tv w6, hitMask tv w7, hitMask tv w8, hitMask tv w9, hitMask tv w10, hitMask tv w11, hitMask tv w12, hitMask tv w13, hitMask tv w14, hitMask tv w15, bump (hitMask tv w1) (bump (hitMask tv w0) po), Scalar.addi e 32#32, broadcast S16 31#32⟩) := rfl

theorem p4_3 (c : BitVec 1) (h : k0_cond4 c = 1#1) (e : BitVec 32) (w2 w3 w4 w5 : Vec F S16 .f32) (m2 m3 m4 m5 : IVec S16 1) (po : IVec S16 32) :
    k0_part25 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 c h e w2 w3 w4 w5 m2 m3 m4 m5 po (Scalar.addi e 32#32) (broadcast S16 31#32) = (do
    hit0 i arg7 arg8 (k0_chk1 c) (k0_chk1.dec c) (fun _ hp => hp.1 h) w2 (Scalar.addi e 32#32) m2 po
    hit0 i arg7 arg8 (k0_chk1 c) (k0_chk1.dec c) (fun _ hp => hp.1 h) w3 (Scalar.addi e 48#32) m3 (bump m2 po)
    hit0 i arg7 arg8 (k0_chk1 c) (k0_chk1.dec c) (fun _ hp => hp.1 h) w4 (Scalar.addi e 64#32) m4 (bump m3 (bump m2 po))
    hit0 i arg7 arg8 (k0_chk1 c) (k0_chk1.dec c) (fun _ hp => hp.1 h) w5 (Scalar.addi e 80#32) m5 (bump m4 (bump m3 (bump m2 po)))
    pure ⟨(bump m4 (bump m3 (bump m2 po))), 1#32, 0#32⟩) := rfl

theorem p5_3 (c : BitVec 1) (h : k0_cond4 c = 1#1) (e : BitVec 32) (w6 w7 w8 : Vec F S16 .f32) (m5 m6 m7 m8 : IVec S16 1) (po : IVec S16 32) :
    k0_part26 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 c h e w6 w7 w8 m5 m6 m7 m8 po 1#32 0#32 = (do
    hit0 i arg7 arg8 (k0_chk1 c) (k0_chk1.dec c) (fun _ hp => hp.1 h) w6 (Scalar.addi e 96#32) m6 (bump m5 po)
    hit0 i arg7 arg8 (k0_chk1 c) (k0_chk1.dec c) (fun _ hp => hp.1 h) w7 (Scalar.addi e 112#32) m7 (bump m6 (bump m5 po))
    hit0 i arg7 arg8 (k0_chk1 c) (k0_chk1.dec c) (fun _ hp => hp.1 h) w8 (Scalar.addi e 128#32) m8 (bump m7 (bump m6 (bump m5 po)))
    pure ⟨(bump m8 (bump m7 (bump m6 (bump m5 po)))), Scalar.addi e 144#32, minsi (bump m8 (bump m7 (bump m6 (bump m5 po)))) (broadcast S16 31#32)⟩) := rfl

theorem p6_3 (c : BitVec 1) (h : k0_cond4 c = 1#1) (e : BitVec 32) (w9 w10 w11 w12 : Vec F S16 .f32) (m9 m10 m11 m12 : IVec S16 1) (po : IVec S16 32) :
    k0_part27 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 c h e w9 w10 w11 w12 m9 m10 m11 m12 po (Scalar.addi e 144#32) (minsi po (broadcast S16 31#32)) = (do
    hit0 i arg7 arg8 (k0_chk1 c) (k0_chk1.dec c) (fun _ hp => hp.1 h) w9 (Scalar.addi e 144#32) m9 po
    hit0 i arg7 arg8 (k0_chk1 c) (k0_chk1.dec c) (fun _ hp => hp.1 h) w10 (Scalar.addi e 160#32) m10 (bump m9 po)
    hit0 i arg7 arg8 (k0_chk1 c) (k0_chk1.dec c) (fun _ hp => hp.1 h) w11 (Scalar.addi e 176#32) m11 (bump m10 (bump m9 po))
    hit0 i arg7 arg8 (k0_chk1 c) (k0_chk1.dec c) (fun _ hp => hp.1 h) w12 (Scalar.addi e 192#32) m12 (bump m11 (bump m10 (bump m9 po)))
    pure ⟨(bump m11 (bump m10 (bump m9 po))), 0#32, broadcast S16 1#32⟩) := rfl

theorem p7_3 (k : Fin k0_t12_loop.trips) : k0_part28 (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 0#32 1#32 k = (do
    let a : Vec F S16 .f32 ← Prog.lift (.load arg6 (Rect.unit (s := S12496) (k0_off6 k) S16.size (k0_off6_inb k)).toLoadRect (View.loadsAt_vmem h_S16))
    let b : Vec F S16 .f32 ← Prog.lift (.load arg6 (Rect.unit (s := S12496) (k0_off7 k) S16.size (k0_off7_inb k)).toLoadRect (View.loadsAt_vmem h_S16))
    pure ⟨Scalar.addi 0#32 (Scalar.muli (Scf.iv 0#32 1#32 k) 1#32), k0_pay69 a b, k0_pay70 a b⟩) := rfl

end

end Cert.Proof.Row
-- ==== Proof.RowLoop.lean ====
/-
  The printed loop bodies of the SparseCore kernel are the four rows' common ones.
-/
module

public import proofs.«01_k».proof.Proof.RowHits

@[expose] public section

set_option maxRecDepth 65536

noncomputable section

namespace Cert.Proof.Row

open Cert.KernelIdeal Cert.KernelIdeal.Gen
open Idealize.ShloMosaic
open Idealize.SL Idealize.SL.Sem

variable {F : FTy → Type} [FloatOps F]

section
variable (i : grid0.Coords) (arg2 : Memref sig .scVector .hbm S128x100000 .f32) (harg2 : arg2.IsWhole) (arg3 : Memref sig .scVector .hbm S128x512 .f32) (harg3 : arg3.IsWhole) (arg4 : Memref sig .scVector .hbm S128x512 .i32) (harg4 : arg4.IsWhole) (arg5 : Memref sig .scVector .vmem S100000 .f32) (harg5 : arg5.IsWhole) (arg6 : Memref sig .scVector .vmem S12496 .f32) (harg6 : arg6.IsWhole) (arg7 : Memref sig .scVector .vmem S512 .f32) (harg7 : arg7.IsWhole) (arg8 : Memref sig .scVector .vmem S512 .i32) (harg8 : arg8.IsWhole)
  (v750_r0 v750_r1 v750_r2 v750_r3 v750_r4 v750_r5 v750_r6 v750_r7 v750_r8 v750_r9 v750_r10 v750_r11 : DmaSems sig S_)

set_option maxHeartbeats 4000000 in
theorem t3_eq (v29 : FVec F S16 .f32) (v31 : F .f32) (v32 : FVec F S1 .f32) : k0_t3_body (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 (iota .scVector S16 32 [0] iota_S16_d0_w32_scVector) k0_pay281 (k0_pay282 (F := F)) v29 v31 v32 = body3 i arg5 arg6 arg7 arg8 (k0_pay290 v29 v31 v32) := by
  show k0_t3_body (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 (k0_pay282 (F := F)) v29 v31 v32 = _
  funext k po
  have e : broadcast S16 (k0_pay290 v29 v31 v32) = (k0_pay291 v29 v31 v32) := rfl
  simp only [k0_t3_body, body3, bind_assoc, pure_bind, p2_0, p3_0, p4_0, p5_0, p6_0, p7_0, e, loads, all16, hits, hit, bind_pure]
  simp only [hit0, bind_assoc]
  rfl

set_option maxHeartbeats 4000000 in
theorem t6_eq (v215 : FVec F S16 .f32) (v250 : F .f32) (v252 : F .f32) : k0_t6_body (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 (iota .scVector S16 32 [0] iota_S16_d0_w32_scVector) k0_pay281 (k0_pay282 (F := F)) v215 v250 v252 = body3 i arg5 arg6 arg7 arg8 (k0_pay351 v215 v250 v252) := by
  show k0_t6_body (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 (k0_pay282 (F := F)) v215 v250 v252 = _
  funext k po
  have e : broadcast S16 (k0_pay351 v215 v250 v252) = (k0_pay352 v215 v250 v252) := rfl
  simp only [k0_t6_body, body3, bind_assoc, pure_bind, p2_1, p3_1, p4_1, p5_1, p6_1, p7_1, e, loads, all16, hits, hit, bind_pure]
  simp only [hit0, bind_assoc]
  rfl

set_option maxHeartbeats 4000000 in
theorem t9_eq (v401 : FVec F S16 .f32) (v412 : F .f32) : k0_t9_body (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 (iota .scVector S16 32 [0] iota_S16_d0_w32_scVector) k0_pay281 (k0_pay282 (F := F)) v401 v412 = body3 i arg5 arg6 arg7 arg8 (k0_pay411 v401 v412) := by
  show k0_t9_body (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 (k0_pay282 (F := F)) v401 v412 = _
  funext k po
  have e : broadcast S16 (k0_pay411 v401 v412) = (k0_pay412 v401 v412) := rfl
  simp only [k0_t9_body, body3, bind_assoc, pure_bind, p2_2, p3_2, p4_2, p5_2, p6_2, p7_2, e, loads, all16, hits, hit, bind_pure]
  simp only [hit0, bind_assoc]
  rfl

set_option maxHeartbeats 4000000 in
theorem t12_eq (v631 : F .f32) (v632 : FVec F S1 .f32) : k0_t12_body (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 (iota .scVector S16 32 [0] iota_S16_d0_w32_scVector) k0_pay281 (k0_pay282 (F := F)) v631 v632 = body3 i arg5 arg6 arg7 arg8 (k0_pay478 v631 v632) := by
  show k0_t12_body (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 lanes base4 (k0_pay282 (F := F)) v631 v632 = _
  funext k po
  have e : broadcast S16 (k0_pay478 v631 v632) = (k0_pay479 v631 v632) := rfl
  simp only [k0_t12_body, body3, bind_assoc, pure_bind, p2_3, p3_3, p4_3, p5_3, p6_3, p7_3, e, loads, all16, hits, hit, bind_pure]
  simp only [hit0, bind_assoc]
  rfl

end

end Cert.Proof.Row
-- ==== Proof.RowAll.lean ====
/-
  The printed loop bodies of the SparseCore kernel are the four rows' common ones.
-/
module

public import proofs.«01_k».proof.Proof.RowLoop

@[expose] public section

set_option maxRecDepth 65536

noncomputable section

namespace Cert.Proof.Row

open Cert.KernelIdeal Cert.KernelIdeal.Gen
open Idealize.ShloMosaic
open Idealize.SL Idealize.SL.Sem

variable {F : FTy → Type} [FloatOps F]

section
variable (i : grid0.Coords) (arg2 : Memref sig .scVector .hbm S128x100000 .f32) (harg2 : arg2.IsWhole) (arg3 : Memref sig .scVector .hbm S128x512 .f32) (harg3 : arg3.IsWhole) (arg4 : Memref sig .scVector .hbm S128x512 .i32) (harg4 : arg4.IsWhole) (arg5 : Memref sig .scVector .vmem S100000 .f32) (harg5 : arg5.IsWhole) (arg6 : Memref sig .scVector .vmem S12496 .f32) (harg6 : arg6.IsWhole) (arg7 : Memref sig .scVector .vmem S512 .f32) (harg7 : arg7.IsWhole) (arg8 : Memref sig .scVector .vmem S512 .i32) (harg8 : arg8.IsWhole)
  (v750_r0 v750_r1 v750_r2 v750_r3 v750_r4 v750_r5 v750_r6 v750_r7 v750_r8 v750_r9 v750_r10 v750_r11 : DmaSems sig S_)

theorem thr_0 (m0 m1 m2 m3 n0 n1 n2 n3 v w : FVec F S16 .f32) : k0_pay290 (k0_pay287 m0 m1 m2 m3 n0 n1 n2 n3 v w) (k0_pay288 m0 m1 m2 m3 n0 n1 n2 n3 v w) (k0_pay289 m0 m1 m2 m3 n0 n1 n2 n3 v w) = thr (m0, m1, m2, m3, n0, n1, n2, n3) v w := rfl
theorem thr_1 (m0 m1 m2 m3 n0 n1 n2 n3 v w : FVec F S16 .f32) : k0_pay351 (k0_pay348 m0 m1 m2 m3 n0 n1 n2 n3 v w) (k0_pay349 m0 m1 m2 m3 n0 n1 n2 n3 v w) (k0_pay350 m0 m1 m2 m3 n0 n1 n2 n3 v w) = thr (m0, m1, m2, m3, n0, n1, n2, n3) v w := rfl
theorem thr_2 (m0 m1 m2 m3 n0 n1 n2 n3 v w : FVec F S16 .f32) : k0_pay411 (k0_pay409 m0 m1 m2 m3 n0 n1 n2 n3 v w) (k0_pay410 m0 m1 m2 m3 n0 n1 n2 n3 v w) = thr (m0, m1, m2, m3, n0, n1, n2, n3) v w := rfl
theorem thr_3 (m0 m1 m2 m3 n0 n1 n2 n3 v w : FVec F S16 .f32) : k0_pay478 (k0_pay476 m1 m2 m3 n1 n2 n3 (k0_pay470 m0 v) (k0_pay471 m0 n0 v) w) (k0_pay477 m1 m2 m3 n1 n2 n3 (k0_pay470 m0 v) (k0_pay471 m0 n0 v) w) = thr (m0, m1, m2, m3, n0, n1, n2, n3) v w := rfl

theorem bcongr {α β : Type} {p q : TP F i α} {k l : α → TP F i β} (h : p = q) (h' : ∀ a, k a = l a) : p >>= k = q >>= l := by
  rw [h]; exact congrArg _ (funext h')

theorem base4_eq : base4 = k0_pay281 := rfl

set_option maxHeartbeats 40000000 in
theorem body_eq : cc0__sc_body (F := F) i arg2 harg2 arg3 harg3 arg4 harg4 arg5 harg5 arg6 harg6 arg7 harg7 arg8 harg8 v750_r0 v750_r1 v750_r2 v750_r3 v750_r4 v750_r5 v750_r6 v750_r7 v750_r8 v750_r9 v750_r10 v750_r11 = (do
    row i arg5 harg5 arg6 arg7 harg7 arg8 harg8 arg2 arg3 arg4 (k0_off1 i) (k0_off1_inb i) (k0_off9 i) (k0_off9_inb i) v750_r0 v750_r1 v750_r2
    row i arg5 harg5 arg6 arg7 harg7 arg8 harg8 arg2 arg3 arg4 (k0_off10 i) (k0_off10_inb i) (k0_off18 i) (k0_off18_inb i) v750_r3 v750_r4 v750_r5
    row i arg5 harg5 arg6 arg7 harg7 arg8 harg8 arg2 arg3 arg4 (k0_off19 i) (k0_off19_inb i) (k0_off27 i) (k0_off27_inb i) v750_r6 v750_r7 v750_r8
    row i arg5 harg5 arg6 arg7 harg7 arg8 harg8 arg2 arg3 arg4 (k0_off28 i) (k0_off28_inb i) (k0_off36 i) (k0_off36_inb i) v750_r9 v750_r10 v750_r11) := by
  simp only [cc0__sc_body_eq_skeleton, cc0__sc_body_skel, k0_part50_eq_skeleton, k0_part50_skel, bind_assoc]
  simp only [k0_part29_eq_skeleton, k0_part29_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  rw [row]
  simp only [tail, all10, hit, hit0, acc0, slot, bump, hitMask, elts, base4_eq, lanes, bind_assoc, pure_bind]
  iterate 2 (refine bcongr _ rfl fun _ => ?_)
  refine bcongr _ (by (try rw [t1_eq]); first | done | rfl) ?_
  rintro ⟨_, _, _, _, _, _, _, _⟩
  simp only [bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  iterate 2 (refine bcongr _ rfl fun _ => ?_)
  simp only [k0_part30_eq_skeleton, k0_part30_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  refine bcongr _ (by (try rw [t2_eq]); first | done | rfl) fun _ => ?_
  refine bcongr _ (by (try rw [t3_eq, thr_0]); first | done | rfl) fun _ => ?_
  simp only [k0_part31_eq_skeleton, k0_part31_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  iterate 13 (refine bcongr _ rfl fun _ => ?_)
  simp only [k0_part32_eq_skeleton, k0_part32_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  iterate 12 (refine bcongr _ rfl fun _ => ?_)
  simp only [k0_part33_eq_skeleton, k0_part33_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  iterate 14 (refine bcongr _ rfl fun _ => ?_)
  simp only [k0_part34_eq_skeleton, k0_part34_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  iterate 5 (refine bcongr _ rfl fun _ => ?_)
  rw [row]
  simp only [tail, all10, hit, hit0, acc0, slot, bump, hitMask, elts, base4_eq, lanes, bind_assoc, pure_bind]
  iterate 2 (refine bcongr _ rfl fun _ => ?_)
  refine bcongr _ (by (try rw [t4_eq]); first | done | rfl) ?_
  rintro ⟨_, _, _, _, _, _, _, _⟩
  simp only [bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  simp only [k0_part35_eq_skeleton, k0_part35_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  iterate 2 (refine bcongr _ rfl fun _ => ?_)
  simp only [k0_part36_eq_skeleton, k0_part36_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  refine bcongr _ (by (try rw [t5_eq]); first | done | rfl) fun _ => ?_
  refine bcongr _ (by (try rw [t6_eq, thr_1]); first | done | rfl) fun _ => ?_
  iterate 8 (refine bcongr _ rfl fun _ => ?_)
  simp only [k0_part37_eq_skeleton, k0_part37_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  iterate 12 (refine bcongr _ rfl fun _ => ?_)
  simp only [k0_part38_eq_skeleton, k0_part38_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  iterate 13 (refine bcongr _ rfl fun _ => ?_)
  simp only [k0_part39_eq_skeleton, k0_part39_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  iterate 10 (refine bcongr _ rfl fun _ => ?_)
  simp only [k0_part40_eq_skeleton, k0_part40_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  refine bcongr _ rfl fun _ => ?_
  rw [row]
  simp only [tail, all10, hit, hit0, acc0, slot, bump, hitMask, elts, base4_eq, lanes, bind_assoc, pure_bind]
  iterate 2 (refine bcongr _ rfl fun _ => ?_)
  refine bcongr _ (by (try rw [t7_eq]); first | done | rfl) ?_
  rintro ⟨_, _, _, _, _, _, _, _⟩
  simp only [bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  iterate 2 (refine bcongr _ rfl fun _ => ?_)
  simp only [k0_part41_eq_skeleton, k0_part41_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  refine bcongr _ (by (try rw [t8_eq]); first | done | rfl) fun _ => ?_
  refine bcongr _ (by (try rw [t9_eq, thr_2]); first | done | rfl) fun _ => ?_
  iterate 3 (refine bcongr _ rfl fun _ => ?_)
  simp only [k0_part42_eq_skeleton, k0_part42_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  iterate 12 (refine bcongr _ rfl fun _ => ?_)
  simp only [k0_part43_eq_skeleton, k0_part43_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  iterate 13 (refine bcongr _ rfl fun _ => ?_)
  simp only [k0_part44_eq_skeleton, k0_part44_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  iterate 12 (refine bcongr _ rfl fun _ => ?_)
  simp only [k0_part45_eq_skeleton, k0_part45_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  iterate 4 (refine bcongr _ rfl fun _ => ?_)
  rw [row]
  simp only [tail, all10, hit, hit0, acc0, slot, bump, hitMask, elts, base4_eq, lanes, bind_assoc, pure_bind]
  iterate 2 (refine bcongr _ rfl fun _ => ?_)
  refine bcongr _ (by (try rw [t10_eq]); first | done | rfl) ?_
  rintro ⟨_, _, _, _, _, _, _, _⟩
  simp only [bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  iterate 2 (refine bcongr _ rfl fun _ => ?_)
  simp only [k0_part46_eq_skeleton, k0_part46_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  simp only [k0_part47_eq_skeleton, k0_part47_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  refine bcongr _ (by (try rw [t11_eq]); first | done | rfl) fun _ => ?_
  refine bcongr _ (by (try rw [t12_eq, thr_3]); first | done | rfl) fun _ => ?_
  iterate 9 (refine bcongr _ rfl fun _ => ?_)
  simp only [k0_part48_eq_skeleton, k0_part48_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  iterate 13 (refine bcongr _ rfl fun _ => ?_)
  simp only [k0_part49_eq_skeleton, k0_part49_skel, bind_assoc, pure_bind, t1_eq, t2_eq, t3_eq, t4_eq, t5_eq, t6_eq, t7_eq, t8_eq, t9_eq, t10_eq, t11_eq, t12_eq, k0_pay291, k0_pay292, k0_pay293, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay352, k0_pay353, k0_pay354, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay412, k0_pay413, k0_pay414, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay479, k0_pay480, k0_pay481, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, thr_0, thr_1, thr_2, thr_3]
  iterate 21 (refine bcongr _ rfl fun _ => ?_)
  rfl

end

end Cert.Proof.Row
-- ==== Proof.Body.lean ====
/-
  A tile's task: its four rows, one after another, from the tile's own resources.
-/
module

public import proofs.«01_k».proof.Proof.Rows
public import proofs.«01_k».proof.Proof.RowAll

@[expose] public section

set_option maxRecDepth 65536

noncomputable section

namespace Cert.Proof.Sc

open Cert.KernelIdeal Cert.KernelIdeal.Gen Cert.Proof.Row

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.SparseCore (T)
open Idealize.ShloMosaic.SparseCore.Cfg (HIx Pay ownBufs ownSems0 ownCells ownRefs mem_ownCells mem_ownRefs)

variable {F : FTy → Type} [FloatOps F]

local notation "𝕄" => MT nD τ sig (HIx 1) (Elt F) ℕ UU ℕ

theorem peel {I : Type} [DecidableEq I] (Φ : I → sProp 𝕄) : ∀ (l : List I) (s : Finset I), l.Nodup → (∀ x ∈ l, x ∈ s) →
    ∃ R : sProp 𝕄, bigSep s Φ = l.foldr (fun x acc => iprop(Φ x ∗ acc)) R
  | [], s, _, _ => ⟨bigSep s Φ, rfl⟩
  | x :: l, s, hn, hs => by
    obtain ⟨R, hR⟩ := peel Φ l (s.erase x) (List.nodup_cons.mp hn).2 fun y hy => Finset.mem_erase.mpr
      ⟨fun e => (List.nodup_cons.mp hn).1 (e ▸ hy), hs y (List.mem_cons_of_mem _ hy)⟩
    exact ⟨R, by rw [SparseCore.bigSep_erase' (hs x List.mem_cons_self), hR]; rfl⟩

variable (d : Dev nD) (L : grid0.Coords)

abbrev semL : List (SemLoc sig) := [.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem, .dma cc0_scoped10.sem, .dma cc0_scoped11.sem]

theorem ownSems_eq : ∃ R : sProp 𝕄, (ownSems0 (thrd d L) : sProp 𝕄) = iprop(semVal (thrd d L, .dma cc0_scoped0.sem) 0 ∗ semVal (thrd d L, .dma cc0_scoped1.sem) 0 ∗ semVal (thrd d L, .dma cc0_scoped2.sem) 0 ∗ semVal (thrd d L, .dma cc0_scoped3.sem) 0 ∗ semVal (thrd d L, .dma cc0_scoped4.sem) 0 ∗ semVal (thrd d L, .dma cc0_scoped5.sem) 0 ∗ semVal (thrd d L, .dma cc0_scoped6.sem) 0 ∗ semVal (thrd d L, .dma cc0_scoped7.sem) 0 ∗ semVal (thrd d L, .dma cc0_scoped8.sem) 0 ∗ semVal (thrd d L, .dma cc0_scoped9.sem) 0 ∗ semVal (thrd d L, .dma cc0_scoped10.sem) 0 ∗ semVal (thrd d L, .dma cc0_scoped11.sem) 0 ∗ R) := by
  unfold SparseCore.Cfg.ownSems0
  obtain ⟨R, hR⟩ := peel (F := F) (fun g => semVal g 0) (semL.map fun s => ((thrd d L, s) : GSem nD τ sig)) (ownCells (thrd d L))
    (List.Nodup.map (fun a b h => (Prod.mk.inj h).2) (by decide)) (fun x hx => by
      obtain ⟨s, hs, rfl⟩ := List.mem_map.mp hx
      refine mem_ownCells.mpr ⟨rfl, ?_⟩
      have : ∀ s ∈ semL, s.isScoped .scVector = true := by decide
      exact this s hs)
  exact ⟨R, hR⟩

theorem ownBufs_eq : ∃ R : sProp 𝕄, (ownBufs (thrd d L) : sProp 𝕄) = iprop((∃ f, pX d L f) ∗ (∃ f, pB d L f) ∗ (∃ f, pV d L f) ∗ (∃ f, pI d L f) ∗ R) := by
  unfold SparseCore.Cfg.ownBufs
  obtain ⟨R, hR⟩ := peel (F := F) (fun b => iprop(∃ f, ((d, b) : Loc nD τ sig) ↦{fullShare} f))
    (([cc0_scratch0, cc0_scratch1, cc0_scratch2, cc0_scratch3] : List (Ref sig .scVector)).map fun b => (Proc.scVector (cV L) (jV L)).devRef b) (ownRefs (τ := τ) (.scVector (cV L) (jV L)))
    (List.Nodup.map (Proc.devRef_injective _) (show ([cc0_scratch0, cc0_scratch1, cc0_scratch2, cc0_scratch3] : List (Ref sig .scVector)).Nodup by decide)) (fun x hx => by
      obtain ⟨s, hs, rfl⟩ := List.mem_map.mp hx
      refine SparseCore.Cfg.mem_ownRefs_of_owner (p := Proc.scVector (cV L) (jV L)) ?_
      simp only [List.mem_cons, List.not_mem_nil, _root_.or_false] at hs
      rcases hs with rfl | rfl | rfl | rfl <;> rfl)
  exact ⟨R, hR⟩

variable (m : (ℓ : Loc nD τ sig) → Buf (Elt F) ℓ)

/-- A row of the three buffers, before and after. -/
abbrev rowIn (r : Fin 128) : sProp 𝕄 := iprop(rPX d r (m (xLoc d)) ∗ rPV d r (m (vLoc d)) ∗ rPI d r (m (iLoc d)))
abbrev rowOut (r : Fin 128) : sProp 𝕄 := iprop(rPX d r (m (xLoc d)) ∗ rPV d r (vTab (m (xLoc d))) ∗ rPI d r (iTab (m (xLoc d))))

theorem row_step (off : Fin 2 → ℕ) (hin : ∀ a, off a + S1x100000.size a ≤ S128x100000.size a)
    (off' : Fin 2 → ℕ) (hin' : ∀ a, off' a + S1x512.size a ≤ S128x512.size a) (s0 s1 s2 : DmaSems sig S_)
    (O : CellTallies nD τ sig (HIx 1)) (Wt : Waits sig (HIx 1)) (hO : ∀ g, O g none = 0) (r : Fin 128) (h : off = ![r.val, 0]) (h' : off' = ![r.val, 0])
    {k : PUnit → TP F L PUnit} {Q : PUnit → sProp 𝕄} :
    iprop(levAts (K (F := F)).L (K (F := F)).lev ∗ rowIn d m r
        ∗ (∃ f, pX d L f) ∗ (∃ f, pB d L f) ∗ (∃ f, pV d L f) ∗ (∃ f, pI d L f)
        ∗ semVal (thrd d L, .dma s0.sem) 0 ∗ semVal (thrd d L, .dma s1.sem) 0 ∗ semVal (thrd d L, .dma s2.sem) 0
        ∗ (∃ W', ⌜∀ p ∈ W', p ∈ Wt ∨ p.2 = none⌝ ∗ owes (thrd d L) O W'))
      ⊢ iprop((rowOut d m r
            ∗ (∃ f, pX d L f) ∗ (∃ f, pB d L f) ∗ (∃ f, pV d L f) ∗ (∃ f, pI d L f)
            ∗ semVal (thrd d L, .dma s0.sem) 0 ∗ semVal (thrd d L, .dma s1.sem) 0 ∗ semVal (thrd d L, .dma s2.sem) 0
            ∗ (∃ W', ⌜∀ p ∈ W', p ∈ Wt ∨ p.2 = none⌝ ∗ owes (thrd d L) O W') -∗ W d L (k ⟨⟩) Q)
        -∗ W d L (row (F := F) L (sX) (Memref.isWhole_whole _) (sB) (sV) (Memref.isWhole_whole _) (sI) (Memref.isWhole_whole _) (aX) (aV) (aI) off hin off' hin' s0 s1 s2 >>= k) Q) := by
  iintro ⟨#Hlv, ⟨Hx, Hv, Hi⟩, Bx, Bb, Bv, Bi, S0, S1, S2, ⟨%W', %hW', HO⟩⟩ HK
  unfold W
  rw [wp_bind]
  iapply (wp_wand_r Idealize.ShloMosaic.frame (wpE defs₀ 𝒱₀ (thrd d L) none) Set.univ)
  isplitr [HK]
  · iapply (row_wp d L off hin off' hin' s0 s1 s2 O W' hO (m (xLoc d)) (m (vLoc d)) (m (iLoc d)))
    isplitr; · iexact Hlv
    isplitl [Hx]; · iapply (Entails.of_eq (ptsX d L off hin r h _).symm); iexact Hx
    isplitl [Hv]; · iapply (Entails.of_eq (ptsV d L off' hin' r h' _).symm); iexact Hv
    isplitl [Hi]; · iapply (Entails.of_eq (ptsI d L off' hin' r h' _).symm); iexact Hi
    isplitl [Bx]; · iexact Bx
    isplitl [Bb]; · iexact Bb
    isplitl [Bv]; · iexact Bv
    isplitl [Bi]; · iexact Bi
    isplitl [S0]; · iexact S0
    isplitl [S1]; · iexact S1
    isplitl [S2]; · iexact S2
    iexact HO
  rw [readRow off hin r h]
  iintro %u ⟨Hx, Hv, Hi, Bx, Bb, Bv, Bi, S0, S1, S2, ⟨%W2, %hW2, HO⟩⟩
  iapply HK
  isplitl [Hx Hv Hi]
  · isplitl [Hx]; · iapply (Entails.of_eq (ptsX d L off hin r h _)); iexact Hx
    isplitl [Hv]; · iapply (Entails.of_eq (doneV d L off' hin' r h' _ _)); iexact Hv
    iapply (Entails.of_eq (doneI d L off' hin' r h' _ _)); iexact Hi
  isplitl [Bx]; · iexact Bx
  isplitl [Bb]; · iexact Bb
  isplitl [Bv]; · iexact Bv
  isplitl [Bi]; · iexact Bi
  isplitl [S0]; · iexact S0
  isplitl [S1]; · iexact S1
  isplitl [S2]; · iexact S2
  iexists W2; isplitr
  swap; · iexact HO
  ipureintro
  intro p hp
  rcases hW2 p hp with h | h
  · exact hW' p h
  · exact Or.inr h

abbrev cT (L : grid0.Coords) : Fin 2 := L 0
abbrev sT (L : grid0.Coords) : Fin 16 := L 1

set_option maxHeartbeats 2000000 in
theorem tile_body (hF : (K (F := F)).Facts) (O : CellTallies nD τ sig (HIx 1)) (Wt : Waits sig (HIx 1)) (hO : ∀ g, O g none = 0) :
    iprop(levAts (K (F := F)).L (K (F := F)).lev ∗ emp
        ∗ (rowIn d m (rid (cT L) (sT L) 0) ∗ rowIn d m (rid (cT L) (sT L) 1) ∗ rowIn d m (rid (cT L) (sT L) 2) ∗ rowIn d m (rid (cT L) (sT L) 3))
        ∗ scopedBufs (thrd d L) ∗ scopedSems0 (thrd d L) ∗ owes (thrd d L) O Wt)
      ⊢ W d L (cc0__sc_body (F := F) L (aX) (Memref.isWhole_whole _) (aV) (Memref.isWhole_whole _) (aI) (Memref.isWhole_whole _)
            (sX) (Memref.isWhole_whole _) (sB) (Memref.isWhole_whole _) (sV) (Memref.isWhole_whole _) (sI) (Memref.isWhole_whole _)
            cc0_scoped0 cc0_scoped1 cc0_scoped2 cc0_scoped3 cc0_scoped4 cc0_scoped5 cc0_scoped6 cc0_scoped7 cc0_scoped8 cc0_scoped9 cc0_scoped10 cc0_scoped11)
          fun _ => iprop((rowOut d m (rid (cT L) (sT L) 0) ∗ rowOut d m (rid (cT L) (sT L) 1) ∗ rowOut d m (rid (cT L) (sT L) 2) ∗ rowOut d m (rid (cT L) (sT L) 3))
            ∗ scopedBufs (thrd d L) ∗ scopedSems0 (thrd d L)
            ∗ ∃ W', ⌜∀ p ∈ W', p ∈ Wt ∨ p.2 = none⌝ ∗ owes (thrd d L) O W') := by
  rw [body_eq, (K (F := F)).scopedBufs_V hF d (cV L) (jV L), SparseCore.Cfg.scopedSems0_V (Val := Elt F) d (cV L) (jV L)]
  obtain ⟨RS, hRS⟩ := ownSems_eq (F := F) d L
  obtain ⟨RB, hRB⟩ := ownBufs_eq (F := F) d L
  rw [hRS, hRB]
  iintro ⟨#Hlv, -, ⟨R0, R1, R2, R3⟩, ⟨Bx, Bb, Bv, Bi, HB⟩, ⟨S0, S1, S2, S3, S4, S5, S6, S7, S8, S9, S10, S11, HS⟩, HO⟩
  ihave HO := (show (owes (thrd d L) O Wt : sProp 𝕄) ⊢ iprop(∃ W', ⌜∀ p ∈ W', p ∈ Wt ∨ p.2 = none⌝ ∗ owes (thrd d L) O W') from by
    iintro H; iexists Wt; isplitr
    · ipureintro; exact fun p hp => Or.inl hp
    · iexact H) $$ HO
  iapply (row_step d L m (k0_off1 L) (k0_off1_inb L) (k0_off9 L) (k0_off9_inb L) cc0_scoped0 cc0_scoped1 cc0_scoped2 O Wt hO (rid (cT L) (sT L) 0)
    ((k0_off1_eq L).trans (by congr 1)) ((k0_off9_eq L).trans (by congr 1))) $$ [R0 Bx Bb Bv Bi S0 S1 S2 HO]
  · isplitr; · iexact Hlv
    isplitl [R0]; · iexact R0
    isplitl [Bx]; · iexact Bx
    isplitl [Bb]; · iexact Bb
    isplitl [Bv]; · iexact Bv
    isplitl [Bi]; · iexact Bi
    isplitl [S0]; · iexact S0
    isplitl [S1]; · iexact S1
    isplitl [S2]; · iexact S2
    iexact HO
  iintro ⟨R0, Bx, Bb, Bv, Bi, S0, S1, S2, HO⟩
  iapply (row_step d L m (k0_off10 L) (k0_off10_inb L) (k0_off18 L) (k0_off18_inb L) cc0_scoped3 cc0_scoped4 cc0_scoped5 O Wt hO (rid (cT L) (sT L) 1)
    ((k0_off10_eq L).trans (by congr 1)) ((k0_off18_eq L).trans (by congr 1))) $$ [R1 Bx Bb Bv Bi S3 S4 S5 HO]
  · isplitr; · iexact Hlv
    isplitl [R1]; · iexact R1
    isplitl [Bx]; · iexact Bx
    isplitl [Bb]; · iexact Bb
    isplitl [Bv]; · iexact Bv
    isplitl [Bi]; · iexact Bi
    isplitl [S3]; · iexact S3
    isplitl [S4]; · iexact S4
    isplitl [S5]; · iexact S5
    iexact HO
  iintro ⟨R1, Bx, Bb, Bv, Bi, S3, S4, S5, HO⟩
  iapply (row_step d L m (k0_off19 L) (k0_off19_inb L) (k0_off27 L) (k0_off27_inb L) cc0_scoped6 cc0_scoped7 cc0_scoped8 O Wt hO (rid (cT L) (sT L) 2)
    ((k0_off19_eq L).trans (by congr 1)) ((k0_off27_eq L).trans (by congr 1))) $$ [R2 Bx Bb Bv Bi S6 S7 S8 HO]
  · isplitr; · iexact Hlv
    isplitl [R2]; · iexact R2
    isplitl [Bx]; · iexact Bx
    isplitl [Bb]; · iexact Bb
    isplitl [Bv]; · iexact Bv
    isplitl [Bi]; · iexact Bi
    isplitl [S6]; · iexact S6
    isplitl [S7]; · iexact S7
    isplitl [S8]; · iexact S8
    iexact HO
  iintro ⟨R2, Bx, Bb, Bv, Bi, S6, S7, S8, HO⟩
  rw [← bind_pure (row _ _ _ _ _ _ _ _ _ _ _ _ _ _ _ _ _ _)]
  iapply (row_step d L m (k0_off28 L) (k0_off28_inb L) (k0_off36 L) (k0_off36_inb L) cc0_scoped9 cc0_scoped10 cc0_scoped11 O Wt hO (rid (cT L) (sT L) 3)
    ((k0_off28_eq L).trans (by congr 1)) ((k0_off36_eq L).trans (by congr 1))) $$ [R3 Bx Bb Bv Bi S9 S10 S11 HO]
  · isplitr; · iexact Hlv
    isplitl [R3]; · iexact R3
    isplitl [Bx]; · iexact Bx
    isplitl [Bb]; · iexact Bb
    isplitl [Bv]; · iexact Bv
    isplitl [Bi]; · iexact Bi
    isplitl [S9]; · iexact S9
    isplitl [S10]; · iexact S10
    isplitl [S11]; · iexact S11
    iexact HO
  iintro ⟨R3, Bx, Bb, Bv, Bi, S9, S10, S11, HO⟩
  unfold W
  sl_step
  isplitl [R0 R1 R2 R3]
  · isplitl [R0]; · iexact R0
    isplitl [R1]; · iexact R1
    isplitl [R2]; · iexact R2
    iexact R3
  isplitl [Bx Bb Bv Bi HB]
  · isplitl [Bx]; · iexact Bx
    isplitl [Bb]; · iexact Bb
    isplitl [Bv]; · iexact Bv
    isplitl [Bi]; · iexact Bi
    iexact HB
  isplitr [HO]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iexact HS
  iexact HO

end Cert.Proof.Sc
-- ==== Proof.Launch.lean ====
/-
  The launch: what the start, the go, the task's end and the call's end carry (the four rows of each tile, their
  logits kept and their two tables written), one tile's obligation, and the launch's resources.
-/
module

public import proofs.«01_k».proof.Proof.Body
public import proofs.«01_k».proof.Proof.Gen.KernelIdeal.Launch

@[expose] public section

set_option maxRecDepth 65536

noncomputable section

namespace Cert.Proof.Sc

open Cert.KernelIdeal Cert.KernelIdeal.Gen Cert.Proof.Row

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The payloads -/

def goT (d : Dev nD) (c : Fin 2) (s : Fin 16) : sProp 𝕄 :=
  iprop(rowIn d m (rid c s 0) ∗ rowIn d m (rid c s 1) ∗ rowIn d m (rid c s 2) ∗ rowIn d m (rid c s 3))
def tdT (d : Dev nD) (c : Fin 2) (s : Fin 16) : sProp 𝕄 :=
  iprop(rowOut d m (rid c s 0) ∗ rowOut d m (rid c s 1) ∗ rowOut d m (rid c s 2) ∗ rowOut d m (rid c s 3))

instance goT_storable (d : Dev nD) (c : Fin 2) (s : Fin 16) : BI.Storable (upEmb : UEmb _ 𝕄) (goT m d c s) := by unfold goT; infer_instance
instance tdT_storable (d : Dev nD) (c : Fin 2) (s : Fin 16) : BI.Storable (upEmb : UEmb _ 𝕄) (tdT m d c s) := by unfold tdT; infer_instance

def P : (K (F := F)).Pay (nD := nD) (Val := Elt F) (Name := ℕ) (U := UU) where
  st q d := match q with | 0 => fun c => bigSep Finset.univ fun s : Fin 16 => goT m d (Fin.cast nCore_zero c) s
  dn q d := match q with | 0 => fun c => bigSep Finset.univ fun s : Fin 16 => tdT m d (Fin.cast nCore_zero c) s
  go q d := match q with | 0 => fun c s => goT m d (Fin.cast nCore_zero c) (Fin.cast nSub_zero s)
  td q d := match q with | 0 => fun c s => tdT m d (Fin.cast nCore_zero c) (Fin.cast nSub_zero s)
  x _ _ := iprop(emp)

instance P_storable : (P m).IsStorable where
  st q d c := match q with | 0 => (inferInstance : BI.Storable (upEmb : UEmb _ 𝕄) (bigSep Finset.univ fun s : Fin 16 => goT m d (Fin.cast nCore_zero c) s))
  dn q d c := match q with | 0 => (inferInstance : BI.Storable (upEmb : UEmb _ 𝕄) (bigSep Finset.univ fun s : Fin 16 => tdT m d (Fin.cast nCore_zero c) s))
  go q d c i := match q with | 0 => (inferInstance : BI.Storable (upEmb : UEmb _ 𝕄) (goT m d (Fin.cast nCore_zero c) (Fin.cast nSub_zero i)))
  td q d c i := match q with | 0 => (inferInstance : BI.Storable (upEmb : UEmb _ 𝕄) (tdT m d (Fin.cast nCore_zero c) (Fin.cast nSub_zero i)))

/-! ## One tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          aX (Memref.isWhole_whole _) aV (Memref.isWhole_whole _) aI (Memref.isWhole_whole _)
          sX (Memref.isWhole_whole _) sB (Memref.isWhole_whole _) sV (Memref.isWhole_whole _) sI (Memref.isWhole_whole _)
          cc0_scoped0 cc0_scoped1 cc0_scoped2 cc0_scoped3 cc0_scoped4 cc0_scoped5 cc0_scoped6 cc0_scoped7 cc0_scoped8 cc0_scoped9 cc0_scoped10 cc0_scoped11) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) m hF O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => goT m d (Fin.cast nCore_zero c) s) ⊢ |={Set.univ}=> iprop(
      (bigSep Finset.univ fun i : Fin ((K (F := F)).nSub 0) => goT m d (Fin.cast nCore_zero c) (Fin.cast nSub_zero i))
      ∗ ((bigSep Finset.univ fun i : Fin ((K (F := F)).nSub 0) => tdT m d (Fin.cast nCore_zero c) (Fin.cast nSub_zero i))
          -∗ bigSep Finset.univ fun s : Fin 16 => tdT m d (Fin.cast nCore_zero c) s))
  rw [bigSep_tasks (F := F) (goT m d (Fin.cast nCore_zero c)), bigSep_tasks (F := F) (tdT m d (Fin.cast nCore_zero c))]
  iintro H; imodintro
  isplitl [H]; · iexact H
  iintro H; iexact H

/-! ## The rows of the whole buffers -/

theorem four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

theorem rowS_cover {N : ℕ} (i : (⟨2, ![128, N]⟩ : Shape).Idx) : ∃ r, i ∈ rowS N r := by
  refine ⟨i 0, ?_⟩
  simp [rowS]

theorem rows_eq (d : Dev nD) (fx : S128x100000.Idx → F .f32) (fv : S128x512.Idx → F .f32) (fi : S128x512.Idx → BitVec 32) :
    (iprop((xLoc d ↦{fullShare} fx) ∗ (vLoc d ↦{fullShare} fv) ∗ (iLoc d ↦{fullShare} fi)) : sProp 𝕄)
      = bigSep Finset.univ fun c : Fin 2 => bigSep Finset.univ fun s : Fin 16 => bigSep Finset.univ fun j : Fin 4 =>
          iprop(rPX d (rid c s j) fx ∗ rPV d (rid c s j) fv ∗ rPI d (rid c s j) fi) := by
  rw [split_rows (N := 100000) (ℓ := xLoc d) (fun r => rowS 100000 r) (fun r r' h => rowS_disjoint h) (rowS_cover (N := 100000)) fx,
    split_rows (N := 512) (ℓ := vLoc d) (fun r => rowS 512 r) (fun r r' h => rowS_disjoint h) (rowS_cover (N := 512)) fv,
    split_rows (N := 512) (ℓ := iLoc d) (fun r => rowS 512 r) (fun r r' h => rowS_disjoint h) (rowS_cover (N := 512)) fi]
  simp only [bigSep_sep']

theorem st0_eq (d : Dev nD) : (bigSep Finset.univ fun c : Fin ((K (F := F)).nCore 0) => (P m).st 0 d c)
    = iprop((xLoc d ↦{fullShare} m (xLoc d)) ∗ (vLoc d ↦{fullShare} m (vLoc d)) ∗ (iLoc d ↦{fullShare} m (iLoc d))) := by
  rw [rows_eq]
  show (bigSep Finset.univ fun c : Fin 2 => bigSep Finset.univ fun s : Fin 16 => goT m d c s) = _
  exact bigSep_congr fun c _ => bigSep_congr fun s _ => by rw [four]; rfl

theorem dn0_eq (d : Dev nD) : (bigSep Finset.univ fun c : Fin ((K (F := F)).nCore 0) => (P m).dn 0 d c)
    = iprop((xLoc d ↦{fullShare} m (xLoc d)) ∗ (vLoc d ↦{fullShare} vTab (m (xLoc d))) ∗ (iLoc d ↦{fullShare} iTab (m (xLoc d)))) := by
  rw [rows_eq]
  show (bigSep Finset.univ fun c : Fin 2 => bigSep Finset.univ fun s : Fin 16 => tdT m d c s) = _
  exact bigSep_congr fun c _ => bigSep_congr fun s _ => by rw [four]; rfl

/-! ## The launch element -/

abbrev adm : (p : Fin 1) → (pcfgs (F := F) p).Adm := fun p => (cfgs p).toPCfg_adm

abbrev pins := Pipeline.pin (pcfgs (F := F)) adm

theorem phinj : Function.Injective (Pipeline.cellOf (nD := nD) (τ := τ) (pins (F := F))) := cellOf_inj

abbrev uP : UP := initOf (Pipeline.cells (nD := nD) (τ := τ) (pins (F := F)) phinj) (Pipeline.launchToks (nD := nD) (τ := τ) (pins (F := F)) phinj)

/-- The staged call's share of the launch's resources. -/
abbrev G (d : Dev nD) : sProp 𝕄 := iprop(Pipeline.cellsGhost (pins (F := F)) EP 0 d ∗ Pipeline.toksInit (pins (F := F)) EP 0 d)

def u₀ : UU := (initOf (K (F := F)).hsCells (K (F := F)).hsToks, (uP (F := F), 1))

theorem bigSep_emp' {I : Type} (s : Finset I) : (bigSep s fun _ => iprop(emp)) = (iprop(emp) : sProp 𝕄) := bigSep_emp_const s

theorem cells_eq : (bigSep Finset.univ fun c : Dev nD => bigSep Finset.univ fun p => (Pipeline.cellsGhost (pins (F := F)) EP p c : sProp 𝕄))
    = bigSep Finset.univ fun c : Dev nD => Pipeline.cellsGhost (pins (F := F)) EP 0 c :=
  bigSep_congr fun _ _ => bigSep_univ_of_subsingleton (0 : Fin 1)
theorem toks_eq : (bigSep Finset.univ fun c : Dev nD => bigSep Finset.univ fun p => (Pipeline.toksInit (pins (F := F)) EP p c : sProp 𝕄))
    = bigSep Finset.univ fun c : Dev nD => Pipeline.toksInit (pins (F := F)) EP 0 c :=
  bigSep_congr fun _ _ => bigSep_univ_of_subsingleton (0 : Fin 1)

theorem hG : (BI.own (EP (uP (F := F))) : sProp 𝕄) ⊢ |==> bigSep Finset.univ fun d : Dev nD => G (F := F) d := by
  iintro H
  imod (Pipeline.fund_ghost (pins (F := F)) EP phinj) $$ H with ⟨Ha, Hb⟩
  ihave Ha := (Entails.of_eq (cells_eq (F := F))) $$ Ha
  ihave Hb := (Entails.of_eq (toks_eq (F := F))) $$ Hb
  imodintro
  rw [bigSep_sep']
  isplitl [Ha]
  · iexact Ha
  · iexact Hb

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((uP (F := F), 1) : UP × Counters)) $$ Hu
  icases H with ⟨HH, HR⟩
  ihave H := (own_pair_emb embR (uP (F := F)) (1 : Counters)) $$ HR
  icases H with ⟨HP, -⟩
  ihave HP := (show (BI.own (((Emb.inl : Emb UP (UP × Counters)).trans embR) (uP (F := F))) : sProp 𝕄) ⊢ BI.own (EP (uP (F := F))) from BI.Entails.refl _) $$ HP
  imod (hG (F := F)) $$ HP with HP
  imodintro
  isplitl [HH]; · iexact HH
  isplitl [HP]; · iexact HP
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof.Sc

end
-- ==== Proof.Fin.lean ====
/-
  The finalising kernel: its value as a function of what it loads, and its body as four loads and one store.
-/
module

public import proofs.«01_k».proof.Proof.Row

@[expose] public section

set_option maxRecDepth 65536

noncomputable section

namespace Cert.Proof.Sc

open Cert.KernelIdeal Cert.KernelIdeal.Gen Cert.Proof.Row

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

def fin1 (v0 : Vec F S1x1 .f32) (v2 : Vec F S1x1 .f32) (v4 : Vec F S128x512 .f32) (v6 : Vec F S128x512 .i32) : (Σ' (v1 : F .f32) (v3 : F .f32) (v7 : IVec S128x512 32) (v9 : FVec F S128x1 .f32) (v15 : IVec S128x1 32) (v24 : FVec F S128x1 .f32) (v30 : IVec S128x1 32) (v37 : FVec F S128x512 .f32) (v39 : FVec F S128x1 .f32) (v41 : IVec S128x512 1), BitVec 32) :=
  ⟨k1_pay1 v0, k1_pay2 v2, k1_pay4 v6, k1_pay5 v4, k1_pay6 v4 v6, k1_pay8 v4 v6, k1_pay9 v4 v6, k1_pay10 v4 v6, k1_pay11 v4 v6, k1_pay12 v4 v6, 100000#32⟩

def fin2 (v7 : IVec S128x512 32) (v37 : FVec F S128x512 .f32) (v39 : FVec F S128x1 .f32) (v41 : IVec S128x512 1) (c100000_i32_14 : BitVec 32) : (Σ' (v45 : IVec S128x1 32) (v54 : FVec F S128x1 .f32) (v60 : IVec S128x1 32) (v69 : FVec F S128x1 .f32) (v75 : IVec S128x1 32) (v82 : FVec F S128x512 .f32) (v84 : FVec F S128x1 .f32), IVec S128x512 32) :=
  ⟨k1_pay13 v7 v41 c100000_i32_14, k1_pay15 v7 v37 v39 v41 c100000_i32_14, k1_pay16 v7 v37 v39 v41 c100000_i32_14, k1_pay18 v7 v37 v39 v41 c100000_i32_14, k1_pay19 v7 v37 v39 v41 c100000_i32_14, k1_pay20 v7 v37 v39 v41 c100000_i32_14, k1_pay21 v7 v37 v39 v41 c100000_i32_14, k1_pay22 v7 v37 v39 v41 c100000_i32_14⟩

def fin3 (v7 : IVec S128x512 32) (v82 : FVec F S128x512 .f32) (v84 : FVec F S128x1 .f32) (v88 : IVec S128x512 32) : (Σ' (v90 : IVec S128x1 32) (v99 : FVec F S128x1 .f32) (v105 : IVec S128x1 32) (v114 : FVec F S128x1 .f32) (v120 : IVec S128x1 32) (v127 : FVec F S128x512 .f32) (v129 : FVec F S128x1 .f32) (v135 : IVec S128x1 32), FVec F S128x512 .f32) :=
  ⟨k1_pay23 v88, k1_pay25 v7 v82 v84 v88, k1_pay26 v7 v82 v84 v88, k1_pay28 v7 v82 v84 v88, k1_pay29 v7 v82 v84 v88, k1_pay30 v7 v82 v84 v88, k1_pay31 v7 v82 v84 v88, k1_pay32 v7 v82 v84 v88, k1_pay33 v7 v82 v84 v88⟩

def fin4 (v7 : IVec S128x512 32) (v127 : FVec F S128x512 .f32) (v135 : IVec S128x1 32) (v136 : FVec F S128x512 .f32) : (Σ' (v144 : FVec F S128x1 .f32) (v150 : IVec S128x1 32) (v159 : FVec F S128x1 .f32) (v165 : IVec S128x1 32) (v172 : FVec F S128x512 .f32) (v174 : FVec F S128x1 .f32) (v180 : IVec S128x1 32) (v182 : IVec S128x512 1), IVec S128x512 1) :=
  ⟨k1_pay35 v7 v127 v135 v136, k1_pay36 v7 v127 v135 v136, k1_pay38 v7 v127 v135 v136, k1_pay39 v7 v127 v135 v136, k1_pay40 v7 v127 v135 v136, k1_pay41 v7 v127 v135 v136, k1_pay42 v7 v127 v135 v136, k1_pay43 v7 v127 v135 v136, k1_pay44 v7 v127 v135 v136⟩

def fin5 (v7 : IVec S128x512 32) (v172 : FVec F S128x512 .f32) (v182 : IVec S128x512 1) (v184 : IVec S128x512 1) : (Σ' (v189 : FVec F S128x1 .f32) (v195 : IVec S128x1 32) (v204 : FVec F S128x1 .f32) (v210 : IVec S128x1 32) (v217 : FVec F S128x512 .f32) (v219 : FVec F S128x1 .f32) (v225 : IVec S128x1 32) (v230 : IVec S128x512 1), FVec F S128x512 .f32) :=
  ⟨k1_pay46 v172 v182 v184, k1_pay47 v7 v172 v182 v184, k1_pay49 v7 v172 v182 v184, k1_pay50 v7 v172 v182 v184, k1_pay51 v7 v172 v182 v184, k1_pay52 v7 v172 v182 v184, k1_pay53 v7 v172 v182 v184, k1_pay54 v7 v172 v182 v184, k1_pay55 (F := F)⟩

def fin6 (v7 : IVec S128x512 32) (v217 : FVec F S128x512 .f32) (v230 : IVec S128x512 1) (v231 : FVec F S128x512 .f32) : (Σ' (v234 : FVec F S128x1 .f32) (v240 : IVec S128x1 32) (v249 : FVec F S128x1 .f32) (v255 : IVec S128x1 32) (v264 : FVec F S128x1 .f32) (v270 : IVec S128x1 32) (v277 : FVec F S128x512 .f32), FVec F S128 .f32) :=
  ⟨k1_pay57 v217 v230 v231, k1_pay58 v7 v217 v230 v231, k1_pay60 v7 v217 v230 v231, k1_pay61 v7 v217 v230 v231, k1_pay63 v7 v217 v230 v231, k1_pay64 v7 v217 v230 v231, k1_pay65 v7 v217 v230 v231, k1_pay66 v7 v217 v230 v231⟩

def fin7 (v7 : IVec S128x512 32) (v277 : FVec F S128x512 .f32) (v278 : FVec F S128 .f32) : (Σ' (v279 : FVec F S128x1 .f32) (v285 : IVec S128x1 32) (v294 : FVec F S128x1 .f32) (v300 : IVec S128x1 32) (v309 : FVec F S128x1 .f32) (v315 : IVec S128x1 32) (v322 : FVec F S128x512 .f32) (v324 : FVec F S128x1 .f32), IVec S128x512 1) :=
  ⟨k1_pay67 v278, k1_pay68 v7 v277 v278, k1_pay70 v7 v277 v278, k1_pay71 v7 v277 v278, k1_pay73 v7 v277 v278, k1_pay74 v7 v277 v278, k1_pay75 v7 v277 v278, k1_pay76 v7 v277 v278, k1_pay77 v7 v277 v278⟩

def fin8 (v7 : IVec S128x512 32) (v322 : FVec F S128x512 .f32) (v324 : FVec F S128x1 .f32) (v326 : IVec S128x512 1) : (Σ' (v330 : IVec S128x1 32) (v339 : FVec F S128x1 .f32) (v345 : IVec S128x1 32) (v354 : FVec F S128x1 .f32) (v360 : IVec S128x1 32) (v367 : FVec F S128x512 .f32) (v369 : FVec F S128x1 .f32), IVec S128x512 32) :=
  ⟨k1_pay78 v7 v326, k1_pay80 v7 v322 v324 v326, k1_pay81 v7 v322 v324 v326, k1_pay83 v7 v322 v324 v326, k1_pay84 v7 v322 v324 v326, k1_pay85 v7 v322 v324 v326, k1_pay86 v7 v322 v324 v326, k1_pay87 v7 v322 v324 v326⟩

def fin9 (v7 : IVec S128x512 32) (v367 : FVec F S128x512 .f32) (v369 : FVec F S128x1 .f32) (v373 : IVec S128x512 32) : (Σ' (v375 : IVec S128x1 32) (v384 : FVec F S128x1 .f32) (v390 : IVec S128x1 32) (v399 : FVec F S128x1 .f32) (v405 : IVec S128x1 32) (v412 : FVec F S128x512 .f32) (v414 : FVec F S128x1 .f32), IVec S128x1 32) :=
  ⟨k1_pay88 v373, k1_pay90 v7 v367 v369 v373, k1_pay91 v7 v367 v369 v373, k1_pay93 v7 v367 v369 v373, k1_pay94 v7 v367 v369 v373, k1_pay95 v7 v367 v369 v373, k1_pay96 v7 v367 v369 v373, k1_pay97 v7 v367 v369 v373⟩

def fin10 (v7 : IVec S128x512 32) (v412 : FVec F S128x512 .f32) (v414 : FVec F S128x1 .f32) (v420 : IVec S128x1 32) : (Σ' (v429 : FVec F S128x1 .f32) (v435 : IVec S128x1 32) (v444 : FVec F S128x1 .f32) (v450 : IVec S128x1 32) (v457 : FVec F S128x512 .f32) (v459 : FVec F S128x1 .f32) (v465 : IVec S128x1 32) (v467 : IVec S128x512 1), IVec S128x512 32) :=
  ⟨k1_pay99 v7 v412 v414 v420, k1_pay100 v7 v412 v414 v420, k1_pay102 v7 v412 v414 v420, k1_pay103 v7 v412 v414 v420, k1_pay104 v7 v412 v414 v420, k1_pay105 v7 v412 v414 v420, k1_pay106 v7 v412 v414 v420, k1_pay107 v7 v412 v414 v420, k1_pay108 v7 v412 v414 v420⟩

def fin11 (v1 : F .f32) (v3 : F .f32) (v7 : IVec S128x512 32) (v9 : FVec F S128x1 .f32) (v15 : IVec S128x1 32) (v24 : FVec F S128x1 .f32) (v30 : IVec S128x1 32) (v39 : FVec F S128x1 .f32) (v45 : IVec S128x1 32) (v54 : FVec F S128x1 .f32) (v60 : IVec S128x1 32) (v69 : FVec F S128x1 .f32) (v75 : IVec S128x1 32) (v84 : FVec F S128x1 .f32) (v90 : IVec S128x1 32) (v99 : FVec F S128x1 .f32) (v105 : IVec S128x1 32) (v114 : FVec F S128x1 .f32) (v120 : IVec S128x1 32) (v129 : FVec F S128x1 .f32) (v135 : IVec S128x1 32) (v144 : FVec F S128x1 .f32) (v150 : IVec S128x1 32) (v159 : FVec F S128x1 .f32) (v165 : IVec S128x1 32) (v174 : FVec F S128x1 .f32) (v180 : IVec S128x1 32) (v189 : FVec F S128x1 .f32) (v195 : IVec S128x1 32) (v204 : FVec F S128x1 .f32) (v210 : IVec S128x1 32) (v219 : FVec F S128x1 .f32) (v225 : IVec S128x1 32) (v234 : FVec F S128x1 .f32) (v240 : IVec S128x1 32) (v249 : FVec F S128x1 .f32) (v255 : IVec S128x1 32) (v264 : FVec F S128x1 .f32) (v270 : IVec S128x1 32) (v279 : FVec F S128x1 .f32) (v285 : IVec S128x1 32) (v294 : FVec F S128x1 .f32) (v300 : IVec S128x1 32) (v309 : FVec F S128x1 .f32) (v315 : IVec S128x1 32) (v324 : FVec F S128x1 .f32) (v330 : IVec S128x1 32) (v339 : FVec F S128x1 .f32) (v345 : IVec S128x1 32) (v354 : FVec F S128x1 .f32) (v360 : IVec S128x1 32) (v369 : FVec F S128x1 .f32) (v375 : IVec S128x1 32) (v384 : FVec F S128x1 .f32) (v390 : IVec S128x1 32) (v399 : FVec F S128x1 .f32) (v405 : IVec S128x1 32) (v414 : FVec F S128x1 .f32) (v420 : IVec S128x1 32) (v429 : FVec F S128x1 .f32) (v435 : IVec S128x1 32) (v444 : FVec F S128x1 .f32) (v450 : IVec S128x1 32) (v457 : FVec F S128x512 .f32) (v459 : FVec F S128x1 .f32) (v465 : IVec S128x1 32) (v467 : IVec S128x512 1) (v468 : IVec S128x512 32) : (Σ' (v484 : IVec S128x32 32) (v485 : IVec S128x32 32) (v511 : FVec F S128x32 .f32) (v515 : IVec S128x32 32) (v516 : IVec S128x32 32), BitVec 32) :=
  have v485 : IVec S128x32 32 := iota .tc S128x32 32 [1] iota_S128x32_d1_w32
  ⟨k1_pay111 v7 v15 v30 v45 v60 v75 v90 v105 v120 v135 v150 v165 v180 v195 v210 v225 v240 v255 v270 v285 v300 v315 v330 v345 v360 v375 v390 v405 v420 v435 v450 v457 v465 v467 v468, v485, k1_pay112 v1 v3 v7 v9 v24 v39 v54 v69 v84 v99 v114 v129 v144 v159 v174 v189 v204 v219 v234 v249 v264 v279 v294 v309 v324 v339 v354 v369 v384 v399 v414 v429 v444 v457 v459 v467 v468, k1_pay113 v7 v15 v30 v45 v60 v75 v90 v105 v120 v135 v150 v165 v180 v195 v210 v225 v240 v255 v270 v285 v300 v315 v330 v345 v360 v375 v390 v405 v420 v435 v450 v457 v465 v467 v468, k1_pay114, 0#32⟩

def fin12 (v515 : IVec S128x32 32) (v516 : IVec S128x32 32) (c0_i32_137 : BitVec 32) : (Σ' (v561 : IVec S128x32 32), IVec S128x32 32) :=
  ⟨k1_pay125 v515 v516 c0_i32_137, k1_pay126 v515 v516 c0_i32_137⟩

def fin13 (v561 : IVec S128x32 32) (v562 : IVec S128x32 32) : (Σ' (v603 : IVec S128x32 32) (v605 : IVec S128x32 32), IVec S128x32 32) :=
  ⟨k1_pay136 v561 v562, k1_pay137 v561 v562, k1_pay138 v561 v562⟩

def fin14 (v603 : IVec S128x32 32) (v605 : IVec S128x32 32) (v607 : IVec S128x32 32) : (Σ' (v650 : IVec S128x32 32) (v652 : IVec S128x32 32), BitVec 32) :=
  ⟨k1_pay149 v603 v605 v607, k1_pay150 v603 v605 v607, 466689008#32⟩

def fin15 (v650 : IVec S128x32 32) (v652 : IVec S128x32 32) (c466689008_i32_166 : BitVec 32) : (Σ' (v696 : FVec F S128x32 .f32), FVec F S128x32 .f32) :=
  ⟨k1_pay151 (F := F) v650 v652 c466689008_i32_166, k1_pay152 (F := F)⟩

def finV (v0 : Vec F S1x1 .f32) (v2 : Vec F S1x1 .f32) (v4 : Vec F S128x512 .f32) (v6 : Vec F S128x512 .i32) : (IVec S128x1 32) :=
  let ⟨v1, v3, v7, v9, v15, v24, v30, v37, v39, v41, c100000_i32_14⟩ : Σ' (v1 : F .f32) (v3 : F .f32) (v7 : IVec S128x512 32) (v9 : FVec F S128x1 .f32) (v15 : IVec S128x1 32) (v24 : FVec F S128x1 .f32) (v30 : IVec S128x1 32) (v37 : FVec F S128x512 .f32) (v39 : FVec F S128x1 .f32) (v41 : IVec S128x512 1), BitVec 32 := fin1 (F := F) v0 v2 v4 v6
  let ⟨v45, v54, v60, v69, v75, v82, v84, v88⟩ : Σ' (v45 : IVec S128x1 32) (v54 : FVec F S128x1 .f32) (v60 : IVec S128x1 32) (v69 : FVec F S128x1 .f32) (v75 : IVec S128x1 32) (v82 : FVec F S128x512 .f32) (v84 : FVec F S128x1 .f32), IVec S128x512 32 := fin2 (F := F) v7 v37 v39 v41 c100000_i32_14
  let ⟨v90, v99, v105, v114, v120, v127, v129, v135, v136⟩ : Σ' (v90 : IVec S128x1 32) (v99 : FVec F S128x1 .f32) (v105 : IVec S128x1 32) (v114 : FVec F S128x1 .f32) (v120 : IVec S128x1 32) (v127 : FVec F S128x512 .f32) (v129 : FVec F S128x1 .f32) (v135 : IVec S128x1 32), FVec F S128x512 .f32 := fin3 (F := F) v7 v82 v84 v88
  let ⟨v144, v150, v159, v165, v172, v174, v180, v182, v184⟩ : Σ' (v144 : FVec F S128x1 .f32) (v150 : IVec S128x1 32) (v159 : FVec F S128x1 .f32) (v165 : IVec S128x1 32) (v172 : FVec F S128x512 .f32) (v174 : FVec F S128x1 .f32) (v180 : IVec S128x1 32) (v182 : IVec S128x512 1), IVec S128x512 1 := fin4 (F := F) v7 v127 v135 v136
  let ⟨v189, v195, v204, v210, v217, v219, v225, v230, v231⟩ : Σ' (v189 : FVec F S128x1 .f32) (v195 : IVec S128x1 32) (v204 : FVec F S128x1 .f32) (v210 : IVec S128x1 32) (v217 : FVec F S128x512 .f32) (v219 : FVec F S128x1 .f32) (v225 : IVec S128x1 32) (v230 : IVec S128x512 1), FVec F S128x512 .f32 := fin5 (F := F) v7 v172 v182 v184
  let ⟨v234, v240, v249, v255, v264, v270, v277, v278⟩ : Σ' (v234 : FVec F S128x1 .f32) (v240 : IVec S128x1 32) (v249 : FVec F S128x1 .f32) (v255 : IVec S128x1 32) (v264 : FVec F S128x1 .f32) (v270 : IVec S128x1 32) (v277 : FVec F S128x512 .f32), FVec F S128 .f32 := fin6 (F := F) v7 v217 v230 v231
  let ⟨v279, v285, v294, v300, v309, v315, v322, v324, v326⟩ : Σ' (v279 : FVec F S128x1 .f32) (v285 : IVec S128x1 32) (v294 : FVec F S128x1 .f32) (v300 : IVec S128x1 32) (v309 : FVec F S128x1 .f32) (v315 : IVec S128x1 32) (v322 : FVec F S128x512 .f32) (v324 : FVec F S128x1 .f32), IVec S128x512 1 := fin7 (F := F) v7 v277 v278
  let ⟨v330, v339, v345, v354, v360, v367, v369, v373⟩ : Σ' (v330 : IVec S128x1 32) (v339 : FVec F S128x1 .f32) (v345 : IVec S128x1 32) (v354 : FVec F S128x1 .f32) (v360 : IVec S128x1 32) (v367 : FVec F S128x512 .f32) (v369 : FVec F S128x1 .f32), IVec S128x512 32 := fin8 (F := F) v7 v322 v324 v326
  let ⟨v375, v384, v390, v399, v405, v412, v414, v420⟩ : Σ' (v375 : IVec S128x1 32) (v384 : FVec F S128x1 .f32) (v390 : IVec S128x1 32) (v399 : FVec F S128x1 .f32) (v405 : IVec S128x1 32) (v412 : FVec F S128x512 .f32) (v414 : FVec F S128x1 .f32), IVec S128x1 32 := fin9 (F := F) v7 v367 v369 v373
  let ⟨v429, v435, v444, v450, v457, v459, v465, v467, v468⟩ : Σ' (v429 : FVec F S128x1 .f32) (v435 : IVec S128x1 32) (v444 : FVec F S128x1 .f32) (v450 : IVec S128x1 32) (v457 : FVec F S128x512 .f32) (v459 : FVec F S128x1 .f32) (v465 : IVec S128x1 32) (v467 : IVec S128x512 1), IVec S128x512 32 := fin10 (F := F) v7 v412 v414 v420
  let ⟨v484, v485, v511, v515, v516, c0_i32_137⟩ : Σ' (v484 : IVec S128x32 32) (v485 : IVec S128x32 32) (v511 : FVec F S128x32 .f32) (v515 : IVec S128x32 32) (v516 : IVec S128x32 32), BitVec 32 := fin11 (F := F) v1 v3 v7 v9 v15 v24 v30 v39 v45 v54 v60 v69 v75 v84 v90 v99 v105 v114 v120 v129 v135 v144 v150 v159 v165 v174 v180 v189 v195 v204 v210 v219 v225 v234 v240 v249 v255 v264 v270 v279 v285 v294 v300 v309 v315 v324 v330 v339 v345 v354 v360 v369 v375 v384 v390 v399 v405 v414 v420 v429 v435 v444 v450 v457 v459 v465 v467 v468
  let ⟨v561, v562⟩ : Σ' (v561 : IVec S128x32 32), IVec S128x32 32 := fin12 v515 v516 c0_i32_137
  let ⟨v603, v605, v607⟩ : Σ' (v603 : IVec S128x32 32) (v605 : IVec S128x32 32), IVec S128x32 32 := fin13 v561 v562
  let ⟨v650, v652, c466689008_i32_166⟩ : Σ' (v650 : IVec S128x32 32) (v652 : IVec S128x32 32), BitVec 32 := fin14 v603 v605 v607
  let ⟨v696, v697⟩ : Σ' (v696 : FVec F S128x32 .f32), FVec F S128x32 .f32 := fin15 (F := F) v650 v652 c466689008_i32_166
  (k1_pay153 v484 v485 v511 v696 v697)

theorem part2_eq (arg0 : Memref sig .tc .vmem S1x1 .f32) (harg0 : arg0.IsWhole) (arg1 : Memref sig .tc .vmem S1x1 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x1 .i32) (harg4 : arg4.IsWhole) (v7 : IVec S128x512 32) (v37 : FVec F S128x512 .f32) (v39 : FVec F S128x1 .f32) (v41 : IVec S128x512 1) (c100000_i32_14 : BitVec 32) :
    k1_part2 (F := F) arg0 harg0 arg1 harg1 arg2 harg2 arg3 harg3 arg4 harg4 v7 v37 v39 v41 c100000_i32_14 = pure (fin2 (F := F) v7 v37 v39 v41 c100000_i32_14) := rfl
theorem part3_eq (arg0 : Memref sig .tc .vmem S1x1 .f32) (harg0 : arg0.IsWhole) (arg1 : Memref sig .tc .vmem S1x1 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x1 .i32) (harg4 : arg4.IsWhole) (v7 : IVec S128x512 32) (v82 : FVec F S128x512 .f32) (v84 : FVec F S128x1 .f32) (v88 : IVec S128x512 32) :
    k1_part3 (F := F) arg0 harg0 arg1 harg1 arg2 harg2 arg3 harg3 arg4 harg4 v7 v82 v84 v88 = pure (fin3 (F := F) v7 v82 v84 v88) := rfl
theorem part4_eq (arg0 : Memref sig .tc .vmem S1x1 .f32) (harg0 : arg0.IsWhole) (arg1 : Memref sig .tc .vmem S1x1 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x1 .i32) (harg4 : arg4.IsWhole) (v7 : IVec S128x512 32) (v127 : FVec F S128x512 .f32) (v135 : IVec S128x1 32) (v136 : FVec F S128x512 .f32) :
    k1_part4 (F := F) arg0 harg0 arg1 harg1 arg2 harg2 arg3 harg3 arg4 harg4 v7 v127 v135 v136 = pure (fin4 (F := F) v7 v127 v135 v136) := rfl
theorem part5_eq (arg0 : Memref sig .tc .vmem S1x1 .f32) (harg0 : arg0.IsWhole) (arg1 : Memref sig .tc .vmem S1x1 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x1 .i32) (harg4 : arg4.IsWhole) (v7 : IVec S128x512 32) (v172 : FVec F S128x512 .f32) (v182 : IVec S128x512 1) (v184 : IVec S128x512 1) :
    k1_part5 (F := F) arg0 harg0 arg1 harg1 arg2 harg2 arg3 harg3 arg4 harg4 v7 v172 v182 v184 = pure (fin5 (F := F) v7 v172 v182 v184) := rfl
theorem part6_eq (arg0 : Memref sig .tc .vmem S1x1 .f32) (harg0 : arg0.IsWhole) (arg1 : Memref sig .tc .vmem S1x1 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x1 .i32) (harg4 : arg4.IsWhole) (v7 : IVec S128x512 32) (v217 : FVec F S128x512 .f32) (v230 : IVec S128x512 1) (v231 : FVec F S128x512 .f32) :
    k1_part6 (F := F) arg0 harg0 arg1 harg1 arg2 harg2 arg3 harg3 arg4 harg4 v7 v217 v230 v231 = pure (fin6 (F := F) v7 v217 v230 v231) := rfl
theorem part7_eq (arg0 : Memref sig .tc .vmem S1x1 .f32) (harg0 : arg0.IsWhole) (arg1 : Memref sig .tc .vmem S1x1 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x1 .i32) (harg4 : arg4.IsWhole) (v7 : IVec S128x512 32) (v277 : FVec F S128x512 .f32) (v278 : FVec F S128 .f32) :
    k1_part7 (F := F) arg0 harg0 arg1 harg1 arg2 harg2 arg3 harg3 arg4 harg4 v7 v277 v278 = pure (fin7 (F := F) v7 v277 v278) := rfl
theorem part8_eq (arg0 : Memref sig .tc .vmem S1x1 .f32) (harg0 : arg0.IsWhole) (arg1 : Memref sig .tc .vmem S1x1 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x1 .i32) (harg4 : arg4.IsWhole) (v7 : IVec S128x512 32) (v322 : FVec F S128x512 .f32) (v324 : FVec F S128x1 .f32) (v326 : IVec S128x512 1) :
    k1_part8 (F := F) arg0 harg0 arg1 harg1 arg2 harg2 arg3 harg3 arg4 harg4 v7 v322 v324 v326 = pure (fin8 (F := F) v7 v322 v324 v326) := rfl
theorem part9_eq (arg0 : Memref sig .tc .vmem S1x1 .f32) (harg0 : arg0.IsWhole) (arg1 : Memref sig .tc .vmem S1x1 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x1 .i32) (harg4 : arg4.IsWhole) (v7 : IVec S128x512 32) (v367 : FVec F S128x512 .f32) (v369 : FVec F S128x1 .f32) (v373 : IVec S128x512 32) :
    k1_part9 (F := F) arg0 harg0 arg1 harg1 arg2 harg2 arg3 harg3 arg4 harg4 v7 v367 v369 v373 = pure (fin9 (F := F) v7 v367 v369 v373) := rfl
theorem part10_eq (arg0 : Memref sig .tc .vmem S1x1 .f32) (harg0 : arg0.IsWhole) (arg1 : Memref sig .tc .vmem S1x1 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x1 .i32) (harg4 : arg4.IsWhole) (v7 : IVec S128x512 32) (v412 : FVec F S128x512 .f32) (v414 : FVec F S128x1 .f32) (v420 : IVec S128x1 32) :
    k1_part10 (F := F) arg0 harg0 arg1 harg1 arg2 harg2 arg3 harg3 arg4 harg4 v7 v412 v414 v420 = pure (fin10 (F := F) v7 v412 v414 v420) := rfl
theorem part11_eq (arg0 : Memref sig .tc .vmem S1x1 .f32) (harg0 : arg0.IsWhole) (arg1 : Memref sig .tc .vmem S1x1 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x1 .i32) (harg4 : arg4.IsWhole) (v1 : F .f32) (v3 : F .f32) (v7 : IVec S128x512 32) (v9 : FVec F S128x1 .f32) (v15 : IVec S128x1 32) (v24 : FVec F S128x1 .f32) (v30 : IVec S128x1 32) (v39 : FVec F S128x1 .f32) (v45 : IVec S128x1 32) (v54 : FVec F S128x1 .f32) (v60 : IVec S128x1 32) (v69 : FVec F S128x1 .f32) (v75 : IVec S128x1 32) (v84 : FVec F S128x1 .f32) (v90 : IVec S128x1 32) (v99 : FVec F S128x1 .f32) (v105 : IVec S128x1 32) (v114 : FVec F S128x1 .f32) (v120 : IVec S128x1 32) (v129 : FVec F S128x1 .f32) (v135 : IVec S128x1 32) (v144 : FVec F S128x1 .f32) (v150 : IVec S128x1 32) (v159 : FVec F S128x1 .f32) (v165 : IVec S128x1 32) (v174 : FVec F S128x1 .f32) (v180 : IVec S128x1 32) (v189 : FVec F S128x1 .f32) (v195 : IVec S128x1 32) (v204 : FVec F S128x1 .f32) (v210 : IVec S128x1 32) (v219 : FVec F S128x1 .f32) (v225 : IVec S128x1 32) (v234 : FVec F S128x1 .f32) (v240 : IVec S128x1 32) (v249 : FVec F S128x1 .f32) (v255 : IVec S128x1 32) (v264 : FVec F S128x1 .f32) (v270 : IVec S128x1 32) (v279 : FVec F S128x1 .f32) (v285 : IVec S128x1 32) (v294 : FVec F S128x1 .f32) (v300 : IVec S128x1 32) (v309 : FVec F S128x1 .f32) (v315 : IVec S128x1 32) (v324 : FVec F S128x1 .f32) (v330 : IVec S128x1 32) (v339 : FVec F S128x1 .f32) (v345 : IVec S128x1 32) (v354 : FVec F S128x1 .f32) (v360 : IVec S128x1 32) (v369 : FVec F S128x1 .f32) (v375 : IVec S128x1 32) (v384 : FVec F S128x1 .f32) (v390 : IVec S128x1 32) (v399 : FVec F S128x1 .f32) (v405 : IVec S128x1 32) (v414 : FVec F S128x1 .f32) (v420 : IVec S128x1 32) (v429 : FVec F S128x1 .f32) (v435 : IVec S128x1 32) (v444 : FVec F S128x1 .f32) (v450 : IVec S128x1 32) (v457 : FVec F S128x512 .f32) (v459 : FVec F S128x1 .f32) (v465 : IVec S128x1 32) (v467 : IVec S128x512 1) (v468 : IVec S128x512 32) :
    k1_part11 (F := F) arg0 harg0 arg1 harg1 arg2 harg2 arg3 harg3 arg4 harg4 v1 v3 v7 v9 v15 v24 v30 v39 v45 v54 v60 v69 v75 v84 v90 v99 v105 v114 v120 v129 v135 v144 v150 v159 v165 v174 v180 v189 v195 v204 v210 v219 v225 v234 v240 v249 v255 v264 v270 v279 v285 v294 v300 v309 v315 v324 v330 v339 v345 v354 v360 v369 v375 v384 v390 v399 v405 v414 v420 v429 v435 v444 v450 v457 v459 v465 v467 v468 = pure (fin11 (F := F) v1 v3 v7 v9 v15 v24 v30 v39 v45 v54 v60 v69 v75 v84 v90 v99 v105 v114 v120 v129 v135 v144 v150 v159 v165 v174 v180 v189 v195 v204 v210 v219 v225 v234 v240 v249 v255 v264 v270 v279 v285 v294 v300 v309 v315 v324 v330 v339 v345 v354 v360 v369 v375 v384 v390 v399 v405 v414 v420 v429 v435 v444 v450 v457 v459 v465 v467 v468) := rfl
theorem part12_eq (arg0 : Memref sig .tc .vmem S1x1 .f32) (harg0 : arg0.IsWhole) (arg1 : Memref sig .tc .vmem S1x1 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x1 .i32) (harg4 : arg4.IsWhole) (v515 : IVec S128x32 32) (v516 : IVec S128x32 32) (c0_i32_137 : BitVec 32) :
    k1_part12 (F := F) arg0 harg0 arg1 harg1 arg2 harg2 arg3 harg3 arg4 harg4 v515 v516 c0_i32_137 = pure (fin12 v515 v516 c0_i32_137) := rfl
theorem part13_eq (arg0 : Memref sig .tc .vmem S1x1 .f32) (harg0 : arg0.IsWhole) (arg1 : Memref sig .tc .vmem S1x1 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x1 .i32) (harg4 : arg4.IsWhole) (v561 : IVec S128x32 32) (v562 : IVec S128x32 32) :
    k1_part13 (F := F) arg0 harg0 arg1 harg1 arg2 harg2 arg3 harg3 arg4 harg4 v561 v562 = pure (fin13 v561 v562) := rfl
theorem part14_eq (arg0 : Memref sig .tc .vmem S1x1 .f32) (harg0 : arg0.IsWhole) (arg1 : Memref sig .tc .vmem S1x1 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x1 .i32) (harg4 : arg4.IsWhole) (v603 : IVec S128x32 32) (v605 : IVec S128x32 32) (v607 : IVec S128x32 32) :
    k1_part14 (F := F) arg0 harg0 arg1 harg1 arg2 harg2 arg3 harg3 arg4 harg4 v603 v605 v607 = pure (fin14 v603 v605 v607) := rfl
theorem part15_eq (arg0 : Memref sig .tc .vmem S1x1 .f32) (harg0 : arg0.IsWhole) (arg1 : Memref sig .tc .vmem S1x1 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x1 .i32) (harg4 : arg4.IsWhole) (v650 : IVec S128x32 32) (v652 : IVec S128x32 32) (c466689008_i32_166 : BitVec 32) :
    k1_part15 (F := F) arg0 harg0 arg1 harg1 arg2 harg2 arg3 harg3 arg4 harg4 v650 v652 c466689008_i32_166 = pure (fin15 (F := F) v650 v652 c466689008_i32_166) := rfl

theorem part1_eq (arg0 : Memref sig .tc .vmem S1x1 .f32) (harg0 : arg0.IsWhole) (arg1 : Memref sig .tc .vmem S1x1 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x1 .i32) (harg4 : arg4.IsWhole) :
    k1_part1 (F := F) arg0 harg0 arg1 harg1 arg2 harg2 arg3 harg3 arg4 harg4 = (do
  let v0 : Vec F S1x1 .f32 ← Prog.lift (.load arg0 (Rect.unit (s := S1x1) ![0, 0] S1x1.size inb_S1x1_S1x1_0_0).toLoadRect (View.loadsAt_vmem h_S1x1))
  let v2 : Vec F S1x1 .f32 ← Prog.lift (.load arg1 (Rect.unit (s := S1x1) ![0, 0] S1x1.size inb_S1x1_S1x1_0_0).toLoadRect (View.loadsAt_vmem h_S1x1))
  let v4 : Vec F S128x512 .f32 ← Prog.lift (.load arg2 (Rect.unit (s := S128x512) ![0, 0] S128x512.size inb_S128x512_S128x512_0_0).toLoadRect (View.loadsAt_vmem h_S128x512))
  let v6 : Vec F S128x512 .i32 ← Prog.lift (.load arg3 (Rect.unit (s := S128x512) ![0, 0] S128x512.size inb_S128x512_S128x512_0_0).toLoadRect (View.loadsAt_vmem h_S128x512))
  pure (fin1 (F := F) v0 v2 v4 v6)) := rfl

/-- The body: the four operands loaded whole, the value stored whole. -/
def finBody (arg0 : Memref sig .tc .vmem S1x1 .f32) (harg0 : arg0.IsWhole) (arg1 : Memref sig .tc .vmem S1x1 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x1 .i32) (harg4 : arg4.IsWhole) : Prog (TpuEff nD τ sig (Elt F) Λ₀ .tc) PUnit := do
  let v0 : Vec F S1x1 .f32 ← Prog.lift (.load arg0 (Rect.unit (s := S1x1) ![0, 0] S1x1.size inb_S1x1_S1x1_0_0).toLoadRect (View.loadsAt_vmem h_S1x1))
  let v2 : Vec F S1x1 .f32 ← Prog.lift (.load arg1 (Rect.unit (s := S1x1) ![0, 0] S1x1.size inb_S1x1_S1x1_0_0).toLoadRect (View.loadsAt_vmem h_S1x1))
  let v4 : Vec F S128x512 .f32 ← Prog.lift (.load arg2 (Rect.unit (s := S128x512) ![0, 0] S128x512.size inb_S128x512_S128x512_0_0).toLoadRect (View.loadsAt_vmem h_S128x512))
  let v6 : Vec F S128x512 .i32 ← Prog.lift (.load arg3 (Rect.unit (s := S128x512) ![0, 0] S128x512.size inb_S128x512_S128x512_0_0).toLoadRect (View.loadsAt_vmem h_S128x512))
  let _v : Vec F S128x1 .i32 ← Prog.lift (.load arg4 (Rect.unit (s := S128x1) ![0, 0] S128x1.size inb_S128x1_S128x1_0_0).toLoadRect (View.loadsAt_vmem h_S128x1))
  Prog.lift (.store arg4 (Rect.unit (s := S128x1) ![0, 0] S128x1.size inb_S128x1_S128x1_0_0) (finV v0 v2 v4 v6) Finset.univ (View.stores_vmem_bits_univ h_S128x1 rfl) (.inl rfl))
  pure ⟨⟩

theorem finBody_eq (arg0 : Memref sig .tc .vmem S1x1 .f32) (harg0 : arg0.IsWhole) (arg1 : Memref sig .tc .vmem S1x1 .f32) (harg1 : arg1.IsWhole) (arg2 : Memref sig .tc .vmem S128x512 .f32) (harg2 : arg2.IsWhole) (arg3 : Memref sig .tc .vmem S128x512 .i32) (harg3 : arg3.IsWhole) (arg4 : Memref sig .tc .vmem S128x1 .i32) (harg4 : arg4.IsWhole) :
    cc1__finalize_body (F := F) arg0 harg0 arg1 harg1 arg2 harg2 arg3 harg3 arg4 harg4 = finBody (F := F) arg0 harg0 arg1 harg1 arg2 harg2 arg3 harg3 arg4 harg4 := by
  unfold cc1__finalize_body finBody
  rw [k1_part16_eq_skeleton]
  unfold k1_part16_skel finV
  simp only [part1_eq, part2_eq, part3_eq, part4_eq, part5_eq, part6_eq, part7_eq, part8_eq, part9_eq, part10_eq, part11_eq, part12_eq, part13_eq, part14_eq, part15_eq, pure_bind, bind_assoc]

end Cert.Proof.Sc

end
-- ==== Proof.Region.lean ====
/-
  The second call, whose five operands are staged whole: its body run to the value `finV` of its four inputs, its
  proof data, and the call as a segment of the host program, entered from any contents of the unscoped buffers.
-/
module

public import proofs.«01_k».proof.Proof.Launch
public import proofs.«01_k».proof.Proof.Fin
public import Idealize.ShloMosaic.Lib.Pipeline.RegionsLoop

@[expose] public section

set_option maxRecDepth 65536

noncomputable section

namespace Cert.Proof.Sc

open Cert.KernelIdeal Cert.KernelIdeal.Gen Cert.Proof.Row

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe
open Idealize.ShloMosaic.Pipeline (Dat Cfg Window BodyObligation cellOf)

variable {F : FTy → Type} [FloatOps F]

local notation "𝕄" => MT nD τ sig (HIx 1) (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The body run -/

noncomputable def finRun (c : Dev nD) (M0 : Memref sig .tc .vmem S1x1 .f32) (h0 : M0.IsWhole) (M1 : Memref sig .tc .vmem S1x1 .f32) (h1 : M1.IsWhole)
    (M2 : Memref sig .tc .vmem S128x512 .f32) (h2 : M2.IsWhole) (M3 : Memref sig .tc .vmem S128x512 .i32) (h3 : M3.IsWhole)
    (M4 : Memref sig .tc .vmem S128x1 .i32) (h4 : M4.IsWhole)
    (f0 : Bf (F := F) c M0) (f1 : Bf (F := F) c M1) (f2 : Bf (F := F) c M2) (f3 : Bf (F := F) c M3) :
    { W : Bf (F := F) c M4 // ∀ (f4 : Bf (F := F) c M4) (E : Set ℕ) (Q : PUnit → sProp 𝕄),
        iprop(pt c M0 f0 ∗ pt c M1 f1 ∗ pt c M2 f2 ∗ pt c M3 f3 ∗ pt c M4 f4
            ∗ (iprop(pt c M0 f0 ∗ pt c M1 f1 ∗ pt c M2 f2 ∗ pt c M3 f3 ∗ pt c M4 W) -∗ Q ⟨⟩))
          ⊢ wp frame (wpE (defs₀ (F := F)) Variants.none c none) E (cc1__finalize_body M0 h0 M1 h1 M2 h2 M3 h3 M4 h4) Q } := by
  refine ⟨?_, fun f4 E Q => ?run⟩
  case run =>
    rw [finBody_eq]
    unfold finBody
    iintro ⟨H0, H1, H2, H3, H4, Hk⟩
    sl_exec!
    sl_step
    iapply Hk
    isplitl [H0]; · iexact H0
    isplitl [H1]; · iexact H1
    isplitl [H2]; · iexact H2
    isplitl [H3]; · iexact H3
    iexact H4

/-! ## The proof data, at an entry valuation -/

variable (V : (c : Dev nD) → (b : Ref sig .tc) → Buf (Elt F) ((c : Thread nD τ).loc b))

abbrev stg0 (c : Dev nD) : (cfg1.win 0).block.Idx → Elt F (cfg1.win 0).elt := ((cfg1.win 0).blk t1_0).view.read (Elt F) (V c main_v2)
abbrev stg1 (c : Dev nD) : (cfg1.win 1).block.Idx → Elt F (cfg1.win 1).elt := ((cfg1.win 1).blk t1_0).view.read (Elt F) (V c main_v4)
abbrev stg2 (c : Dev nD) : (cfg1.win 2).block.Idx → Elt F (cfg1.win 2).elt := ((cfg1.win 2).blk t1_0).view.read (Elt F) (V c main_v0_0)
abbrev stg3 (c : Dev nD) : (cfg1.win 3).block.Idx → Elt F (cfg1.win 3).elt := ((cfg1.win 3).blk t1_0).view.read (Elt F) (V c main_v0_1)

abbrev KR (c : Dev nD) := finRun (F := F) c (stage1_0 0) (hstage1_0 0) (stage1_1 0) (hstage1_1 0) (stage1_2 0) (hstage1_2 0)
  (stage1_3 0) (hstage1_3 0) (stage1_4 0) (hstage1_4 0) (stg0 V c) (stg1 V c) (stg2 V c) (stg3 V c)

abbrev Φc (c : Dev nD) : sProp 𝕄 := Pipeline.scopedRest (Ix := HIx 1) (Name := ℕ) (U := UU) (Lvl := ℕ) (Val := Elt F) spec1 c

/-- The waits recorded so far all lie in the first call's levels. -/
def recd (c : Dev nD) : Set (SemLoc sig × HIx 1) := {p | (K (F := F)).lev (T c, p.1) p.2 ≤ 8}

def dat (c : Dev nD) : Dat τ (Elt F) (HIx 1) ℕ UU ℕ cfg1 c where
  A w := V c (Pipeline.arrRef spec1 w)
  after w _ := match w with
    | ⟨0, _⟩ => stg0 V c
    | ⟨1, _⟩ => stg1 V c
    | ⟨2, _⟩ => stg2 V c
    | ⟨3, _⟩ => stg3 V c
    | ⟨4, _⟩ => (KR V c).1
  Φ _ := Φc c
  q _ := fullShare
  owed _ := 0
  recorded _ := recd (F := F) c

def pdats : (p : Fin 1) → (c : Dev nD) → Dat τ (Elt F) (HIx 1) ℕ UU ℕ (pins (F := F) p) c
  | ⟨0, _⟩ => fun c => dat V c

theorem before_0 (c : Dev nD) (d : (cfg1.win 0).block.Idx → Elt F (cfg1.win 0).elt) : (dat V c).before 0 t1_0 d = stg0 V c := by
  unfold Dat.before; rw [if_pos (by decide)]; rfl
theorem before_1 (c : Dev nD) (d : (cfg1.win 1).block.Idx → Elt F (cfg1.win 1).elt) : (dat V c).before 1 t1_0 d = stg1 V c := by
  unfold Dat.before; rw [if_pos (by decide)]; rfl
theorem before_2 (c : Dev nD) (d : (cfg1.win 2).block.Idx → Elt F (cfg1.win 2).elt) : (dat V c).before 2 t1_0 d = stg2 V c := by
  unfold Dat.before; rw [if_pos (by decide)]; rfl
theorem before_3 (c : Dev nD) (d : (cfg1.win 3).block.Idx → Elt F (cfg1.win 3).elt) : (dat V c).before 3 t1_0 d = stg3 V c := by
  unfold Dat.before; rw [if_pos (by decide)]; rfl

theorem body_obligation (c : Dev nD) : BodyObligation (dat V c) (defs₀ (F := F)) 𝒱₀ none Set.univ := fun t => by
  obtain rfl := fin_N1 t
  rw [bigSep_W1, bigSep_W1]
  simp only [owns_whole_eq]
  rw [show (dat V c).Φ t1_0.castSucc = Φc c from rfl, show (dat V c).Φ t1_0.succ = Φc c from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩⟩
  rw [before_0] at hf0
  rw [before_1] at hf1
  rw [before_2] at hf2
  rw [before_3] at hf3
  subst hf0 hf1 hf2 hf3
  iapply ((KR V c).2 f4 Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  iexists _; isplitr; swap; (· iexact H4); ipureintro; dsimp only [dat]

/-! ## The call over the thread's state -/

/-- The result's array after the call. -/
def finned (c : Dev nD) : Buf (Elt F) ((c : Thread nD τ).loc main_v5) := (dat V c).arrAt 4 cfg1.N

variable (Vp : (c : Dev nD) → (b : Ref sig .tc) → Buf (Elt F) ((c : Thread nD τ).loc b))

/-- The core owes nothing, and its recorded waits lie in the first call's levels. -/
abbrev ow (c : Dev nD) : sProp 𝕄 :=
  iprop(∃ W, ⌜(K (F := F)).WBelow (T c) W 8⌝ ∗ owes (c : Thread nD τ) (0 : CellTallies nD τ sig (HIx 1)) W)

set_option backward.isDefEq.respectTransparency.types false in
def reg (hVp_out : ∀ c, Vp c main_v5 = finned V c) (hVp_ne : ∀ c (b : Ref sig .tc), b ≠ main_v5 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ ow c)
  post c := iprop(unscopedBufs c (Vp c) ∗ ow c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v2 (by decide)).symm
        · exact ((pdats V 0 c).arrAt_in 1 rfl _).trans (hVp_ne c main_v4 (by decide)).symm
        · exact ((pdats V 0 c).arrAt_in 2 rfl _).trans (hVp_ne c main_v0_0 (by decide)).symm
        · exact ((pdats V 0 c).arrAt_in 3 rfl _).trans (hVp_ne c main_v0_1 (by decide)).symm
        · exact (hVp_out c).symm)
      (fun b hb => hVp_ne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le 8
    iexact HO

end Cert.Proof.Sc

end
-- ==== Proof.Main.lean ====
/-
  The host program on the TensorCore: the first call's two tables, the four host operations, the second call and the
  last reshape; the run of the whole program, its result a term of the four arguments.
-/
module

public import proofs.«01_k».proof.Proof.Region

@[expose] public section

set_option maxRecDepth 65536

noncomputable section

namespace Cert.Proof.Sc

open Cert.KernelIdeal Cert.KernelIdeal.Gen Cert.Proof.Row

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe

variable {F : FTy → Type} [FloatOps F]

local notation "𝕄" => MT nD τ sig (HIx 1) (Elt F) ℕ UU ℕ

variable (m : (ℓ : Loc nD τ sig) → Buf (Elt F) ℓ)

/-! ## The contents from step to step -/

def W0 (d : Dev nD) : Valuation τ sig (Elt F) := StableHlo.launchContents m d
def W1 (d : Dev nD) : Valuation τ sig (Elt F) :=
  Function.update (Function.update (W0 m d) (Proc.devRef .tc main_v0_0) (vTab (m (xLoc d)))) (Proc.devRef .tc main_v0_1) (iTab (m (xLoc d)))

def op1 : HloOp τ sig (Elt F) := StableHlo.unary main_arg1 main_v1 (sitofp .f32 : (⟨S_, .i32⟩ : BufTy).Contents (Elt F) → (⟨S_, .f32⟩ : BufTy).Contents (Elt F))
def op2 : HloOp τ sig (Elt F) := StableHlo.reshape main_v1 main_v2 (rfl : (.f32 : EltTy) = .f32) shapeCasts_S_S1x1
def op3 : HloOp τ sig (Elt F) := StableHlo.unary main_arg3 main_v3 (sitofp .f32 : (⟨S_, .i32⟩ : BufTy).Contents (Elt F) → (⟨S_, .f32⟩ : BufTy).Contents (Elt F))
def op4 : HloOp τ sig (Elt F) := StableHlo.reshape main_v3 main_v4 (rfl : (.f32 : EltTy) = .f32) shapeCasts_S_S1x1
def op5 : HloOp τ sig (Elt F) := StableHlo.reshape main_v5 main_v6 (rfl : (.i32 : EltTy) = .i32) shapeCasts_S128x1_S128

def W2 (d : Dev nD) : Valuation τ sig (Elt F) := (op4 (F := F)).result ((op3 (F := F)).result ((op2 (F := F)).result ((op1 (F := F)).result (W1 m d))))

/-- The second call's entry contents, at the TensorCore's references. -/
def V2 (c : Dev nD) (b : Ref sig .tc) : Buf (Elt F) ((c : Thread nD τ).loc b) := W2 m c b

def W3 (d : Dev nD) : Valuation τ sig (Elt F) := Function.update (W2 m d) (Proc.devRef .tc main_v5) (finned (V2 m) d)
def V3 (c : Dev nD) (b : Ref sig .tc) : Buf (Elt F) ((c : Thread nD τ).loc b) := W3 m c b

theorem V3_out (c : Dev nD) : V3 m c main_v5 = finned (V2 m) c := by unfold V3 W3; rw [Function.update_self]
theorem V3_ne (c : Dev nD) (b : Ref sig .tc) (h : b ≠ main_v5) : V3 m c b = V2 m c b := by
  unfold V3 W3; rw [Function.update_of_ne (StableHlo.devRef_ne_of_ne h)]; rfl

def W4 (d : Dev nD) : Valuation τ sig (Elt F) := (op5 (F := F)).result (W3 m d)

/-! ## The unscoped buffers -/

def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- What neither the first call nor the claim names. -/
def restB (d : Dev nD) (W : (b : Ref sig .tc) → Buf (Elt F) ((d.tc : Thread nD τ).loc b)) : sProp 𝕄 :=
  iprop((((d.tc : Thread nD τ).loc main_v1) ↦{fullShare} W main_v1) ∗ (((d.tc : Thread nD τ).loc main_v2) ↦{fullShare} W main_v2)
    ∗ (((d.tc : Thread nD τ).loc main_v3) ↦{fullShare} W main_v3) ∗ (((d.tc : Thread nD τ).loc main_v4) ↦{fullShare} W main_v4)
    ∗ (((d.tc : Thread nD τ).loc main_v5) ↦{fullShare} W main_v5))

theorem unscopedBufs_eq (d : Dev nD) (W : (b : Ref sig .tc) → Buf (Elt F) ((d.tc : Thread nD τ).loc b)) :
    (unscopedBufs d W : sProp 𝕄) = iprop((((d.tc : Thread nD τ).loc main_arg0) ↦{fullShare} W main_arg0) ∗ (((d.tc : Thread nD τ).loc main_v0_0) ↦{fullShare} W main_v0_0)
      ∗ (((d.tc : Thread nD τ).loc main_v0_1) ↦{fullShare} W main_v0_1)
      ∗ (((d.tc : Thread nD τ).loc main_arg1) ↦{fullShare} W main_arg1) ∗ (((d.tc : Thread nD τ).loc main_arg2) ↦{fullShare} W main_arg2)
      ∗ (((d.tc : Thread nD τ).loc main_arg3) ↦{fullShare} W main_arg3) ∗ (((d.tc : Thread nD τ).loc main_v6) ↦{fullShare} W main_v6) ∗ restB d W) := by
  unfold unscopedBufs restB
  rw [show (Finset.univ.filter fun b : Ref sig .tc => ¬ b.isScoped)
      = {main_arg0, main_v0_0, main_v0_1, main_arg1, main_arg2, main_arg3, main_v6, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem W1_ne (d : Dev nD) (b : Ref sig .tc) (h0 : b ≠ main_v0_0) (h1 : b ≠ main_v0_1) : W1 m d b = m ((d.tc : Thread nD τ).loc b) := by
  unfold W1
  rw [Function.update_of_ne (StableHlo.devRef_ne_of_ne h1), Function.update_of_ne (StableHlo.devRef_ne_of_ne h0)]
  rfl
theorem W1_v (d : Dev nD) : W1 m d main_v0_0 = vTab (m (xLoc d)) := by
  unfold W1
  rw [Function.update_of_ne (StableHlo.devRef_ne_of_ne (by decide)), Function.update_self]
theorem W1_i (d : Dev nD) : W1 m d main_v0_1 = iTab (m (xLoc d)) := by
  unfold W1; rw [Function.update_self]

/-- The buffers before the first call, those it takes apart from the others. -/
def others (d : Dev nD) : sProp 𝕄 :=
  iprop((((d.tc : Thread nD τ).loc main_arg1) ↦{fullShare} W1 m d main_arg1) ∗ (((d.tc : Thread nD τ).loc main_arg2) ↦{fullShare} W1 m d main_arg2)
      ∗ (((d.tc : Thread nD τ).loc main_arg3) ↦{fullShare} W1 m d main_arg3) ∗ (((d.tc : Thread nD τ).loc main_v6) ↦{fullShare} W1 m d main_v6) ∗ restB d (fun b => W1 m d b))

theorem bufs_before (d : Dev nD) : (unscopedBufs d (fun b => m ((d.tc : Thread nD τ).loc b)) : sProp 𝕄)
    ⊢ iprop(((xLoc d ↦{fullShare} m (xLoc d)) ∗ (vLoc d ↦{fullShare} m (vLoc d)) ∗ (iLoc d ↦{fullShare} m (iLoc d))) ∗ others m d) := by
  rw [unscopedBufs_eq]
  unfold others restB
  dsimp only
  rw [W1_ne m d main_arg1 (by decide) (by decide), W1_ne m d main_arg2 (by decide) (by decide), W1_ne m d main_arg3 (by decide) (by decide),
    W1_ne m d main_v6 (by decide) (by decide), W1_ne m d main_v1 (by decide) (by decide), W1_ne m d main_v2 (by decide) (by decide),
    W1_ne m d main_v3 (by decide) (by decide), W1_ne m d main_v4 (by decide) (by decide), W1_ne m d main_v5 (by decide) (by decide)]
  iintro ⟨H0, Hv, Hi, Hr⟩
  isplitl [H0 Hv Hi]
  · isplitl [H0]; · iexact H0
    isplitl [Hv]; · iexact Hv
    iexact Hi
  iexact Hr

theorem bufs_after (d : Dev nD) : (iprop(((xLoc d ↦{fullShare} m (xLoc d)) ∗ (vLoc d ↦{fullShare} vTab (m (xLoc d))) ∗ (iLoc d ↦{fullShare} iTab (m (xLoc d)))) ∗ others m d) : sProp 𝕄)
    ⊢ StableHlo.held (d : Thread nD τ) ucRefs (W1 m d) := by
  rw [← unscopedBufs_held, unscopedBufs_eq]
  rw [W1_v, W1_i, W1_ne m d main_arg0 (by decide) (by decide)]
  unfold others
  iintro ⟨⟨H0, Hv, Hi⟩, Hr⟩
  isplitl [H0]; · iexact H0
  isplitl [Hv]; · iexact Hv
  isplitl [Hi]; · iexact Hi
  iexact Hr

/-! ## The claim's five arrays at the end -/

/-- What the program leaves: its arguments as launched, its result at `W4`. -/
abbrev FIN (d : Dev nD) : sProp 𝕄 :=
  iprop((((d.tc : Thread nD τ).loc main_arg0) ↦{fullShare} W4 m d main_arg0)
      ∗ (((d.tc : Thread nD τ).loc main_arg1) ↦{fullShare} W4 m d main_arg1) ∗ (((d.tc : Thread nD τ).loc main_arg2) ↦{fullShare} W4 m d main_arg2)
      ∗ (((d.tc : Thread nD τ).loc main_arg3) ↦{fullShare} W4 m d main_arg3) ∗ (((d.tc : Thread nD τ).loc main_v6) ↦{fullShare} W4 m d main_v6))

theorem held_fin (d : Dev nD) : (StableHlo.held (d : Thread nD τ) ucRefs (W4 m d) : sProp 𝕄) ⊢ FIN m d := by
  rw [← unscopedBufs_held, unscopedBufs_eq]
  iintro ⟨H0, -, -, H1, H2, H3, H6, -⟩
  isplitl [H0]; · iexact H0
  isplitl [H1]; · iexact H1
  isplitl [H2]; · iexact H2
  isplitl [H3]; · iexact H3
  iexact H6

theorem mem_uc (b : Ref sig .tc) (h : ¬ b.isScoped) : (Proc.devRef .tc b : DevRef τ sig) ∈ ucRefs :=
  Finset.mem_filter.mpr ⟨StableHlo.devRef_mem_tcRefs b, h⟩

theorem sub1 : (op1 (F := F)).bufs ⊆ ucRefs := by
  unfold op1; rw [StableHlo.unary_bufs]
  exact Finset.insert_subset (mem_uc _ (by decide)) (Finset.singleton_subset_iff.mpr (mem_uc _ (by decide)))
theorem sub2 : (op2 (F := F)).bufs ⊆ ucRefs := by
  unfold op2; rw [StableHlo.reshape_bufs]
  exact Finset.insert_subset (mem_uc _ (by decide)) (Finset.singleton_subset_iff.mpr (mem_uc _ (by decide)))
theorem sub3 : (op3 (F := F)).bufs ⊆ ucRefs := by
  unfold op3; rw [StableHlo.unary_bufs]
  exact Finset.insert_subset (mem_uc _ (by decide)) (Finset.singleton_subset_iff.mpr (mem_uc _ (by decide)))
theorem sub4 : (op4 (F := F)).bufs ⊆ ucRefs := by
  unfold op4; rw [StableHlo.reshape_bufs]
  exact Finset.insert_subset (mem_uc _ (by decide)) (Finset.singleton_subset_iff.mpr (mem_uc _ (by decide)))
theorem sub5 : (op5 (F := F)).bufs ⊆ ucRefs := by
  unfold op5; rw [StableHlo.reshape_bufs]
  exact Finset.insert_subset (mem_uc _ (by decide)) (Finset.singleton_subset_iff.mpr (mem_uc _ (by decide)))

/-! ## The second call inside the host program -/

abbrev rg := reg (V2 m) (V3 m) (V3_out m) (V3_ne m)

theorem reg_post (d : Dev nD) : (rg m).post d ⊢ (iprop(unscopedBufs d (fun b => W3 m d b) ∗ ow d) : sProp 𝕄) := BI.Entails.refl _
theorem reg_pre (d : Dev nD) : (iprop(unscopedBufs d (fun b => W2 m d b) ∗ ow d) : sProp 𝕄) ⊢ (rg m).pre d := BI.Entails.refl _

theorem region_wp [∀ e, Nonempty (Elt F e)] (κ : GSem nD τ sig → ℕ) (d : Dev nD) (Q : PUnit → sProp 𝕄) :
    iprop((K (F := F)).ctx EH (P m) κ ∗ boundary (T d) ∗ StableHlo.held (d : Thread nD τ) ucRefs (W2 m d) ∗ ow d ∗ G d
        ∗ (iprop(boundary (T d) ∗ StableHlo.held (d : Thread nD τ) ucRefs (W3 m d) ∗ ow d) -∗ Q ⟨⟩))
      ⊢ wp frame (wpE ((K (F := F)).defs (D (F := F))) 𝒱 (T d) none) Set.univ
          (Prog.lift (.customCall (SparseCore.inner (Pipeline.entry 0)) ())) Q := by
  have hr := Pipeline.RegionSeg.wp (pcfgs (F := F)) adm (pdats (V2 m)) none phinj EP defs₀ 𝒱₀ (K (F := F)).L (K (F := F)).lev
    (rg m) d none (fun u hu => nomatch hu) (fun _ => .ret (⟨⟩ : PUnit)) Q
  have hl := (K (F := F)).wp_liftProg (D (F := F)) 𝒱 (T d) Set.univ none (.op (.customCall (Pipeline.entry 0) ()) fun _ => .ret (⟨⟩ : PUnit)) Q
  have h := hr.trans hl
  rw [← unscopedBufs_held, ← unscopedBufs_held]
  iintro ⟨#Hctx, Hb, Hu, How, ⟨Hg, Ht⟩, Hk⟩
  iapply h
  ihave Hlev := ((K (F := F)).ctx_levAts κ) $$ Hctx
  isplitl [Hk]
  · iintro ⟨Hb, Hp⟩
    ihave Hp := (reg_post m d) $$ Hp
    icases Hp with ⟨Hu, How⟩
    rw [wp_ret]; imodintro
    iapply Hk
    isplitl [Hb]; · iexact Hb
    isplitl [Hu]; · iexact Hu
    iexact How
  isplitl [Hb]; · iexact Hb
  isplitl [Hu How]
  · iapply (reg_pre m d)
    isplitl [Hu]; · iexact Hu
    iexact How
  isplitl [Hlev]; · iexact Hlev
  isplitl [Hg]; · iexact Hg
  iexact Ht

/-! ## The host program -/

variable (ρ : Dev nD → PrngReg)

theorem ow_of (d : Dev nD) : (iprop(∃ W, ⌜(K (F := F)).WBelow (T d) W (8 * SparseCore.Cfg.Blocks.fst 1 1 ((0 : Fin 1).val + 1))⌝
    ∗ owes (T d) ((K (F := F)).Otc d ((0 : Fin 1).val + 1)) W) : sProp 𝕄) = ow d := by
  rw [(K (F := F)).Otc_end d (n := (0 : Fin 1).val + 1) (le_refl 1)]
  rfl

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hbufs, Hts, -⟩, HG⟩
  ihave Hbufs := (bufs_before m d) $$ Hbufs
  icases Hbufs with ⟨Hin, Hoth⟩
  ihave Hin := (Entails.of_eq (st0_eq m d).symm) $$ Hin
  iapply ((K (F := F)).wp_run (D (F := F)) 𝒱 (EH := EH) (P := P m) κ d 0) $$ [Hst Hin Hoth Hb Hts HG]
  isplitr; · iexact Hctx
  isplitl [Hst]; · iexact Hst
  isplitl [Hin]; · iexact Hin
  iintro ⟨Hst, Hdn⟩
  ihave Hdn := (Entails.of_eq (dn0_eq m d)) $$ Hdn
  ihave Hh := (bufs_after m d) $$ [Hdn Hoth]
  · isplitl [Hdn]; · iexact Hdn
    iexact Hoth
  iapply (StableHlo.wp_hlo_within 𝒱 (T d) none Set.univ (op := op1) sub1 (V := W1 m d)) $$ [Hb Hh]
  · isplitl [Hb]; · iexact Hb
    iexact Hh
  iintro ⟨Hb, Hh⟩
  rw [wp_ret]; imodintro
  iapply (StableHlo.wp_hlo_within 𝒱 (T d) none Set.univ (op := op2) sub2) $$ [Hb Hh]
  · isplitl [Hb]; · iexact Hb
    iexact Hh
  iintro ⟨Hb, Hh⟩
  rw [wp_ret]; imodintro
  iapply (StableHlo.wp_hlo_within 𝒱 (T d) none Set.univ (op := op3) sub3) $$ [Hb Hh]
  · isplitl [Hb]; · iexact Hb
    iexact Hh
  iintro ⟨Hb, Hh⟩
  rw [wp_ret]; imodintro
  iapply (StableHlo.wp_hlo_within 𝒱 (T d) none Set.univ (op := op4) sub4) $$ [Hb Hh]
  · isplitl [Hb]; · iexact Hb
    iexact Hh
  iintro ⟨Hb, Hh⟩
  rw [wp_ret]; imodintro
  unfold SparseCore.Cfg.tcSt
  icases Hst with ⟨How, Hst⟩
  ihave How := (Entails.of_eq (ow_of d)) $$ How
  iapply (region_wp m κ d)
  isplitr; · iexact Hctx
  isplitl [Hb]; · iexact Hb
  isplitl [Hh]; · iexact Hh
  isplitl [How]; · iexact How
  isplitl [HG]; · iexact HG
  iintro ⟨Hb, Hh, How⟩
  ihave How := (Entails.of_eq (ow_of d).symm) $$ How
  iapply (StableHlo.wp_hlo_within 𝒱 (T d) none Set.univ (op := op5) sub5) $$ [Hb Hh]
  · isplitl [Hb]; · iexact Hb
    iexact Hh
  iintro ⟨Hb, Hh⟩
  rw [wp_ret]; imodintro
  imodintro
  isplitl [How Hst]
  · isplitl [How]; · iexact How
    iexact Hst
  isplitl [Hh]
  · iapply (held_fin m d); iexact Hh
  isplitl [Hb]; · iexact Hb
  iexact Hts

/-! ## What the end contents are -/

theorem W2_ne (d : Dev nD) (b : Ref sig .tc) (h1 : b ≠ main_v1) (h2 : b ≠ main_v2) (h3 : b ≠ main_v3) (h4 : b ≠ main_v4) : W2 m d b = W1 m d b := by
  unfold W2 op1 op2 op3 op4
  rw [StableHlo.reshape_result_ne (h := h4), StableHlo.unary_result_ne (h := h3), StableHlo.reshape_result_ne (h := h2), StableHlo.unary_result_ne (h := h1)]

theorem W4_ne (d : Dev nD) (b : Ref sig .tc) (h0 : b ≠ main_v0_0) (h0' : b ≠ main_v0_1) (h1 : b ≠ main_v1) (h2 : b ≠ main_v2) (h3 : b ≠ main_v3) (h4 : b ≠ main_v4)
    (h5 : b ≠ main_v5) (h6 : b ≠ main_v6) : W4 m d b = m ((d.tc : Thread nD τ).loc b) := by
  unfold W4 op5
  rw [StableHlo.reshape_result_ne (h := h6)]
  unfold W3
  rw [Function.update_of_ne (StableHlo.devRef_ne_of_ne h5), W2_ne m d b h1 h2 h3 h4, W1_ne m d b h0 h0']

def fq (d : Dev nD) (s' : Phys nD τ sig (Elt F)) : Prop :=
  s'.mem.mem ((d.tc : Thread nD τ).loc main_arg0) = W4 m d main_arg0 ∧ s'.mem.mem ((d.tc : Thread nD τ).loc main_arg1) = W4 m d main_arg1
    ∧ s'.mem.mem ((d.tc : Thread nD τ).loc main_arg2) = W4 m d main_arg2 ∧ s'.mem.mem ((d.tc : Thread nD τ).loc main_arg3) = W4 m d main_arg3
    ∧ s'.mem.mem ((d.tc : Thread nD τ).loc main_v6) = W4 m d main_v6

theorem hfin (d : Dev nD) (s' : Phys nD τ sig (Elt F)) : iprop(FIN m d ∗ SI s') ⊢ (⌜fq m d s'⌝ : sProp 𝕄) := by
  iintro ⟨⟨H0, H1, H2, H3, H6⟩, HSI⟩
  ihave H := (persistent_entails_right (SI_pointsTo_agree (st := s') (ℓ := (d.tc : Thread nD τ).loc main_arg0) (I := Finset.univ) (q := fullShare) (f := W4 m d main_arg0))) $$ [HSI H0]
  · isplitl [HSI] <;> iassumption
  icases H with ⟨%h0, HSI, -⟩
  ihave H := (persistent_entails_right (SI_pointsTo_agree (st := s') (ℓ := (d.tc : Thread nD τ).loc main_arg1) (I := Finset.univ) (q := fullShare) (f := W4 m d main_arg1))) $$ [HSI H1]
  · isplitl [HSI] <;> iassumption
  icases H with ⟨%h1, HSI, -⟩
  ihave H := (persistent_entails_right (SI_pointsTo_agree (st := s') (ℓ := (d.tc : Thread nD τ).loc main_arg2) (I := Finset.univ) (q := fullShare) (f := W4 m d main_arg2))) $$ [HSI H2]
  · isplitl [HSI] <;> iassumption
  icases H with ⟨%h2, HSI, -⟩
  ihave H := (persistent_entails_right (SI_pointsTo_agree (st := s') (ℓ := (d.tc : Thread nD τ).loc main_arg3) (I := Finset.univ) (q := fullShare) (f := W4 m d main_arg3))) $$ [HSI H3]
  · isplitl [HSI] <;> iassumption
  icases H with ⟨%h3, HSI, -⟩
  ihave H := (SI_pointsTo_agree (st := s') (ℓ := (d.tc : Thread nD τ).loc main_v6) (I := Finset.univ) (q := fullShare) (f := W4 m d main_v6)) $$ [HSI H6]
  · isplitl [HSI] <;> iassumption
  icases H with %h6
  ipureintro
  exact ⟨funext fun i => h0 i (Finset.mem_univ i), funext fun i => h1 i (Finset.mem_univ i), funext fun i => h2 i (Finset.mem_univ i),
    funext fun i => h3 i (Finset.mem_univ i), funext fun i => h6 i (Finset.mem_univ i)⟩

def QC : PUnit × MemSt nD τ sig (Elt F) → Prop := fun r => (∀ c : Dev nD,
    r.2.mem ((c.tc : Thread nD τ).loc main_arg0) = W4 m c main_arg0 ∧ r.2.mem ((c.tc : Thread nD τ).loc main_arg1) = W4 m c main_arg1
    ∧ r.2.mem ((c.tc : Thread nD τ).loc main_arg2) = W4 m c main_arg2 ∧ r.2.mem ((c.tc : Thread nD τ).loc main_arg3) = W4 m c main_arg3
    ∧ r.2.mem ((c.tc : Thread nD τ).loc main_v6) = W4 m c main_v6) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

theorem arg0_end (d : Dev nD) : W4 m d main_arg0 = m ((d.tc : Thread nD τ).loc main_arg0) :=
  W4_ne m d main_arg0 (by decide) (by decide) (by decide) (by decide) (by decide) (by decide) (by decide) (by decide)
theorem arg1_end (d : Dev nD) : W4 m d main_arg1 = m ((d.tc : Thread nD τ).loc main_arg1) :=
  W4_ne m d main_arg1 (by decide) (by decide) (by decide) (by decide) (by decide) (by decide) (by decide) (by decide)
theorem arg2_end (d : Dev nD) : W4 m d main_arg2 = m ((d.tc : Thread nD τ).loc main_arg2) :=
  W4_ne m d main_arg2 (by decide) (by decide) (by decide) (by decide) (by decide) (by decide) (by decide) (by decide)
theorem arg3_end (d : Dev nD) : W4 m d main_arg3 = m ((d.tc : Thread nD τ).loc main_arg3) :=
  W4_ne m d main_arg3 (by decide) (by decide) (by decide) (by decide) (by decide) (by decide) (by decide) (by decide)

/-- The program ends with its arguments as launched, its result at `W4`, and every counter at zero. -/
theorem run_all [∀ e, Nonempty (Elt F e)] :
    θ_run (Cert.KernelIdeal.defs (F := F)) (Cert.KernelIdeal.threads (F := F)) ⟨m, fun _ => 0, ρ⟩ fun r => (∀ c : Dev nD,
      r.2.mem ((c.tc : Thread nD τ).loc main_v6) = W4 m c main_v6
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3))
      ∧ r.2.sem = fun _ => 0 :=
  (θ_run Cert.KernelIdeal.defs _ _).mono (fun _ h => ⟨fun c => ⟨(h.1 c).2.2.2.2, (h.1 c).1.trans (arg0_end m c), (h.1 c).2.1.trans (arg1_end m c),
    (h.1 c).2.2.1.trans (arg2_end m c), (h.1 c).2.2.2.1.trans (arg3_end m c)⟩, h.2⟩) (run_main m ρ)

end Cert.Proof.Sc

end
-- ==== Proof.Picks.lean ====
/-
  The finishing step's value: thirty-two rounds, each taking the largest value still there and the smallest number among its
  holders, and what follows from the values and the numbers taken.
-/
module

public import proofs.«01_k».proof.Proof.Fin

@[expose] public section

set_option maxRecDepth 65536

noncomputable section

namespace Cert.Proof.Sc

open Cert.KernelIdeal Cert.KernelIdeal.Gen
open Idealize.ShloMosaic

variable {F : FTy → Type} [FloatOps F]

/-! ## A round -/

def Rx (w : FVec F S128x512 .f32) : FVec F S128 .f32 := multiReduction .maximumf [1] S128 w 0xFF800000#32 reduces_S128x512_S128 (.inl rfl) rfl
/-- The largest value still there. -/
def Mx (w : FVec F S128x512 .f32) : FVec F S128x1 .f32 := shapeCast S128x1 (Rx w) shapeCasts_S128_S128x1
def Bx (w : FVec F S128x512 .f32) : FVec F S128x512 .f32 := broadcastTo S128x512 (Mx w) broadcasts_S128x1_S128x512
def Qx (w : FVec F S128x512 .f32) : IVec S128x512 1 := cmpf .oeq w (Bx w)
def Lx (n : IVec S128x512 32) (w : FVec F S128x512 .f32) : IVec S128x512 32 := select (Qx w) n (broadcast S128x512 100000#32)
/-- The smallest number among its holders. -/
def Sx (n : IVec S128x512 32) (w : FVec F S128x512 .f32) : IVec S128x1 32 :=
  shapeCast S128x1 (multiReductionI .minsi [1] S128 (Lx n w) 2147483647#32 reduces_S128x512_S128 rfl) shapeCasts_S128_S128x1
def BSx (n : IVec S128x512 32) (w : FVec F S128x512 .f32) : IVec S128x512 32 := broadcastTo S128x512 (Sx n w) broadcasts_S128x1_S128x512
def QNx (n : IVec S128x512 32) (w : FVec F S128x512 .f32) : IVec S128x512 1 := cmpi .eq n (BSx n w)
def Ax (n : IVec S128x512 32) (w : FVec F S128x512 .f32) : IVec S128x512 1 := andi (Qx w) (QNx n w)
def Ninf : FVec F S128x512 .f32 := broadcast S128x512 (Scalar.ofBits .f32 0xFF800000#32)
/-- What is left for the next round. -/
def Tx (n : IVec S128x512 32) (w : FVec F S128x512 .f32) : FVec F S128x512 .f32 := select (Ax n w) Ninf w

/-- What is left after `r` rounds. -/
def wk (n : IVec S128x512 32) (w : FVec F S128x512 .f32) : ℕ → FVec F S128x512 .f32
  | 0 => w
  | r + 1 => Tx n (wk n w r)

/-! ## The parts -/

theorem fin1_eq (a b : FVec F S1x1 .f32) (z u0 : FVec F S128x512 .f32) (k n : IVec S128x512 32) (u1 u2 : FVec F S128x512 .f32)
    (hz : u0 = shapeCast S128x512 z shapeCasts_S128x512_S128x512) (hk : n = shapeCast S128x512 k shapeCasts_S128x512_S128x512) (h1 : u1 = Tx n u0) (h2 : u2 = Tx n u1) :
    fin1 (F := F) a b z k = ⟨(extractAt ![0, 0] a inpos_S1x1_p0_0), (extractAt ![0, 0] b inpos_S1x1_p0_0), n, (Mx u0), (Sx n u0), (Mx u1), (Sx n u1), u2, (Mx u2), (Qx u2), 100000#32⟩ := by
  subst h2 h1 hk hz; rfl

theorem fin2_eq (n : IVec S128x512 32) (u2 u3 u4 u5 : FVec F S128x512 .f32) (h3 : u3 = Tx n u2) (h4 : u4 = Tx n u3) (h5 : u5 = Tx n u4) :
    fin2 (F := F) n u2 (Mx u2) (Qx u2) 100000#32 = ⟨(Sx n u2), (Mx u3), (Sx n u3), (Mx u4), (Sx n u4), u5, (Mx u5), (Lx n u5)⟩ := by
  subst h3 h4 h5; rfl

theorem fin3_eq (n : IVec S128x512 32) (u5 u6 u7 u8 : FVec F S128x512 .f32) (h6 : u6 = Tx n u5) (h7 : u7 = Tx n u6) (h8 : u8 = Tx n u7) :
    fin3 (F := F) n u5 (Mx u5) (Lx n u5) = ⟨(Sx n u5), (Mx u6), (Sx n u6), (Mx u7), (Sx n u7), u8, (Mx u8), (Sx n u8), (Bx u8)⟩ := by
  subst h6 h7 h8; rfl

theorem fin4_eq (n : IVec S128x512 32) (u8 u9 u10 u11 : FVec F S128x512 .f32) (h9 : u9 = Tx n u8) (h10 : u10 = Tx n u9) (h11 : u11 = Tx n u10) :
    fin4 (F := F) n u8 (Sx n u8) (Bx u8) = ⟨(Mx u9), (Sx n u9), (Mx u10), (Sx n u10), u11, (Mx u11), (Sx n u11), (Qx u11), (QNx n u11)⟩ := by
  subst h9 h10 h11; rfl

theorem fin5_eq (n : IVec S128x512 32) (u11 u12 u13 u14 : FVec F S128x512 .f32) (h12 : u12 = Tx n u11) (h13 : u13 = Tx n u12) (h14 : u14 = Tx n u13) :
    fin5 (F := F) n u11 (Qx u11) (QNx n u11) = ⟨(Mx u12), (Sx n u12), (Mx u13), (Sx n u13), u14, (Mx u14), (Sx n u14), (Ax n u14), Ninf⟩ := by
  subst h12 h13 h14; rfl

theorem fin6_eq (n : IVec S128x512 32) (u14 u15 u16 u17 u18 : FVec F S128x512 .f32) (h15 : u15 = Tx n u14) (h16 : u16 = Tx n u15) (h17 : u17 = Tx n u16) (h18 : u18 = Tx n u17) :
    fin6 (F := F) n u14 (Ax n u14) Ninf = ⟨(Mx u15), (Sx n u15), (Mx u16), (Sx n u16), (Mx u17), (Sx n u17), u18, (Rx u18)⟩ := by
  subst h15 h16 h17 h18; rfl

theorem fin7_eq (n : IVec S128x512 32) (u18 u19 u20 u21 : FVec F S128x512 .f32) (h19 : u19 = Tx n u18) (h20 : u20 = Tx n u19) (h21 : u21 = Tx n u20) :
    fin7 (F := F) n u18 (Rx u18) = ⟨(Mx u18), (Sx n u18), (Mx u19), (Sx n u19), (Mx u20), (Sx n u20), u21, (Mx u21), (Qx u21)⟩ := by
  subst h19 h20 h21; rfl

theorem fin8_eq (n : IVec S128x512 32) (u21 u22 u23 u24 : FVec F S128x512 .f32) (h22 : u22 = Tx n u21) (h23 : u23 = Tx n u22) (h24 : u24 = Tx n u23) :
    fin8 (F := F) n u21 (Mx u21) (Qx u21) = ⟨(Sx n u21), (Mx u22), (Sx n u22), (Mx u23), (Sx n u23), u24, (Mx u24), (Lx n u24)⟩ := by
  subst h22 h23 h24; rfl

theorem fin9_eq (n : IVec S128x512 32) (u24 u25 u26 u27 : FVec F S128x512 .f32) (h25 : u25 = Tx n u24) (h26 : u26 = Tx n u25) (h27 : u27 = Tx n u26) :
    fin9 (F := F) n u24 (Mx u24) (Lx n u24) = ⟨(Sx n u24), (Mx u25), (Sx n u25), (Mx u26), (Sx n u26), u27, (Mx u27), (Sx n u27)⟩ := by
  subst h25 h26 h27; rfl

theorem fin10_eq (n : IVec S128x512 32) (u27 u28 u29 u30 : FVec F S128x512 .f32) (h28 : u28 = Tx n u27) (h29 : u29 = Tx n u28) (h30 : u30 = Tx n u29) :
    fin10 (F := F) n u27 (Mx u27) (Sx n u27) = ⟨(Mx u28), (Sx n u28), (Mx u29), (Sx n u29), u30, (Mx u30), (Sx n u30), (Qx u30), (BSx n u30)⟩ := by
  subst h28 h29 h30; rfl

/-! ## What follows -/

theorem cats (α : Type) (f : Fin 32 → (S128x1.Idx → α)) :
    Shape.Concatenates ((List.ofFn fun k => (⟨S128x1, f k⟩ : (s : Shape) × (s.Idx → α))).map (·.1)) S128x32 1 := by
  exact concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x32_d1

/-- The values taken, side by side. -/
def topV (u : ℕ → FVec F S128x512 .f32) : FVec F S128x32 .f32 :=
  concatenate S128x32 1 (List.ofFn fun k : Fin 32 => (⟨S128x1, Mx (u k.val)⟩ : (s : Shape) × (s.Idx → F .f32))) (cats _ _)
/-- The numbers taken, side by side. -/
def topN (n : IVec S128x512 32) (u : ℕ → FVec F S128x512 .f32) : IVec S128x32 32 :=
  concatenate S128x32 1 (List.ofFn fun k : Fin 32 => (⟨S128x1, Sx n (u k.val)⟩ : (s : Shape) × (s.Idx → BitVec 32))) (cats _ _)

/-- The weights, from the values taken divided by the temperature. -/
def expW (y : FVec F S128x32 .f32) : FVec F S128x32 .f32 :=
  exp (subf y (broadcastTo S128x32 (extractStridedSlice S128x1 ![0, 0] y slices_S128x32_o0_0_S128x1) broadcasts_S128x1_S128x32))
/-- Each row divided by its sum. -/
def normed (y : FVec F S128x32 .f32) : FVec F S128x32 .f32 :=
  divf y (broadcastTo S128x32 (shapeCast S128x1 (multiReduction .add [1] S128 y 0x00000000#32 reduces_S128x32_S128 (.inl rfl) rfl) shapeCasts_S128_S128x1) broadcasts_S128x1_S128x32)
/-- The running sums of a row. -/
def sums (y : FVec F S128x32 .f32) : FVec F S128x32 .f32 :=
  matmul dot_S128x32_S32x32_S128x32_1_0_0_1_n_n none y
    (sitofp .f32 (extui 32 (cmpi .sle (iota .tc S32x32 32 [0] iota_S32x32_d0_w32) (iota .tc S32x32 32 [1] iota_S32x32_d1_w32)) natLt_1_32))
    (constant S128x32 .f32 0x00000000#32)
/-- The probabilities the top-p rule keeps. -/
def kept (q : F .f32) (y : FVec F S128x32 .f32) : FVec F S128x32 .f32 :=
  select (andi (cmpf .olt (subf (sums y) y) (broadcast S128x32 q)) (cmpi .slt (iota .tc S128x32 32 [1] iota_S128x32_d1_w32) (broadcast S128x32 32#32))) y
    (broadcast S128x32 (Scalar.ofBits .f32 0x00000000#32))
def soft (t q : F .f32) (v : FVec F S128x32 .f32) : FVec F S128x32 .f32 := normed (kept q (normed (expW (divf v (broadcast S128x32 t)))))
/-- The counters. -/
def counters (s : IVec S128x32 32) : IVec S128x32 32 := addi (muli (iota .tc S128x32 32 [0] iota_S128x32_d0_w32) (broadcast S128x32 100000#32)) s
def bitsOf (x : IVec S128x32 32) : FVec F S128x32 .f32 :=
  k1_pay151 (F := F) (k1_pay149 (k1_pay136 (k1_pay125 x k1_pay114 0#32) (k1_pay126 x k1_pay114 0#32)) (k1_pay137 (k1_pay125 x k1_pay114 0#32) (k1_pay126 x k1_pay114 0#32)) (k1_pay138 (k1_pay125 x k1_pay114 0#32) (k1_pay126 x k1_pay114 0#32)))
    (k1_pay150 (k1_pay136 (k1_pay125 x k1_pay114 0#32) (k1_pay126 x k1_pay114 0#32)) (k1_pay137 (k1_pay125 x k1_pay114 0#32) (k1_pay126 x k1_pay114 0#32)) (k1_pay138 (k1_pay125 x k1_pay114 0#32) (k1_pay126 x k1_pay114 0#32))) 466689008#32

theorem topV_list (u : ℕ → FVec F S128x512 .f32) : topV u = concatenate S128x32 1 [⟨S128x1, Mx (u 0)⟩, ⟨S128x1, Mx (u 1)⟩, ⟨S128x1, Mx (u 2)⟩, ⟨S128x1, Mx (u 3)⟩, ⟨S128x1, Mx (u 4)⟩, ⟨S128x1, Mx (u 5)⟩, ⟨S128x1, Mx (u 6)⟩, ⟨S128x1, Mx (u 7)⟩, ⟨S128x1, Mx (u 8)⟩, ⟨S128x1, Mx (u 9)⟩, ⟨S128x1, Mx (u 10)⟩, ⟨S128x1, Mx (u 11)⟩, ⟨S128x1, Mx (u 12)⟩, ⟨S128x1, Mx (u 13)⟩, ⟨S128x1, Mx (u 14)⟩, ⟨S128x1, Mx (u 15)⟩, ⟨S128x1, Mx (u 16)⟩, ⟨S128x1, Mx (u 17)⟩, ⟨S128x1, Mx (u 18)⟩, ⟨S128x1, Mx (u 19)⟩, ⟨S128x1, Mx (u 20)⟩, ⟨S128x1, Mx (u 21)⟩, ⟨S128x1, Mx (u 22)⟩, ⟨S128x1, Mx (u 23)⟩, ⟨S128x1, Mx (u 24)⟩, ⟨S128x1, Mx (u 25)⟩, ⟨S128x1, Mx (u 26)⟩, ⟨S128x1, Mx (u 27)⟩, ⟨S128x1, Mx (u 28)⟩, ⟨S128x1, Mx (u 29)⟩, ⟨S128x1, Mx (u 30)⟩, ⟨S128x1, Mx (u 31)⟩] concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x32_d1 := rfl
theorem topN_list (n : IVec S128x512 32) (u : ℕ → FVec F S128x512 .f32) : topN n u = concatenate S128x32 1 [⟨S128x1, Sx n (u 0)⟩, ⟨S128x1, Sx n (u 1)⟩, ⟨S128x1, Sx n (u 2)⟩, ⟨S128x1, Sx n (u 3)⟩, ⟨S128x1, Sx n (u 4)⟩, ⟨S128x1, Sx n (u 5)⟩, ⟨S128x1, Sx n (u 6)⟩, ⟨S128x1, Sx n (u 7)⟩, ⟨S128x1, Sx n (u 8)⟩, ⟨S128x1, Sx n (u 9)⟩, ⟨S128x1, Sx n (u 10)⟩, ⟨S128x1, Sx n (u 11)⟩, ⟨S128x1, Sx n (u 12)⟩, ⟨S128x1, Sx n (u 13)⟩, ⟨S128x1, Sx n (u 14)⟩, ⟨S128x1, Sx n (u 15)⟩, ⟨S128x1, Sx n (u 16)⟩, ⟨S128x1, Sx n (u 17)⟩, ⟨S128x1, Sx n (u 18)⟩, ⟨S128x1, Sx n (u 19)⟩, ⟨S128x1, Sx n (u 20)⟩, ⟨S128x1, Sx n (u 21)⟩, ⟨S128x1, Sx n (u 22)⟩, ⟨S128x1, Sx n (u 23)⟩, ⟨S128x1, Sx n (u 24)⟩, ⟨S128x1, Sx n (u 25)⟩, ⟨S128x1, Sx n (u 26)⟩, ⟨S128x1, Sx n (u 27)⟩, ⟨S128x1, Sx n (u 28)⟩, ⟨S128x1, Sx n (u 29)⟩, ⟨S128x1, Sx n (u 30)⟩, ⟨S128x1, Sx n (u 31)⟩] concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x32_d1 := rfl

theorem fin11_eq (t q : F .f32) (n : IVec S128x512 32) (u : ℕ → FVec F S128x512 .f32) (h1 : u 31 = Tx n (u 30)) :
    fin11 (F := F) t q n (Mx (u 0)) (Sx n (u 0)) (Mx (u 1)) (Sx n (u 1)) (Mx (u 2)) (Sx n (u 2)) (Mx (u 3)) (Sx n (u 3)) (Mx (u 4)) (Sx n (u 4)) (Mx (u 5)) (Sx n (u 5)) (Mx (u 6)) (Sx n (u 6)) (Mx (u 7)) (Sx n (u 7)) (Mx (u 8)) (Sx n (u 8)) (Mx (u 9)) (Sx n (u 9)) (Mx (u 10)) (Sx n (u 10)) (Mx (u 11)) (Sx n (u 11)) (Mx (u 12)) (Sx n (u 12)) (Mx (u 13)) (Sx n (u 13)) (Mx (u 14)) (Sx n (u 14)) (Mx (u 15)) (Sx n (u 15)) (Mx (u 16)) (Sx n (u 16)) (Mx (u 17)) (Sx n (u 17)) (Mx (u 18)) (Sx n (u 18)) (Mx (u 19)) (Sx n (u 19)) (Mx (u 20)) (Sx n (u 20)) (Mx (u 21)) (Sx n (u 21)) (Mx (u 22)) (Sx n (u 22)) (Mx (u 23)) (Sx n (u 23)) (Mx (u 24)) (Sx n (u 24)) (Mx (u 25)) (Sx n (u 25)) (Mx (u 26)) (Sx n (u 26)) (Mx (u 27)) (Sx n (u 27)) (Mx (u 28)) (Sx n (u 28)) (Mx (u 29)) (Sx n (u 29)) (u 30) (Mx (u 30)) (Sx n (u 30)) (Qx (u 30)) (BSx n (u 30))
      = ⟨topN n u, iota .tc S128x32 32 [1] iota_S128x32_d1_w32, soft t q (topV u), counters (topN n u), k1_pay114, 0#32⟩ := by
  rw [topN_list, topV_list, h1]
  unfold fin11 k1_pay113 k1_pay112 k1_pay111 soft counters normed kept sums expW
  rfl

def rest11 (v1 : F .f32) (v3 : F .f32) (v7 : IVec S128x512 32) (v9 : FVec F S128x1 .f32) (v15 : IVec S128x1 32) (v24 : FVec F S128x1 .f32) (v30 : IVec S128x1 32) (v39 : FVec F S128x1 .f32) (v45 : IVec S128x1 32) (v54 : FVec F S128x1 .f32) (v60 : IVec S128x1 32) (v69 : FVec F S128x1 .f32) (v75 : IVec S128x1 32) (v84 : FVec F S128x1 .f32) (v90 : IVec S128x1 32) (v99 : FVec F S128x1 .f32) (v105 : IVec S128x1 32) (v114 : FVec F S128x1 .f32) (v120 : IVec S128x1 32) (v129 : FVec F S128x1 .f32) (v135 : IVec S128x1 32) (v144 : FVec F S128x1 .f32) (v150 : IVec S128x1 32) (v159 : FVec F S128x1 .f32) (v165 : IVec S128x1 32) (v174 : FVec F S128x1 .f32) (v180 : IVec S128x1 32) (v189 : FVec F S128x1 .f32) (v195 : IVec S128x1 32) (v204 : FVec F S128x1 .f32) (v210 : IVec S128x1 32) (v219 : FVec F S128x1 .f32) (v225 : IVec S128x1 32) (v234 : FVec F S128x1 .f32) (v240 : IVec S128x1 32) (v249 : FVec F S128x1 .f32) (v255 : IVec S128x1 32) (v264 : FVec F S128x1 .f32) (v270 : IVec S128x1 32) (v279 : FVec F S128x1 .f32) (v285 : IVec S128x1 32) (v294 : FVec F S128x1 .f32) (v300 : IVec S128x1 32) (v309 : FVec F S128x1 .f32) (v315 : IVec S128x1 32) (v324 : FVec F S128x1 .f32) (v330 : IVec S128x1 32) (v339 : FVec F S128x1 .f32) (v345 : IVec S128x1 32) (v354 : FVec F S128x1 .f32) (v360 : IVec S128x1 32) (v369 : FVec F S128x1 .f32) (v375 : IVec S128x1 32) (v384 : FVec F S128x1 .f32) (v390 : IVec S128x1 32) (v399 : FVec F S128x1 .f32) (v405 : IVec S128x1 32) (v414 : FVec F S128x1 .f32) (v420 : IVec S128x1 32) (v429 : FVec F S128x1 .f32) (v435 : IVec S128x1 32) (v444 : FVec F S128x1 .f32) (v450 : IVec S128x1 32) (v457 : FVec F S128x512 .f32) (v459 : FVec F S128x1 .f32) (v465 : IVec S128x1 32) (v467 : IVec S128x512 1) (v468 : IVec S128x512 32) : IVec S128x1 32 :=
  let ⟨v484, v485, v511, v515, v516, c0_i32_137⟩ : Σ' (v484 : IVec S128x32 32) (v485 : IVec S128x32 32) (v511 : FVec F S128x32 .f32) (v515 : IVec S128x32 32) (v516 : IVec S128x32 32), BitVec 32 := fin11 (F := F) v1 v3 v7 v9 v15 v24 v30 v39 v45 v54 v60 v69 v75 v84 v90 v99 v105 v114 v120 v129 v135 v144 v150 v159 v165 v174 v180 v189 v195 v204 v210 v219 v225 v234 v240 v249 v255 v264 v270 v279 v285 v294 v300 v309 v315 v324 v330 v339 v345 v354 v360 v369 v375 v384 v390 v399 v405 v414 v420 v429 v435 v444 v450 v457 v459 v465 v467 v468
  let ⟨v561, v562⟩ : Σ' (v561 : IVec S128x32 32), IVec S128x32 32 := fin12 v515 v516 c0_i32_137
  let ⟨v603, v605, v607⟩ : Σ' (v603 : IVec S128x32 32) (v605 : IVec S128x32 32), IVec S128x32 32 := fin13 v561 v562
  let ⟨v650, v652, c466689008_i32_166⟩ : Σ' (v650 : IVec S128x32 32) (v652 : IVec S128x32 32), BitVec 32 := fin14 v603 v605 v607
  let ⟨v696, v697⟩ : Σ' (v696 : FVec F S128x32 .f32), FVec F S128x32 .f32 := fin15 (F := F) v650 v652 c466689008_i32_166
  k1_pay153 v484 v485 v511 v696 v697

def rest10 (v1 : F .f32) (v3 : F .f32) (v7 : IVec S128x512 32) (v9 : FVec F S128x1 .f32) (v15 : IVec S128x1 32) (v24 : FVec F S128x1 .f32) (v30 : IVec S128x1 32) (v39 : FVec F S128x1 .f32) (v45 : IVec S128x1 32) (v54 : FVec F S128x1 .f32) (v60 : IVec S128x1 32) (v69 : FVec F S128x1 .f32) (v75 : IVec S128x1 32) (v84 : FVec F S128x1 .f32) (v90 : IVec S128x1 32) (v99 : FVec F S128x1 .f32) (v105 : IVec S128x1 32) (v114 : FVec F S128x1 .f32) (v120 : IVec S128x1 32) (v129 : FVec F S128x1 .f32) (v135 : IVec S128x1 32) (v144 : FVec F S128x1 .f32) (v150 : IVec S128x1 32) (v159 : FVec F S128x1 .f32) (v165 : IVec S128x1 32) (v174 : FVec F S128x1 .f32) (v180 : IVec S128x1 32) (v189 : FVec F S128x1 .f32) (v195 : IVec S128x1 32) (v204 : FVec F S128x1 .f32) (v210 : IVec S128x1 32) (v219 : FVec F S128x1 .f32) (v225 : IVec S128x1 32) (v234 : FVec F S128x1 .f32) (v240 : IVec S128x1 32) (v249 : FVec F S128x1 .f32) (v255 : IVec S128x1 32) (v264 : FVec F S128x1 .f32) (v270 : IVec S128x1 32) (v279 : FVec F S128x1 .f32) (v285 : IVec S128x1 32) (v294 : FVec F S128x1 .f32) (v300 : IVec S128x1 32) (v309 : FVec F S128x1 .f32) (v315 : IVec S128x1 32) (v324 : FVec F S128x1 .f32) (v330 : IVec S128x1 32) (v339 : FVec F S128x1 .f32) (v345 : IVec S128x1 32) (v354 : FVec F S128x1 .f32) (v360 : IVec S128x1 32) (v369 : FVec F S128x1 .f32) (v375 : IVec S128x1 32) (v384 : FVec F S128x1 .f32) (v390 : IVec S128x1 32) (v399 : FVec F S128x1 .f32) (v405 : IVec S128x1 32) (v412 : FVec F S128x512 .f32) (v414 : FVec F S128x1 .f32) (v420 : IVec S128x1 32) : IVec S128x1 32 :=
  let ⟨v429, v435, v444, v450, v457, v459, v465, v467, v468⟩ : Σ' (v429 : FVec F S128x1 .f32) (v435 : IVec S128x1 32) (v444 : FVec F S128x1 .f32) (v450 : IVec S128x1 32) (v457 : FVec F S128x512 .f32) (v459 : FVec F S128x1 .f32) (v465 : IVec S128x1 32) (v467 : IVec S128x512 1), IVec S128x512 32 := fin10 (F := F) v7 v412 v414 v420
  rest11 (F := F) v1 v3 v7 v9 v15 v24 v30 v39 v45 v54 v60 v69 v75 v84 v90 v99 v105 v114 v120 v129 v135 v144 v150 v159 v165 v174 v180 v189 v195 v204 v210 v219 v225 v234 v240 v249 v255 v264 v270 v279 v285 v294 v300 v309 v315 v324 v330 v339 v345 v354 v360 v369 v375 v384 v390 v399 v405 v414 v420 v429 v435 v444 v450 v457 v459 v465 v467 v468

def rest9 (v1 : F .f32) (v3 : F .f32) (v7 : IVec S128x512 32) (v9 : FVec F S128x1 .f32) (v15 : IVec S128x1 32) (v24 : FVec F S128x1 .f32) (v30 : IVec S128x1 32) (v39 : FVec F S128x1 .f32) (v45 : IVec S128x1 32) (v54 : FVec F S128x1 .f32) (v60 : IVec S128x1 32) (v69 : FVec F S128x1 .f32) (v75 : IVec S128x1 32) (v84 : FVec F S128x1 .f32) (v90 : IVec S128x1 32) (v99 : FVec F S128x1 .f32) (v105 : IVec S128x1 32) (v114 : FVec F S128x1 .f32) (v120 : IVec S128x1 32) (v129 : FVec F S128x1 .f32) (v135 : IVec S128x1 32) (v144 : FVec F S128x1 .f32) (v150 : IVec S128x1 32) (v159 : FVec F S128x1 .f32) (v165 : IVec S128x1 32) (v174 : FVec F S128x1 .f32) (v180 : IVec S128x1 32) (v189 : FVec F S128x1 .f32) (v195 : IVec S128x1 32) (v204 : FVec F S128x1 .f32) (v210 : IVec S128x1 32) (v219 : FVec F S128x1 .f32) (v225 : IVec S128x1 32) (v234 : FVec F S128x1 .f32) (v240 : IVec S128x1 32) (v249 : FVec F S128x1 .f32) (v255 : IVec S128x1 32) (v264 : FVec F S128x1 .f32) (v270 : IVec S128x1 32) (v279 : FVec F S128x1 .f32) (v285 : IVec S128x1 32) (v294 : FVec F S128x1 .f32) (v300 : IVec S128x1 32) (v309 : FVec F S128x1 .f32) (v315 : IVec S128x1 32) (v324 : FVec F S128x1 .f32) (v330 : IVec S128x1 32) (v339 : FVec F S128x1 .f32) (v345 : IVec S128x1 32) (v354 : FVec F S128x1 .f32) (v360 : IVec S128x1 32) (v367 : FVec F S128x512 .f32) (v369 : FVec F S128x1 .f32) (v373 : IVec S128x512 32) : IVec S128x1 32 :=
  let ⟨v375, v384, v390, v399, v405, v412, v414, v420⟩ : Σ' (v375 : IVec S128x1 32) (v384 : FVec F S128x1 .f32) (v390 : IVec S128x1 32) (v399 : FVec F S128x1 .f32) (v405 : IVec S128x1 32) (v412 : FVec F S128x512 .f32) (v414 : FVec F S128x1 .f32), IVec S128x1 32 := fin9 (F := F) v7 v367 v369 v373
  rest10 (F := F) v1 v3 v7 v9 v15 v24 v30 v39 v45 v54 v60 v69 v75 v84 v90 v99 v105 v114 v120 v129 v135 v144 v150 v159 v165 v174 v180 v189 v195 v204 v210 v219 v225 v234 v240 v249 v255 v264 v270 v279 v285 v294 v300 v309 v315 v324 v330 v339 v345 v354 v360 v369 v375 v384 v390 v399 v405 v412 v414 v420

def rest8 (v1 : F .f32) (v3 : F .f32) (v7 : IVec S128x512 32) (v9 : FVec F S128x1 .f32) (v15 : IVec S128x1 32) (v24 : FVec F S128x1 .f32) (v30 : IVec S128x1 32) (v39 : FVec F S128x1 .f32) (v45 : IVec S128x1 32) (v54 : FVec F S128x1 .f32) (v60 : IVec S128x1 32) (v69 : FVec F S128x1 .f32) (v75 : IVec S128x1 32) (v84 : FVec F S128x1 .f32) (v90 : IVec S128x1 32) (v99 : FVec F S128x1 .f32) (v105 : IVec S128x1 32) (v114 : FVec F S128x1 .f32) (v120 : IVec S128x1 32) (v129 : FVec F S128x1 .f32) (v135 : IVec S128x1 32) (v144 : FVec F S128x1 .f32) (v150 : IVec S128x1 32) (v159 : FVec F S128x1 .f32) (v165 : IVec S128x1 32) (v174 : FVec F S128x1 .f32) (v180 : IVec S128x1 32) (v189 : FVec F S128x1 .f32) (v195 : IVec S128x1 32) (v204 : FVec F S128x1 .f32) (v210 : IVec S128x1 32) (v219 : FVec F S128x1 .f32) (v225 : IVec S128x1 32) (v234 : FVec F S128x1 .f32) (v240 : IVec S128x1 32) (v249 : FVec F S128x1 .f32) (v255 : IVec S128x1 32) (v264 : FVec F S128x1 .f32) (v270 : IVec S128x1 32) (v279 : FVec F S128x1 .f32) (v285 : IVec S128x1 32) (v294 : FVec F S128x1 .f32) (v300 : IVec S128x1 32) (v309 : FVec F S128x1 .f32) (v315 : IVec S128x1 32) (v322 : FVec F S128x512 .f32) (v324 : FVec F S128x1 .f32) (v326 : IVec S128x512 1) : IVec S128x1 32 :=
  let ⟨v330, v339, v345, v354, v360, v367, v369, v373⟩ : Σ' (v330 : IVec S128x1 32) (v339 : FVec F S128x1 .f32) (v345 : IVec S128x1 32) (v354 : FVec F S128x1 .f32) (v360 : IVec S128x1 32) (v367 : FVec F S128x512 .f32) (v369 : FVec F S128x1 .f32), IVec S128x512 32 := fin8 (F := F) v7 v322 v324 v326
  rest9 (F := F) v1 v3 v7 v9 v15 v24 v30 v39 v45 v54 v60 v69 v75 v84 v90 v99 v105 v114 v120 v129 v135 v144 v150 v159 v165 v174 v180 v189 v195 v204 v210 v219 v225 v234 v240 v249 v255 v264 v270 v279 v285 v294 v300 v309 v315 v324 v330 v339 v345 v354 v360 v367 v369 v373

def rest7 (v1 : F .f32) (v3 : F .f32) (v7 : IVec S128x512 32) (v9 : FVec F S128x1 .f32) (v15 : IVec S128x1 32) (v24 : FVec F S128x1 .f32) (v30 : IVec S128x1 32) (v39 : FVec F S128x1 .f32) (v45 : IVec S128x1 32) (v54 : FVec F S128x1 .f32) (v60 : IVec S128x1 32) (v69 : FVec F S128x1 .f32) (v75 : IVec S128x1 32) (v84 : FVec F S128x1 .f32) (v90 : IVec S128x1 32) (v99 : FVec F S128x1 .f32) (v105 : IVec S128x1 32) (v114 : FVec F S128x1 .f32) (v120 : IVec S128x1 32) (v129 : FVec F S128x1 .f32) (v135 : IVec S128x1 32) (v144 : FVec F S128x1 .f32) (v150 : IVec S128x1 32) (v159 : FVec F S128x1 .f32) (v165 : IVec S128x1 32) (v174 : FVec F S128x1 .f32) (v180 : IVec S128x1 32) (v189 : FVec F S128x1 .f32) (v195 : IVec S128x1 32) (v204 : FVec F S128x1 .f32) (v210 : IVec S128x1 32) (v219 : FVec F S128x1 .f32) (v225 : IVec S128x1 32) (v234 : FVec F S128x1 .f32) (v240 : IVec S128x1 32) (v249 : FVec F S128x1 .f32) (v255 : IVec S128x1 32) (v264 : FVec F S128x1 .f32) (v270 : IVec S128x1 32) (v277 : FVec F S128x512 .f32) (v278 : FVec F S128 .f32) : IVec S128x1 32 :=
  let ⟨v279, v285, v294, v300, v309, v315, v322, v324, v326⟩ : Σ' (v279 : FVec F S128x1 .f32) (v285 : IVec S128x1 32) (v294 : FVec F S128x1 .f32) (v300 : IVec S128x1 32) (v309 : FVec F S128x1 .f32) (v315 : IVec S128x1 32) (v322 : FVec F S128x512 .f32) (v324 : FVec F S128x1 .f32), IVec S128x512 1 := fin7 (F := F) v7 v277 v278
  rest8 (F := F) v1 v3 v7 v9 v15 v24 v30 v39 v45 v54 v60 v69 v75 v84 v90 v99 v105 v114 v120 v129 v135 v144 v150 v159 v165 v174 v180 v189 v195 v204 v210 v219 v225 v234 v240 v249 v255 v264 v270 v279 v285 v294 v300 v309 v315 v322 v324 v326

def rest6 (v1 : F .f32) (v3 : F .f32) (v7 : IVec S128x512 32) (v9 : FVec F S128x1 .f32) (v15 : IVec S128x1 32) (v24 : FVec F S128x1 .f32) (v30 : IVec S128x1 32) (v39 : FVec F S128x1 .f32) (v45 : IVec S128x1 32) (v54 : FVec F S128x1 .f32) (v60 : IVec S128x1 32) (v69 : FVec F S128x1 .f32) (v75 : IVec S128x1 32) (v84 : FVec F S128x1 .f32) (v90 : IVec S128x1 32) (v99 : FVec F S128x1 .f32) (v105 : IVec S128x1 32) (v114 : FVec F S128x1 .f32) (v120 : IVec S128x1 32) (v129 : FVec F S128x1 .f32) (v135 : IVec S128x1 32) (v144 : FVec F S128x1 .f32) (v150 : IVec S128x1 32) (v159 : FVec F S128x1 .f32) (v165 : IVec S128x1 32) (v174 : FVec F S128x1 .f32) (v180 : IVec S128x1 32) (v189 : FVec F S128x1 .f32) (v195 : IVec S128x1 32) (v204 : FVec F S128x1 .f32) (v210 : IVec S128x1 32) (v217 : FVec F S128x512 .f32) (v219 : FVec F S128x1 .f32) (v225 : IVec S128x1 32) (v230 : IVec S128x512 1) (v231 : FVec F S128x512 .f32) : IVec S128x1 32 :=
  let ⟨v234, v240, v249, v255, v264, v270, v277, v278⟩ : Σ' (v234 : FVec F S128x1 .f32) (v240 : IVec S128x1 32) (v249 : FVec F S128x1 .f32) (v255 : IVec S128x1 32) (v264 : FVec F S128x1 .f32) (v270 : IVec S128x1 32) (v277 : FVec F S128x512 .f32), FVec F S128 .f32 := fin6 (F := F) v7 v217 v230 v231
  rest7 (F := F) v1 v3 v7 v9 v15 v24 v30 v39 v45 v54 v60 v69 v75 v84 v90 v99 v105 v114 v120 v129 v135 v144 v150 v159 v165 v174 v180 v189 v195 v204 v210 v219 v225 v234 v240 v249 v255 v264 v270 v277 v278

def rest5 (v1 : F .f32) (v3 : F .f32) (v7 : IVec S128x512 32) (v9 : FVec F S128x1 .f32) (v15 : IVec S128x1 32) (v24 : FVec F S128x1 .f32) (v30 : IVec S128x1 32) (v39 : FVec F S128x1 .f32) (v45 : IVec S128x1 32) (v54 : FVec F S128x1 .f32) (v60 : IVec S128x1 32) (v69 : FVec F S128x1 .f32) (v75 : IVec S128x1 32) (v84 : FVec F S128x1 .f32) (v90 : IVec S128x1 32) (v99 : FVec F S128x1 .f32) (v105 : IVec S128x1 32) (v114 : FVec F S128x1 .f32) (v120 : IVec S128x1 32) (v129 : FVec F S128x1 .f32) (v135 : IVec S128x1 32) (v144 : FVec F S128x1 .f32) (v150 : IVec S128x1 32) (v159 : FVec F S128x1 .f32) (v165 : IVec S128x1 32) (v172 : FVec F S128x512 .f32) (v174 : FVec F S128x1 .f32) (v180 : IVec S128x1 32) (v182 : IVec S128x512 1) (v184 : IVec S128x512 1) : IVec S128x1 32 :=
  let ⟨v189, v195, v204, v210, v217, v219, v225, v230, v231⟩ : Σ' (v189 : FVec F S128x1 .f32) (v195 : IVec S128x1 32) (v204 : FVec F S128x1 .f32) (v210 : IVec S128x1 32) (v217 : FVec F S128x512 .f32) (v219 : FVec F S128x1 .f32) (v225 : IVec S128x1 32) (v230 : IVec S128x512 1), FVec F S128x512 .f32 := fin5 (F := F) v7 v172 v182 v184
  rest6 (F := F) v1 v3 v7 v9 v15 v24 v30 v39 v45 v54 v60 v69 v75 v84 v90 v99 v105 v114 v120 v129 v135 v144 v150 v159 v165 v174 v180 v189 v195 v204 v210 v217 v219 v225 v230 v231

def rest4 (v1 : F .f32) (v3 : F .f32) (v7 : IVec S128x512 32) (v9 : FVec F S128x1 .f32) (v15 : IVec S128x1 32) (v24 : FVec F S128x1 .f32) (v30 : IVec S128x1 32) (v39 : FVec F S128x1 .f32) (v45 : IVec S128x1 32) (v54 : FVec F S128x1 .f32) (v60 : IVec S128x1 32) (v69 : FVec F S128x1 .f32) (v75 : IVec S128x1 32) (v84 : FVec F S128x1 .f32) (v90 : IVec S128x1 32) (v99 : FVec F S128x1 .f32) (v105 : IVec S128x1 32) (v114 : FVec F S128x1 .f32) (v120 : IVec S128x1 32) (v127 : FVec F S128x512 .f32) (v129 : FVec F S128x1 .f32) (v135 : IVec S128x1 32) (v136 : FVec F S128x512 .f32) : IVec S128x1 32 :=
  let ⟨v144, v150, v159, v165, v172, v174, v180, v182, v184⟩ : Σ' (v144 : FVec F S128x1 .f32) (v150 : IVec S128x1 32) (v159 : FVec F S128x1 .f32) (v165 : IVec S128x1 32) (v172 : FVec F S128x512 .f32) (v174 : FVec F S128x1 .f32) (v180 : IVec S128x1 32) (v182 : IVec S128x512 1), IVec S128x512 1 := fin4 (F := F) v7 v127 v135 v136
  rest5 (F := F) v1 v3 v7 v9 v15 v24 v30 v39 v45 v54 v60 v69 v75 v84 v90 v99 v105 v114 v120 v129 v135 v144 v150 v159 v165 v172 v174 v180 v182 v184

def rest3 (v1 : F .f32) (v3 : F .f32) (v7 : IVec S128x512 32) (v9 : FVec F S128x1 .f32) (v15 : IVec S128x1 32) (v24 : FVec F S128x1 .f32) (v30 : IVec S128x1 32) (v39 : FVec F S128x1 .f32) (v45 : IVec S128x1 32) (v54 : FVec F S128x1 .f32) (v60 : IVec S128x1 32) (v69 : FVec F S128x1 .f32) (v75 : IVec S128x1 32) (v82 : FVec F S128x512 .f32) (v84 : FVec F S128x1 .f32) (v88 : IVec S128x512 32) : IVec S128x1 32 :=
  let ⟨v90, v99, v105, v114, v120, v127, v129, v135, v136⟩ : Σ' (v90 : IVec S128x1 32) (v99 : FVec F S128x1 .f32) (v105 : IVec S128x1 32) (v114 : FVec F S128x1 .f32) (v120 : IVec S128x1 32) (v127 : FVec F S128x512 .f32) (v129 : FVec F S128x1 .f32) (v135 : IVec S128x1 32), FVec F S128x512 .f32 := fin3 (F := F) v7 v82 v84 v88
  rest4 (F := F) v1 v3 v7 v9 v15 v24 v30 v39 v45 v54 v60 v69 v75 v84 v90 v99 v105 v114 v120 v127 v129 v135 v136

def rest2 (v1 : F .f32) (v3 : F .f32) (v7 : IVec S128x512 32) (v9 : FVec F S128x1 .f32) (v15 : IVec S128x1 32) (v24 : FVec F S128x1 .f32) (v30 : IVec S128x1 32) (v37 : FVec F S128x512 .f32) (v39 : FVec F S128x1 .f32) (v41 : IVec S128x512 1) (c100000_i32_14 : BitVec 32) : IVec S128x1 32 :=
  let ⟨v45, v54, v60, v69, v75, v82, v84, v88⟩ : Σ' (v45 : IVec S128x1 32) (v54 : FVec F S128x1 .f32) (v60 : IVec S128x1 32) (v69 : FVec F S128x1 .f32) (v75 : IVec S128x1 32) (v82 : FVec F S128x512 .f32) (v84 : FVec F S128x1 .f32), IVec S128x512 32 := fin2 (F := F) v7 v37 v39 v41 c100000_i32_14
  rest3 (F := F) v1 v3 v7 v9 v15 v24 v30 v39 v45 v54 v60 v69 v75 v82 v84 v88

def rest1 (v0 : Vec F S1x1 .f32) (v2 : Vec F S1x1 .f32) (v4 : Vec F S128x512 .f32) (v6 : Vec F S128x512 .i32) : IVec S128x1 32 :=
  let ⟨v1, v3, v7, v9, v15, v24, v30, v37, v39, v41, c100000_i32_14⟩ : Σ' (v1 : F .f32) (v3 : F .f32) (v7 : IVec S128x512 32) (v9 : FVec F S128x1 .f32) (v15 : IVec S128x1 32) (v24 : FVec F S128x1 .f32) (v30 : IVec S128x1 32) (v37 : FVec F S128x512 .f32) (v39 : FVec F S128x1 .f32) (v41 : IVec S128x512 1), BitVec 32 := fin1 (F := F) v0 v2 v4 v6
  rest2 (F := F) v1 v3 v7 v9 v15 v24 v30 v37 v39 v41 c100000_i32_14

theorem finV_rest (v0 : Vec F S1x1 .f32) (v2 : Vec F S1x1 .f32) (v4 : Vec F S128x512 .f32) (v6 : Vec F S128x512 .i32) : finV (F := F) v0 v2 v4 v6 = rest1 v0 v2 v4 v6 := rfl

theorem rest11_eq (t q : F .f32) (n : IVec S128x512 32) (u : ℕ → FVec F S128x512 .f32) (hu : ∀ r, u (r + 1) = Tx n (u r)) :
    rest11 (F := F) t q n (Mx (u 0)) (Sx n (u 0)) (Mx (u 1)) (Sx n (u 1)) (Mx (u 2)) (Sx n (u 2)) (Mx (u 3)) (Sx n (u 3)) (Mx (u 4)) (Sx n (u 4)) (Mx (u 5)) (Sx n (u 5)) (Mx (u 6)) (Sx n (u 6)) (Mx (u 7)) (Sx n (u 7)) (Mx (u 8)) (Sx n (u 8)) (Mx (u 9)) (Sx n (u 9)) (Mx (u 10)) (Sx n (u 10)) (Mx (u 11)) (Sx n (u 11)) (Mx (u 12)) (Sx n (u 12)) (Mx (u 13)) (Sx n (u 13)) (Mx (u 14)) (Sx n (u 14)) (Mx (u 15)) (Sx n (u 15)) (Mx (u 16)) (Sx n (u 16)) (Mx (u 17)) (Sx n (u 17)) (Mx (u 18)) (Sx n (u 18)) (Mx (u 19)) (Sx n (u 19)) (Mx (u 20)) (Sx n (u 20)) (Mx (u 21)) (Sx n (u 21)) (Mx (u 22)) (Sx n (u 22)) (Mx (u 23)) (Sx n (u 23)) (Mx (u 24)) (Sx n (u 24)) (Mx (u 25)) (Sx n (u 25)) (Mx (u 26)) (Sx n (u 26)) (Mx (u 27)) (Sx n (u 27)) (Mx (u 28)) (Sx n (u 28)) (Mx (u 29)) (Sx n (u 29)) (u 30) (Mx (u 30)) (Sx n (u 30)) (Qx (u 30)) (BSx n (u 30))
      = k1_pay153 (topN n u) (iota .tc S128x32 32 [1] iota_S128x32_d1_w32) (soft t q (topV u)) (bitsOf (counters (topN n u))) k1_pay152 := by
  unfold rest11
  rw [fin11_eq t q n u (hu 30)]
  rfl

theorem rest10_eq (t q : F .f32) (n : IVec S128x512 32) (u : ℕ → FVec F S128x512 .f32) (hu : ∀ r, u (r + 1) = Tx n (u r)) :
    rest10 (F := F) t q n (Mx (u 0)) (Sx n (u 0)) (Mx (u 1)) (Sx n (u 1)) (Mx (u 2)) (Sx n (u 2)) (Mx (u 3)) (Sx n (u 3)) (Mx (u 4)) (Sx n (u 4)) (Mx (u 5)) (Sx n (u 5)) (Mx (u 6)) (Sx n (u 6)) (Mx (u 7)) (Sx n (u 7)) (Mx (u 8)) (Sx n (u 8)) (Mx (u 9)) (Sx n (u 9)) (Mx (u 10)) (Sx n (u 10)) (Mx (u 11)) (Sx n (u 11)) (Mx (u 12)) (Sx n (u 12)) (Mx (u 13)) (Sx n (u 13)) (Mx (u 14)) (Sx n (u 14)) (Mx (u 15)) (Sx n (u 15)) (Mx (u 16)) (Sx n (u 16)) (Mx (u 17)) (Sx n (u 17)) (Mx (u 18)) (Sx n (u 18)) (Mx (u 19)) (Sx n (u 19)) (Mx (u 20)) (Sx n (u 20)) (Mx (u 21)) (Sx n (u 21)) (Mx (u 22)) (Sx n (u 22)) (Mx (u 23)) (Sx n (u 23)) (Mx (u 24)) (Sx n (u 24)) (Mx (u 25)) (Sx n (u 25)) (Mx (u 26)) (Sx n (u 26)) (u 27) (Mx (u 27)) (Sx n (u 27))
      = k1_pay153 (topN n u) (iota .tc S128x32 32 [1] iota_S128x32_d1_w32) (soft t q (topV u)) (bitsOf (counters (topN n u))) k1_pay152 := by
  unfold rest10
  rw [fin10_eq n (u 27) (u 28) (u 29) (u 30) (hu 27) (hu 28) (hu 29)]
  exact rest11_eq t q n u hu

theorem rest9_eq (t q : F .f32) (n : IVec S128x512 32) (u : ℕ → FVec F S128x512 .f32) (hu : ∀ r, u (r + 1) = Tx n (u r)) :
    rest9 (F := F) t q n (Mx (u 0)) (Sx n (u 0)) (Mx (u 1)) (Sx n (u 1)) (Mx (u 2)) (Sx n (u 2)) (Mx (u 3)) (Sx n (u 3)) (Mx (u 4)) (Sx n (u 4)) (Mx (u 5)) (Sx n (u 5)) (Mx (u 6)) (Sx n (u 6)) (Mx (u 7)) (Sx n (u 7)) (Mx (u 8)) (Sx n (u 8)) (Mx (u 9)) (Sx n (u 9)) (Mx (u 10)) (Sx n (u 10)) (Mx (u 11)) (Sx n (u 11)) (Mx (u 12)) (Sx n (u 12)) (Mx (u 13)) (Sx n (u 13)) (Mx (u 14)) (Sx n (u 14)) (Mx (u 15)) (Sx n (u 15)) (Mx (u 16)) (Sx n (u 16)) (Mx (u 17)) (Sx n (u 17)) (Mx (u 18)) (Sx n (u 18)) (Mx (u 19)) (Sx n (u 19)) (Mx (u 20)) (Sx n (u 20)) (Mx (u 21)) (Sx n (u 21)) (Mx (u 22)) (Sx n (u 22)) (Mx (u 23)) (Sx n (u 23)) (u 24) (Mx (u 24)) (Lx n (u 24))
      = k1_pay153 (topN n u) (iota .tc S128x32 32 [1] iota_S128x32_d1_w32) (soft t q (topV u)) (bitsOf (counters (topN n u))) k1_pay152 := by
  unfold rest9
  rw [fin9_eq n (u 24) (u 25) (u 26) (u 27) (hu 24) (hu 25) (hu 26)]
  exact rest10_eq t q n u hu

theorem rest8_eq (t q : F .f32) (n : IVec S128x512 32) (u : ℕ → FVec F S128x512 .f32) (hu : ∀ r, u (r + 1) = Tx n (u r)) :
    rest8 (F := F) t q n (Mx (u 0)) (Sx n (u 0)) (Mx (u 1)) (Sx n (u 1)) (Mx (u 2)) (Sx n (u 2)) (Mx (u 3)) (Sx n (u 3)) (Mx (u 4)) (Sx n (u 4)) (Mx (u 5)) (Sx n (u 5)) (Mx (u 6)) (Sx n (u 6)) (Mx (u 7)) (Sx n (u 7)) (Mx (u 8)) (Sx n (u 8)) (Mx (u 9)) (Sx n (u 9)) (Mx (u 10)) (Sx n (u 10)) (Mx (u 11)) (Sx n (u 11)) (Mx (u 12)) (Sx n (u 12)) (Mx (u 13)) (Sx n (u 13)) (Mx (u 14)) (Sx n (u 14)) (Mx (u 15)) (Sx n (u 15)) (Mx (u 16)) (Sx n (u 16)) (Mx (u 17)) (Sx n (u 17)) (Mx (u 18)) (Sx n (u 18)) (Mx (u 19)) (Sx n (u 19)) (Mx (u 20)) (Sx n (u 20)) (u 21) (Mx (u 21)) (Qx (u 21))
      = k1_pay153 (topN n u) (iota .tc S128x32 32 [1] iota_S128x32_d1_w32) (soft t q (topV u)) (bitsOf (counters (topN n u))) k1_pay152 := by
  unfold rest8
  rw [fin8_eq n (u 21) (u 22) (u 23) (u 24) (hu 21) (hu 22) (hu 23)]
  exact rest9_eq t q n u hu

theorem rest7_eq (t q : F .f32) (n : IVec S128x512 32) (u : ℕ → FVec F S128x512 .f32) (hu : ∀ r, u (r + 1) = Tx n (u r)) :
    rest7 (F := F) t q n (Mx (u 0)) (Sx n (u 0)) (Mx (u 1)) (Sx n (u 1)) (Mx (u 2)) (Sx n (u 2)) (Mx (u 3)) (Sx n (u 3)) (Mx (u 4)) (Sx n (u 4)) (Mx (u 5)) (Sx n (u 5)) (Mx (u 6)) (Sx n (u 6)) (Mx (u 7)) (Sx n (u 7)) (Mx (u 8)) (Sx n (u 8)) (Mx (u 9)) (Sx n (u 9)) (Mx (u 10)) (Sx n (u 10)) (Mx (u 11)) (Sx n (u 11)) (Mx (u 12)) (Sx n (u 12)) (Mx (u 13)) (Sx n (u 13)) (Mx (u 14)) (Sx n (u 14)) (Mx (u 15)) (Sx n (u 15)) (Mx (u 16)) (Sx n (u 16)) (Mx (u 17)) (Sx n (u 17)) (u 18) (Rx (u 18))
      = k1_pay153 (topN n u) (iota .tc S128x32 32 [1] iota_S128x32_d1_w32) (soft t q (topV u)) (bitsOf (counters (topN n u))) k1_pay152 := by
  unfold rest7
  rw [fin7_eq n (u 18) (u 19) (u 20) (u 21) (hu 18) (hu 19) (hu 20)]
  exact rest8_eq t q n u hu

theorem rest6_eq (t q : F .f32) (n : IVec S128x512 32) (u : ℕ → FVec F S128x512 .f32) (hu : ∀ r, u (r + 1) = Tx n (u r)) :
    rest6 (F := F) t q n (Mx (u 0)) (Sx n (u 0)) (Mx (u 1)) (Sx n (u 1)) (Mx (u 2)) (Sx n (u 2)) (Mx (u 3)) (Sx n (u 3)) (Mx (u 4)) (Sx n (u 4)) (Mx (u 5)) (Sx n (u 5)) (Mx (u 6)) (Sx n (u 6)) (Mx (u 7)) (Sx n (u 7)) (Mx (u 8)) (Sx n (u 8)) (Mx (u 9)) (Sx n (u 9)) (Mx (u 10)) (Sx n (u 10)) (Mx (u 11)) (Sx n (u 11)) (Mx (u 12)) (Sx n (u 12)) (Mx (u 13)) (Sx n (u 13)) (u 14) (Mx (u 14)) (Sx n (u 14)) (Ax n (u 14)) Ninf
      = k1_pay153 (topN n u) (iota .tc S128x32 32 [1] iota_S128x32_d1_w32) (soft t q (topV u)) (bitsOf (counters (topN n u))) k1_pay152 := by
  unfold rest6
  rw [fin6_eq n (u 14) (u 15) (u 16) (u 17) (u 18) (hu 14) (hu 15) (hu 16) (hu 17)]
  exact rest7_eq t q n u hu

theorem rest5_eq (t q : F .f32) (n : IVec S128x512 32) (u : ℕ → FVec F S128x512 .f32) (hu : ∀ r, u (r + 1) = Tx n (u r)) :
    rest5 (F := F) t q n (Mx (u 0)) (Sx n (u 0)) (Mx (u 1)) (Sx n (u 1)) (Mx (u 2)) (Sx n (u 2)) (Mx (u 3)) (Sx n (u 3)) (Mx (u 4)) (Sx n (u 4)) (Mx (u 5)) (Sx n (u 5)) (Mx (u 6)) (Sx n (u 6)) (Mx (u 7)) (Sx n (u 7)) (Mx (u 8)) (Sx n (u 8)) (Mx (u 9)) (Sx n (u 9)) (Mx (u 10)) (Sx n (u 10)) (u 11) (Mx (u 11)) (Sx n (u 11)) (Qx (u 11)) (QNx n (u 11))
      = k1_pay153 (topN n u) (iota .tc S128x32 32 [1] iota_S128x32_d1_w32) (soft t q (topV u)) (bitsOf (counters (topN n u))) k1_pay152 := by
  unfold rest5
  rw [fin5_eq n (u 11) (u 12) (u 13) (u 14) (hu 11) (hu 12) (hu 13)]
  exact rest6_eq t q n u hu

theorem rest4_eq (t q : F .f32) (n : IVec S128x512 32) (u : ℕ → FVec F S128x512 .f32) (hu : ∀ r, u (r + 1) = Tx n (u r)) :
    rest4 (F := F) t q n (Mx (u 0)) (Sx n (u 0)) (Mx (u 1)) (Sx n (u 1)) (Mx (u 2)) (Sx n (u 2)) (Mx (u 3)) (Sx n (u 3)) (Mx (u 4)) (Sx n (u 4)) (Mx (u 5)) (Sx n (u 5)) (Mx (u 6)) (Sx n (u 6)) (Mx (u 7)) (Sx n (u 7)) (u 8) (Mx (u 8)) (Sx n (u 8)) (Bx (u 8))
      = k1_pay153 (topN n u) (iota .tc S128x32 32 [1] iota_S128x32_d1_w32) (soft t q (topV u)) (bitsOf (counters (topN n u))) k1_pay152 := by
  unfold rest4
  rw [fin4_eq n (u 8) (u 9) (u 10) (u 11) (hu 8) (hu 9) (hu 10)]
  exact rest5_eq t q n u hu

theorem rest3_eq (t q : F .f32) (n : IVec S128x512 32) (u : ℕ → FVec F S128x512 .f32) (hu : ∀ r, u (r + 1) = Tx n (u r)) :
    rest3 (F := F) t q n (Mx (u 0)) (Sx n (u 0)) (Mx (u 1)) (Sx n (u 1)) (Mx (u 2)) (Sx n (u 2)) (Mx (u 3)) (Sx n (u 3)) (Mx (u 4)) (Sx n (u 4)) (u 5) (Mx (u 5)) (Lx n (u 5))
      = k1_pay153 (topN n u) (iota .tc S128x32 32 [1] iota_S128x32_d1_w32) (soft t q (topV u)) (bitsOf (counters (topN n u))) k1_pay152 := by
  unfold rest3
  rw [fin3_eq n (u 5) (u 6) (u 7) (u 8) (hu 5) (hu 6) (hu 7)]
  exact rest4_eq t q n u hu

theorem rest2_eq (t q : F .f32) (n : IVec S128x512 32) (u : ℕ → FVec F S128x512 .f32) (hu : ∀ r, u (r + 1) = Tx n (u r)) :
    rest2 (F := F) t q n (Mx (u 0)) (Sx n (u 0)) (Mx (u 1)) (Sx n (u 1)) (u 2) (Mx (u 2)) (Qx (u 2)) 100000#32
      = k1_pay153 (topN n u) (iota .tc S128x32 32 [1] iota_S128x32_d1_w32) (soft t q (topV u)) (bitsOf (counters (topN n u))) k1_pay152 := by
  unfold rest2
  rw [fin2_eq n (u 2) (u 3) (u 4) (u 5) (hu 2) (hu 3) (hu 4)]
  exact rest3_eq t q n u hu

theorem finV_eq (a b : FVec F S1x1 .f32) (z : FVec F S128x512 .f32) (u : ℕ → FVec F S128x512 .f32) (k n : IVec S128x512 32)
    (hz : u 0 = shapeCast S128x512 z shapeCasts_S128x512_S128x512) (hk : n = shapeCast S128x512 k shapeCasts_S128x512_S128x512) (hu : ∀ r, u (r + 1) = Tx n (u r)) :
    finV (F := F) a b z k = k1_pay153 (topN n u) (iota .tc S128x32 32 [1] iota_S128x32_d1_w32)
      (soft (extractAt ![0, 0] a inpos_S1x1_p0_0) (extractAt ![0, 0] b inpos_S1x1_p0_0) (topV u)) (bitsOf (counters (topN n u))) k1_pay152 := by
  rw [finV_rest]
  unfold rest1
  rw [fin1_eq a b z (u 0) k n (u 1) (u 2) hz hk (hu 0) (hu 1)]
  exact rest2_eq _ _ n u hu

end Cert.Proof.Sc
-- ==== Proof.Sel.lean ====
/-
  Repeated selection is sorting: thirty-two times the largest value still there, of equal ones the one with the smallest number,
  are the first thirty-two of the list sorted by falling value and then by rising number.
-/
module

public import Idealize.ShloMosaic.PureOps
public import Idealize.ShloMosaic.PureOps.Ideal
public import Idealize.ShloMosaic.Lib.SortPrefix
public import Mathlib.Data.Prod.Lex

@[expose] public section

noncomputable section

namespace Cert.Proof.Sel

open Idealize.ShloMosaic
open scoped Classical

/-! ## The order -/

/-- `p` comes before `q`: a larger value, or an equal one with a smaller number. -/
def Before {N : ℕ} (v : Fin N → EReal) (n : Fin N → BitVec 32) (p q : Fin N) : Prop :=
  v q < v p ∨ (v p = v q ∧ (n p).toInt < (n q).toInt)

/-! ## The rounds -/

section
variable {N : ℕ} (v : Fin N → EReal) (n : Fin N → BitVec 32) (M : ℕ → EReal) (S : ℕ → BitVec 32) (W : ℕ → Fin N → EReal)
  (hM : ∀ r u, u ≤ M r ↔ u = ⊥ ∨ ∃ p, u ≤ W r p)
  (hS : ∀ r (u : ℤ), u ≤ (S r).toInt ↔ u ≤ 2147483647 ∧ ∀ p, u ≤ (if W r p = M r then n p else 100000#32).toInt)
  (h0 : W 0 = v)
  (hW : ∀ r p, W (r + 1) p = if W r p = M r ∧ n p = S r then ⊥ else W r p)
  (hn : ∀ p, v p ≠ ⊥ → (n p).toInt ≤ 100000)
  (hd : ∀ p q, v p ≠ ⊥ → v q ≠ ⊥ → n p = n q → p = q)
include hM hS hW hn

/-- A round in which something is left takes an entry. -/
theorem takes (r : ℕ) (hr : ∀ p, W r p ≠ ⊥ → W r p = v p) (hx : ∃ p, W r p ≠ ⊥) :
    ∃ p, W r p ≠ ⊥ ∧ W r p = M r ∧ n p = S r := by
  obtain ⟨p0, hp0⟩ := hx
  have hMle : ∀ p, W r p ≤ M r := fun p => (hM r _).mpr (Or.inr ⟨p, le_rfl⟩)
  have hMb : M r ≠ ⊥ := fun h => hp0 (le_bot_iff.mp (h ▸ hMle p0))
  obtain ⟨p1, hp1⟩ : ∃ p, W r p = M r := by
    rcases (hM r (M r)).mp le_rfl with h | ⟨p, hp⟩
    · exact absurd h hMb
    · exact ⟨p, le_antisymm (hMle p) hp⟩
  by_contra hno
  push Not at hno
  have hge := ((hS r _).mp le_rfl)
  have hcon : (S r).toInt + 1 ≤ (S r).toInt := by
    refine (hS r _).mpr ⟨?_, fun p => ?_⟩
    · have h1 := hge.2 p1
      rw [if_pos hp1] at h1
      have h2 := hn p1 (by rw [← hr p1 (by rw [hp1]; exact hMb), hp1]; exact hMb)
      omega
    · have h1 := hge.2 p
      by_cases hp : W r p = M r
      · rw [if_pos hp] at h1 ⊢
        have h2 : n p ≠ S r := hno p (by rw [hp]; exact hMb) hp
        have h3 : (n p).toInt ≠ (S r).toInt := fun h => h2 (BitVec.eq_of_toInt_eq h)
        omega
      · rw [if_neg hp]
        have h1 := hge.2 p1
        rw [if_pos hp1] at h1
        have h2 := hn p1 (by rw [← hr p1 (by rw [hp1]; exact hMb), hp1]; exact hMb)
        have h3 : n p1 ≠ S r := hno p1 (by rw [hp1]; exact hMb) hp1
        have h4 : (n p1).toInt ≠ (S r).toInt := fun h => h3 (BitVec.eq_of_toInt_eq h)
        have h5 : (100000#32 : BitVec 32).toInt = 100000 := by decide
        rw [h5]; omega
  omega

include hd h0 in
/-- After `r` rounds `r` entries are gone. -/
theorem left (K : ℕ) (hc : K ≤ (Finset.univ.filter fun p => v p ≠ ⊥).card) :
    ∀ r, r ≤ K → ∃ R : Finset (Fin N), R.card = r ∧ (∀ p ∈ R, v p ≠ ⊥) ∧ ∀ p, W r p = if p ∈ R then ⊥ else v p
  | 0, _ => ⟨∅, rfl, by simp, by simp [h0]⟩
  | r + 1, h => by
    obtain ⟨R, hR, hRv, hRW⟩ := left K hc r (by omega)
    have hx : ∃ p, W r p ≠ ⊥ := by
      have hlt : R.card < (Finset.univ.filter fun p => v p ≠ ⊥).card := by omega
      obtain ⟨p, hp, hpR⟩ := Finset.exists_mem_notMem_of_card_lt_card hlt
      exact ⟨p, by rw [hRW, if_neg hpR]; exact (Finset.mem_filter.mp hp).2⟩
    have hr : ∀ p, W r p ≠ ⊥ → W r p = v p := fun p hp => by
      rw [hRW] at hp ⊢
      by_cases hpR : p ∈ R
      · rw [if_pos hpR] at hp; exact absurd rfl hp
      · rw [if_neg hpR]
    obtain ⟨q, hq, hqM, hqS⟩ := takes v n M S W hM hS hW hn r hr hx
    have hqR : q ∉ R := fun h => hq (by rw [hRW, if_pos h])
    refine ⟨insert q R, by rw [Finset.card_insert_of_notMem hqR, hR], fun p hp => ?_, fun p => ?_⟩
    · rcases Finset.mem_insert.mp hp with rfl | h
      · rw [← hr p hq]; exact hq
      · exact hRv p h
    · rw [hW]
      by_cases hpq : p = q
      · subst hpq; rw [if_pos ⟨hqM, hqS⟩, if_pos (Finset.mem_insert_self _ _)]
      · have hno : ¬(W r p = M r ∧ n p = S r) := fun ⟨h1, h2⟩ => by
          have hp : W r p ≠ ⊥ := by rw [h1, ← hqM]; exact hq
          exact hpq (hd p q (by rw [← hr p hp]; exact hp) (by rw [← hr q hq]; exact hq) (h2.trans hqS.symm))
        rw [if_neg hno, hRW]
        simp only [Finset.mem_insert, hpq, false_or]

include hd h0 in
/-- The entries taken, in order. -/
theorem picks (K : ℕ) (hc : K ≤ (Finset.univ.filter fun p => v p ≠ ⊥).card) :
    ∃ σ : Fin K → Fin N, Function.Injective σ ∧ (∀ k : Fin K, M k.val = v (σ k) ∧ S k.val = n (σ k)) ∧ (∀ k, v (σ k) ≠ ⊥)
      ∧ ∀ (k : Fin K) (p : Fin N), (∀ j, j < k → σ j ≠ p) → ¬ Before v n p (σ k) := by
  have hleft := left v n M S W hM hS h0 hW hn hd K hc
  have hr : ∀ r, r ≤ K → ∀ p, W r p ≠ ⊥ → W r p = v p := fun r h p hp => by
    obtain ⟨R, _, _, hRW⟩ := hleft r h
    rw [hRW] at hp ⊢
    by_cases hpR : p ∈ R
    · rw [if_pos hpR] at hp; exact absurd rfl hp
    · rw [if_neg hpR]
  have hx : ∀ k : Fin K, ∃ p, W k.val p ≠ ⊥ ∧ W k.val p = M k.val ∧ n p = S k.val := fun k => by
    obtain ⟨R, hR, hRv, hRW⟩ := hleft k.val k.isLt.le
    refine takes v n M S W hM hS hW hn k.val (hr k.val k.isLt.le) ?_
    have hlt : R.card < (Finset.univ.filter fun p => v p ≠ ⊥).card := by have := k.isLt; omega
    obtain ⟨p, hp, hpR⟩ := Finset.exists_mem_notMem_of_card_lt_card hlt
    exact ⟨p, by rw [hRW, if_neg hpR]; exact (Finset.mem_filter.mp hp).2⟩
  choose σ hσ hσM hσS using hx
  have hv : ∀ k : Fin K, W k.val (σ k) = v (σ k) := fun k => hr k.val k.isLt.le _ (hσ k)
  have hstep : ∀ (k : Fin K) p, W (k.val + 1) p = if p = σ k then ⊥ else W k.val p := fun k p => by
    rw [hW]
    by_cases hp : p = σ k
    · subst hp; rw [if_pos ⟨hσM k, (hσS k)⟩, if_pos rfl]
    · have hno : ¬(W k.val p = M k.val ∧ n p = S k.val) := fun ⟨h1, h2⟩ => by
        have hb : W k.val p ≠ ⊥ := by rw [h1, ← hσM]; exact hσ k
        exact hp (hd p (σ k) (by rw [← hr k.val k.isLt.le p hb]; exact hb) (by rw [← hv k]; exact hσ k) (h2.trans (hσS k).symm))
      rw [if_neg hno, if_neg hp]
  have hall : ∀ r, r ≤ K → ∀ p, W r p = if ∃ j : Fin K, j.val < r ∧ σ j = p then ⊥ else v p := by
    intro r
    induction r with
    | zero => intro _ p; rw [h0, if_neg (by rintro ⟨j, hj, _⟩; omega)]
    | succ r ih =>
      intro h p
      rw [hstep ⟨r, by omega⟩ p, ih (by omega) p]
      by_cases hp : p = σ ⟨r, by omega⟩
      · rw [if_pos hp, if_pos ⟨⟨r, by omega⟩, by simp, hp.symm⟩]
      · rw [if_neg hp]
        refine if_congr ⟨fun ⟨j, hj, e⟩ => ⟨j, by omega, e⟩, fun ⟨j, hj, e⟩ => ⟨j, ?_, e⟩⟩ rfl rfl
        rcases Nat.lt_or_ge j.val r with h' | h'
        · exact h'
        · have : j = ⟨r, by omega⟩ := Fin.ext (by show j.val = r; omega)
          exact absurd (by rw [← this]; exact e.symm) hp
  refine ⟨σ, fun i j hij => ?_, fun k => ⟨by rw [← hσM k, hv k], (hσS k).symm⟩, fun k => hv k ▸ hσ k, fun k p hp => ?_⟩
  · by_contra hne
    rcases lt_or_gt_of_ne hne with h | h
    · exact hσ j (by rw [hall j.val j.isLt.le, if_pos ⟨i, h, hij⟩])
    · exact hσ i (by rw [hall i.val i.isLt.le, if_pos ⟨j, h, hij.symm⟩])
  · have hWp : W k.val p = v p := by
      rw [hall k.val k.isLt.le, if_neg]
      rintro ⟨j, hj, e⟩
      exact hp j hj e
    have hle : v p ≤ v (σ k) := by rw [← hWp, ← hv k, hσM k]; exact (hM _ _).mpr (Or.inr ⟨p, le_rfl⟩)
    rintro (h | ⟨he, hlt⟩)
    · exact absurd hle (not_le.mpr h)
    · have h1 := ((hS k.val _).mp le_rfl).2 p
      rw [if_pos (by rw [hWp, he, ← hv k, hσM k]), ← hσS k] at h1
      omega
end

/-! ## The sort -/

theorem insertBefore_congr {ι : Type} (B B' : ι → ι → Bool) (a : ι) : ∀ l : List ι, (∀ b ∈ l, B b a = B' b a) → insertBefore B a l = insertBefore B' a l
  | [], _ => rfl
  | b :: l, h => by
    unfold insertBefore
    rw [h b (by simp), insertBefore_congr B B' a l fun c hc => h c (by simp [hc])]

theorem stableSort_congr {ι : Type} [LT ι] (B B' : ι → ι → Bool) (h : ∀ a b, a < b → B b a = B' b a) :
    ∀ l : List ι, l.Pairwise (· < ·) → stableSort B l = stableSort B' l
  | [], _ => rfl
  | a :: l, hl => by
    unfold stableSort
    rw [List.pairwise_cons] at hl
    rw [stableSort_congr B B' h l hl.2]
    exact insertBefore_congr B B' a _ fun b hb => h a b (hl.1 b ((perm_stableSort B' l).mem_iff.mp hb))

theorem sortedFrom_congr {N : ℕ} (B B' : Fin N → Fin N → Bool) (h : ∀ a b, a < b → B b a = B' b a) (k : Fin N) : sortedFrom B k = sortedFrom B' k := by
  have e : sortPositions N B = sortPositions N B' := stableSort_congr B B' h _ (List.pairwise_lt_finRange N)
  unfold sortedFrom
  simp only [List.get_eq_getElem, Fin.val_cast, e]

/-- The sort's first entries are the entries taken. -/
theorem sorted_prefix {N K : ℕ} (hK : K ≤ N) (v : Fin N → EReal) (n : Fin N → BitVec 32) (B : Fin N → Fin N → Bool)
    (hB : ∀ p q, B p q = true ↔ Before v n p q) (σ : Fin K → Fin N) (hinj : Function.Injective σ)
    (hd : ∀ (k : Fin K) (p : Fin N), v p = v (σ k) → n p = n (σ k) → p = σ k)
    (hσ : ∀ (k : Fin K) (p : Fin N), (∀ j, j < k → σ j ≠ p) → ¬ Before v n p (σ k)) (k : Fin K) :
    sortedFrom B (k.castLE hK) = σ k := by
  let key : Fin N → EReal ×ₗ ℤ := fun p => toLex (-v p, (n p).toInt)
  have hkey : ∀ p q, key p < key q ↔ Before v n p q := fun p q => by
    show toLex _ < toLex _ ↔ _
    rw [Prod.Lex.toLex_lt_toLex]
    unfold Before
    simp only [EReal.neg_lt_neg_iff, neg_inj]
  have hT := StrictTotalBefore.of_key_then_position (κ := EReal ×ₗ ℤ) (fun a b => decide (a < b)) key (by simp)
    (fun a b c h1 h2 => by simp only [decide_eq_true_eq] at *; exact h1.trans h2)
    (fun a b => by simp only [decide_eq_true_eq]; exact lt_trichotomy a b)
  have hBB : ∀ a b, a < b → B b a = ((fun k k' : Fin N => decide (key k < key k') || (decide (key k = key k') && decide (k < k'))) b a) := fun a b hab => by
    have hnb : ¬ b < a := not_lt.mpr hab.le
    simp only [hnb, decide_false, Bool.and_false, Bool.or_false]
    rw [Bool.eq_iff_iff, hB, decide_eq_true_eq, hkey]
  rw [sortedFrom_congr B _ hBB]
  have hno : ∀ (i : Fin K) (p : Fin N), ¬ Before v n p (σ i) →
      ((fun k k' : Fin N => decide (key k < key k') || (decide (key k = key k') && decide (k < k'))) p (σ i)) = false := fun i p h => by
    rw [← hkey] at h
    simp only [h, decide_false, Bool.false_or, Bool.and_eq_false_imp, decide_eq_true_eq, decide_eq_false_iff_not]
    intro he
    have he' : (-v p, (n p).toInt) = (-v (σ i), (n (σ i)).toInt) := he
    rw [Prod.mk.injEq, neg_inj] at he'
    have := hd i p he'.1 (BitVec.eq_of_toInt_eq he'.2)
    rw [this]; exact lt_irrefl _
  exact hT.sortedFrom_eq_of_prefix hK σ hinj (fun i j hij => hno i _ (hσ i _ fun j' hj' e => absurd (hinj e) (by
    intro e'; rw [e'] at hj'; exact absurd hj' (not_lt.mpr hij.le)))) (fun i p hp => hno i p (hσ i p fun j _ => hp j)) k

end Cert.Proof.Sel
-- ==== Proof.RefDef.lean ====
/-
  The condition on the logits, stage by stage, as functions of the row-cut array.
-/
module

public import proofs.«01_k».proof.Pre_spread
public import Idealize.ShloMosaic.PureOps.Ideal

@[expose] public section

set_option maxRecDepth 65536

noncomputable section

namespace Cert.Proof.Pre

open Cert.Pre_spread
open Idealize.ShloMosaic

/-- The shapes of the condition's operations fit. -/
instance facts : Cert.Pre_spread.Facts where
  shapeCasts_S128x100000_S128x6250x16 := by decide
  bcast_S_S128x6250x16 := by decide
  reducesTo_S128x6250x16_S128x16_d1 := by decide
  h_S_ := by decide
  bcast_S128x16_S128x1x16_0_2 := by decide
  bcast_S128x1x16_S128x6250x16_0_1_2 := by decide
  reducesTo_S128x16_S128_d1 := by decide
  bcast_S128_S128x1x1_0 := by decide
  bcast_S128x1x1_S128x6250x16_0_1_2 := by decide
  natLt_1_32 := by decide
  bcast_S_S128x100000 := by decide
  reducesTo_S128x100000_S_d0_1 := by decide
  bcast_S_S128x16 := by decide
  reducesTo_S128x16_S_d0_1 := by decide

end Cert.Proof.Pre

namespace Cert.Proof.Ref

open Cert.Pre_spread Cert.Pre_spread.Facts
open Idealize.ShloMosaic

abbrev A3 : Type := FVec Ideal S128x6250x16 .f32

/-- Minus infinity, and infinity, as scalars. -/
def cNeg : FVec Ideal S_ .f32 := constant (F := Ideal) S_ .f32 0xFF800000#32
def cPos : FVec Ideal S_ .f32 := constant (F := Ideal) S_ .f32 0x7F800000#32

/-- The array by row, step and lane. -/
def cut3 (X : FVec Ideal S128x100000 .f32) : A3 := shapeCast S128x6250x16 X shapeCasts_S128x100000_S128x6250x16

/-- One entry per lane, at every step. -/
def steps {α : Type} (z : S128x16.Idx → α) : S128x6250x16.Idx → α :=
  broadcastInDim S128x6250x16 ![0, 1, 2] bcast_S128x1x16_S128x6250x16_0_1_2 (broadcastInDim S128x1x16 ![0, 2] bcast_S128x16_S128x1x16_0_2 z)

/-- One entry per row, at every step and lane. -/
def rows {α : Type} (z : S128.Idx → α) : S128x6250x16.Idx → α :=
  broadcastInDim S128x6250x16 ![0, 1, 2] bcast_S128x1x1_S128x6250x16_0_1_2 (broadcastInDim S128x1x1 ![0] bcast_S128_S128x1x1_0 z)

/-- One entry, everywhere. -/
def all3 {α : Type} (z : S_.Idx → α) : S128x6250x16.Idx → α := broadcastInDim S128x6250x16 ![] bcast_S_S128x6250x16 z

def largest (y : A3) : FVec Ideal S128x16 .f32 := Host.reduce FloatOps.maximumf y cNeg reducesTo_S128x6250x16_S128x16_d1 h_S_

def place (y : A3) : IVec S128x16 32 :=
  Host.reduce IntOp.minsi (select (cmpf .oeq y (steps (largest y))) (iotaInDim S128x6250x16 32 1) (all3 (constantI S_ 32 6250#32))) (constantI S_ 32 2147483647#32) reducesTo_S128x6250x16_S128x16_d1 h_S_

def second (y : A3) : FVec Ideal S128x16 .f32 :=
  Host.reduce FloatOps.maximumf (select (cmpi .eq (iotaInDim S128x6250x16 32 1) (steps (place y))) (all3 cNeg) y) cNeg reducesTo_S128x6250x16_S128x16_d1 h_S_

def least (y : A3) : FVec Ideal S128 .f32 := Host.reduce FloatOps.minimumf (second y) cPos reducesTo_S128x16_S128_d1 h_S_

def hits (y : A3) : IVec S128x6250x16 1 := cmpf .oge y (rows (least y))

/-- How many elements of each lane reach the row's threshold. -/
def large (y : A3) : IVec S128x16 32 := Host.reduce IntOp.addi (extui 32 (hits y) natLt_1_32) (constantI S_ 32 0#32) reducesTo_S128x6250x16_S128x16_d1 h_S_

/-- The condition's two halves. -/
def finites (X : FVec Ideal S128x100000 .f32) : IVec S_ 1 :=
  Host.reduce IntOp.andi (cmpf .olt (Host.absf X) (broadcastInDim S128x100000 ![] bcast_S_S128x100000 cPos)) (constantI S_ 1 1#1) reducesTo_S128x100000_S_d0_1 h_S_

def uncrowded (X : FVec Ideal S128x100000 .f32) : IVec S_ 1 :=
  Host.reduce IntOp.andi (cmpi .sle (large (cut3 X)) (broadcastInDim S128x16 ![] bcast_S_S128x16 (constantI S_ 32 32#32))) (constantI S_ 1 1#1) reducesTo_S128x16_S_d0_1 h_S_

theorem spread_eq (X : FVec Ideal S128x100000 .f32) (a b e : IVec S_ 32) : Cert.Pre_spread.fn (F := Ideal) X a b e = andi (finites X) (uncrowded X) := rfl

end Cert.Proof.Ref
-- ==== Proof.Thr.lean ====
/-
  The threshold over the extended reals: a lane's two accumulators are its largest and second largest entry, so the
  scan's result is the least of the sixteen lanes' second largest entries.
-/
module

public import proofs.«01_k».proof.Proof.Vals
public import Idealize.ShloMosaic.PureOps.Ideal.Laws

@[expose] public section

set_option maxRecDepth 65536

noncomputable section

namespace Cert.Proof.Row

open Cert.KernelIdeal Cert.KernelIdeal.Gen
open Idealize.ShloMosaic
open Idealize.SL Idealize.SL.Sem

/-! ## The two largest -/

/-- `m` and `n` are the largest and the second largest of a family of which `c v` members reach `v`. -/
def Two (c : EReal → ℕ) (m n : EReal) : Prop := ∀ v, v ≠ ⊥ → (v ≤ m ↔ 1 ≤ c v) ∧ (v ≤ n ↔ 2 ≤ c v)

/-- One when `a` reaches `v`. -/
def reach (a v : EReal) : ℕ := if v ≤ a then 1 else 0

theorem two_empty : Two (fun _ => 0) ⊥ ⊥ := fun v hv => by simp [hv]

theorem two_insert {c : EReal → ℕ} {m n : EReal} (h : Two c m n) (a : EReal) :
    Two (fun v => c v + reach a v) (max m a) (max n (min m a)) := fun v hv => by
  obtain ⟨h1, h2⟩ := h v hv
  simp only [le_max_iff, le_min_iff, h1, h2, reach]
  by_cases ha : v ≤ a
  · simp only [ha, if_true, or_true, and_true, true_iff]
    omega
  · simp only [ha, if_false, or_false, and_false, add_zero, and_self]

theorem two_merge {c c' : EReal → ℕ} {m n m' n' : EReal} (h : Two c m n) (h' : Two c' m' n') :
    Two (fun v => c v + c' v) (max m m') (max (min m m') (max n n')) := fun v hv => by
  obtain ⟨h1, h2⟩ := h v hv
  obtain ⟨h3, h4⟩ := h' v hv
  simp only [le_max_iff, le_min_iff, h1, h2, h3, h4]
  omega

theorem Two.congr {c c' : EReal → ℕ} {m n : EReal} (h : Two c m n) (e : ∀ v, c v = c' v) : Two c' m n := fun v hv => by
  rw [← e v]; exact h v hv

theorem two_second {c : EReal → ℕ} {m n m' n' : EReal} (h : Two c m n) (h' : Two c m' n') : n = n' := by
  refine le_antisymm ?_ ?_
  · by_cases hn : n = ⊥
    · rw [hn]; exact bot_le
    · exact (h' n hn).2.2 ((h n hn).2.1 le_rfl)
  · by_cases hn : n' = ⊥
    · rw [hn]; exact bot_le
    · exact (h n' hn).2.2 ((h' n' hn).2.1 le_rfl)

/-! ## A lane's accumulators -/

variable (x : S100000.Idx → Ideal .f32) (l : S16.Idx)

/-- Lane `l`'s entry of chunk `j`. -/
def ent (j : ℕ) : EReal := chunk x j l

/-- How many of the pair-`p` chunks of the first `k` trips reach `v`. -/
def cp (p : ℕ) : ℕ → EReal → ℕ
  | 0 => fun _ => 0
  | k + 1 => fun v => cp p k v + reach (ent x l (8 * k + 2 * p)) v + reach (ent x l (8 * k + 2 * p + 1)) v

/-- How many of the first `j` entries reach `v`. -/
def ct : ℕ → EReal → ℕ
  | 0 => fun _ => 0
  | j + 1 => fun v => ct j v + reach (ent x l j) v

theorem ct_eq (v : EReal) : ∀ k, cp x l 0 k v + cp x l 1 k v + cp x l 2 k v + cp x l 3 k v = ct x l (8 * k) v
  | 0 => rfl
  | k + 1 => by
    have ih := ct_eq v k
    show _ = ct x l (8 * k + 8) v
    simp only [cp, ct, ← ih, Nat.mul_zero, Nat.add_zero, Nat.mul_one, Nat.reduceMul, Nat.add_assoc, Nat.reduceAdd]
    omega

theorem neg_bot : Ideal.ofBits .f32 0xFF800000#32 = (⊥ : EReal) := by simp [Ideal.ofBits, Ideal.ieee]
theorem pos_top : Ideal.ofBits .f32 0x7F800000#32 = (⊤ : EReal) := by simp [Ideal.ofBits, Ideal.ieee]

/-- Each pair of accumulators holds its entries' two largest. -/
def Accd (k : ℕ) : Acc Ideal → Prop :=
  fun (m0, m1, m2, m3, n0, n1, n2, n3) =>
    Two (cp x l 0 k) (m0 l) (n0 l) ∧ Two (cp x l 1 k) (m1 l) (n1 l) ∧ Two (cp x l 2 k) (m2 l) (n2 l) ∧ Two (cp x l 3 k) (m3 l) (n3 l)

theorem two_up {c : EReal → ℕ} {m n v w : FVec Ideal S16 .f32} (h : Two c (m l) (n l)) :
    Two (fun u => c u + reach (v l) u + reach (w l) u) (up1 m v w l) (up2 m n v w l) :=
  two_insert (two_insert h (v l)) (w l)

theorem accd : ∀ k, Accd x l k (accs x k)
  | 0 => by
    have h : Two (fun _ => 0) ((k0_pay282 (F := Ideal)) l) ((k0_pay282 (F := Ideal)) l) := by
      have e : (k0_pay282 (F := Ideal)) l = (⊥ : EReal) := neg_bot
      rw [e]; exact two_empty
    exact ⟨h, h, h, h⟩
  | k + 1 => by
    have ih := accd k
    show Accd x l (k + 1) (accStep x k (accs x k))
    generalize accs x k = A at ih
    obtain ⟨m0, m1, m2, m3, n0, n1, n2, n3⟩ := A
    obtain ⟨h0, h1, h2, h3⟩ := ih
    exact ⟨two_up l h0, two_up l h1, two_up l h2, two_up l h3⟩

/-- Lane `k` of a register. -/
def ln (k : ℕ) (h : k < 16) : S16.Idx := fun a => ⟨k, by
  have : a = 0 := Subsingleton.elim _ _
  subst this; exact h⟩

theorem ln_eq (l : S16.Idx) : ln (l 0).val (l 0).isLt = l := by
  funext a
  have : a = 0 := Subsingleton.elim _ _
  subst this; rfl

theorem take_lane {α : Type} (k : ℕ) (hk : k < 16) (v : S16.Idx → α) (h : S16.Slices ![k] S1) (h' : ∀ a, (![0] : Fin 1 → ℕ) a < S1.size a) :
    extractAt ![0] (extractStridedSlice S1 ![k] v h) h' = v (ln k hk) := by
  refine congrArg v (funext fun a => Fin.ext ?_)
  have : a = 0 := Subsingleton.elim _ _
  subst this; rfl

theorem forall_lanes {p : S16.Idx → Prop} : (∀ l, p l) ↔ ∀ k (h : k < 16), p (ln k h) :=
  ⟨fun h k hk => h _, fun h l => ln_eq l ▸ h _ _⟩
theorem exists_lanes {p : S16.Idx → Prop} : (∃ l, p l) ↔ ∃ k, ∃ h : k < 16, p (ln k h) :=
  ⟨fun ⟨l, h⟩ => ⟨_, _, (ln_eq l).symm ▸ h⟩, fun ⟨_, _, h⟩ => ⟨_, h⟩⟩

/-- The least of the sixteen lanes. -/
theorem pay290_le (v : FVec Ideal S16 .f32) (u : EReal) :
    u ≤ (k0_pay290 v (extractAt ![0] (extractStridedSlice S1 ![0] v slices_S16_o0_S1) inpos_S1_p0) (extractStridedSlice S1 ![1] v slices_S16_o1_S1) : EReal)
      ↔ ∀ l, u ≤ (v l : EReal) := by
  unfold k0_pay290
  simp only [take_lane 0 (by decide), take_lane 1 (by decide), take_lane 2 (by decide), take_lane 3 (by decide), take_lane 4 (by decide), take_lane 5 (by decide),
    take_lane 6 (by decide), take_lane 7 (by decide), take_lane 8 (by decide), take_lane 9 (by decide), take_lane 10 (by decide), take_lane 11 (by decide),
    take_lane 12 (by decide), take_lane 13 (by decide), take_lane 14 (by decide), take_lane 15 (by decide), Ideal.scalar_minimumf_def, le_min_iff]
  rw [forall_lanes]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ k hk
    interval_cases k <;> assumption
  · intro h
    exact ⟨⟨⟨⟨⟨⟨⟨⟨⟨⟨⟨⟨⟨⟨⟨h 0 _, h 1 _⟩, h 2 _⟩, h 3 _⟩, h 4 _⟩, h 5 _⟩, h 6 _⟩, h 7 _⟩, h 8 _⟩, h 9 _⟩, h 10 _⟩, h 11 _⟩, h 12 _⟩, h 13 _⟩, h 14 _⟩, h 15 _⟩

/-- The merged accumulators. -/
def fin2 (A : Acc Ideal) (v w : FVec Ideal S16 .f32) : FVec Ideal S16 .f32 :=
  match A with
  | (m0, m1, m2, m3, n0, n1, n2, n3) => k0_pay287 m0 m1 m2 m3 n0 n1 n2 n3 v w

theorem fin2_two_of (A : Acc Ideal) (k : ℕ) (h : Accd x l k A) :
    ∃ hi : EReal, Two (ct x l (8 * k + 2)) hi (fin2 A (chunk x (8 * k)) (chunk x (8 * k + 1)) l) := by
  obtain ⟨m0, m1, m2, m3, n0, n1, n2, n3⟩ := A
  obtain ⟨h0, h1, h2, h3⟩ := h
  refine ⟨_, (two_merge (two_merge (two_merge (two_insert (two_insert h0 (ent x l (8 * k))) (ent x l (8 * k + 1))) h1) h2) h3).congr fun v => ?_⟩
  have e := ct_eq x l v k
  simp only [ct]
  rw [← e]
  omega

/-- The lane's second largest entry, as the merged accumulators give it. -/
theorem fin2_two : ∃ hi : EReal, Two (ct x l 6250) hi (fin2 (accs x 781) (chunk x 6248) (chunk x 6249) l) :=
  fin2_two_of x l (accs x 781) 781 (accd x l 781)

/-- The second largest entry of lane `l`. -/
def sec : EReal := fin2 (accs x 781) (chunk x 6248) (chunk x 6249) l
theorem sec_two : ∃ hi, Two (ct x l 6250) hi (sec x l) := fin2_two x l

theorem thr_le (A : Acc Ideal) (v w : FVec Ideal S16 .f32) (u : EReal) : u ≤ (thr A v w : EReal) ↔ ∀ l, u ≤ (fin2 A v w l : EReal) := by
  obtain ⟨m0, m1, m2, m3, n0, n1, n2, n3⟩ := A
  exact pay290_le _ u

/-- The threshold is the least of the lanes' second largest entries. -/
theorem le_tOf (u : EReal) : u ≤ (tOf x : EReal) ↔ ∀ l, u ≤ sec x l := thr_le _ _ _ u

end Cert.Proof.Row
-- ==== Proof.Tab.lean ====
/-
  The two candidate tables over the extended reals: skipped block pairs hold no hit, so the tables are those of a scan
  over every chunk; slot `c` of lane `l` holds the last entry that was put there.
-/
module

public import proofs.«01_k».proof.Proof.Thr

@[expose] public section

set_option maxRecDepth 65536

noncomputable section

namespace Cert.Proof.Row

open Cert.KernelIdeal Cert.KernelIdeal.Gen
open Idealize.ShloMosaic
open Idealize.SL Idealize.SL.Sem

/-! ## A masked scatter at an entry -/

section Store
variable {F : FTy → Type} [FloatOps F] {e : EltTy}

/-- The lane's number. -/
def lk (l : S16.Idx) : Fin ((![16] : Fin 1 → ℕ) 0) := l 0

theorem ofLane_lk (l : S16.Idx) : (Shape.ofLane (lk l) : S16.Idx) = l := by
  funext a
  have : a = 0 := Subsingleton.elim _ _
  subst this; rfl

theorem lk_ofLane (k : Fin ((![16] : Fin 1 → ℕ) 0)) : lk (Shape.ofLane k) = k := rfl

theorem foldl_store (st : Vec F S512 e → Fin ((![16] : Fin 1 → ℕ) 0) → Vec F S512 e) (p : IVec S16 32) (v : Vec F S16 e) (m : IVec S16 1) (j : S512.Idx)
    (hst : ∀ g k, st g k j = if m (Shape.ofLane k) = 1 ∧ (p (Shape.ofLane k)).toNat = (j 0).val then v (Shape.ofLane k) else g j) (l : S16.Idx)
    (hu : ∀ l', (p l').toNat = (j 0).val → l' = l) : ∀ (L : List (Fin ((![16] : Fin 1 → ℕ) 0))) (f : Vec F S512 e),
    L.foldl st f j = if m l = 1 ∧ (p l).toNat = (j 0).val ∧ lk l ∈ L then v l else f j
  | [], f => by rw [if_neg (fun H => List.not_mem_nil H.2.2)]; rfl
  | k :: L, f => by
    rw [List.foldl_cons, foldl_store st p v m j hst l hu L, hst]
    by_cases hk : lk l = k
    · have hkl : (Shape.ofLane k : S16.Idx) = l := by rw [← hk, ofLane_lk]
      rw [hkl]
      have hmem : lk l ∈ k :: L := hk ▸ List.mem_cons_self ..
      by_cases hm : m l = 1 ∧ (p l).toNat = (j 0).val
      · rw [if_pos hm, if_pos (⟨hm.1, hm.2, hmem⟩ : m l = 1 ∧ (p l).toNat = (j 0).val ∧ lk l ∈ k :: L), ite_self]
      · rw [if_neg hm, if_neg (fun H => hm ⟨H.1, H.2.1⟩), if_neg (fun H => hm ⟨H.1, H.2.1⟩)]
    · have e : (lk l ∈ k :: L) ↔ lk l ∈ L := by rw [List.mem_cons]; exact or_iff_right hk
      simp only [e]
      refine if_congr Iff.rfl rfl (if_neg fun H => hk ?_)
      rw [← hu _ H.2, lk_ofLane]

theorem put_apply (f : Vec F S512 e) (p : IVec S16 32) (h : InR p) (v : Vec F S16 e) (m : IVec S16 1) (j : S512.Idx) (l : S16.Idx)
    (hu : ∀ l', (p l').toNat = (j 0).val → l' = l) :
    put (F := F) f p v m j = if m l = 1 ∧ (p l).toNat = (j 0).val then v l else f j := by
  unfold put
  rw [dif_pos h]
  unfold storeIdx
  refine (foldl_store _ p v m j ?_ l hu (List.finRange _) f).trans ?_
  · intro g k
    by_cases hm : m (Shape.ofLane k) = 1
    · simp only [hm, if_true, Bool.false_eq_true, if_false, true_and]
      refine if_congr ⟨fun H => (H 0).symm, fun H a => ?_⟩ rfl rfl
      have : a = 0 := Subsingleton.elim _ _
      subst this; exact H.symm
    · simp only [hm, if_false, false_and]
  · have hm : lk l ∈ List.finRange ((![16] : Fin 1 → ℕ) 0) := List.mem_finRange _
    simp only [hm, and_true]

end Store

/-! ## Skipped pairs -/

variable (x : S100000.Idx → Ideal .f32) (t : EReal)

theorem mask_apply (v : FVec Ideal S16 .f32) (l : S16.Idx) : hitMask (F := Ideal) (broadcast S16 t) v l = BitVec.ofBool (decide (t ≤ v l)) := rfl

theorem mask_eq_one (v : FVec Ideal S16 .f32) (l : S16.Idx) : hitMask (F := Ideal) (broadcast S16 t) v l = 1 ↔ t ≤ v l := by
  rw [mask_apply]
  by_cases h : t ≤ v l <;> simp [h]

theorem stepHit_none {v : FVec Ideal S16 .f32} (h : ∀ l, ¬ t ≤ v l) (e : BitVec 32) (s : St Ideal) : stepHit (F := Ideal) t v e s = s := by
  have hm : ∀ l, ¬ hitMask (F := Ideal) (broadcast S16 t) v l = 1 := fun l => by rw [mask_eq_one]; exact h l
  have hst : ∀ {e : EltTy} (f : Vec Ideal S512 e) (p : IVec S16 32) (w : Vec Ideal S16 e), put (F := Ideal) f p w (hitMask (F := Ideal) (broadcast S16 t) v) = f := by
    intro e f p w
    unfold put
    split
    · unfold storeIdx
      simp only [hm, if_false]
      generalize List.finRange _ = L
      induction L with
      | nil => rfl
      | cons a L ih => rw [List.foldl_cons]; exact ih
    · rfl
  obtain ⟨a, b, c⟩ := s
  unfold stepHit
  rw [hst, hst]
  refine congrArg (fun c' => (a, b, c')) (funext fun l => ?_)
  show c l + (if hitMask (F := Ideal) (broadcast S16 t) v l = 1 then 1#32 else 0#32) = c l
  rw [if_neg (hm l), BitVec.add_zero]

theorem foldl_none : ∀ (L : List ℕ) (s : St Ideal), (∀ n ∈ L, ∀ l, ¬ t ≤ ent x l n) → L.foldl (hitAt (F := Ideal) t x) s = s
  | [], _, _ => rfl
  | n :: L, s, h => by
    rw [List.foldl_cons, show hitAt (F := Ideal) t x s n = s from stepHit_none t (h n (List.mem_cons_self ..)) _ s]
    exact foldl_none L s fun k hk => h k (List.mem_cons_of_mem _ hk)

theorem pair_le (a b : FVec Ideal S16 .f32) (u : EReal) : u ≤ (k0_pay294 (F := Ideal) (k0_pay69 a b) (k0_pay70 a b) : EReal) ↔ ∃ l, u ≤ (a l : EReal) ∨ u ≤ (b l : EReal) := by
  unfold k0_pay294 k0_pay70 k0_pay69
  simp only [take_lane 0 (by decide), take_lane 1 (by decide), take_lane 2 (by decide), take_lane 3 (by decide), take_lane 4 (by decide), take_lane 5 (by decide),
    take_lane 6 (by decide), take_lane 7 (by decide), take_lane 8 (by decide), take_lane 9 (by decide), take_lane 10 (by decide), take_lane 11 (by decide),
    take_lane 12 (by decide), take_lane 13 (by decide), take_lane 14 (by decide), take_lane 15 (by decide), Ideal.scalar_maximumf_def, le_max_iff]
  have hmax : ∀ l, (u ≤ (maximumf a b l : EReal)) ↔ (u ≤ (a l : EReal) ∨ u ≤ (b l : EReal)) := fun l => le_max_iff
  simp only [hmax]
  rw [exists_lanes]
  constructor
  · rintro (((((((((((((((h | h) | h) | h) | h) | h) | h) | h) | h) | h) | h) | h) | h) | h) | h) | h)
    exacts [⟨0, _, h⟩, ⟨1, _, h⟩, ⟨2, _, h⟩, ⟨3, _, h⟩, ⟨4, _, h⟩, ⟨5, _, h⟩, ⟨6, _, h⟩, ⟨7, _, h⟩, ⟨8, _, h⟩, ⟨9, _, h⟩, ⟨10, _, h⟩, ⟨11, _, h⟩,
      ⟨12, _, h⟩, ⟨13, _, h⟩, ⟨14, _, h⟩, ⟨15, _, h⟩]
  · rintro ⟨k, hk, h⟩
    interval_cases k <;> simp only [h, true_or, or_true]

theorem cond_iff (a b : FVec Ideal S16 .f32) : k0_cond1 (pairCond (F := Ideal) t a b) = 1#1 ↔ ∃ l, t ≤ (a l : EReal) ∨ t ≤ (b l : EReal) := by
  rw [← pair_le]
  have : pairCond (F := Ideal) t a b = BitVec.ofBool (decide (t ≤ (k0_pay294 (F := Ideal) (k0_pay69 a b) (k0_pay70 a b) : EReal))) := rfl
  rw [this]
  by_cases h : t ≤ (k0_pay294 (F := Ideal) (k0_pay69 a b) (k0_pay70 a b) : EReal)
  · simp only [h, decide_true, iff_true]; decide
  · simp only [h, decide_false, iff_false]; decide

theorem blk_le (u : EReal) (i : ℕ) (l : S16.Idx) : u ≤ (blk (F := Ideal) x i l : EReal) ↔ ∃ r, r < 8 ∧ u ≤ ent x l (8 * i + r) := by
  have e : (blk (F := Ideal) x i l : EReal) = max (max (max (ent x l (8 * i)) (ent x l (8 * i + 1))) (max (ent x l (8 * i + 2)) (ent x l (8 * i + 3))))
    (max (max (ent x l (8 * i + 4)) (ent x l (8 * i + 5))) (max (ent x l (8 * i + 6)) (ent x l (8 * i + 7)))) := rfl
  rw [e]
  simp only [le_max_iff]
  constructor
  · rintro (((h | h) | (h | h)) | ((h | h) | (h | h)))
    exacts [⟨0, by decide, h⟩, ⟨1, by decide, h⟩, ⟨2, by decide, h⟩, ⟨3, by decide, h⟩, ⟨4, by decide, h⟩, ⟨5, by decide, h⟩, ⟨6, by decide, h⟩, ⟨7, by decide, h⟩]
  · rintro ⟨r, hr, h⟩
    interval_cases r <;> (try simp only [Nat.add_zero] at h) <;> simp only [h, true_or, or_true]

/-- The tables at the start. -/
def start0 : St Ideal := (collect.k0_payNeg, fun _ => 0#32, k0_pay293)

theorem range16 (k : ℕ) : (all16.map fun r => 16 * k + r.val) = (List.range 16).map (16 * k + ·) := rfl

theorem collect_eq : ∀ k, collect (F := Ideal) t x k = (List.range (16 * k)).foldl (hitAt (F := Ideal) t x) start0
  | 0 => rfl
  | k + 1 => by
    have ih := collect_eq k
    rw [collect, ih, Nat.mul_succ, List.range_add, List.foldl_append]
    unfold pairHits
    rw [range16]
    split
    · rfl
    · rename_i h
      rw [cond_iff] at h
      refine (foldl_none x t _ _ fun n hn l hl => h ?_).symm
      obtain ⟨r, hr, rfl⟩ := List.mem_map.mp hn
      have hr' := List.mem_range.mp hr
      refine ⟨l, ?_⟩
      rw [blk_le, blk_le]
      by_cases h8 : r < 8
      · exact Or.inl ⟨r, h8, by rw [show 8 * (2 * k) + r = 16 * k + r by omega]; exact hl⟩
      · exact Or.inr ⟨r - 8, by omega, by rw [show 8 * (2 * k + 1) + (r - 8) = 16 * k + r by omega]; exact hl⟩

theorem range10 : (all10.map fun r => 6240 + r.val) = (List.range 10).map (6240 + ·) := rfl

theorem outSt_eq : outSt (F := Ideal) x = (List.range 6250).foldl (hitAt (F := Ideal) (tOf x) x) start0 := by
  unfold outSt
  rw [collect_eq, range10, ← List.foldl_append, ← List.range_add]

end Cert.Proof.Row
-- ==== Proof.Last.lean ====
/-
  The tables by lane and slot: slot `c` of lane `l` holds the last entry of the lane whose hit rank, capped at 31, is `c`.
-/
module

public import proofs.«01_k».proof.Proof.Tab

@[expose] public section

set_option maxRecDepth 65536

noncomputable section

namespace Cert.Proof.Row

open Cert.KernelIdeal Cert.KernelIdeal.Gen
open Idealize.ShloMosaic
open Idealize.SL Idealize.SL.Sem

variable (x : S100000.Idx → Ideal .f32) (t : EReal) (l : S16.Idx) (c : ℕ)

/-- Entry `n` of lane `l` goes to slot `c`. -/
def goes (n : ℕ) : Prop := t ≤ ent x l n ∧ min (ct x l n t) 31 = c

open Classical in
/-- The last of the first `n` entries that goes to slot `c`; `-1` if none does. -/
def lastI : ℕ → ℤ
  | 0 => -1
  | n + 1 => if goes x t l c n then n else lastI n

theorem lastI_lt : ∀ n, lastI x t l c n < n
  | 0 => by simp [lastI]
  | n + 1 => by
    have := lastI_lt n
    rw [lastI]; split <;> push_cast <;> omega

theorem le_lastI (v : ℤ) : ∀ n, v ≤ lastI x t l c n ↔ v ≤ -1 ∨ ∃ j < n, goes x t l c j ∧ v ≤ j
  | 0 => by simp [lastI]
  | n + 1 => by
    have ih := le_lastI v n
    rw [lastI]
    split
    · rename_i h
      constructor
      · exact fun hv => Or.inr ⟨n, Nat.lt_succ_self n, h, hv⟩
      · rintro (hv | ⟨j, hj, -, hv⟩) <;> omega
    · rename_i h
      rw [ih]
      refine or_congr Iff.rfl ⟨fun ⟨j, hj, hg⟩ => ⟨j, by omega, hg⟩, fun ⟨j, hj, hg, hv⟩ => ⟨j, ?_, hg, hv⟩⟩
      rcases Nat.lt_succ_iff_lt_or_eq.mp hj with h' | rfl
      · exact h'
      · exact absurd hg h

/-- The value in slot `c` of lane `l` once the first `n` entries are scanned. -/
def slotV (n : ℕ) : EReal := if 0 ≤ lastI x t l c n then ent x l (lastI x t l c n).toNat else ⊥

/-- The number in slot `c` of lane `l` once the first `n` entries are scanned. -/
def slotI (n : ℕ) : BitVec 32 := if 0 ≤ lastI x t l c n then BitVec.ofNat 32 (16 * (lastI x t l c n).toNat + (l 0).val) else 0#32

/-- The state once the first `n` entries are scanned. -/
def stN (n : ℕ) : St Ideal := (List.range n).foldl (hitAt (F := Ideal) t x) start0

theorem stN_def (n : ℕ) : (List.range n).foldl (hitAt (F := Ideal) t x) start0 = stN x t n := rfl

theorem stN_succ (n : ℕ) : stN x t (n + 1) = hitAt (F := Ideal) t x (stN x t n) n := by
  unfold stN; rw [List.range_succ, List.foldl_append]; rfl

theorem stN_v (n : ℕ) : (stN x t (n + 1)).1 = put (F := Ideal) (e := .f32) (stN x t n).1 (slot (stN x t n).2.2) (chunk x n) (hitMask (F := Ideal) (broadcast S16 t) (chunk x n)) := by
  rw [stN_succ]; rfl

theorem stN_i (n : ℕ) : (stN x t (n + 1)).2.1 = put (F := Ideal) (e := .i32) (stN x t n).2.1 (slot (stN x t n).2.2) (elts (BitVec.ofNat 32 (16 * n))) (hitMask (F := Ideal) (broadcast S16 t) (chunk x n)) := by
  rw [stN_succ]; rfl

theorem ct_le (v : EReal) : ∀ n, ct x l n v ≤ n
  | 0 => le_of_eq rfl
  | n + 1 => by
    have := ct_le v n
    show ct x l n v + reach _ _ ≤ n + 1
    unfold reach; split <;> omega

theorem po_eq : ∀ n, n ≤ 6250 → ∀ l, ((stN x t n).2.2 l).toNat = ct x l n t
  | 0, _, l => rfl
  | n + 1, hn, l => by
    have ih := po_eq n (by omega) l
    have hb := ct_le x l t n
    rw [stN_succ]
    show ((stN x t n).2.2 l + (if hitMask (F := Ideal) (broadcast S16 t) (chunk x n) l = 1 then 1#32 else 0#32)).toNat = ct x l n t + reach (ent x l n) t
    rw [show reach (ent x l n) t = if t ≤ ent x l n then 1 else 0 from rfl]
    have hm : hitMask (F := Ideal) (broadcast S16 t) (chunk x n) l = 1 ↔ t ≤ ent x l n := mask_eq_one t _ l
    by_cases h : t ≤ ent x l n
    · rw [if_pos (hm.mpr h), if_pos h, BitVec.toNat_add, ih]; simp; omega
    · rw [if_neg (fun H => h (hm.mp H)), if_neg h, BitVec.add_zero, ih]; rfl

theorem poLe (n : ℕ) (hn : n ≤ 6250) : PoLe (stN x t n).2.2 n := fun l => by
  rw [po_eq x t n hn l]; exact ct_le x l t n

theorem slot_pos (n : ℕ) (hn : n ≤ 6250) (l : S16.Idx) : (slot (stN x t n).2.2 l).toNat = 32 * (l 0).val + min (ct x l n t) 31 := by
  rw [slot_toNat (poLe x t n hn) (by omega) l, po_eq x t n hn l]

theorem lane_ext {l l' : S16.Idx} (h : (l 0).val = (l' 0).val) : l = l' := by
  funext a
  have : a = 0 := Subsingleton.elim _ _
  subst this; exact Fin.ext h

variable {x t l c} in
theorem put_at {e : EltTy} (n : ℕ) (hn : n ≤ 6250) (hc : c < 32) (f : Vec Ideal S512 e) (w : Vec Ideal S16 e) (j : S512.Idx) (hj : (j 0).val = 32 * (l 0).val + c)
    [Decidable (goes x t l c n)] :
    put (F := Ideal) f (slot (stN x t n).2.2) w (hitMask (F := Ideal) (broadcast S16 t) (chunk x n)) j = if goes x t l c n then w l else f j := by
  rw [put_apply f _ (inR_slot (poLe x t n hn) (by omega)) w _ j l]
  · refine if_congr ?_ rfl rfl
    rw [slot_pos x t n hn, hj, mask_eq_one]
    exact and_congr Iff.rfl ⟨fun h => by omega, fun h => by omega⟩
  · intro l' h
    rw [slot_pos x t n hn, hj] at h
    exact lane_ext (by omega)

theorem elts_at (n : ℕ) : elts (BitVec.ofNat 32 (16 * n)) l = BitVec.ofNat 32 (16 * n + (l 0).val) := by
  show lanes l + BitVec.ofNat 32 (16 * n) = _
  rw [lanes_apply, ← BitVec.ofNat_add, Nat.add_comm]

theorem st_at (hc : c < 32) (j : S512.Idx) (hj : (j 0).val = 32 * (l 0).val + c) : ∀ n, n ≤ 6250 →
    (stN x t n).1 j = slotV x t l c n ∧ (stN x t n).2.1 j = slotI x t l c n
  | 0, _ => ⟨neg_bot, rfl⟩
  | n + 1, hn => by
    classical
    obtain ⟨h1, h2⟩ := st_at hc j hj n (by omega)
    refine ⟨?_, ?_⟩
    · rw [stN_v, put_at n (by omega) hc _ _ j hj, h1]; unfold slotV; rw [lastI]
      by_cases h : goes x t l c n
      · simp only [if_pos h, Int.natCast_nonneg, if_true, Int.toNat_natCast]; rfl
      · simp only [if_neg h]
    · rw [stN_i, put_at n (by omega) hc _ _ j hj, h2, elts_at]; unfold slotI; rw [lastI]
      by_cases h : goes x t l c n
      · simp only [if_pos h, Int.natCast_nonneg, if_true, Int.toNat_natCast]
      · simp only [if_neg h]

/-- The tables, by lane and slot. -/
theorem out_at (hc : c < 32) (j : S512.Idx) (hj : (j 0).val = 32 * (l 0).val + c) :
    (outSt (F := Ideal) x).1 j = slotV x (tOf x) l c 6250 ∧ (outSt (F := Ideal) x).2.1 j = slotI x (tOf x) l c 6250 := by
  rw [outSt_eq, stN_def]
  exact st_at x (tOf x) l c hc j hj 6250 le_rfl

end Cert.Proof.Row
-- ==== Proof.RefRead.lean ====
/-
  The stages' operations read at an index: broadcasts, reductions as "at least" statements, a count as a sum.
-/
module

public import proofs.«01_k».proof.Proof.RefDef
public import proofs.«01_k».proof.Proof.Last
public import Idealize.ShloMosaic.PureOps.Ideal.Laws
public import Idealize.ShloMosaic.PureOps.Reduce
public import Idealize.ShloMosaic.Lib.Routing.Ops

@[expose] public section

set_option maxRecDepth 65536

noncomputable section

namespace Cert.Proof.Ref

open Cert.Pre_spread Cert.Pre_spread.Facts
open Idealize.ShloMosaic

/-! ## Indices -/

def i1 (b : Fin 128) : S128.Idx := fun a => match a with | ⟨0, _⟩ => b
def i2 (b : Fin 128) (l : Fin 16) : S128x16.Idx := fun a => match a with | ⟨0, _⟩ => b | ⟨1, _⟩ => l
def i3 (b : Fin 128) (n : Fin 6250) (l : Fin 16) : S128x6250x16.Idx := fun a => match a with | ⟨0, _⟩ => b | ⟨1, _⟩ => n | ⟨2, _⟩ => l

variable {α : Type} (b : Fin 128) (n : Fin 6250) (l : Fin 16)

theorem steps_at (z : S128x16.Idx → α) : steps z (i3 b n l) = z (i2 b l) :=
  congrArg z (funext fun a => match a with | ⟨0, _⟩ => rfl | ⟨1, _⟩ => rfl)

theorem rows_at (z : S128.Idx → α) : rows z (i3 b n l) = z (i1 b) :=
  congrArg z (funext fun a => match a with | ⟨0, _⟩ => rfl)

/-! ## Reductions -/

theorem red3 : S128x6250x16.Reduces [1] S128x16 := by decide
theorem red2 : S128x16.Reduces [1] S128 := by decide

theorem lift3 : red3.lift (i2 b l) n = i3 b n l := funext fun a => match a with | ⟨0, _⟩ => rfl | ⟨1, _⟩ => rfl | ⟨2, _⟩ => rfl
theorem lift2 : red2.lift (i1 b) l = i2 b l := funext fun a => match a with | ⟨0, _⟩ => rfl | ⟨1, _⟩ => rfl

theorem le_foldmax {ι : Type} (s : Finset ι) (i : EReal) (f : ι → EReal) (u : EReal) :
    u ≤ (s.fold (FloatOps.maximumf (F := Ideal) (φ := .f32)) i f : EReal) ↔ u ≤ i ∨ ∃ k ∈ s, u ≤ f k :=
  Finset.le_fold_max (f := f) (b := i) (s := s) u

theorem le_foldmin {ι : Type} (s : Finset ι) (i : EReal) (f : ι → EReal) (u : EReal) :
    u ≤ (s.fold (FloatOps.minimumf (F := Ideal) (φ := .f32)) i f : EReal) ↔ u ≤ i ∧ ∀ k ∈ s, u ≤ f k :=
  Finset.le_fold_min (f := f) (b := i) (s := s) u

theorem minsi_toInt (x y : BitVec 32) : (IntOp.minsi x y).toInt = min x.toInt y.toInt := by
  unfold IntOp.minsi
  simp only [BitVec.slt, decide_eq_true_eq]
  split <;> omega

theorem le_foldmini {ι : Type} (s : Finset ι) (i : BitVec 32) (f : ι → BitVec 32) (u : ℤ) :
    u ≤ (s.fold IntOp.minsi i f).toInt ↔ u ≤ i.toInt ∧ ∀ k ∈ s, u ≤ (f k).toInt := by
  rw [← Finset.fold_hom (op' := min) (m := BitVec.toInt) (fun x y => minsi_toInt x y), Finset.le_fold_min]

theorem fold_ofNat {ι : Type} (s : Finset ι) (f : ι → ℕ) : s.fold IntOp.addi (0#32) (fun k => BitVec.ofNat 32 (f k)) = BitVec.ofNat 32 (∑ k ∈ s, f k) := by
  classical
  induction s using Finset.induction_on with
  | empty => rfl
  | insert k s hk ih =>
    rw [Finset.fold_insert hk, Finset.sum_insert hk, ih, BitVec.ofNat_add]
    rfl

theorem max3 (y : A3) (i : FVec Ideal S_ .f32) (u : EReal) :
    u ≤ (Host.reduce (FloatOps.maximumf (F := Ideal) (φ := .f32)) y i reducesTo_S128x6250x16_S128x16_d1 h_S_ (i2 b l) : EReal) ↔ u ≤ (i (Shape.Idx.first h_S_) : EReal) ∨ ∃ n, u ≤ (y (i3 b n l) : EReal) := by
  rw [Host.reduce_eq_fold_single _ y i _ red3 h_S_ (i2 b l)]
  refine (le_foldmax _ _ _ u).trans (or_congr Iff.rfl ⟨fun ⟨k, _, h⟩ => ⟨k, by rw [← lift3 b k l]; exact h⟩, fun ⟨k, h⟩ => ⟨k, Finset.mem_univ _, ?_⟩⟩)
  rw [← lift3 b k l] at h; exact h

theorem min2 (y : FVec Ideal S128x16 .f32) (i : FVec Ideal S_ .f32) (u : EReal) :
    u ≤ (Host.reduce (FloatOps.minimumf (F := Ideal) (φ := .f32)) y i reducesTo_S128x16_S128_d1 h_S_ (i1 b) : EReal) ↔ u ≤ (i (Shape.Idx.first h_S_) : EReal) ∧ ∀ l, u ≤ (y (i2 b l) : EReal) := by
  rw [Host.reduce_eq_fold_single _ y i _ red2 h_S_ (i1 b)]
  refine (le_foldmin _ _ _ u).trans (and_congr Iff.rfl ⟨fun h k => by rw [← lift2 b k]; exact h k (Finset.mem_univ _), fun h k _ => ?_⟩)
  have := h k
  rw [← lift2 b k] at this; exact this

theorem mini3 (y : IVec S128x6250x16 32) (i : IVec S_ 32) (u : ℤ) :
    u ≤ (Host.reduce IntOp.minsi y i reducesTo_S128x6250x16_S128x16_d1 h_S_ (i2 b l)).toInt ↔ u ≤ (i (Shape.Idx.first h_S_)).toInt ∧ ∀ n, u ≤ (y (i3 b n l)).toInt := by
  rw [Host.reduce_eq_fold_single _ y i _ red3 h_S_ (i2 b l)]
  refine (le_foldmini _ _ _ u).trans (and_congr Iff.rfl ⟨fun h k => by rw [← lift3 b k l]; exact h k (Finset.mem_univ _), fun h k _ => ?_⟩)
  have := h k
  rw [← lift3 b k l] at this; exact this

theorem sum3 (w : IVec S128x6250x16 32) (i : IVec S_ 32) (hi : i (Shape.Idx.first h_S_) = 0#32) (f : ℕ → ℕ)
    (hf : ∀ k : Fin 6250, w (i3 b k l) = BitVec.ofNat 32 (f k.val)) :
    Host.reduce IntOp.addi w i reducesTo_S128x6250x16_S128x16_d1 h_S_ (i2 b l) = BitVec.ofNat 32 (∑ k ∈ Finset.range 6250, f k) := by
  rw [Host.reduce_eq_fold_single _ w i _ red3 h_S_ (i2 b l), hi, ← Fin.sum_univ_eq_sum_range]
  exact (Finset.fold_congr (fun (k : Fin 6250) _ => (congrArg w (lift3 b k l)).trans (hf k))).trans (fold_ofNat (Finset.univ : Finset (Fin 6250)) fun k => f k.val)

end Cert.Proof.Ref
-- ==== Proof.PickRow.lean ====
/-
  A round of the finishing step, read at a row.
-/
module

public import proofs.«01_k».proof.Proof.Picks
public import proofs.«01_k».proof.Proof.Sel
public import proofs.«01_k».proof.Proof.RefRead
public import Idealize.ShloMosaic.Lib.Pipeline.Value

@[expose] public section

set_option maxRecDepth 65536

noncomputable section

namespace Cert.Proof.Sc

open Cert.KernelIdeal Cert.KernelIdeal.Gen
open Idealize.ShloMosaic

def ix1 (b : Fin 128) : S128.Idx := fun a => match a with | ⟨0, _⟩ => b
def ixu (b : Fin 128) : S128x1.Idx := fun a => match a with | ⟨0, _⟩ => b | ⟨1, _⟩ => (0 : Fin 1)
def ixt (b : Fin 128) (p : Fin 512) : S128x512.Idx := fun a => match a with | ⟨0, _⟩ => b | ⟨1, _⟩ => p
def ixk (b : Fin 128) (k : Fin 32) : S128x32.Idx := fun a => match a with | ⟨0, _⟩ => b | ⟨1, _⟩ => k

theorem ixt_eta (i : S128x512.Idx) : ixt (i 0) (i 1) = i := funext fun a => match a with | ⟨0, _⟩ => rfl | ⟨1, _⟩ => rfl
theorem ixk_eta (i : S128x32.Idx) : ixk (i 0) (i 1) = i := funext fun a => match a with | ⟨0, _⟩ => rfl | ⟨1, _⟩ => rfl

theorem ixk_ex (i : S128x32.Idx) : ∃ b k, i = ixk b k := ⟨i 0, i 1, (ixk_eta i).symm⟩

theorem redt : S128x512.Reduces [1] S128 := by decide

theorem liftt (b : Fin 128) (p : Fin 512) : redt.lift (ix1 b) p = ixt b p := funext fun a => match a with | ⟨0, _⟩ => rfl | ⟨1, _⟩ => rfl

theorem unit_at {α : Type} (z : S128.Idx → α) (b : Fin 128) : shapeCast S128x1 z shapeCasts_S128_S128x1 (ixu b) = z (ix1 b) := by
  refine congrArg z (Shape.reshapeEquiv_eq_of_rowMajor _ ?_)
  rw [Shape.rowMajor_val_two, Shape.rowMajor_val_one]
  show b.val = b.val * 1 + 0
  omega

variable (n : IVec S128x512 32) (w : FVec Ideal S128x512 .f32) (b : Fin 128)

theorem Rx_eq : Rx (F := Ideal) w (ix1 b) = (Finset.univ : Finset (Fin 512)).fold max (Ideal.ofBits .f32 0xFF800000#32) (w ∘ redt.lift (ix1 b)) :=
  Ideal.multiReduction_maximumf_single w _ reduces_S128x512_S128 (.inl rfl) rfl (ix1 b)

theorem Mx_at (u : EReal) : u ≤ (Mx (F := Ideal) w (ixu b) : EReal) ↔ u = ⊥ ∨ ∃ p, u ≤ (w (ixt b p) : EReal) := by
  unfold Mx
  rw [unit_at, Rx_eq]
  refine (Finset.le_fold_max (s := (Finset.univ : Finset (Fin 512))) u).trans (or_congr ?_ ⟨fun ⟨k, _, h⟩ => ⟨k, by rw [← liftt b k]; exact h⟩, fun ⟨k, h⟩ => ⟨k, Finset.mem_univ _, ?_⟩⟩)
  · rw [Row.neg_bot, le_bot_iff]
  · rw [← liftt b k] at h; exact h

theorem wide_at {α : Type} (z : S128x1.Idx → α) (p : Fin 512) : broadcastTo S128x512 z broadcasts_S128x1_S128x512 (ixt b p) = z (ixu b) :=
  broadcastTo_apply z _ _ _ (fun a => match a with | ⟨0, _⟩ => rfl | ⟨1, _⟩ => rfl)

theorem Bx_at (p : Fin 512) : Bx (F := Ideal) w (ixt b p) = Mx w (ixu b) := wide_at b _ p

theorem BSx_at (p : Fin 512) : BSx (F := Ideal) n w (ixt b p) = Sx n w (ixu b) := wide_at b _ p

theorem Lfold (z : IVec S128x512 32) : multiReductionI .minsi [1] S128 z 2147483647#32 reduces_S128x512_S128 rfl (ix1 b)
    = (Finset.univ : Finset (Fin 512)).fold IntOp.minsi 2147483647#32 (z ∘ redt.lift (ix1 b)) :=
  (multiReductionI_eq_fold .minsi z _ reduces_S128x512_S128 rfl (ix1 b)).trans (redt.fold_filter_drop_single IntOp.minsi _ z (ix1 b))

theorem Qx_at (p : Fin 512) : Qx (F := Ideal) w (ixt b p) = BitVec.ofBool (decide ((w (ixt b p) : EReal) = Mx w (ixu b))) := by
  rw [← Bx_at w b p]; rfl

theorem QNx_at (p : Fin 512) : QNx (F := Ideal) n w (ixt b p) = BitVec.ofBool (n (ixt b p) == Sx n w (ixu b)) := by
  rw [← BSx_at n w b p]; rfl

open scoped Classical in
theorem Lx_at (p : Fin 512) : Lx (F := Ideal) n w (ixt b p) = if (w (ixt b p) : EReal) = Mx w (ixu b) then n (ixt b p) else 100000#32 := by
  unfold Lx
  show (if Qx (F := Ideal) w (ixt b p) = 1 then _ else _) = _
  rw [Qx_at]
  by_cases h : (w (ixt b p) : EReal) = Mx w (ixu b)
  · simp only [h, decide_true, if_true]; rfl
  · simp only [h, decide_false, if_false]; rfl

open scoped Classical in
theorem Sx_at (u : ℤ) : u ≤ (Sx (F := Ideal) n w (ixu b)).toInt
    ↔ u ≤ 2147483647 ∧ ∀ p, u ≤ (if (w (ixt b p) : EReal) = Mx w (ixu b) then n (ixt b p) else 100000#32).toInt := by
  unfold Sx
  rw [unit_at, Lfold]
  refine (Ref.le_foldmini _ _ _ u).trans (and_congr (Iff.of_eq rfl) ⟨fun h p => ?_, fun h k _ => ?_⟩)
  · have := h p (Finset.mem_univ _)
    rw [← Lx_at]
    rw [← liftt b p]; exact this
  · have := h k
    have e := Lx_at n w b k
    rw [← liftt b k] at e this
    exact (congrArg (fun z : BitVec 32 => u ≤ z.toInt) e).mpr this

open scoped Classical in
theorem Tx_at (p : Fin 512) : (Tx (F := Ideal) n w (ixt b p) : EReal)
    = if (w (ixt b p) : EReal) = Mx w (ixu b) ∧ n (ixt b p) = Sx n w (ixu b) then ⊥ else w (ixt b p) := by
  unfold Tx
  show (if Ax (F := Ideal) n w (ixt b p) = 1 then (Ideal.ofBits .f32 0xFF800000#32 : EReal) else _) = _
  rw [show Ax (F := Ideal) n w (ixt b p) = Qx (F := Ideal) w (ixt b p) &&& QNx (F := Ideal) n w (ixt b p) from rfl, Qx_at, QNx_at, Row.neg_bot]
  by_cases h : (w (ixt b p) : EReal) = Mx w (ixu b)
  · by_cases h2 : n (ixt b p) = Sx n w (ixu b)
    · simp only [h, h2, decide_true, BEq.rfl, and_self, if_true]; rfl
    · simp only [h, h2, decide_true, beq_eq_false_iff_ne.2 h2, and_false, if_false]; rfl
  · simp only [h, decide_false, false_and, if_false]
    rw [show BitVec.ofBool false &&& BitVec.ofBool (n (ixt b p) == Sx n w (ixu b)) = 0#1 from by simp]; rfl

/-- The thirty-two taken of a row: places of the table, none twice, each with nothing left before it. -/
theorem picks_row (hn : ∀ p, (w (ixt b p) : EReal) ≠ ⊥ → (n (ixt b p)).toInt ≤ 100000)
    (hd : ∀ p q, (w (ixt b p) : EReal) ≠ ⊥ → (w (ixt b q) : EReal) ≠ ⊥ → n (ixt b p) = n (ixt b q) → p = q)
    (s : Finset (Fin 512)) (hs : ∀ p ∈ s, (w (ixt b p) : EReal) ≠ ⊥) (hc : 32 ≤ s.card) :
    ∃ σ : Fin 32 → Fin 512, Function.Injective σ
      ∧ (∀ k, (Mx (F := Ideal) (wk n w k.val) (ixu b) : EReal) = w (ixt b (σ k)) ∧ Sx (F := Ideal) n (wk n w k.val) (ixu b) = n (ixt b (σ k)))
      ∧ (∀ k, (w (ixt b (σ k)) : EReal) ≠ ⊥)
      ∧ ∀ k p, (∀ j, j < k → σ j ≠ p) → ¬ Sel.Before (fun p => (w (ixt b p) : EReal)) (fun p => n (ixt b p)) p (σ k) := by
  classical
  refine Sel.picks (fun p => (w (ixt b p) : EReal)) (fun p => n (ixt b p)) (fun r => Mx (F := Ideal) (wk n w r) (ixu b)) (fun r => Sx (F := Ideal) n (wk n w r) (ixu b))
    (fun r p => wk n w r (ixt b p)) (fun r u => Mx_at _ b u) (fun r u => ?_) rfl (fun r p => ?_) hn hd 32 ?_
  · refine (Sx_at n _ b u).trans (and_congr Iff.rfl (forall_congr' fun p => ?_))
    congr!
  · refine (Tx_at n _ b p).trans ?_
    congr!
  · refine hc.trans (Finset.card_le_card fun p hp => ?_)
    simp only [Finset.mem_filter, Finset.mem_univ, true_and]
    exact hs p hp

theorem topV_at (u : ℕ → FVec Ideal S128x512 .f32) (k : Fin 32) : topV u (ixk b k) = Mx (u k.val) (ixu b) :=
  concatenate_ofFn_unit_apply (1 : Fin S128x32.rank) (fun k : Fin 32 => Mx (u k.val)) (cats _ _) rfl rfl (ixk b k) k rfl (ixu b)
    (fun a ha => match a, ha with | ⟨0, _⟩, _ => rfl | ⟨1, _⟩, h => absurd rfl h)

theorem topN_at (u : ℕ → FVec Ideal S128x512 .f32) (k : Fin 32) : topN n u (ixk b k) = Sx n (u k.val) (ixu b) :=
  concatenate_ofFn_unit_apply (1 : Fin S128x32.rank) (fun k : Fin 32 => Sx n (u k.val)) (cats _ _) rfl rfl (ixk b k) k rfl (ixu b)
    (fun a ha => match a, ha with | ⟨0, _⟩, _ => rfl | ⟨1, _⟩, h => absurd rfl h)

end Cert.Proof.Sc
-- ==== Proof.RefVal.lean ====
/-
  The condition's threshold is the scan's, and its counts are the scan's.
-/
module

public import proofs.«01_k».proof.Proof.RefRead

@[expose] public section

set_option maxRecDepth 65536

noncomputable section

namespace Cert.Proof.Ref

open Cert.Pre_spread Cert.Pre_spread.Facts
open Idealize.ShloMosaic
open Cert.Proof.Row (ent ct reach Two sec sec_two two_second tOf le_tOf goes lastI le_lastI lastI_lt slotV slotI ln ct_le)

/-! ## Counting -/

section Count
variable (x : Cert.KernelIdeal.S100000.Idx → Ideal .f32) (L : Cert.KernelIdeal.S16.Idx) (u : EReal)

theorem one_le_ct : ∀ k, 1 ≤ ct x L k u ↔ ∃ n < k, u ≤ ent x L n
  | 0 => by simp [ct]
  | k + 1 => by
    have ih := one_le_ct k
    show 1 ≤ ct x L k u + (if u ≤ ent x L k then 1 else 0) ↔ _
    split
    · rename_i h
      exact ⟨fun _ => ⟨k, by omega, h⟩, fun _ => by omega⟩
    · rename_i h
      rw [Nat.add_zero, ih]
      refine ⟨fun ⟨n, hn, hu⟩ => ⟨n, by omega, hu⟩, fun ⟨n, hn, hu⟩ => ⟨n, ?_, hu⟩⟩
      rcases Nat.lt_succ_iff_lt_or_eq.mp hn with h' | rfl
      · exact h'
      · exact absurd hu h

theorem ct_split (w : ℕ) : ∀ k, ∃ d : ℕ, ct x L k u = (if w < k then reach (ent x L w) u else 0) + d ∧ (1 ≤ d ↔ ∃ n < k, n ≠ w ∧ u ≤ ent x L n)
  | 0 => ⟨0, by simp [ct], by simp⟩
  | k + 1 => by
    obtain ⟨d, h1, h2⟩ := ct_split w k
    have e : ct x L (k + 1) u = ct x L k u + reach (ent x L k) u := rfl
    by_cases hw : w = k
    · subst hw
      refine ⟨d, by rw [e, h1, if_neg (lt_irrefl _), if_pos (Nat.lt_succ_self _)]; omega, h2.trans ?_⟩
      exact ⟨fun ⟨n, hn, hh⟩ => ⟨n, by omega, hh⟩, fun ⟨n, hn, hne, hh⟩ => ⟨n, by omega, hne, hh⟩⟩
    · refine ⟨d + reach (ent x L k) u, ?_, ?_⟩
      · rw [e, h1]
        by_cases hk : w < k
        · rw [if_pos hk, if_pos (by omega)]; omega
        · rw [if_neg hk, if_neg (by omega)]; omega
      · unfold reach
        split
        · rename_i h
          exact ⟨fun _ => ⟨k, by omega, fun hh => hw hh.symm, h⟩, fun _ => by omega⟩
        · rename_i h
          rw [Nat.add_zero, h2]
          refine ⟨fun ⟨n, hn, hu⟩ => ⟨n, by omega, hu⟩, fun ⟨n, hn, hne, hu⟩ => ⟨n, ?_, hne, hu⟩⟩
          rcases Nat.lt_succ_iff_lt_or_eq.mp hn with h' | rfl
          · exact h'
          · exact absurd hu h

theorem two_le_ct (w k : ℕ) (hw : w < k) (hmax : ∀ n < k, ent x L n ≤ ent x L w) : 2 ≤ ct x L k u ↔ ∃ n < k, n ≠ w ∧ u ≤ ent x L n := by
  obtain ⟨d, h1, h2⟩ := ct_split x L u w k
  rw [h1, if_pos hw, ← h2]
  have hr : reach (ent x L w) u = if u ≤ ent x L w then 1 else 0 := rfl
  rw [hr]
  constructor
  · intro h; split at h <;> omega
  · intro h
    obtain ⟨n, hn, -, hu⟩ := h2.mp h
    rw [if_pos (hu.trans (hmax n hn))]; omega

theorem sum_ct : ∀ k, ∑ n ∈ Finset.range k, (if u ≤ ent x L n then 1 else 0) = ct x L k u
  | 0 => rfl
  | k + 1 => by
    rw [Finset.sum_range_succ, sum_ct k]
    rfl
end Count

/-! ## The stages of one row -/

theorem ofNat_toInt {n : ℕ} (h : n < 2 ^ 31) : (BitVec.ofNat 32 n).toInt = n := by
  have e : (BitVec.ofNat 32 n).toNat = n := by rw [BitVec.toNat_ofNat]; exact Nat.mod_eq_of_lt (by omega)
  rw [BitVec.toInt_eq_toNat_cond, e, if_pos (by omega)]

theorem cNeg_bot (i : S_.Idx) : (cNeg i : EReal) = ⊥ := Row.neg_bot
theorem cPos_top (i : S_.Idx) : (cPos i : EReal) = ⊤ := Row.pos_top

theorem all3_neg (i : S128x6250x16.Idx) : (all3 cNeg i : EReal) = ⊥ := cNeg_bot (fun a => a.elim0)

/-- Lane `l`. -/
def lane (l : Fin 16) : Cert.KernelIdeal.S16.Idx := ln l.val l.isLt

variable (y : A3) (b : Fin 128) (x : Cert.KernelIdeal.S100000.Idx → Ideal .f32)
  (hy : ∀ (n : Fin 6250) (l : Fin 16), (y (i3 b n l) : EReal) = ent x (lane l) n.val) (l : Fin 16) (n : Fin 6250)

include hy

theorem largest_le (u : EReal) : u ≤ (largest y (i2 b l) : EReal) ↔ u ≤ ⊥ ∨ ∃ n : Fin 6250, u ≤ ent x (lane l) n.val := by
  refine (max3 b l y cNeg u).trans (or_congr (by rw [cNeg_bot]) (exists_congr fun n => by rw [hy]))

theorem place_at : ∃ w : Fin 6250, place y (i2 b l) = BitVec.ofNat 32 w.val ∧ ∀ n : Fin 6250, ent x (lane l) n.val ≤ ent x (lane l) w.val := by
  classical
  have hM := largest_le y b x hy l
  generalize hMM : (largest y (i2 b l) : EReal) = M at hM
  have hle : ∀ n : Fin 6250, ent x (lane l) n.val ≤ M := fun n => (hM _).mpr (Or.inr ⟨n, le_rfl⟩)
  have hex : ∃ k, ∃ h : k < 6250, ent x (lane l) k = M := by
    rcases (hM M).mp le_rfl with h | ⟨n, h⟩
    · exact ⟨0, by omega, le_antisymm (hle ⟨0, by omega⟩) (h.trans bot_le)⟩
    · exact ⟨n.val, n.isLt, le_antisymm (hle n) h⟩
  have hsel : ∀ n : Fin 6250, (select (cmpf .oeq y (steps (largest y))) (iotaInDim S128x6250x16 32 1) (all3 (constantI S_ 32 6250#32)) (i3 b n l)).toInt
      = if ent x (lane l) n.val = M then (n.val : ℤ) else 6250 := by
    intro n
    have hc : cmpf .oeq y (steps (largest y)) (i3 b n l) = BitVec.ofBool (decide (ent x (lane l) n.val = M)) := by
      show BitVec.ofBool (decide ((y (i3 b n l) : EReal) = (steps (largest y) (i3 b n l) : EReal))) = _
      rw [steps_at, hy, hMM]
    show (if cmpf .oeq y (steps (largest y)) (i3 b n l) = 1 then BitVec.ofNat 32 n.val else 6250#32).toInt = _
    rw [hc]
    have hn := n.isLt
    by_cases h : ent x (lane l) n.val = M
    · rw [if_pos h, if_pos (by rw [decide_eq_true h]; rfl), ofNat_toInt (by omega)]
    · rw [if_neg h, if_neg (by rw [decide_eq_false h]; decide)]; rfl
  obtain ⟨hw, he⟩ := Nat.find_spec hex
  have hmin : ∀ n : Fin 6250, ent x (lane l) n.val = M → Nat.find hex ≤ n.val := fun n h => Nat.find_min' hex ⟨n.isLt, h⟩
  refine ⟨⟨Nat.find hex, hw⟩, ?_, fun n => by show _ ≤ ent x (lane l) (Nat.find hex); rw [he]; exact hle n⟩
  generalize Nat.find hex = w at hw he hmin
  apply BitVec.eq_of_toInt_eq
  rw [ofNat_toInt (by show w < _; omega)]
  have hP := fun u => mini3 b l (select (cmpf .oeq y (steps (largest y))) (iotaInDim S128x6250x16 32 1) (all3 (constantI S_ 32 6250#32))) (constantI S_ 32 2147483647#32) u
  simp only [hsel] at hP
  have hi : (constantI S_ 32 2147483647#32 (Shape.Idx.first h_S_)).toInt = 2147483647 := rfl
  rw [hi] at hP
  change ∀ u, u ≤ (place y (i2 b l)).toInt ↔ _ at hP
  apply le_antisymm
  · have := ((hP _).mp le_rfl).2 ⟨w, hw⟩
    rw [if_pos he] at this
    exact this
  · rw [hP]
    refine ⟨by push_cast; omega, fun n => ?_⟩
    split
    · rename_i h; exact_mod_cast hmin n h
    · push_cast; omega

theorem second_at : (second y (i2 b l) : EReal) = sec x (lane l) := by
  obtain ⟨w, hp, hmax⟩ := place_at y b x hy l
  obtain ⟨hi, h2⟩ := sec_two x (lane l)
  refine two_second (m := (largest y (i2 b l) : EReal)) (fun u hu => ⟨?_, ?_⟩) h2
  · rw [largest_le y b x hy l u, one_le_ct]
    constructor
    · rintro (h | ⟨n, h⟩)
      · exact absurd (le_bot_iff.mp h) hu
      · exact ⟨n.val, n.isLt, h⟩
    · rintro ⟨n, hn, h⟩; exact Or.inr ⟨⟨n, hn⟩, h⟩
  · rw [two_le_ct x (lane l) u w.val 6250 w.isLt (fun n hn => hmax ⟨n, hn⟩)]
    refine (max3 b l (select (cmpi .eq (iotaInDim S128x6250x16 32 1) (steps (place y))) (all3 cNeg) y) cNeg u).trans ?_
    have hsel : ∀ n : Fin 6250, (select (cmpi .eq (iotaInDim S128x6250x16 32 1) (steps (place y))) (all3 cNeg) y (i3 b n l) : EReal) = if n.val = w.val then ⊥ else ent x (lane l) n.val := by
      intro n
      show (if BitVec.ofBool (BitVec.ofNat 32 n.val == steps (place y) (i3 b n l)) = 1 then (all3 cNeg (i3 b n l) : EReal) else (y (i3 b n l) : EReal)) = _
      rw [steps_at, hp, all3_neg, hy]
      have hn := n.isLt
      have hw := w.isLt
      by_cases h : n.val = w.val
      · rw [if_pos h, if_pos (by rw [h]; simp)]
      · rw [if_neg h, if_neg]
        have : BitVec.ofNat 32 n.val ≠ BitVec.ofNat 32 w.val := fun H => h (by
          have := congrArg BitVec.toInt H
          rw [ofNat_toInt (by omega), ofNat_toInt (by omega)] at this
          exact_mod_cast this)
        rw [beq_eq_false_iff_ne.mpr this]; decide
    refine (or_congr (by rw [cNeg_bot]) (exists_congr fun n => by rw [hsel n]) : _ ↔ u ≤ ⊥ ∨ ∃ n : Fin 6250, u ≤ (if n.val = w.val then ⊥ else ent x (lane l) n.val : EReal)).trans ?_
    constructor
    · rintro (h | ⟨n, h⟩)
      · exact absurd (le_bot_iff.mp h) hu
      · split at h
        · exact absurd (le_bot_iff.mp h) hu
        · rename_i hne
          exact ⟨n.val, n.isLt, hne, h⟩
    · rintro ⟨n, hn, hne, h⟩
      exact Or.inr ⟨⟨n, hn⟩, by rw [if_neg (show ¬ (⟨n, hn⟩ : Fin 6250).val = w.val from hne)]; exact h⟩

theorem least_at : (least y (i1 b) : EReal) = tOf x := by
  apply eq_of_forall_le_iff
  intro u
  rw [le_tOf, show (u ≤ (least y (i1 b) : EReal)) ↔ _ from min2 b (second y) cPos u, cPos_top, Row.forall_lanes]
  constructor
  · rintro ⟨-, h⟩ k hk
    have := h ⟨k, hk⟩
    rw [second_at y b x hy] at this; exact this
  · intro h
    refine ⟨le_top, fun l => ?_⟩
    rw [second_at y b x hy]
    exact h l.val l.isLt

theorem hits_at : hits y (i3 b n l) = BitVec.ofBool (decide ((tOf x : EReal) ≤ ent x (lane l) n.val)) := by
  show BitVec.ofBool (decide ((rows (least y) (i3 b n l) : EReal) ≤ (y (i3 b n l) : EReal))) = _
  rw [rows_at, hy, least_at y b x hy]

theorem large_at : large y (i2 b l) = BitVec.ofNat 32 (ct x (lane l) 6250 (tOf x)) := by
  rw [← sum_ct]
  refine sum3 b l _ _ rfl (fun k => if (tOf x : EReal) ≤ ent x (lane l) k then 1 else 0) fun k => ?_
  show BitVec.setWidth 32 (hits y (i3 b k l)) = _
  rw [hits_at y b x hy]
  by_cases h : (tOf x : EReal) ≤ ent x (lane l) k.val
  · rw [decide_eq_true h, if_pos h]; rfl
  · rw [decide_eq_false h, if_neg h]; rfl

end Cert.Proof.Ref
-- ==== Proof.Match.lean ====
/-
  The tables the kernel leaves, entry by entry.
-/
module

public import proofs.«01_k».proof.Proof.RefVal
public import proofs.«01_k».proof.Proof.Rows

@[expose] public section

set_option maxRecDepth 65536

noncomputable section

namespace Cert.Proof.Ref

open Cert.KernelIdeal Cert.KernelIdeal.Gen
open Idealize.ShloMosaic
open Cert.Proof.Row (slotV slotI tOf)

variable (X : FVec Ideal S128x100000 .f32)

theorem cut3_at (b : Fin 128) (n : Fin 6250) (l : Fin 16) : (cut3 X (i3 b n l) : EReal) = Row.ent (Sc.rowOf X b) (lane l) n.val := by
  have hn := n.isLt
  have hl := l.isLt
  refine congrArg X (Shape.reshapeEquiv_eq_of_rowMajor _ ?_)
  rw [Shape.rowMajor_val_two, Shape.rowMajor_val_three]
  show b.val * 100000 + (16 * n.val + l.val) % 100000 = (b.val * 6250 + n.val) * 16 + l.val
  rw [Nat.mod_eq_of_lt (by omega)]
  omega

/-- The lane and the slot of entry `i` of the flat table. -/
def laneOf (i : S128x512.Idx) : Fin 16 := ⟨(i 1).val / 32, by have : (i 1).val < 512 := (i 1).isLt; omega⟩
def slotNum (i : S128x512.Idx) : Fin 32 := ⟨(i 1).val % 32, Nat.mod_lt _ (by decide)⟩

theorem tabs_at (x : Cert.KernelIdeal.S100000.Idx → Ideal .f32) (i : S128x512.Idx) :
    (Row.outSt (F := Ideal) x).1 (Sc.col (i 1)) = slotV x (tOf x) (lane (laneOf i)) (slotNum i).val 6250
    ∧ (Row.outSt (F := Ideal) x).2.1 (Sc.col (i 1)) = slotI x (tOf x) (lane (laneOf i)) (slotNum i).val 6250 := by
  refine Row.out_at x (lane (laneOf i)) (slotNum i).val (slotNum i).isLt (Sc.col (i 1)) ?_
  show (i 1).val = 32 * ((i 1).val / 32) + (i 1).val % 32
  omega

theorem vTab_at {F : FTy → Type} [FloatOps F] (X : Cert.KernelIdeal.S128x100000.Idx → F .f32) (i : Cert.KernelIdeal.S128x512.Idx) :
    Sc.vTab X i = (Row.outSt (Sc.rowOf X (i 0))).1 (Sc.col (i 1)) := by
  unfold Sc.vTab; rfl

theorem iTab_at {F : FTy → Type} [FloatOps F] (X : Cert.KernelIdeal.S128x100000.Idx → F .f32) (i : Cert.KernelIdeal.S128x512.Idx) :
    Sc.iTab X i = (Row.outSt (Sc.rowOf X (i 0))).2.1 (Sc.col (i 1)) := by
  unfold Sc.iTab; rfl

end Cert.Proof.Ref
-- ==== Proof.Filled.lean ====
/-
  A row with no minus infinity fills its table: at least two slots of every lane, no number twice.
-/
module

public import proofs.«01_k».proof.Proof.Match

@[expose] public section

set_option maxRecDepth 65536

noncomputable section

namespace Cert.Proof.Row

open Cert.KernelIdeal Cert.KernelIdeal.Gen
open Idealize.ShloMosaic

section
variable (x : S100000.Idx → Ideal .f32) (t : EReal) (l l' : S16.Idx) (c c' : ℕ)

theorem last_goes (n : ℕ) (h : 0 ≤ lastI x t l c n) : goes x t l c (lastI x t l c n).toNat := by
  obtain h' | ⟨j, hj, hg, hv⟩ := (le_lastI x t l c (lastI x t l c n) n).1 le_rfl
  · omega
  · have : (j : ℤ) ≤ lastI x t l c n := (le_lastI x t l c j n).2 (Or.inr ⟨j, hj, hg, le_rfl⟩)
    rw [show (lastI x t l c n).toNat = j from by omega]
    exact hg

theorem slot_last (n : ℕ) (h : slotV x t l c n ≠ ⊥) : 0 ≤ lastI x t l c n := by
  by_contra h'
  exact h (if_neg h')

theorem slot_num (h : slotV x t l c 6250 ≠ ⊥) :
    slotI x t l c 6250 = BitVec.ofNat 32 (16 * (lastI x t l c 6250).toNat + (l 0).val) ∧ (lastI x t l c 6250).toNat < 6250 := by
  have h0 := slot_last x t l c 6250 h
  have := lastI_lt x t l c 6250
  exact ⟨if_pos h0, by omega⟩

theorem slot_small (h : slotV x t l c 6250 ≠ ⊥) : (slotI x t l c 6250).toInt ≤ 100000 := by
  obtain ⟨e, hl⟩ := slot_num x t l c h
  have h16 : (l 0).val < 16 := (l 0).isLt
  rw [e, BitVec.toInt_eq_toNat_of_lt (by rw [BitVec.toNat_ofNat]; omega), BitVec.toNat_ofNat]
  omega

theorem slot_inj (h : slotV x t l c 6250 ≠ ⊥) (h' : slotV x t l' c' 6250 ≠ ⊥) (e : slotI x t l c 6250 = slotI x t l' c' 6250) : l = l' ∧ c = c' := by
  obtain ⟨e1, hl⟩ := slot_num x t l c h
  obtain ⟨e2, hl'⟩ := slot_num x t l' c' h'
  have h16 : (l 0).val < 16 := (l 0).isLt
  have h16' : (l' 0).val < 16 := (l' 0).isLt
  rw [e1, e2] at e
  have e3 := congrArg BitVec.toNat e
  rw [BitVec.toNat_ofNat, BitVec.toNat_ofNat] at e3
  have ej : (lastI x t l c 6250).toNat = (lastI x t l' c' 6250).toNat := by omega
  have el : l = l' := lane_ext (by omega)
  subst el
  have g := (last_goes x t l c 6250 (slot_last x t l c 6250 h)).2
  have g' := (last_goes x t l c' 6250 (slot_last x t l c' 6250 h')).2
  rw [ej] at g
  exact ⟨rfl, g.symm.trans g'⟩

theorem reached (v : EReal) : ∀ n, c < ct x l n v → ∃ j < n, v ≤ ent x l j ∧ ct x l j v = c
  | 0 => fun h => absurd h (Nat.not_lt_zero _)
  | n + 1 => fun h => by
    by_cases h1 : c < ct x l n v
    · obtain ⟨j, hj, hr⟩ := reached v n h1
      exact ⟨j, by omega, hr⟩
    · have h2 : ct x l (n + 1) v = ct x l n v + reach (ent x l n) v := rfl
      rw [h2] at h
      unfold reach at h
      by_cases h3 : v ≤ ent x l n
      · rw [if_pos h3] at h
        exact ⟨n, Nat.lt_succ_self n, h3, by omega⟩
      · rw [if_neg h3] at h; omega

theorem ct_bot : ∀ n, ct x l n ⊥ = n
  | 0 => rfl
  | n + 1 => by
    have h2 : ct x l (n + 1) ⊥ = ct x l n ⊥ + reach (ent x l n) ⊥ := rfl
    rw [h2, ct_bot n]
    unfold reach
    rw [if_pos bot_le]

theorem two_hits : 2 ≤ ct x l 6250 (tOf x) := by
  by_cases h : (tOf x : EReal) = ⊥
  · rw [h, ct_bot]; omega
  · obtain ⟨hi, h2⟩ := sec_two x l
    exact (h2 _ h).2.1 ((le_tOf x _).1 le_rfl l)

theorem slot_full (hx : ∀ i, (x i : EReal) ≠ ⊥) (hc : c < 2) : slotV x (tOf x) l c 6250 ≠ ⊥ := by
  obtain ⟨j, hj, h1, h2⟩ := reached x l c (tOf x) 6250 (by have := two_hits x l; omega)
  have : (j : ℤ) ≤ lastI x (tOf x) l c 6250 := (le_lastI x (tOf x) l c j 6250).2 (Or.inr ⟨j, hj, ⟨h1, by omega⟩, le_rfl⟩)
  unfold slotV
  rw [if_pos (by omega)]
  exact hx _

end

end Cert.Proof.Row

namespace Cert.Proof.Ref

open Cert.KernelIdeal Cert.KernelIdeal.Gen
open Idealize.ShloMosaic
open Cert.Proof.Row (slotV slotI tOf)

variable (X : FVec Ideal S128x100000 .f32)

theorem vT (i : S128x512.Idx) : (Sc.vTab (F := Ideal) X i : EReal) = slotV (Sc.rowOf X (i 0)) (tOf (Sc.rowOf X (i 0))) (lane (laneOf i)) (slotNum i).val 6250 := by
  rw [vTab_at (F := Ideal) X i, (tabs_at (Sc.rowOf X (i 0)) i).1]

theorem iT' (i : S128x512.Idx) : Sc.iTab (F := Ideal) X i = slotI (Sc.rowOf X (i 0)) (tOf (Sc.rowOf X (i 0))) (lane (laneOf i)) (slotNum i).val 6250 := by
  rw [iTab_at (F := Ideal) X i, (tabs_at (Sc.rowOf X (i 0)) i).2]

theorem tab_small (i : S128x512.Idx) (h : (Sc.vTab (F := Ideal) X i : EReal) ≠ ⊥) : (Sc.iTab (F := Ideal) X i).toInt ≤ 100000 := by
  rw [vT] at h
  rw [iT']
  exact Row.slot_small _ _ _ _ h

theorem lane_val (l l' : Fin 16) (h : lane l = lane l') : l = l' := Fin.ext (congrArg (fun a : Cert.KernelIdeal.S16.Idx => (a 0).val) h)

theorem tab_inj (i j : S128x512.Idx) (hij : i 0 = j 0) (hi : (Sc.vTab (F := Ideal) X i : EReal) ≠ ⊥) (hj : (Sc.vTab (F := Ideal) X j : EReal) ≠ ⊥)
    (e : Sc.iTab (F := Ideal) X i = Sc.iTab (F := Ideal) X j) : i 1 = j 1 := by
  rw [vT] at hi hj
  rw [iT', iT'] at e
  rw [hij] at hi e
  obtain ⟨el, ec⟩ := Row.slot_inj _ _ _ _ _ _ hi hj e
  have el' := congrArg Fin.val (lane_val _ _ el)
  have e1 : (i 1).val / 32 = (j 1).val / 32 := el'
  have e2 : (i 1).val % 32 = (j 1).val % 32 := ec
  exact Fin.ext (by omega)

theorem tab_full (hX : ∀ i, (X i : EReal) ≠ ⊥) (i : S128x512.Idx) (hc : (i 1).val % 32 < 2) : (Sc.vTab (F := Ideal) X i : EReal) ≠ ⊥ := by
  rw [vT]
  exact Row.slot_full _ _ _ (fun _ => hX _) hc

/-- The first two slots of every lane. -/
def firsts : Finset (Fin 512) := Finset.univ.filter fun p => p.val % 32 < 2

theorem firsts_card : 32 ≤ firsts.card := by decide +kernel

end Cert.Proof.Ref
-- ==== Proof.Whole.lean ====
/-
  In a row without a crowded lane the table holds every element that reaches the threshold, so the row's first
  thirty-two are the table's.
-/
module

public import proofs.«01_k».proof.Proof.PickRow
public import proofs.«01_k».proof.Proof.Filled
public import Idealize.ShloMosaic.Lib.ReduceAll

@[expose] public section

set_option maxRecDepth 65536

noncomputable section

namespace Cert.Proof.Row

open Cert.KernelIdeal Cert.KernelIdeal.Gen
open Idealize.ShloMosaic

section
variable (x : S100000.Idx → Ideal .f32) (t : EReal) (l : S16.Idx)

theorem ct_lt (i : ℕ) (h : t ≤ ent x l i) : ∀ j, i < j → ct x l i t < ct x l j t
  | 0 => fun hj => absurd hj (Nat.not_lt_zero _)
  | j + 1 => fun hj => by
    have e : ct x l (j + 1) t = ct x l j t + reach (ent x l j) t := rfl
    rw [e]
    rcases Nat.lt_succ_iff_lt_or_eq.mp hj with h' | rfl
    · have := ct_lt i h j h'; omega
    · unfold reach; rw [if_pos h]; omega

/-- In a lane that is not crowded each element that reaches the threshold has a slot of its own. -/
theorem last_own (h32 : ct x l 6250 t ≤ 32) (j : ℕ) (hj : j < 6250) (h : t ≤ ent x l j) :
    ct x l j t < 32 ∧ lastI x t l (ct x l j t) 6250 = j := by
  have h1 := ct_lt x t l j h 6250 hj
  refine ⟨by omega, ?_⟩
  have hge : (j : ℤ) ≤ lastI x t l (ct x l j t) 6250 := (le_lastI x t l _ j 6250).2 (Or.inr ⟨j, hj, ⟨h, by omega⟩, le_rfl⟩)
  have hlt := lastI_lt x t l (ct x l j t) 6250
  have hg := last_goes x t l (ct x l j t) 6250 (by omega)
  generalize hk : (lastI x t l (ct x l j t) 6250).toNat = k at hg
  have hk6 : k < 6250 := by omega
  have hkl := ct_lt x t l k hg.1 6250 hk6
  have hg2 := hg.2
  have hkj : ct x l k t = ct x l j t := by omega
  rcases Nat.lt_trichotomy j k with h' | h' | h'
  · have := ct_lt x t l j h k h'; omega
  · omega
  · have := ct_lt x t l k hg.1 j h'; omega
end

end Cert.Proof.Row

namespace Cert.Proof.Ref

open Cert.KernelIdeal Cert.KernelIdeal.Gen
open Cert.Proof.Sc (ixt)
open Cert.Proof.Row (slotV slotI tOf ent ct)
open Idealize.ShloMosaic

variable (X : FVec Ideal S128x100000 .f32) (b : Fin 128)

/-- Element `p` of row `b`. -/
def jx (b : Fin 128) (p : Fin 100000) : S128x100000.Idx := fun a => match a with | ⟨0, _⟩ => b | ⟨1, _⟩ => p

def laneP (p : Fin 100000) : Fin 16 := ⟨p.val % 16, Nat.mod_lt _ (by decide)⟩

theorem ent_at (p : Fin 100000) : (ent (Sc.rowOf X b) (lane (laneP p)) (p.val / 16) : EReal) = X (jx b p) := by
  have hp := p.isLt
  refine congrArg X (funext fun a => Fin.ext ?_)
  match a with
  | ⟨0, _⟩ => rfl
  | ⟨1, _⟩ => show (16 * (p.val / 16) + p.val % 16) % 100000 = p.val; omega

/-- A filled entry of the table holds an element of the row that reaches the threshold, and its number. -/
theorem filled_by (q : Fin 512) (h : (Sc.vTab (F := Ideal) X (ixt b q) : EReal) ≠ ⊥) :
    ∃ p : Fin 100000, (Sc.vTab (F := Ideal) X (ixt b q) : EReal) = X (jx b p) ∧ Sc.iTab (F := Ideal) X (ixt b q) = BitVec.ofNat 32 p.val
      ∧ (tOf (Sc.rowOf X b) : EReal) ≤ X (jx b p) := by
  have hv := vT X (ixt b q)
  have hi := iT' X (ixt b q)
  rw [show (ixt b q) 0 = b from rfl] at hv hi
  generalize laneOf (ixt b q) = l at hv hi
  generalize (slotNum (ixt b q)).val = c at hv hi
  have h' := h
  rw [hv] at h'
  obtain ⟨e, hlt⟩ := Row.slot_num _ _ _ _ h'
  have h0 := Row.slot_last _ _ _ _ _ h'
  have hg := (Row.last_goes _ _ _ _ _ h0).1
  have hl := l.isLt
  have hs : slotV (Sc.rowOf X b) (tOf (Sc.rowOf X b)) (lane l) c 6250 = ent (Sc.rowOf X b) (lane l) (Row.lastI (Sc.rowOf X b) (tOf (Sc.rowOf X b)) (lane l) c 6250).toNat := if_pos h0
  generalize (Row.lastI (Sc.rowOf X b) (tOf (Sc.rowOf X b)) (lane l) c 6250).toNat = j at e hlt hg hs
  have el : laneP ⟨16 * j + l.val, by omega⟩ = l := Fin.ext (by show (16 * j + l.val) % 16 = l.val; omega)
  have ep := ent_at X b ⟨16 * j + l.val, by omega⟩
  rw [el, show ((⟨16 * j + l.val, by omega⟩ : Fin 100000).val / 16) = j from by show (16 * j + l.val) / 16 = j; omega] at ep
  refine ⟨⟨16 * j + l.val, by omega⟩, ?_, ?_, ?_⟩
  · rw [hv, hs, ep]
  · rw [hi, e]; rfl
  · rw [← ep]; exact hg

variable (hc : ∀ l : Fin 16, ct (Sc.rowOf X b) (lane l) 6250 (tOf (Sc.rowOf X b)) ≤ 32)

include hc in
/-- Every element that reaches the threshold is in the table. -/
theorem held (p : Fin 100000) (h : (tOf (Sc.rowOf X b) : EReal) ≤ X (jx b p)) (hb : (X (jx b p) : EReal) ≠ ⊥) :
    ∃ q : Fin 512, (Sc.vTab (F := Ideal) X (ixt b q) : EReal) = X (jx b p) ∧ Sc.iTab (F := Ideal) X (ixt b q) = BitVec.ofNat 32 p.val := by
  have hp := p.isLt
  rw [← ent_at X b p] at h hb ⊢
  obtain ⟨hlt, hlast⟩ := Row.last_own _ _ _ (hc (laneP p)) (p.val / 16) (by omega) h
  generalize hcc : ct (Sc.rowOf X b) (lane (laneP p)) (p.val / 16) (tOf (Sc.rowOf X b)) = c at hlt hlast
  have hl : (laneP p).val < 16 := (laneP p).isLt
  refine ⟨⟨32 * (laneP p).val + c, by omega⟩, ?_⟩
  have e1 : laneOf (ixt b ⟨32 * (laneP p).val + c, by omega⟩) = laneP p := Fin.ext (by show (32 * (laneP p).val + c) / 32 = _; omega)
  have e2 : (slotNum (ixt b ⟨32 * (laneP p).val + c, by omega⟩)).val = c := by show (32 * (laneP p).val + c) % 32 = _; omega
  rw [vT, iT', e1, e2, show (ixt b ⟨32 * (laneP p).val + c, by omega⟩) 0 = b from rfl]
  constructor
  · unfold slotV
    rw [hlast, if_pos (by omega), Int.toNat_natCast]
  · unfold slotI
    rw [hlast, if_pos (by omega), Int.toNat_natCast]
    refine congrArg (BitVec.ofNat 32) ?_
    show 16 * (p.val / 16) + p.val % 16 = p.val
    omega

/-- The numbers of a row's elements. -/
def numP (p : Fin 100000) : BitVec 32 := BitVec.ofNat 32 p.val

theorem numP_inj (p q : Fin 100000) (h : numP p = numP q) : p = q := by
  have hp := p.isLt
  have hq := q.isLt
  have e := congrArg BitVec.toNat h
  unfold numP at e
  rw [BitVec.toNat_ofNat, BitVec.toNat_ofNat] at e
  exact Fin.ext (by omega)

include hc in
/-- The entries the kernel takes of a row, as elements of the row: none twice, each with nothing left before it. -/
theorem picks_whole (hX : ∀ i, (X i : EReal) ≠ ⊥) :
    ∃ τ : Fin 32 → Fin 100000, Function.Injective τ
      ∧ (∀ k, (Sc.Mx (F := Ideal) (Sc.wk (Sc.iTab (F := Ideal) X) (Sc.vTab (F := Ideal) X) k.val) (Sc.ixu b) : EReal) = X (jx b (τ k))
        ∧ Sc.Sx (F := Ideal) (Sc.iTab (F := Ideal) X) (Sc.wk (Sc.iTab (F := Ideal) X) (Sc.vTab (F := Ideal) X) k.val) (Sc.ixu b) = numP (τ k))
      ∧ ∀ k p, (∀ j, j < k → τ j ≠ p) → ¬ Sel.Before (fun p => (X (jx b p) : EReal)) numP p (τ k) := by
  obtain ⟨σ, hinj, hval, hne, hσ⟩ := Sc.picks_row (Sc.iTab (F := Ideal) X) (Sc.vTab (F := Ideal) X) b (fun p => tab_small X (ixt b p))
    (fun p q hp hq e => tab_inj X (ixt b p) (ixt b q) rfl hp hq e) firsts (fun p hp => tab_full X hX (ixt b p) (Finset.mem_filter.1 hp).2) firsts_card
  choose τ hτv hτn hτt using fun k => filled_by X b (σ k) (hne k)
  refine ⟨τ, fun j k h => hinj (tab_inj X (ixt b (σ j)) (ixt b (σ k)) rfl (hne j) (hne k) ?_), fun k => ⟨(hval k).1.trans (hτv k), (hval k).2.trans (hτn k)⟩, fun k p hp hB => ?_⟩
  · rw [hτn, hτn, h]
  · have hxt : (tOf (Sc.rowOf X b) : EReal) ≤ X (jx b p) := by
      rcases hB with h | ⟨h, _⟩
      · exact (hτt k).trans h.le
      · rw [show (X (jx b p) : EReal) = X (jx b (τ k)) from h]; exact hτt k
    obtain ⟨q, hqv, hqn⟩ := held X b hc p hxt (hX _)
    refine hσ k q (fun j hj e => hp j hj (numP_inj _ _ ?_)) ?_
    · exact (hτn j).symm.trans ((congrArg (fun z => Sc.iTab (F := Ideal) X (ixt b z)) e).trans hqn)
    · unfold Sel.Before at hB ⊢
      dsimp only at hB ⊢
      rw [hqv, hqn, hτv, hτn]
      exact hB

/-! ## The condition -/

theorem uncrowded_at (h : uncrowded X = fun _ => 1#1) (l : Fin 16) : ct (Sc.rowOf X b) (lane l) 6250 (tOf (Sc.rowOf X b)) ≤ 32 := by
  haveI : Subsingleton Cert.Pre_spread.S_.Idx := ⟨fun p q => funext fun a => a.elim0⟩
  have e1 := Host.reduce_andi_all _ _ _ _ (Shape.Idx.first Cert.Pre_spread.Facts.h_S_) (congrFun h _) (i2 b l)
  have e2 : BitVec.ofBool ((large (cut3 X) (i2 b l)).sle 32#32) = 1#1 := e1
  rw [large_at (cut3 X) b (Sc.rowOf X b) (cut3_at X b) l] at e2
  have hle := Row.ct_le (Sc.rowOf X b) (lane l) (tOf (Sc.rowOf X b)) 6250
  generalize ct (Sc.rowOf X b) (lane l) 6250 (tOf (Sc.rowOf X b)) = n at e2 hle ⊢
  have e3 : (BitVec.ofNat 32 n).sle 32#32 = decide ((BitVec.ofNat 32 n).toInt ≤ 32) := rfl
  rw [e3, ofNat_toInt (by omega)] at e2
  by_contra hn
  rw [decide_eq_false (by omega)] at e2
  exact absurd e2 (by decide)

theorem finites_at (h : finites X = fun _ => 1#1) (i : S128x100000.Idx) : (X i : EReal) ≠ ⊥ := by
  haveI : Subsingleton Cert.Pre_spread.S_.Idx := ⟨fun p q => funext fun a => a.elim0⟩
  have e1 := Host.reduce_andi_all _ _ _ _ (Shape.Idx.first Cert.Pre_spread.Facts.h_S_) (congrFun h _) i
  intro hb
  have e2 : Ideal.cmp .olt (max (X i : EReal) (-(X i : EReal))) (Ideal.ofBits .f32 0x7F800000#32) = 1#1 := e1
  rw [hb] at e2
  have e3 : BitVec.ofBool (decide (max (⊥ : EReal) (-⊥) < Ideal.ofBits .f32 0x7F800000#32)) = 1#1 := e2
  rw [EReal.neg_bot, max_eq_right bot_le, decide_eq_false (not_lt.2 le_top)] at e3
  exact absurd e3 (by decide)

theorem spread_both (Y : FVec Ideal S128x100000 .f32) (a d e : IVec Cert.Pre_spread.S_ 32) (h : Cert.Pre_spread.fn (F := Ideal) Y a d e = fun _ => 1#1) :
    finites Y = (fun _ => 1#1) ∧ uncrowded Y = fun _ => 1#1 := by
  have key : ∀ p q : BitVec 1, p &&& q = 1#1 → p = 1#1 ∧ q = 1#1 := by decide
  rw [spread_eq] at h
  exact ⟨funext fun i => (key _ _ (congrFun h i)).1, funext fun i => (key _ _ (congrFun h i)).2⟩

end Cert.Proof.Ref
-- ==== Proof.SortRow.lean ====
/-
  The reference's sort, read at a row: by falling value, of equal values by rising number.
-/
module

public import proofs.«01_k».proof.Proof.Gen.ReferenceIdeal.Run
public import proofs.«01_k».proof.Proof.Sel
public import proofs.«01_k».proof.Proof.Whole

@[expose] public section

set_option maxRecDepth 65536

noncomputable section

namespace Cert.Proof.Ref

open Cert.ReferenceIdeal Cert.ReferenceIdeal.Gen
open Idealize.ShloMosaic

theorem canon (x : EReal) : Scalar.select (FloatOps.cmpf (F := Ideal) (φ := .f32) .une x x) (FloatOps.ofBits (F := Ideal) .f32 0x7FC00000#32)
    (Scalar.select (FloatOps.cmpf (F := Ideal) (φ := .f32) .oeq x (FloatOps.ofBits (F := Ideal) .f32 0x00000000#32)) (FloatOps.ofBits (F := Ideal) .f32 0x00000000#32) x) = x := by
  have e : FloatOps.cmpf (F := Ideal) (φ := .f32) .une x x = 0#1 := by
    show BitVec.ofBool (decide (x ≠ x)) = _
    simp
  rw [e]
  show Scalar.select (BitVec.ofBool (decide (x = _))) _ x = x
  by_cases h : x = (FloatOps.ofBits (F := Ideal) .f32 0x00000000#32 : EReal)
  · rw [decide_eq_true h]; exact h.symm
  · rw [decide_eq_false h]; rfl

theorem comparator_eq (l r : EReal × BitVec 32) : (comparator_f32_i32_d1 (F := Ideal) l r == 1#1) = true ↔ l.1 < r.1 ∨ (l.1 = r.1 ∧ l.2.toInt < r.2.toInt) := by
  have e : comparator_f32_i32_d1 (F := Ideal) l r
      = BitVec.ofBool (decide (l.1 < r.1)) ||| (BitVec.ofBool (decide (l.1 = r.1)) &&& BitVec.ofBool (l.2.slt r.2)) := by
    unfold comparator_f32_i32_d1
    dsimp only
    rw [canon l.1, canon r.1]
    rfl
  rw [e]
  have hs : l.2.slt r.2 = decide (l.2.toInt < r.2.toInt) := rfl
  rw [hs]
  by_cases h1 : l.1 < r.1 <;> by_cases h2 : l.1 = r.1 <;> by_cases h3 : l.2.toInt < r.2.toInt <;> simp [h1, h2, h3]

theorem along_eq (b : Fin 128) (p q : Fin 100000) : (jx b p).along (1 : Fin S128x100000.rank) q = jx b q :=
  funext fun a => match a with | ⟨0, _⟩ => rfl | ⟨1, _⟩ => rfl

/-- The sorted row begins with the places `σ`, where nothing left comes before them. -/
theorem sort_row (v : FVec Ideal S128x100000 .f32) (n : IVec S128x100000 32) (b : Fin 128) (σ : Fin 32 → Fin 100000) (hinj : Function.Injective σ)
    (hd : ∀ (k : Fin 32) (p : Fin 100000), (v (jx b p) : EReal) = v (jx b (σ k)) → n (jx b p) = n (jx b (σ k)) → p = σ k)
    (hσ : ∀ (k : Fin 32) (p : Fin 100000), (∀ j, j < k → σ j ≠ p) → ¬ Sel.Before (fun p => (v (jx b p) : EReal)) (fun p => n (jx b p)) p (σ k)) (k : Fin 32) :
    ((Host.sort2 S128x100000 1 (comparator_f32_i32_d1 (F := Ideal)) (Host.negf v) n).1 (jx b (k.castLE (by decide))) : EReal) = - (v (jx b (σ k)) : EReal)
    ∧ (Host.sort2 S128x100000 1 (comparator_f32_i32_d1 (F := Ideal)) (Host.negf v) n).2 (jx b (k.castLE (by decide))) = n (jx b (σ k)) := by
  have key := Sel.sorted_prefix (by decide : 32 ≤ 100000) (fun p => (v (jx b p) : EReal)) (fun p => n (jx b p))
    (fun p q => comparator_f32_i32_d1 (F := Ideal) (-(v (jx b p) : EReal), n (jx b p)) (-(v (jx b q) : EReal), n (jx b q)) == 1#1)
    (fun p q => by
      rw [comparator_eq]
      unfold Sel.Before
      simp only [EReal.neg_lt_neg_iff, neg_inj]) σ hinj hd hσ k
  have hf : (fun p q : Fin 100000 => comparator_f32_i32_d1 (F := Ideal) ((Host.negf v) ((jx b (k.castLE (by decide))).along (1 : Fin S128x100000.rank) p), n ((jx b (k.castLE (by decide))).along (1 : Fin S128x100000.rank) p))
      ((Host.negf v) ((jx b (k.castLE (by decide))).along (1 : Fin S128x100000.rank) q), n ((jx b (k.castLE (by decide))).along (1 : Fin S128x100000.rank) q)) == 1#1)
      = (fun p q => comparator_f32_i32_d1 (F := Ideal) (-(v (jx b p) : EReal), n (jx b p)) (-(v (jx b q) : EReal), n (jx b q)) == 1#1) := by
    funext p q
    rw [along_eq, along_eq]; rfl
  unfold Host.sort2
  rw [dif_pos (by decide : 1 < S128x100000.rank)]
  dsimp only
  have hπ : sortedFrom (fun p q : Fin 100000 => comparator_f32_i32_d1 (F := Ideal) ((Host.negf v) ((jx b (k.castLE (by decide))).along (1 : Fin S128x100000.rank) p), n ((jx b (k.castLE (by decide))).along (1 : Fin S128x100000.rank) p))
      ((Host.negf v) ((jx b (k.castLE (by decide))).along (1 : Fin S128x100000.rank) q), n ((jx b (k.castLE (by decide))).along (1 : Fin S128x100000.rank) q)) == 1#1) (k.castLE (by decide)) = σ k := by
    rw [hf]; exact key
  constructor
  · refine (congrArg (fun t => (Host.negf v) ((jx b (k.castLE (by decide))).along (1 : Fin S128x100000.rank) t)) hπ).trans ?_
    rw [along_eq]; rfl
  · refine (congrArg (fun t => n ((jx b (k.castLE (by decide))).along (1 : Fin S128x100000.rank) t)) hπ).trans ?_
    rw [along_eq]

end Cert.Proof.Ref
-- ==== Proof.Tops.lean ====
/-
  The thirty-two values and numbers the kernel takes are the first thirty-two of the reference's sorted rows.
-/
module

public import proofs.«01_k».proof.Proof.PickRow
public import proofs.«01_k».proof.Proof.SortRow
public import proofs.«01_k».proof.Proof.Whole

@[expose] public section

set_option maxRecDepth 65536

noncomputable section

namespace Cert.Proof.Ref

open Cert.ReferenceIdeal Cert.ReferenceIdeal.Gen Cert.ReferenceIdeal.Value
open Cert.Proof.Sc (wk topV topN Mx Sx ixt ixk ixu)
open Idealize.ShloMosaic

variable (X : FVec Ideal S128x100000 .f32)

/-- What is left of the values after `r` rounds. -/
def left (r : ℕ) : FVec Ideal Cert.KernelIdeal.S128x512 .f32 := wk (Sc.iTab (F := Ideal) X) (Sc.vTab (F := Ideal) X) r

theorem first_at {α : Type} (z : S128x100000.Idx → α) (b : Fin 128) (k : Fin 32) :
    extractStridedSlice S128x32 ![0, 0] z slices_S128x100000_S128x32_0_0 (ixk b k) = z (jx b (k.castLE (by decide))) := by
  unfold extractStridedSlice
  refine congrArg z (funext fun a => Fin.ext ?_)
  match a with
  | ⟨0, _⟩ => exact Nat.zero_add _
  | ⟨1, _⟩ => exact Nat.zero_add _

/-- The numbers of the elements, in every row. -/
def nums : IVec S128x100000 32 := iotaInDim S128x100000 32 1

theorem nums_at (b : Fin 128) (p : Fin 100000) : nums (jx b p) = numP p := rfl

variable (hf : finites X = fun _ => 1#1) (hu : uncrowded X = fun _ => 1#1)
include hf hu

theorem tops_at (b : Fin 128) (k : Fin 32) :
    ((Host.sort2 S128x100000 1 (comparator_f32_i32_d1 (F := Ideal)) (Host.negf X) nums).1 (jx b (k.castLE (by decide))) : EReal) = - (Mx (F := Ideal) (left X k.val) (ixu b) : EReal)
    ∧ (Host.sort2 S128x100000 1 (comparator_f32_i32_d1 (F := Ideal)) (Host.negf X) nums).2 (jx b (k.castLE (by decide))) = Sx (F := Ideal) (Sc.iTab (F := Ideal) X) (left X k.val) (ixu b) := by
  obtain ⟨σ, hinj, hval, hσ⟩ := picks_whole X b (uncrowded_at X b hu) (finites_at X hf)
  have h := sort_row X nums b σ hinj (fun k p _ hnum => numP_inj p (σ k) hnum) hσ k
  exact ⟨h.1.trans (congrArg (fun z : EReal => -z) (hval k).1.symm), h.2.trans (hval k).2.symm⟩

variable (V0 : Valuation τ sig (Elt Ideal)) (hV : V0 (Proc.devRef .tc main_arg0) = X)
include hV

theorem sorted_rows : Host.sort2 S128x100000 1 (comparator_f32_i32_d1 (F := Ideal)) (res_main_v0 V0) (res_main_v1 V0)
    = Host.sort2 S128x100000 1 (comparator_f32_i32_d1 (F := Ideal)) (Host.negf X) nums := by
  unfold res_main_v0 res_main_v1 nums
  rw [hV]

theorem nums_top : res_main_v3 V0 = topN (Sc.iTab (F := Ideal) X) (left X) := by
  unfold res_main_v3
  rw [sorted_rows X hf hu V0 hV]
  funext i
  obtain ⟨b, k, rfl⟩ := Sc.ixk_ex i
  rw [first_at, Sc.topN_at]
  exact (tops_at X hf hu b k).2

theorem vals_top : Host.negf (extractStridedSlice S128x32 ![0, 0] ((Host.sort2 S128x100000 1 (comparator_f32_i32_d1 (F := Ideal)) (res_main_v0 V0) (res_main_v1 V0)).1) slices_S128x100000_S128x32_0_0)
    = topV (left X) := by
  rw [sorted_rows X hf hu V0 hV]
  funext i
  obtain ⟨b, k, rfl⟩ := Sc.ixk_ex i
  rw [Sc.topV_at]
  refine (congrArg (fun z : EReal => -z) ((first_at _ b k).trans (tops_at X hf hu b k).1)).trans ?_
  exact neg_neg _

end Cert.Proof.Ref
-- ==== Proof.Soft.lean ====
/-
  The weights: the kernel's exponentials, row sums, running sums and rule, against the reference's.
-/
module

public import proofs.«01_k».proof.Proof.PickRow
public import proofs.«01_k».proof.Proof.Gen.ReferenceIdeal
public import Idealize.ShloMosaic.Lib.MatmulPlain
public import Idealize.ShloMosaic.Lib.Pipeline.Value

@[expose] public section

set_option maxRecDepth 65536

noncomputable section

namespace Cert.Proof.Ref

open Cert.ReferenceIdeal Cert.ReferenceIdeal.Gen
open Cert.Proof.Sc (ix1 ixu ixk ixk_ex unit_at)
open Idealize.ShloMosaic

/-! ## Widening -/

theorem ixu_ex (i : S128x1.Idx) : ∃ b, i = ixu b := ⟨i 0, funext fun a => match a with
  | ⟨0, _⟩ => rfl
  | ⟨1, _⟩ => Fin.ext (Nat.lt_one_iff.1 (i 1).isLt)⟩

theorem wide32_at {α : Type} (z : S128x1.Idx → α) (h : S128x1.Broadcasts S128x32) (b : Fin 128) (k : Fin 32) :
    broadcastTo S128x32 z h (ixk b k) = z (ixu b) :=
  broadcastTo_apply z _ _ _ (fun a => match a with | ⟨0, _⟩ => rfl | ⟨1, _⟩ => rfl)

theorem wide32_dim {α : Type} (z : S128x1.Idx → α) (b : Fin 128) (k : Fin 32) :
    broadcastInDim S128x32 ![0, 1] bcast_S128x1_S128x32_0_1 z (ixk b k) = z (ixu b) :=
  broadcastInDim_apply _ _ z _ _ (fun a => match a with | ⟨0, _⟩ => rfl | ⟨1, _⟩ => rfl)

theorem wide32 {α : Type} (z : S128x1.Idx → α) (h : S128x1.Broadcasts S128x32) :
    broadcastTo S128x32 z h = broadcastInDim S128x32 ![0, 1] bcast_S128x1_S128x32_0_1 z := by
  funext i
  obtain ⟨b, k, rfl⟩ := ixk_ex i
  exact (wide32_at z h b k).trans (wide32_dim z b k).symm

theorem col {α : Type} (z : S128.Idx → α) (h : S128.ShapeCasts S128x1) :
    shapeCast S128x1 z h = broadcastInDim S128x1 ![0] bcast_S128_S128x1_0 z := by
  funext i
  obtain ⟨b, rfl⟩ := ixu_ex i
  exact (unit_at z b).trans (broadcastInDim_apply _ _ z _ _ (fun a => match a with | ⟨0, _⟩ => rfl)).symm

theorem wideCol {α : Type} (z : S128.Idx → α) (h : S128x1.Broadcasts S128x32) (h' : S128.ShapeCasts S128x1) :
    broadcastTo S128x32 (shapeCast S128x1 z h') h = broadcastInDim S128x32 ![0, 1] bcast_S128x1_S128x32_0_1 (broadcastInDim S128x1 ![0] bcast_S128_S128x1_0 z) := by
  rw [wide32, col]

/-! ## Rows -/

theorem red32 : S128x32.Reduces [1] S128 := by decide

theorem lift32 (b : Fin 128) (k : Fin 32) : red32.lift (ix1 b) k = ixk b k := funext fun a => match a with | ⟨0, _⟩ => rfl | ⟨1, _⟩ => rfl

theorem zero_eq : (Ideal.ofBits .f32 0x00000000#32 : EReal) = 0 := Ideal.ofBits_zero_f32

theorem rowSum (y : FVec Ideal S128x32 .f32) (h : S128x32.Reduces [1] S128) :
    multiReduction .add [1] S128 y 0x00000000#32 h (.inl rfl) rfl = Host.reduceAdd y (constant (F := Ideal) S_ .f32 0x00000000#32) reducesTo_S128x32_S128_d1 h_S_ := by
  funext j
  refine (Ideal.multiReduction_add_single y _ h (.inl rfl) rfl j).trans ?_
  refine Eq.trans ?_ (Ideal.hostReduceAdd_single reducesTo_S128x32_S128_d1 h y (Ideal.ofBits .f32 0x00000000#32) j).symm
  rw [zero_eq, zero_add]

theorem rowMax (y : FVec Ideal S128x32 .f32) (h : S128x32.Reduces [1] S128) :
    multiReduction .maximumf [1] S128 y 0xFF800000#32 h (.inl rfl) rfl
      = Host.reduce (FloatOps.maximumf (F := Ideal) (φ := .f32)) y (constant (F := Ideal) S_ .f32 0xFF800000#32) reducesTo_S128x32_S128_d1 h_S_ := by
  funext j
  refine (Ideal.multiReduction_maximumf_single y _ h (.inl rfl) rfl j).trans ?_
  exact (Host.reduce_eq_fold_single (α := EReal) max y (constant (F := Ideal) S_ .f32 0xFF800000#32) reducesTo_S128x32_S128_d1 h h_S_ j).symm

theorem rowMin (y : IVec S128x32 32) (h : S128x32.Reduces [1] S128) :
    multiReductionI .minsi [1] S128 y 2147483647#32 h rfl
      = Host.reduce IntOp.minsi y (constantI S_ 32 2147483647#32) reducesTo_S128x32_S128_d1 h_S_ := by
  funext j
  refine (multiReductionI_eq_fold .minsi y _ h rfl j).trans ((h.fold_filter_drop_single IntOp.minsi _ y j).trans ?_)
  exact (Host.reduce_eq_fold_single IntOp.minsi y (constantI S_ 32 2147483647#32) reducesTo_S128x32_S128_d1 h h_S_ j).symm

theorem rowAdd (y : IVec S128x32 32) (h : S128x32.Reduces [1] S128) :
    multiReductionI .add [1] S128 y 0#32 h rfl
      = Host.reduce IntOp.addi y (constantI S_ 32 0#32) reducesTo_S128x32_S128_d1 h_S_ := by
  funext j
  refine (multiReductionI_eq_fold .add y _ h rfl j).trans ((h.fold_filter_drop_single IntOp.addi _ y j).trans ?_)
  exact (Host.reduce_eq_fold_single IntOp.addi y (constantI S_ 32 0#32) reducesTo_S128x32_S128_d1 h h_S_ j).symm

/-! ## Running sums -/

/-- An entry of a row by its place, nothing past the last. -/
def ent (y : FVec Ideal S128x32 .f32) (b : Fin 128) (j : ℕ) : EReal := if h : j < 32 then y (ixk b ⟨j, h⟩) else 0

theorem ix2_eq (b : Fin 128) (k : Fin 32) : (ValueIdx.ix2 b k : S128x32.Idx) = ixk b k := funext fun a => match a with | ⟨0, _⟩ => rfl | ⟨1, _⟩ => rfl

theorem le_word : ∀ j k : Fin 32, (BitVec.ofNat 32 j.val).sle (BitVec.ofNat 32 k.val) = decide (j ≤ k) := by decide +kernel

theorem tri (j k : Fin 32) :
    (((((BitVec.ofBool ((BitVec.ofNat 32 j.val).sle (BitVec.ofNat 32 k.val))).setWidth 32).toInt : ℝ) : EReal)) = if j ≤ k then 1 else 0 := by
  rw [le_word]
  by_cases h : j ≤ k
  · rw [if_pos h, decide_eq_true h]
    rw [show ((BitVec.ofBool true).setWidth 32).toInt = 1 from by decide]; simp
  · rw [if_neg h, decide_eq_false h]
    rw [show ((BitVec.ofBool false).setWidth 32).toInt = 0 from by decide]; simp

theorem iota32_row (j k : Fin 32) : iota .tc Cert.KernelIdeal.S32x32 32 [0] Cert.KernelIdeal.Gen.iota_S32x32_d0_w32 (ValueIdx.ix2 j k) = BitVec.ofNat 32 j.val :=
  congrArg (BitVec.ofNat 32) (show 0 * 32 + j.val = j.val by omega)

theorem iota32_col (j k : Fin 32) : iota .tc Cert.KernelIdeal.S32x32 32 [1] Cert.KernelIdeal.Gen.iota_S32x32_d1_w32 (ValueIdx.ix2 j k) = BitVec.ofNat 32 k.val :=
  congrArg (BitVec.ofNat 32) (show 0 * 32 + k.val = k.val by omega)

theorem tri_at (j k : Fin 32) :
    (sitofp (F := Ideal) .f32 (extui 32 (cmpi .sle (iota .tc Cert.KernelIdeal.S32x32 32 [0] Cert.KernelIdeal.Gen.iota_S32x32_d0_w32)
      (iota .tc Cert.KernelIdeal.S32x32 32 [1] Cert.KernelIdeal.Gen.iota_S32x32_d1_w32)) Cert.KernelIdeal.Gen.natLt_1_32) (ValueIdx.ix2 j k) : EReal) = if j ≤ k then 1 else 0 := by
  refine Eq.trans ?_ (tri j k)
  rw [← iota32_row j k, ← iota32_col j k]
  rfl

theorem sums_at (y : FVec Ideal S128x32 .f32) (b : Fin 128) (k : Fin 32) :
    (Sc.sums y (ixk b k) : EReal) = ∑ j ∈ Finset.range (k.val + 1), ent y b j := by
  rw [← ix2_eq]
  refine (Ideal.matmul_plain_apply none y _ _ b k).trans ?_
  rw [show (constant (F := Ideal) Cert.KernelIdeal.S128x32 .f32 0x00000000#32 (ValueIdx.ix2 b k) : EReal) = 0 from zero_eq, zero_add]
  refine (Finset.sum_congr rfl fun j _ => ?_ : _ = ∑ j : Fin 32, if j.val < k.val + 1 then ent y b j.val else 0).trans ?_
  · rw [ix2_eq]
    refine (congrArg (fun z : EReal => (y (ixk b j) : EReal) * z) (tri_at j k)).trans ?_
    unfold ent
    rw [dif_pos j.isLt]
    by_cases h : j ≤ k
    · rw [if_pos h, if_pos (Nat.lt_succ_of_le h), mul_one]
    · rw [if_neg h, if_neg (fun h' => h (Nat.le_of_lt_succ h')), mul_zero]
  · rw [Fin.sum_univ_eq_sum_range (fun j => if j < k.val + 1 then ent y b j else 0) 32, ← Finset.sum_filter]
    refine Finset.sum_congr (Finset.ext fun j => ?_) fun _ _ => rfl
    have := k.isLt
    rw [Finset.mem_filter, Finset.mem_range, Finset.mem_range]
    omega

abbrev Win2 : Shape := ⟨2, ![1, 32]⟩

def w2 (q : Fin 32) : Win2.Idx := fun a => match a with | ⟨0, _⟩ => (0 : Fin 1) | ⟨1, _⟩ => q

def w2Equiv : Win2.Idx ≃ Fin 32 where
  toFun i := i 1
  invFun := w2
  left_inv i := funext fun a => match a with
    | ⟨0, _⟩ => Fin.ext (Nat.lt_one_iff.1 (i 0).isLt).symm
    | ⟨1, _⟩ => rfl
  right_inv _ := rfl

theorem win_sum (y : FVec Ideal S128x32 .f32) (b : Fin 128) (k : Fin 32) :
    (Host.reduceWindowAdd ![1, 32] ![1, 1] ![0, 31] ![0, 0] y (broadcastInDim S_ ![] bcast_S_S_ (constant (F := Ideal) S_ .f32 0x00000000#32))
      reduceWindows_S128x32_S128x32_w1s1p0_0_w32s1p31_0 h_S_ (ixk b k) : EReal)
      = ∑ q : Fin 32, if 31 ≤ k.val + q.val then ent y b (k.val + q.val - 31) else 0 := by
  have h0 : ((broadcastInDim S_ ![] bcast_S_S_ (constant (F := Ideal) S_ .f32 0x00000000#32)) (Shape.Idx.first h_S_) : EReal) = 0 := zero_eq
  change Host.reduceWindow (s := S128x32) (t := S128x32) (fun p q : EReal => p + q) ![1, 32] ![1, 1] ![0, 31] ![0, 0] y
    (fun _ : S_.Idx => ((broadcastInDim S_ ![] bcast_S_S_ (constant (F := Ideal) S_ .f32 0x00000000#32)) (Shape.Idx.first h_S_) : EReal))
    reduceWindows_S128x32_S128x32_w1s1p0_0_w32s1p31_0 h_S_ (ixk b k) = _
  rw [h0]
  unfold Host.reduceWindow
  dsimp only
  refine Eq.trans ?_ (((sum_idx_eq_foldl Win2 fun q : Win2.Idx => if 31 ≤ k.val + (q 1).val then ent y b (k.val + (q 1).val - 31) else (0 : EReal))).symm.trans ?_)
  · refine congrArg (fun f => (List.finRange Win2.numel).foldl f (0 : EReal)) (funext fun r => funext fun n => congrArg (r + ·) ?_)
    have hb := b.isLt
    have hk := k.isLt
    have q0 : (Win2.rowMajor.symm n 0).val < 1 := (Win2.rowMajor.symm n 0).isLt
    have q1 : (Win2.rowMajor.symm n 1).val < 32 := (Win2.rowMajor.symm n 1).isLt
    split
    · next hin =>
      have h1 : 31 ≤ k.val * 1 + (Win2.rowMajor.symm n 1).val := (hin 1).1
      rw [if_pos (by omega)]
      unfold ent
      rw [dif_pos (by omega)]
      refine congrArg y (funext fun a => Fin.ext ?_)
      match a with
      | ⟨0, _⟩ => show b.val * 1 + (Win2.rowMajor.symm n 0).val - 0 = b.val; omega
      | ⟨1, _⟩ => show k.val * 1 + (Win2.rowMajor.symm n 1).val - 31 = k.val + (Win2.rowMajor.symm n 1).val - 31; omega
    · next hin =>
      rw [if_neg fun hle => hin fun a => by
        match a with
        | ⟨0, _⟩ => show 0 ≤ b.val * 1 + (Win2.rowMajor.symm n 0).val ∧ b.val * 1 + (Win2.rowMajor.symm n 0).val - 0 < 128; omega
        | ⟨1, _⟩ => show 31 ≤ k.val * 1 + (Win2.rowMajor.symm n 1).val ∧ k.val * 1 + (Win2.rowMajor.symm n 1).val - 31 < 32; omega]
  · exact Equiv.sum_comp w2Equiv (fun q : Fin 32 => if 31 ≤ k.val + q.val then ent y b (k.val + q.val - 31) else (0 : EReal))

theorem sums_eq (y : FVec Ideal S128x32 .f32) :
    Sc.sums y = Host.reduceWindowAdd ![1, 32] ![1, 1] ![0, 31] ![0, 0] y (broadcastInDim S_ ![] bcast_S_S_ (constant (F := Ideal) S_ .f32 0x00000000#32))
      reduceWindows_S128x32_S128x32_w1s1p0_0_w32s1p31_0 h_S_ := by
  funext i
  obtain ⟨b, k, rfl⟩ := ixk_ex i
  refine (sums_at y b k).trans ((win_sum y b k).trans ?_).symm
  rw [Fin.sum_univ_eq_sum_range (fun q => if 31 ≤ k.val + q then ent y b (k.val + q - 31) else 0) 32, ← Finset.sum_filter]
  have hk := k.isLt
  refine Finset.sum_nbij' (fun q => k.val + q - 31) (fun j => j + 31 - k.val) (fun q hq => ?_) (fun j hj => ?_) (fun q hq => ?_) (fun j hj => ?_) (fun _ _ => rfl)
  · rw [Finset.mem_filter, Finset.mem_range] at hq
    rw [Finset.mem_range]; omega
  · rw [Finset.mem_range] at hj
    rw [Finset.mem_filter, Finset.mem_range]; omega
  · rw [Finset.mem_filter, Finset.mem_range] at hq
    omega
  · rw [Finset.mem_range] at hj
    omega

/-! ## The weights -/

theorem normed_eq (y : FVec Ideal S128x32 .f32) : Sc.normed y
    = Host.divf y (broadcastInDim S128x32 ![0, 1] bcast_S128x1_S128x32_0_1 (broadcastInDim S128x1 ![0] bcast_S128_S128x1_0 (Host.reduceAdd y (constant (F := Ideal) S_ .f32 0x00000000#32) reducesTo_S128x32_S128_d1 h_S_))) := by
  have e : broadcastTo S128x32 (shapeCast S128x1 (multiReduction .add [1] S128 y 0x00000000#32 red32 (.inl rfl) rfl) Cert.KernelIdeal.Gen.shapeCasts_S128_S128x1) Cert.KernelIdeal.Gen.broadcasts_S128x1_S128x32
      = broadcastInDim S128x32 ![0, 1] bcast_S128x1_S128x32_0_1 (broadcastInDim S128x1 ![0] bcast_S128_S128x1_0 (Host.reduceAdd y (constant (F := Ideal) S_ .f32 0x00000000#32) reducesTo_S128x32_S128_d1 h_S_)) := by
    rw [rowSum, wideCol]
  exact congrArg (fun z : FVec Ideal S128x32 .f32 => divf y z) e

theorem place_lt : ∀ k : Fin 32, IntOp.cmpi .slt (BitVec.ofNat 32 (0 * 32 + k.val)) 32#32 = 1#1 := by decide +kernel

theorem places : (cmpi .slt (iota .tc Cert.KernelIdeal.S128x32 32 [1] Cert.KernelIdeal.Gen.iota_S128x32_d1_w32) (broadcast Cert.KernelIdeal.S128x32 32#32)) = fun _ => 1#1 := by
  funext i
  obtain ⟨b, k, rfl⟩ := ixk_ex i
  exact place_lt k

theorem andi_ones {s : Shape} (x : IVec s 1) : andi x (fun _ => 1#1) = x := by
  funext i
  exact (show ∀ w : BitVec 1, w &&& 1#1 = w by decide) (x i)

theorem kept_eq (q : Ideal .f32) (y : FVec Ideal S128x32 .f32) (Q : FVec Ideal S_ .f32) (hq : q = Q (Shape.Idx.first h_S_)) : Sc.kept q y
    = select (cmpf .olt (subf (Host.reduceWindowAdd ![1, 32] ![1, 1] ![0, 31] ![0, 0] y (broadcastInDim S_ ![] bcast_S_S_ (constant (F := Ideal) S_ .f32 0x00000000#32)) reduceWindows_S128x32_S128x32_w1s1p0_0_w32s1p31_0 h_S_) y)
        (broadcastInDim S128x32 ![] bcast_S_S128x32 Q)) y (broadcastInDim S128x32 ![] bcast_S_S128x32 (constant (F := Ideal) S_ .f32 0x00000000#32)) := by
  unfold Sc.kept
  rw [places, andi_ones, sums_eq]
  have e : (broadcast S128x32 q : FVec Ideal S128x32 .f32) = broadcastInDim S128x32 ![] bcast_S_S128x32 Q := by
    funext i
    refine hq.trans (congrArg Q (funext fun a => a.elim0))
  rw [← e]
  rfl

end Cert.Proof.Ref
-- ==== Proof.Scale.lean ====
/-
  The weights do not change when each row's probabilities are all scaled by one positive number, as long as a row's sum
  stays at most one: so the softmax of the row and the softmax of its thirty-two largest give the same weights.
-/
module

public import proofs.«01_k».proof.Proof.Tops
public import proofs.«01_k».proof.Proof.Soft

@[expose] public section

set_option maxRecDepth 65536

noncomputable section

namespace Cert.Proof.Ref

open Cert.Proof.Sc (ix1 ixu ixk ixk_ex unit_at)
open Idealize.ShloMosaic

/-! ## Reals -/

theorem sum_real {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

theorem div_real (u v : ℝ) (h : v ≠ 0) : Ideal.div (u : EReal) (v : EReal) = ((u / v : ℝ) : EReal) := by
  rw [Ideal.div_coe h, ← EReal.coe_mul, mul_one_div]

theorem div_none : Ideal.div 0 0 = ⊥ := by
  unfold Ideal.div
  rw [if_pos rfl, if_neg (lt_irrefl _)]

theorem exp_none (u v : EReal) (hu : u = ⊤ ∨ u = ⊥) (hv : v = ⊤ ∨ v = ⊥) (h : u ≤ v) : Ideal.exp (u - v) = 0 := by
  rcases hu with rfl | rfl <;> rcases hv with rfl | rfl
  · rfl
  · exact absurd h (by simp)
  · rfl
  · rfl

theorem exp_real (u v : ℝ) : Ideal.exp ((u : EReal) - (v : EReal)) = (Real.exp (u - v) : EReal) := by
  rw [← EReal.coe_sub]; rfl

/-- The exponentials of a few of the numbers, against a reference point and a sum that is no less than theirs. -/
theorem scaled {ι : Type} [Fintype ι] (a : ι → ℝ) (v Z : ℝ) (hZ : 0 < Z) (hs : ∑ k, Real.exp (a k - v) ≤ Z) :
    (∀ k, Real.exp (a k - v) / Z = Real.exp (-v) / Z * Real.exp (a k)) ∧ 0 < Real.exp (-v) / Z ∧ Real.exp (-v) / Z * ∑ k, Real.exp (a k) ≤ 1 := by
  have e : ∀ k, Real.exp (a k - v) / Z = Real.exp (-v) / Z * Real.exp (a k) := fun k => by
    rw [sub_eq_add_neg, Real.exp_add]; ring
  refine ⟨e, div_pos (Real.exp_pos _) hZ, ?_⟩
  rw [Finset.mul_sum, ← Finset.sum_congr rfl fun k _ => e k, ← Finset.sum_div]
  exact (div_le_one hZ).2 hs

/-! ## A row of probabilities -/

/-- The softmax of the row `S` at the value `u`, with the reference point `v`. -/
def prob {ι : Type} [Fintype ι] (S : ι → EReal) (u v : EReal) : EReal := Ideal.div (Ideal.exp (u - v)) (∑ i, Ideal.exp (S i - v))

/-- The two rows are nothing throughout, or they are one row of positive numbers scaled in two ways, with sums at most one. -/
theorem rows_scaled (x : Fin 100000 → ℝ) (n : ℤ) (τ : Fin 32 → Fin 100000) (hinj : Function.Injective τ) (hmax : ∀ p, x p ≤ x (τ 0))
    (p0 : Fin 100000) (hp0 : ∀ p, Ideal.div (x p : EReal) ((n : ℝ) : EReal) ≤ Ideal.div (x p0 : EReal) ((n : ℝ) : EReal)) :
    (∀ k, prob (fun j => Ideal.div (x (τ j) : EReal) ((n : ℝ) : EReal)) (Ideal.div (x (τ k) : EReal) ((n : ℝ) : EReal)) (Ideal.div (x (τ 0) : EReal) ((n : ℝ) : EReal))
        = prob (fun p => Ideal.div (x p : EReal) ((n : ℝ) : EReal)) (Ideal.div (x (τ k) : EReal) ((n : ℝ) : EReal)) (Ideal.div (x p0 : EReal) ((n : ℝ) : EReal)))
    ∨ ∃ (w : Fin 32 → ℝ) (c d : ℝ), (∀ k, 0 < w k) ∧ (0 < c ∧ c * ∑ k, w k ≤ 1) ∧ (0 < d ∧ d * ∑ k, w k ≤ 1)
      ∧ (∀ k, prob (fun j => Ideal.div (x (τ j) : EReal) ((n : ℝ) : EReal)) (Ideal.div (x (τ k) : EReal) ((n : ℝ) : EReal)) (Ideal.div (x (τ 0) : EReal) ((n : ℝ) : EReal)) = ((c * w k : ℝ) : EReal))
      ∧ (∀ k, prob (fun p => Ideal.div (x p : EReal) ((n : ℝ) : EReal)) (Ideal.div (x (τ k) : EReal) ((n : ℝ) : EReal)) (Ideal.div (x p0 : EReal) ((n : ℝ) : EReal)) = ((d * w k : ℝ) : EReal)) := by
  by_cases hn : n = 0
  · left
    intro k
    subst hn
    have e : ∀ p, Ideal.div (x p : EReal) (((0 : ℤ) : ℝ) : EReal) = if 0 < x p then ⊤ else ⊥ := fun p => by
      unfold Ideal.div
      rw [if_pos (by simp)]
      simp only [EReal.coe_pos]
    have he : ∀ p, Ideal.div (x p : EReal) (((0 : ℤ) : ℝ) : EReal) = ⊤ ∨ Ideal.div (x p : EReal) (((0 : ℤ) : ℝ) : EReal) = ⊥ := fun p => by
      rw [e]; split
      · exact Or.inl rfl
      · exact Or.inr rfl
    have hτ : ∀ p, Ideal.div (x p : EReal) (((0 : ℤ) : ℝ) : EReal) ≤ Ideal.div (x (τ 0) : EReal) (((0 : ℤ) : ℝ) : EReal) := fun p => by
      rw [e, e]
      by_cases h : 0 < x p
      · rw [if_pos h, if_pos (h.trans_le (hmax p))]
      · rw [if_neg h]; exact bot_le
    unfold prob
    rw [exp_none _ _ (he _) (he _) (hτ _), exp_none _ _ (he _) (he _) (hp0 _), Finset.sum_eq_zero fun j _ => exp_none _ _ (he _) (he _) (hτ _),
      Finset.sum_eq_zero fun j _ => exp_none _ _ (he _) (he _) (hp0 _)]
  · right
    have hn' : (n : ℝ) ≠ 0 := Int.cast_ne_zero.2 hn
    have e : ∀ p, Ideal.div (x p : EReal) ((n : ℝ) : EReal) = ((x p / n : ℝ) : EReal) := fun p => div_real _ _ hn'
    simp only [prob, e, exp_real, sum_real]
    generalize hae : (fun p => x p / (n : ℝ)) = a
    have ha : ∀ p, x p / (n : ℝ) = a p := fun p => congrFun hae p
    simp only [ha]
    have hz1 : 0 < ∑ j, Real.exp (a (τ j) - a (τ 0)) := Finset.sum_pos (fun _ _ => Real.exp_pos _) ⟨0, Finset.mem_univ _⟩
    have hz2 : 0 < ∑ p, Real.exp (a p - a p0) := Finset.sum_pos (fun _ _ => Real.exp_pos _) ⟨p0, Finset.mem_univ _⟩
    have hle : ∑ j, Real.exp (a (τ j) - a p0) ≤ ∑ p, Real.exp (a p - a p0) := by
      rw [← Finset.sum_image (s := Finset.univ) (g := τ) (f := fun p => Real.exp (a p - a p0)) fun _ _ _ _ h => hinj h]
      exact Finset.sum_le_sum_of_subset_of_nonneg (Finset.subset_univ _) fun _ _ _ => (Real.exp_pos _).le
    obtain ⟨e1, c1, s1⟩ := scaled (fun k => a (τ k)) (a (τ 0)) _ hz1 le_rfl
    obtain ⟨e2, c2, s2⟩ := scaled (fun k => a (τ k)) (a p0) _ hz2 hle
    refine ⟨fun k => Real.exp (a (τ k)), _, _, fun _ => Real.exp_pos _, ⟨c1, s1⟩, ⟨c2, s2⟩, fun k => ?_, fun k => ?_⟩
    · rw [div_real _ _ hz1.ne', e1]
    · rw [div_real _ _ hz2.ne', e2]

/-! ## The weights at a place -/

theorem normed_at (y : FVec Ideal Cert.ReferenceIdeal.S128x32 .f32) (b : Fin 128) (k : Fin 32) : (Sc.normed y (ixk b k) : EReal) = Ideal.div (y (ixk b k)) (∑ j : Fin 32, (y (ixk b j) : EReal)) := by
  unfold Sc.normed
  refine congrArg (fun z : EReal => Ideal.div (y (ixk b k)) z) ?_
  refine (wide32_at _ _ b k).trans ((unit_at _ b).trans ?_)
  refine (Ideal.multiReduction_add_single y _ red32 (.inl rfl) rfl (ix1 b)).trans ?_
  exact Finset.sum_congr rfl fun j _ => congrArg y (lift32 b j)

theorem kept_at (q : Ideal .f32) (y : FVec Ideal Cert.ReferenceIdeal.S128x32 .f32) (b : Fin 128) (k : Fin 32) :
    (Sc.kept q y (ixk b k) : EReal) = if (∑ j ∈ Finset.range (k.val + 1), ent y b j) - (y (ixk b k) : EReal) < q then (y (ixk b k) : EReal) else 0 := by
  have e : (Sc.kept q y (ixk b k) : EReal) = Scalar.select (BitVec.ofBool (decide ((Sc.sums y (ixk b k) : EReal) - (y (ixk b k) : EReal) < q))) (y (ixk b k) : EReal) (Ideal.ofBits .f32 0x00000000#32) := by
    unfold Sc.kept
    rw [places, andi_ones]
    rfl
  rw [e, sums_at, zero_eq]
  by_cases h : (∑ j ∈ Finset.range (k.val + 1), ent y b j) - (y (ixk b k) : EReal) < q
  · rw [decide_eq_true h, if_pos h]; rfl
  · rw [decide_eq_false h, if_neg h]; rfl

theorem row_congr (q : Ideal .f32) (y z : FVec Ideal Cert.ReferenceIdeal.S128x32 .f32) (b : Fin 128) (h : ∀ j, (y (ixk b j) : EReal) = z (ixk b j)) (k : Fin 32) :
    (Sc.normed (Sc.kept q y) (ixk b k) : EReal) = Sc.normed (Sc.kept q z) (ixk b k) := by
  have he : ∀ j, ent y b j = ent z b j := fun j => by
    unfold ent; split
    · exact h _
    · rfl
  have hk : ∀ j, (Sc.kept q y (ixk b j) : EReal) = Sc.kept q z (ixk b j) := fun j => by
    rw [kept_at, kept_at, h j, Finset.sum_congr rfl fun j _ => he j]
  rw [normed_at, normed_at, hk k, Finset.sum_congr rfl fun j _ => hk j]

/-- Of a row of positive numbers times one factor, the weights: the factor goes. -/
theorem weights_at (y : FVec Ideal Cert.ReferenceIdeal.S128x32 .f32) (b : Fin 128) (w : Fin 32 → ℝ) (c : ℝ) (n : ℤ) (hw : ∀ k, 0 < w k) (hc : 0 < c) (hs : c * ∑ k, w k ≤ 1)
    (hy : ∀ k, (y (ixk b k) : EReal) = ((c * w k : ℝ) : EReal)) (k : Fin 32) :
    (Sc.normed (Sc.kept (((n : ℝ) : EReal) : Ideal .f32) y) (ixk b k) : EReal) = if 1 ≤ n then ((w k / ∑ j, w j : ℝ) : EReal) else ⊥ := by
  have hW : 0 < ∑ j, w j := Finset.sum_pos (fun j _ => hw j) ⟨0, Finset.mem_univ _⟩
  -- the sum before a place
  let f : ℕ → ℝ := fun j => if h : j < 32 then c * w ⟨j, h⟩ else 0
  have hf0 : ∀ j, 0 ≤ f j := fun j => by
    dsimp only [f]; split
    · exact (mul_pos hc (hw _)).le
    · exact le_rfl
  have hent : ∀ j, ent y b j = ((f j : ℝ) : EReal) := fun j => by
    unfold ent; dsimp only [f]; split
    · exact hy _
    · rfl
  have hall : ∑ j ∈ Finset.range 32, f j = c * ∑ j, w j := by
    rw [Finset.mul_sum, ← Fin.sum_univ_eq_sum_range]
    exact Finset.sum_congr rfl fun j _ => dif_pos j.isLt
  have hfk : ∀ k : Fin 32, f k.val = c * w k := fun k => dif_pos k.isLt
  have hbefore : ∀ k : Fin 32, (∑ j ∈ Finset.range (k.val + 1), ent y b j) - (y (ixk b k) : EReal) = ((∑ j ∈ Finset.range k.val, f j : ℝ) : EReal) := fun k => by
    rw [Finset.sum_congr rfl fun j _ => hent j, sum_real, hy, ← EReal.coe_sub, Finset.sum_range_succ, hfk, add_sub_cancel_right]
  have hkept : ∀ k : Fin 32, (Sc.kept (((n : ℝ) : EReal) : Ideal .f32) y (ixk b k) : EReal) = if 1 ≤ n then ((c * w k : ℝ) : EReal) else 0 := fun k => by
    rw [kept_at, hbefore, hy]
    by_cases h : 1 ≤ n
    · rw [if_pos h, if_pos]
      refine EReal.coe_lt_coe_iff.2 ?_
      have h1 : (1 : ℝ) ≤ n := by exact_mod_cast h
      have h2 : ∑ j ∈ Finset.range (k.val + 1), f j ≤ ∑ j ∈ Finset.range 32, f j :=
        Finset.sum_le_sum_of_subset_of_nonneg (Finset.range_mono k.isLt) fun j _ _ => hf0 j
      rw [Finset.sum_range_succ, hfk, hall] at h2
      have h3 := mul_pos hc (hw k)
      linarith
    · rw [if_neg h, if_neg]
      refine fun h' => ?_
      have h' := EReal.coe_lt_coe_iff.1 h'
      have h1 : (n : ℝ) ≤ 0 := by exact_mod_cast (by omega : n ≤ 0)
      have h2 : 0 ≤ ∑ j ∈ Finset.range k.val, f j := Finset.sum_nonneg fun j _ => hf0 j
      linarith
  rw [normed_at, hkept, Finset.sum_congr rfl fun j _ => hkept j]
  by_cases h : 1 ≤ n
  · simp only [if_pos h]
    rw [sum_real, ← Finset.mul_sum, div_real _ _ (mul_pos hc hW).ne', mul_div_mul_left _ _ hc.ne']
  · simp only [if_neg h]
    rw [Finset.sum_const_zero, div_none]

/-! ## The two rows -/

theorem expW_at (y : FVec Ideal Cert.ReferenceIdeal.S128x32 .f32) (b : Fin 128) (k : Fin 32) : (Sc.expW y (ixk b k) : EReal) = Ideal.exp ((y (ixk b k) : EReal) - (y (ixk b 0) : EReal)) := by
  unfold Sc.expW
  refine congrArg (fun z : EReal => Ideal.exp ((y (ixk b k) : EReal) - z)) ?_
  refine (wide32_at _ _ b k).trans ?_
  unfold extractStridedSlice
  refine congrArg y (funext fun a => Fin.ext ?_)
  match a with
  | ⟨0, _⟩ => exact Nat.zero_add _
  | ⟨1, _⟩ => rfl

open Cert.ReferenceIdeal Cert.ReferenceIdeal.Gen Cert.ReferenceIdeal.Value

theorem redrow : S128x100000.Reduces [1] S128 := by decide

theorem liftrow (b : Fin 128) (p : Fin 100000) : redrow.lift (ix1 b) p = jx b p := funext fun a => match a with | ⟨0, _⟩ => rfl | ⟨1, _⟩ => rfl

theorem widerow {α : Type} (z : S128x1.Idx → α) (b : Fin 128) (p : Fin 100000) :
    broadcastInDim S128x100000 ![0, 1] bcast_S128x1_S128x100000_0_1 z (jx b p) = z (ixu b) :=
  broadcastInDim_apply _ _ z _ _ (fun a => match a with | ⟨0, _⟩ => rfl | ⟨1, _⟩ => rfl)

theorem col_at {α : Type} (z : S128.Idx → α) (b : Fin 128) : broadcastInDim S128x1 ![0] bcast_S128_S128x1_0 z (ixu b) = z (ix1 b) :=
  broadcastInDim_apply _ _ z _ _ (fun a => match a with | ⟨0, _⟩ => rfl)

theorem fold_sup {n : ℕ} (f g : Fin n → EReal) (h : ∀ k, f k = g k) : (Finset.univ : Finset (Fin n)).fold max (Ideal.ofBits .f32 0xFF800000#32) f = Finset.univ.sup g := by
  rw [show f = g from funext h, show (Ideal.ofBits .f32 0xFF800000#32 : EReal) = ⊥ from Row.neg_bot]
  rfl

theorem finites_real (X : FVec Ideal S128x100000 .f32) (h : finites X = fun _ => 1#1) (i : S128x100000.Idx) : ∃ r : ℝ, (X i : EReal) = (r : EReal) := by
  haveI : Subsingleton Cert.Pre_spread.S_.Idx := ⟨fun p q => funext fun a => a.elim0⟩
  have e1 := Host.reduce_andi_all _ _ _ _ (Shape.Idx.first Cert.Pre_spread.Facts.h_S_) (congrFun h _) i
  have e2 : Ideal.cmp .olt (max (X i : EReal) (-(X i : EReal))) (Ideal.ofBits .f32 0x7F800000#32) = 1#1 := e1
  have hb := finites_at X h i
  have ht : (X i : EReal) ≠ ⊤ := fun ht => by
    rw [ht] at e2
    have e3 : BitVec.ofBool (decide (max (⊤ : EReal) (-⊤) < Ideal.ofBits .f32 0x7F800000#32)) = 1#1 := e2
    rw [max_eq_left le_top, decide_eq_false (not_lt.2 le_top)] at e3
    exact absurd e3 (by decide)
  exact ⟨(X i : EReal).toReal, (EReal.coe_toReal ht hb).symm⟩

variable (X : FVec Ideal S128x100000 .f32)
variable (V0 : Valuation τ sig (Elt Ideal)) (hV : V0 (Proc.devRef .tc main_arg0) = X) (hf : finites X = fun _ => 1#1) (hu : uncrowded X = fun _ => 1#1)

theorem quot_at (v T : FVec Ideal S128x32 .f32) (L : FVec Ideal S128x1 .f32) (M : FVec Ideal S128 .f32) (b : Fin 128) (k : Fin 32) :
    (Host.divf (Host.exp (subf (Host.divf v T) (broadcastInDim S128x32 ![0, 1] bcast_S128x1_S128x32_0_1 L)))
      (broadcastInDim S128x32 ![0, 1] bcast_S128x1_S128x32_0_1 (broadcastInDim S128x1 ![0] bcast_S128_S128x1_0 M)) (ixk b k) : EReal)
      = Ideal.div (Ideal.exp (Ideal.div (v (ixk b k)) (T (ixk b k)) - (L (ixu b) : EReal))) (M (ix1 b)) := by
  show Ideal.div (Ideal.exp (Ideal.div (v (ixk b k)) (T (ixk b k)) - (broadcastInDim S128x32 ![0, 1] bcast_S128x1_S128x32_0_1 L (ixk b k) : EReal)))
    (broadcastInDim S128x32 ![0, 1] bcast_S128x1_S128x32_0_1 (broadcastInDim S128x1 ![0] bcast_S128_S128x1_0 M) (ixk b k)) = _
  rw [wide32_dim, wide32_dim, col_at]

/-- The logits divided by the temperature, each row's largest of these, and the probabilities of the thirty-two. -/
def scaledRow : FVec Ideal S128x100000 .f32 := res_main_v6 V0
def largestOf : FVec Ideal S128x1 .f32 := res_main_v8 V0
def probs : FVec Ideal S128x32 .f32 := res_main_v23 V0

/-- The temperature, an integer. -/
def temp : ℤ := (show BitVec 32 from V0 (Proc.devRef .tc main_arg1) (Shape.Idx.first h_S_)).toInt

/-- The bound of the top-p rule, an integer. -/
def bound : ℤ := (show BitVec 32 from V0 (Proc.devRef .tc main_arg3) (Shape.Idx.first h_S_)).toInt

include hV in
theorem scaledRow_at (b : Fin 128) (p : Fin 100000) : (scaledRow V0 (jx b p) : EReal) = Ideal.div (X (jx b p)) ((temp V0 : ℝ) : EReal) := by
  unfold scaledRow res_main_v6
  rw [hV]
  refine congrArg (fun z : EReal => Ideal.div (X (jx b p)) z) ?_
  refine congrArg (sitofp (F := Ideal) .f32 (V0 (Proc.devRef .tc main_arg1)) : FVec Ideal S_ .f32) (funext fun a => a.elim0 : _ = Shape.Idx.first h_S_)

theorem largestOf_at (b : Fin 128) : (largestOf V0 (ixu b) : EReal) = Finset.univ.sup fun p : Fin 100000 => (scaledRow V0 (jx b p) : EReal) := by
  unfold largestOf res_main_v8
  refine (col_at _ b).trans ?_
  refine (Host.reduce_eq_fold_single (α := EReal) max (scaledRow V0) (constant (F := Ideal) S_ .f32 0xFF800000#32) reducesTo_S128x100000_S128_d1 redrow h_S_ (ix1 b)).trans ?_
  exact fold_sup _ _ fun p => congrArg (scaledRow V0) (liftrow b p)

theorem mass_at (b : Fin 128) : (Host.reduceAdd (F := Ideal) (Host.exp (subf (scaledRow V0) (broadcastInDim S128x100000 ![0, 1] bcast_S128x1_S128x100000_0_1 (largestOf V0)))) (constant S_ .f32 0x00000000#32) reducesTo_S128x100000_S128_d1 h_S_ (ix1 b) : EReal)
    = ∑ p : Fin 100000, Ideal.exp ((scaledRow V0 (jx b p) : EReal) - (largestOf V0 (ixu b) : EReal)) := by
  refine (Ideal.hostReduceAdd_single reducesTo_S128x100000_S128_d1 redrow _ (Ideal.ofBits .f32 0x00000000#32) (ix1 b)).trans ?_
  rw [zero_eq, zero_add]
  refine Finset.sum_congr rfl fun p _ => ?_
  refine (congrArg _ (liftrow b p)).trans ?_
  exact congrArg (fun z : EReal => Ideal.exp ((scaledRow V0 (jx b p) : EReal) - z)) (widerow _ b p)

include hV hf hu

/-- The thirty-two of a row as elements of the row: none twice, the first the largest. -/
theorem first_largest (b : Fin 128) : ∃ τ : Fin 32 → Fin 100000, Function.Injective τ ∧ (∀ k, (Sc.topV (left X) (ixk b k) : EReal) = X (jx b (τ k)))
    ∧ ∀ p, (X (jx b p) : EReal) ≤ X (jx b (τ 0)) := by
  obtain ⟨σ, hinj, hval, hσ⟩ := picks_whole X b (uncrowded_at X b hu) (finites_at X hf)
  refine ⟨σ, hinj, fun k => ?_, fun p => ?_⟩
  · rw [Sc.topV_at]; exact (hval k).1
  · exact not_lt.1 fun h => hσ 0 p (fun j hj => absurd hj (Fin.not_lt_zero j)) (Or.inl h)

/-- The kernel's softmax of the thirty-two and the reference's of the row give the same weights. -/
theorem weights_eq (t : Ideal .f32) (n : ℤ) (ht : t = (((temp V0 : ℝ) : EReal) : Ideal .f32)) :
    Sc.normed (Sc.kept (((n : ℝ) : EReal) : Ideal .f32) (Sc.normed (Sc.expW (divf (Sc.topV (left X)) (broadcast S128x32 t)))))
      = Sc.normed (Sc.kept (((n : ℝ) : EReal) : Ideal .f32) (probs V0)) := by
  funext i
  obtain ⟨b, k, rfl⟩ := ixk_ex i
  obtain ⟨σ, hinj, hval, hmax⟩ := first_largest X V0 hV hf hu b
  choose x hx using fun p => finites_real X hf (jx b p)
  obtain ⟨p0, -, hp0⟩ := Finset.exists_mem_eq_sup Finset.univ ⟨(0 : Fin 100000), Finset.mem_univ _⟩ fun p : Fin 100000 => (scaledRow V0 (jx b p) : EReal)
  have h6 : ∀ p, (scaledRow V0 (jx b p) : EReal) = Ideal.div (x p : EReal) ((temp V0 : ℝ) : EReal) := fun p => by rw [scaledRow_at X V0 hV, hx]
  have h8 : (largestOf V0 (ixu b) : EReal) = Ideal.div (x p0 : EReal) ((temp V0 : ℝ) : EReal) := by rw [largestOf_at, hp0, h6]
  have hs : ∀ j, (divf (Sc.topV (left X)) (broadcast S128x32 t) (ixk b j) : EReal) = Ideal.div (x (σ j) : EReal) ((temp V0 : ℝ) : EReal) := fun j => by
    rw [← hx, ← hval, ← ht]; rfl
  have hK : ∀ j, (Sc.normed (Sc.expW (divf (Sc.topV (left X)) (broadcast S128x32 t))) (ixk b j) : EReal)
      = prob (fun j => Ideal.div (x (σ j) : EReal) ((temp V0 : ℝ) : EReal)) (Ideal.div (x (σ j) : EReal) ((temp V0 : ℝ) : EReal)) (Ideal.div (x (σ 0) : EReal) ((temp V0 : ℝ) : EReal)) := fun j => by
    rw [normed_at, expW_at, hs, hs, Finset.sum_congr rfl fun j _ => (expW_at _ b j).trans (by rw [hs, hs])]
    rfl
  have hR : ∀ j, (probs V0 (ixk b j) : EReal)
      = prob (fun p => Ideal.div (x p : EReal) ((temp V0 : ℝ) : EReal)) (Ideal.div (x (σ j) : EReal) ((temp V0 : ℝ) : EReal)) (Ideal.div (x p0 : EReal) ((temp V0 : ℝ) : EReal)) := fun j => by
    have e : (probs V0 (ixk b j) : EReal) = Ideal.div (Ideal.exp ((divf (Sc.topV (left X)) (broadcast S128x32 t) (ixk b j) : EReal) - (largestOf V0 (ixu b) : EReal)))
        (∑ p : Fin 100000, Ideal.exp ((scaledRow V0 (jx b p) : EReal) - (largestOf V0 (ixu b) : EReal))) := by
      unfold probs res_main_v23
      rw [vals_top X hf hu V0 hV]
      refine (quot_at (Sc.topV (left X)) _ (largestOf V0) _ b j).trans ?_
      refine congrArg₂ Ideal.div (congrArg (fun z : EReal => Ideal.exp (Ideal.div (Sc.topV (left X) (ixk b j)) z - (largestOf V0 (ixu b) : EReal))) ?_) (mass_at V0 b)
      rw [ht]
      exact congrArg (sitofp (F := Ideal) .f32 (V0 (Proc.devRef .tc main_arg1)) : FVec Ideal S_ .f32) (funext fun a => a.elim0 : _ = Shape.Idx.first h_S_)
    rw [e, hs, h8, Finset.sum_congr rfl fun p _ => by rw [h6]]
    rfl
  rcases rows_scaled x (temp V0) σ hinj (fun p => by have := hmax p; rw [hx, hx] at this; exact EReal.coe_le_coe_iff.1 this) p0
    (fun p => by rw [← h6, ← h6, ← hp0]; exact Finset.le_sup (f := fun p : Fin 100000 => (scaledRow V0 (jx b p) : EReal)) (Finset.mem_univ p)) with h | ⟨w, c, d, hw, ⟨hc, hcs⟩, ⟨hd, hds⟩, hc', hd'⟩
  · exact row_congr _ _ _ b (fun j => (hK j).trans ((h j).trans (hR j).symm)) k
  · exact (weights_at _ b w c n hw hc hcs (fun j => (hK j).trans (hc' j)) k).trans (weights_at _ b w d n hw hd hds (fun j => (hR j).trans (hd' j)) k).symm

end Cert.Proof.Ref
-- ==== Proof.Hash.lean ====
/-
  The bits: the kernel's counter hash and the reference's, step by step.
-/
module

public import proofs.«01_k».proof.Proof.Picks
public import proofs.«01_k».proof.Proof.Gen.ReferenceIdeal.Run

@[expose] public section

set_option maxRecDepth 65536

noncomputable section

namespace Cert.Proof.Hash

open Cert.KernelIdeal.Gen
open Cert.ReferenceIdeal Cert.ReferenceIdeal.Gen Cert.ReferenceIdeal.Value
open Cert.Proof.Sc (counters bitsOf)
open Idealize.ShloMosaic

variable {F : FTy → Type} [FloatOps F]

/-- One word everywhere. -/
abbrev cw (a : BitVec 32) : IVec S128x32 32 := broadcastInDim S128x32 ![] bcast_S_S128x32 (constantI S_ 32 a)

theorem rot (x : IVec S128x32 32) (a c : BitVec 32) (ha : a.toNat < 32) (hc : c.toNat < 32) :
    ori (shli x (broadcast S128x32 a)) (shrui x (broadcast S128x32 c)) = ori (Host.shli x (cw a)) (Host.shrui x (cw c)) := by
  have e1 : shli x (broadcast S128x32 a) = Host.shli x (cw a) := by
    funext i
    show (if a.toNat < 32 then _ else _) = (if a.toNat < 32 then _ else _)
    rw [if_pos ha, if_pos ha]
    rfl
  have e2 : shrui x (broadcast S128x32 c) = Host.shrui x (cw c) := by
    funext i
    show (if c.toNat < 32 then _ else _) = (if c.toNat < 32 then _ else _)
    rw [if_pos hc, if_pos hc]
    rfl
  rw [e1, e2]

theorem shr (x : IVec S128x32 32) (c : BitVec 32) (hc : c.toNat < 32) : shrui x (broadcast S128x32 c) = Host.shrui x (cw c) := by
  funext i
  show (if c.toNat < 32 then _ else _) = (if c.toNat < 32 then _ else _)
  rw [if_pos hc, if_pos hc]
  rfl

theorem add2 (x : IVec S128x32 32) (a c d : BitVec 32) (h : a + c = d) : addi (addi x (broadcast S128x32 a)) (broadcast S128x32 c) = addi x (cw d) := by
  subst h
  funext i
  exact BitVec.add_assoc (x i) a c

variable (V0 : Valuation τ sig (Elt F)) (x : IVec S128x32 32)

section
variable (hx : x = addi (muli (iotaInDim S128x32 32 0) (cw 100000#32)) (res_main_v3 V0))
include hx

theorem h45 : k1_pay115 x = res_main_v45 V0 := by
  subst hx; rfl
theorem h46 : k1_pay116 x k1_pay114 0#32 = res_main_v46 V0 := by
  unfold k1_pay116; dsimp only; rw [h45 V0 x hx]
  funext i
  show (0#32 + 0#32) + res_main_v45 V0 i = 0#32 + res_main_v45 V0 i
  rfl
theorem h52 : k1_pay117 x k1_pay114 0#32 = res_main_v52 V0 := by
  unfold k1_pay117; dsimp only; rw [h46 V0 x hx, h45 V0 x hx, rot _ 13#32 19#32 (by decide) (by decide)]; rfl
theorem h53 : k1_pay118 x k1_pay114 0#32 = res_main_v53 V0 := by
  unfold k1_pay118; dsimp only; rw [h46 V0 x hx, h52 V0 x hx]; rfl
theorem h59 : k1_pay119 x k1_pay114 0#32 = res_main_v59 V0 := by
  unfold k1_pay119; dsimp only; rw [h53 V0 x hx, h52 V0 x hx, rot _ 15#32 17#32 (by decide) (by decide)]; rfl
theorem h60 : k1_pay120 x k1_pay114 0#32 = res_main_v60 V0 := by
  unfold k1_pay120; dsimp only; rw [h53 V0 x hx, h59 V0 x hx]; rfl
theorem h66 : k1_pay121 x k1_pay114 0#32 = res_main_v66 V0 := by
  unfold k1_pay121; dsimp only; rw [h60 V0 x hx, h59 V0 x hx, rot _ 26#32 6#32 (by decide) (by decide)]; rfl
theorem h67 : k1_pay122 x k1_pay114 0#32 = res_main_v67 V0 := by
  unfold k1_pay122; dsimp only; rw [h60 V0 x hx, h66 V0 x hx]; rfl
theorem h77 : k1_pay123 x k1_pay114 0#32 = res_main_v77 V0 := by
  unfold k1_pay123; dsimp only; rw [h67 V0 x hx, h66 V0 x hx, rot _ 6#32 26#32 (by decide) (by decide), add2 _ 466689008#32 1#32 466689009#32 (by decide)]; rfl
theorem h78 : k1_pay124 x k1_pay114 0#32 = res_main_v78 V0 := by
  unfold k1_pay124; dsimp only; rw [h67 V0 x hx, h77 V0 x hx]; rfl
theorem h84 : k1_pay125 x k1_pay114 0#32 = res_main_v84 V0 := by
  unfold k1_pay125; dsimp only; rw [h78 V0 x hx, h77 V0 x hx, rot _ 17#32 15#32 (by decide) (by decide)]; rfl
theorem h85 : k1_pay126 x k1_pay114 0#32 = res_main_v85 V0 := by
  unfold k1_pay126; dsimp only; rw [h78 V0 x hx, h84 V0 x hx]; rfl
end
theorem h91 : k1_pay127 (res_main_v84 V0) (res_main_v85 V0) = res_main_v91 V0 := by
  unfold k1_pay127; dsimp only; rw [rot _ 29#32 3#32 (by decide) (by decide)]; rfl
theorem h92 : k1_pay128 (res_main_v84 V0) (res_main_v85 V0) = res_main_v92 V0 := by
  unfold k1_pay128; dsimp only; rw [h91 V0]; rfl
theorem h98 : k1_pay129 (res_main_v84 V0) (res_main_v85 V0) = res_main_v98 V0 := by
  unfold k1_pay129; dsimp only; rw [h92 V0, h91 V0, rot _ 16#32 16#32 (by decide) (by decide)]; rfl
theorem h99 : k1_pay130 (res_main_v84 V0) (res_main_v85 V0) = res_main_v99 V0 := by
  unfold k1_pay130; dsimp only; rw [h92 V0, h98 V0]; rfl
theorem h109 : k1_pay131 (res_main_v84 V0) (res_main_v85 V0) = res_main_v109 V0 := by
  unfold k1_pay131; dsimp only; rw [h99 V0, h98 V0, rot _ 24#32 8#32 (by decide) (by decide), add2 _ 0#32 2#32 2#32 (by decide)]; rfl
theorem h110 : k1_pay132 (res_main_v84 V0) (res_main_v85 V0) = res_main_v110 V0 := by
  unfold k1_pay132; dsimp only; rw [h99 V0, h109 V0]; rfl
theorem h116 : k1_pay133 (res_main_v84 V0) (res_main_v85 V0) = res_main_v116 V0 := by
  unfold k1_pay133; dsimp only; rw [h110 V0, h109 V0, rot _ 13#32 19#32 (by decide) (by decide)]; rfl
theorem h117 : k1_pay134 (res_main_v84 V0) (res_main_v85 V0) = res_main_v117 V0 := by
  unfold k1_pay134; dsimp only; rw [h110 V0, h116 V0]; rfl
theorem h123 : k1_pay135 (res_main_v84 V0) (res_main_v85 V0) = res_main_v123 V0 := by
  unfold k1_pay135; dsimp only; rw [h117 V0, h116 V0, rot _ 15#32 17#32 (by decide) (by decide)]; rfl
theorem h124 : k1_pay136 (res_main_v84 V0) (res_main_v85 V0) = res_main_v124 V0 := by
  unfold k1_pay136; dsimp only; rw [h117 V0, h123 V0]; rfl
theorem h130 : k1_pay139 (k1_pay136 (res_main_v84 V0) (res_main_v85 V0)) (k1_pay137 (res_main_v84 V0) (res_main_v85 V0)) (k1_pay138 (res_main_v84 V0) (res_main_v85 V0)) = res_main_v130 V0 := by
  unfold k1_pay139 k1_pay137 k1_pay138; dsimp only; rw [h124 V0, h123 V0, rot _ 26#32 6#32 (by decide) (by decide)]; rfl
theorem h131 : k1_pay140 (k1_pay136 (res_main_v84 V0) (res_main_v85 V0)) (k1_pay137 (res_main_v84 V0) (res_main_v85 V0)) (k1_pay138 (res_main_v84 V0) (res_main_v85 V0)) = res_main_v131 V0 := by
  unfold k1_pay140; dsimp only; rw [h130 V0, h124 V0]; rfl
theorem h141 : k1_pay141 (k1_pay136 (res_main_v84 V0) (res_main_v85 V0)) (k1_pay137 (res_main_v84 V0) (res_main_v85 V0)) (k1_pay138 (res_main_v84 V0) (res_main_v85 V0)) = res_main_v141 V0 := by
  unfold k1_pay141; dsimp only; rw [h131 V0, h130 V0, rot _ 6#32 26#32 (by decide) (by decide), add2 _ 42#32 3#32 45#32 (by decide)]; rfl
theorem h142 : k1_pay142 (k1_pay136 (res_main_v84 V0) (res_main_v85 V0)) (k1_pay137 (res_main_v84 V0) (res_main_v85 V0)) (k1_pay138 (res_main_v84 V0) (res_main_v85 V0)) = res_main_v142 V0 := by
  unfold k1_pay142; dsimp only; rw [h131 V0, h141 V0]; rfl
theorem h148 : k1_pay143 (k1_pay136 (res_main_v84 V0) (res_main_v85 V0)) (k1_pay137 (res_main_v84 V0) (res_main_v85 V0)) (k1_pay138 (res_main_v84 V0) (res_main_v85 V0)) = res_main_v148 V0 := by
  unfold k1_pay143; dsimp only; rw [h142 V0, h141 V0, rot _ 17#32 15#32 (by decide) (by decide)]; rfl
theorem h149 : k1_pay144 (k1_pay136 (res_main_v84 V0) (res_main_v85 V0)) (k1_pay137 (res_main_v84 V0) (res_main_v85 V0)) (k1_pay138 (res_main_v84 V0) (res_main_v85 V0)) = res_main_v149 V0 := by
  unfold k1_pay144; dsimp only; rw [h142 V0, h148 V0]; rfl
theorem h155 : k1_pay145 (k1_pay136 (res_main_v84 V0) (res_main_v85 V0)) (k1_pay137 (res_main_v84 V0) (res_main_v85 V0)) (k1_pay138 (res_main_v84 V0) (res_main_v85 V0)) = res_main_v155 V0 := by
  unfold k1_pay145; dsimp only; rw [h149 V0, h148 V0, rot _ 29#32 3#32 (by decide) (by decide)]; rfl
theorem h156 : k1_pay146 (k1_pay136 (res_main_v84 V0) (res_main_v85 V0)) (k1_pay137 (res_main_v84 V0) (res_main_v85 V0)) (k1_pay138 (res_main_v84 V0) (res_main_v85 V0)) = res_main_v156 V0 := by
  unfold k1_pay146; dsimp only; rw [h149 V0, h155 V0]; rfl
theorem h162 : k1_pay147 (k1_pay136 (res_main_v84 V0) (res_main_v85 V0)) (k1_pay137 (res_main_v84 V0) (res_main_v85 V0)) (k1_pay138 (res_main_v84 V0) (res_main_v85 V0)) = res_main_v162 V0 := by
  unfold k1_pay147; dsimp only; rw [h156 V0, h155 V0, rot _ 16#32 16#32 (by decide) (by decide)]; rfl
theorem h163 : k1_pay148 (k1_pay136 (res_main_v84 V0) (res_main_v85 V0)) (k1_pay137 (res_main_v84 V0) (res_main_v85 V0)) (k1_pay138 (res_main_v84 V0) (res_main_v85 V0)) = res_main_v163 V0 := by
  unfold k1_pay148; dsimp only; rw [h156 V0, h162 V0]; rfl
theorem h172 : k1_pay149 (k1_pay136 (res_main_v84 V0) (res_main_v85 V0)) (k1_pay137 (res_main_v84 V0) (res_main_v85 V0)) (k1_pay138 (res_main_v84 V0) (res_main_v85 V0)) = xori (res_main_v163 V0) (ori (Host.shli (res_main_v162 V0) (cw 24#32)) (Host.shrui (res_main_v162 V0) (cw 8#32))) := by
  unfold k1_pay149; dsimp only; rw [h163 V0, h162 V0, rot _ 24#32 8#32 (by decide) (by decide)]
theorem h165 : k1_pay150 (k1_pay136 (res_main_v84 V0) (res_main_v85 V0)) (k1_pay137 (res_main_v84 V0) (res_main_v85 V0)) (k1_pay138 (res_main_v84 V0) (res_main_v85 V0)) = addi (res_main_v163 V0) (cw 42#32) := by
  unfold k1_pay150; dsimp only; rw [h163 V0]; rfl

/-- The reference's bits, as a number between one and two. -/
def refBits : FVec F S128x32 .f32 :=
  bitcastToFloat (F := F) .f32 (ori (Host.shrui (xori (addi (res_main_v195 V0) (cw 466689008#32)) (addi (xori (res_main_v195 V0) (ori (Host.shli (res_main_v194 V0) (cw 6#32)) (Host.shrui (res_main_v194 V0) (cw 26#32)))) (cw 5#32))) (cw 9#32)) (cw 1065353216#32))

theorem last : k1_pay151 (F := F) (xori (res_main_v163 V0) (ori (Host.shli (res_main_v162 V0) (cw 24#32)) (Host.shrui (res_main_v162 V0) (cw 8#32)))) (addi (res_main_v163 V0) (cw 42#32)) 466689008#32 = refBits V0 := by
  unfold k1_pay151; dsimp only
  rw [add2 _ 466689008#32 4#32 466689012#32 (by decide)]
  rw [show addi (xori (res_main_v163 V0) (ori (Host.shli (res_main_v162 V0) (cw 24#32)) (Host.shrui (res_main_v162 V0) (cw 8#32)))) (cw 466689012#32) = res_main_v173 V0 from rfl]
  rw [show addi (addi (res_main_v163 V0) (cw 42#32)) (res_main_v173 V0) = res_main_v174 V0 from rfl]
  rw [rot (res_main_v173 V0) 13#32 19#32 (by decide) (by decide)]
  rw [show xori (res_main_v174 V0) (ori (Host.shli (res_main_v173 V0) (cw 13#32)) (Host.shrui (res_main_v173 V0) (cw 19#32))) = res_main_v180 V0 from rfl]
  rw [show addi (res_main_v174 V0) (res_main_v180 V0) = res_main_v181 V0 from rfl]
  rw [rot (res_main_v180 V0) 15#32 17#32 (by decide) (by decide)]
  rw [show xori (res_main_v181 V0) (ori (Host.shli (res_main_v180 V0) (cw 15#32)) (Host.shrui (res_main_v180 V0) (cw 17#32))) = res_main_v187 V0 from rfl]
  rw [show addi (res_main_v181 V0) (res_main_v187 V0) = res_main_v188 V0 from rfl]
  rw [rot (res_main_v187 V0) 26#32 6#32 (by decide) (by decide)]
  rw [show xori (res_main_v188 V0) (ori (Host.shli (res_main_v187 V0) (cw 26#32)) (Host.shrui (res_main_v187 V0) (cw 6#32))) = res_main_v194 V0 from rfl]
  rw [show addi (res_main_v188 V0) (res_main_v194 V0) = res_main_v195 V0 from rfl]
  rw [rot (res_main_v194 V0) 6#32 26#32 (by decide) (by decide), add2 _ 0#32 5#32 5#32 (by decide), shr _ 9#32 (by decide)]
  rfl

/-- The kernel's bits are the reference's. -/
theorem bits_eq (hx : x = addi (muli (iotaInDim S128x32 32 0) (cw 100000#32)) (res_main_v3 V0)) : bitsOf (F := F) x = refBits V0 := by
  unfold bitsOf
  rw [h84 V0 x hx, h85 V0 x hx, h172, h165, last]

end Cert.Proof.Hash
-- ==== Proof.Tail.lean ====
/-
  The last steps, the kernel's against the reference's: the weights, the noise, and the place of the largest.
-/
module

public import proofs.«01_k».proof.Proof.Scale
public import proofs.«01_k».proof.Proof.Hash
public import proofs.«01_k».proof.Proof.Soft

@[expose] public section

set_option maxRecDepth 65536

noncomputable section

namespace Cert.Proof.Ref

open Cert.ReferenceIdeal Cert.ReferenceIdeal.Gen Cert.ReferenceIdeal.Value
open Cert.Proof.Sc (ix1 ixu ixk ixk_ex topV topN soft counters bitsOf)
open Idealize.ShloMosaic

/-- A row's number in every place of its row. -/
abbrev rowwise {α : Type} (z : S128.Idx → α) : S128x32.Idx → α :=
  broadcastInDim S128x32 ![0, 1] bcast_S128x1_S128x32_0_1 (broadcastInDim S128x1 ![0] bcast_S128_S128x1_0 z)

/-- One number everywhere. -/
abbrev all (z : FVec Ideal S_ .f32) : FVec Ideal S128x32 .f32 := broadcastInDim S128x32 ![] bcast_S_S128x32 z

theorem all_eq (q : Ideal .f32) (Q : FVec Ideal S_ .f32) (hq : q = Q (Shape.Idx.first h_S_)) : (broadcast S128x32 q : FVec Ideal S128x32 .f32) = all Q := by
  funext i
  exact hq.trans (congrArg Q (funext fun a => a.elim0))

theorem neg_of (z : FVec Ideal S128x32 .f32) : subf (broadcast S128x32 (Scalar.ofBits (F := Ideal) .f32 0x00000000#32)) z = Host.negf z := by
  funext i
  show (Ideal.ofBits .f32 0x00000000#32 : EReal) - (z i : EReal) = -(z i : EReal)
  rw [zero_eq, zero_sub]

/-- The noise from the bits. -/
def noise (g : FVec Ideal S128x32 .f32) : FVec Ideal S128x32 .f32 :=
  Host.negf (Host.log (Host.negf (Host.log (maximumf (all (constant S_ .f32 0x00800000#32)) (addf (mulf (subf g (all (constant S_ .f32 0x3F800000#32)))
    (all (subf (constant S_ .f32 0x3F800000#32) (constant S_ .f32 0x00800000#32)))) (all (constant S_ .f32 0x00800000#32)))))))

/-- The number at the place of a row's largest, the first of the largest. -/
def chosen (y : FVec Ideal S128x32 .f32) (p s : IVec S128x32 32) : IVec S128 32 :=
  Host.reduce IntOp.addi (select (cmpi .eq p (rowwise (Host.reduce IntOp.minsi (select (cmpf .oeq y (rowwise (Host.reduce (FloatOps.maximumf (F := Ideal) (φ := .f32)) y (constant (F := Ideal) S_ .f32 0xFF800000#32) reducesTo_S128x32_S128_d1 h_S_)))
    p (broadcastInDim S128x32 ![] bcast_S_S128x32 (constantI S_ 32 32#32))) (constantI S_ 32 2147483647#32) reducesTo_S128x32_S128_d1 h_S_)))
    s (broadcastInDim S128x32 ![] bcast_S_S128x32 (constantI S_ 32 0#32))) (constantI S_ 32 0#32) reducesTo_S128x32_S128_d1 h_S_

theorem chosen_eq (y : FVec Ideal S128x32 .f32) (p s : IVec S128x32 32) (h : S128x32.Reduces [1] S128) (hc : S128.ShapeCasts S128x1) (hb : S128x1.Broadcasts S128x32) :
    multiReductionI .add [1] S128 (select (cmpi .eq p (broadcastTo S128x32 (shapeCast S128x1 (multiReductionI .minsi [1] S128
      (select (cmpf .oeq y (broadcastTo S128x32 (shapeCast S128x1 (multiReduction .maximumf [1] S128 y 0xFF800000#32 h (.inl rfl) rfl) hc) hb)) p (broadcast S128x32 32#32)) 2147483647#32 h rfl) hc) hb))
      s (broadcast S128x32 0#32)) 0#32 h rfl = chosen y p s := by
  rw [rowAdd, wideCol, wideCol, rowMin, rowMax]
  rfl

theorem pay_eq (s p : IVec S128x32 32) (w g : FVec Ideal S128x32 .f32) :
    Cert.KernelIdeal.Gen.k1_pay153 (F := Ideal) s p w g Cert.KernelIdeal.Gen.k1_pay152
      = shapeCast S128x1 (chosen (addf (Host.log (addf w (all (constant S_ .f32 0x1E3CE508#32)))) (noise g)) p s) Cert.KernelIdeal.Gen.shapeCasts_S128_S128x1 := by
  unfold Cert.KernelIdeal.Gen.k1_pay153
  dsimp only
  rw [neg_of, neg_of]
  exact congrArg (fun z => shapeCast S128x1 z Cert.KernelIdeal.Gen.shapeCasts_S128_S128x1)
    (chosen_eq (addf (Host.log (addf w (all (constant S_ .f32 0x1E3CE508#32)))) (noise g)) p s red32 Cert.KernelIdeal.Gen.shapeCasts_S128_S128x1 Cert.KernelIdeal.Gen.broadcasts_S128x1_S128x32)

theorem places_eq : iota .tc Cert.KernelIdeal.S128x32 32 [1] Cert.KernelIdeal.Gen.iota_S128x32_d1_w32 = iotaInDim S128x32 32 1 := by
  funext i
  obtain ⟨b, k, rfl⟩ := ixk_ex i
  exact congrArg (BitVec.ofNat 32) (show 0 * 32 + k.val = k.val by omega)

theorem rows_eq : iota .tc Cert.KernelIdeal.S128x32 32 [0] Cert.KernelIdeal.Gen.iota_S128x32_d0_w32 = iotaInDim S128x32 32 0 := by
  funext i
  obtain ⟨b, k, rfl⟩ := ixk_ex i
  exact congrArg (BitVec.ofNat 32) (show 0 * 128 + b.val = b.val by omega)

variable (X : FVec Ideal S128x100000 .f32)
variable (V0 : Valuation τ sig (Elt Ideal)) (hV : V0 (Proc.devRef .tc main_arg0) = X) (hf : finites X = fun _ => 1#1) (hu : uncrowded X = fun _ => 1#1)

/-- The reference's result. -/
def answer : IVec S128 32 := chosen (res_main_v225 V0) (res_main_v226 V0) (res_main_v3 V0)

/-- The last row sums' quotient, the weights. -/
def weight : FVec Ideal S128x32 .f32 := Host.divf (res_main_v30 V0) (rowwise (Host.reduceAdd (res_main_v30 V0) (constant S_ .f32 0x00000000#32) reducesTo_S128x32_S128_d1 h_S_))

theorem v225_eq : res_main_v225 V0 = addf (Host.log (addf (weight V0) (all (constant S_ .f32 0x1E3CE508#32)))) (noise (Hash.refBits V0)) := rfl

include hV hf hu

theorem weight_eq (t q : Ideal .f32) (ht : t = (sitofp (F := Ideal) .f32 (V0 (Proc.devRef .tc main_arg1)) : FVec Ideal S_ .f32) (Shape.Idx.first h_S_))
    (hq : q = (sitofp (F := Ideal) .f32 (V0 (Proc.devRef .tc main_arg3)) : FVec Ideal S_ .f32) (Shape.Idx.first h_S_)) :
    soft t q (topV (left X)) = weight V0 := by
  unfold soft
  have h30 : Sc.kept q (probs V0) = res_main_v30 V0 := (kept_eq q (probs V0) _ hq).trans rfl
  have h := weights_eq X V0 hV hf hu t (bound V0) ht
  rw [show (((bound V0 : ℝ) : EReal) : Ideal .f32) = q from hq.symm, h30, normed_eq (res_main_v30 V0)] at h
  exact h

theorem counters_eq : counters (topN (Sc.iTab (F := Ideal) X) (left X)) = addi (muli (iotaInDim S128x32 32 0) (Hash.cw 100000#32)) (res_main_v3 V0) := by
  unfold counters
  rw [rows_eq, nums_top X hf hu V0 hV]
  rfl

theorem answer_eq (t q : Ideal .f32) (ht : t = (sitofp (F := Ideal) .f32 (V0 (Proc.devRef .tc main_arg1)) : FVec Ideal S_ .f32) (Shape.Idx.first h_S_))
    (hq : q = (sitofp (F := Ideal) .f32 (V0 (Proc.devRef .tc main_arg3)) : FVec Ideal S_ .f32) (Shape.Idx.first h_S_)) :
    Cert.KernelIdeal.Gen.k1_pay153 (F := Ideal) (topN (Sc.iTab (F := Ideal) X) (left X)) (iota .tc Cert.KernelIdeal.S128x32 32 [1] Cert.KernelIdeal.Gen.iota_S128x32_d1_w32)
      (soft t q (topV (left X))) (bitsOf (counters (topN (Sc.iTab (F := Ideal) X) (left X)))) Cert.KernelIdeal.Gen.k1_pay152
      = shapeCast S128x1 (answer V0) Cert.KernelIdeal.Gen.shapeCasts_S128_S128x1 := by
  rw [pay_eq, weight_eq X V0 hV hf hu t q ht hq, Hash.bits_eq V0 _ (counters_eq X V0 hV hf hu), places_eq, ← nums_top X hf hu V0 hV, ← v225_eq]
  rfl

end Cert.Proof.Ref
-- ==== Proof.End.lean ====
/-
  The program's result over the extended reals: the second call's value, the last reshape, and the reference's answer.
-/
module

public import proofs.«01_k».proof.Proof.Main
public import proofs.«01_k».proof.Proof.Tail
public import Idealize.ShloMosaic.Lib.Pipeline.ValueKit.Geometry
public import Idealize.ShloMosaic.Lib.Pipeline.ValueKit.Acc

@[expose] public section

set_option maxRecDepth 65536

noncomputable section

namespace Cert.Proof.Sc

open Cert.KernelIdeal Cert.KernelIdeal.Gen Cert.Proof.Row
open Idealize.ShloMosaic
open Idealize.ShloMosaic.TcCoe
open Idealize.ShloMosaic.Pipeline (Dat Cfg Window)

variable {F : FTy → Type} [FloatOps F]

section
variable (V : (c : Dev nD) → (b : Ref sig .tc) → Buf (Elt F) ((c : Thread nD τ).loc b))

/-! ## The operands staged whole -/

theorem zero_0 : ∀ a, win1_0.index t1_0 a = 0 := by decide +kernel
theorem zero_1 : ∀ a, win1_1.index t1_0 a = 0 := by decide +kernel
theorem zero_2 : ∀ a, win1_2.index t1_0 a = 0 := by decide +kernel
theorem zero_3 : ∀ a, win1_3.index t1_0 a = 0 := by decide +kernel

theorem stg0_eq (c : Dev nD) : stg0 V c = V c main_v2 := by
  funext y
  unfold stg0
  blk_simp
  exact congrArg (V c main_v2) (funext fun a => Fin.ext (Window.rect_emb_val_of_index_zero win1_0 t1_0 a (zero_0 a) y))
theorem stg1_eq (c : Dev nD) : stg1 V c = V c main_v4 := by
  funext y
  unfold stg1
  blk_simp
  exact congrArg (V c main_v4) (funext fun a => Fin.ext (Window.rect_emb_val_of_index_zero win1_1 t1_0 a (zero_1 a) y))
theorem stg2_eq (c : Dev nD) : stg2 V c = V c main_v0_0 := by
  funext y
  unfold stg2
  blk_simp
  exact congrArg (V c main_v0_0) (funext fun a => Fin.ext (Window.rect_emb_val_of_index_zero win1_2 t1_0 a (zero_2 a) y))
theorem stg3_eq (c : Dev nD) : stg3 V c = V c main_v0_1 := by
  funext y
  unfold stg3
  blk_simp
  exact congrArg (V c main_v0_1) (funext fun a => Fin.ext (Window.rect_emb_val_of_index_zero win1_3 t1_0 a (zero_3 a) y))

theorem KR_eq (c : Dev nD) : (KR V c).1 = finV (V c main_v2) (V c main_v4) (V c main_v0_0) (V c main_v0_1) := by
  rw [← stg0_eq V c, ← stg1_eq V c, ← stg2_eq V c, ← stg3_eq V c]
  show View.read (Elt F) (View.whole cc1_stg4_0) (KR V c).1 = _
  unfold KR finRun
  dsimp only
  frame_out
  exact View.canon_unit_zero (S := S128x1) (Val := Elt F) (off := ![0, 0]) (funext fun a => by revert a; decide) inb_S128x1_S128x1_0_0 _

theorem finned_eq (c : Dev nD) : finned V c = finV (V c main_v2) (V c main_v4) (V c main_v0_0) (V c main_v0_1) := by
  rw [← KR_eq]
  funext i
  unfold finned
  exact ((dat V c).arrAt_emb_eq_after_last 4 t1_0 (by decide +kernel) i)
end

section
variable (m : (ℓ : Loc nD τ sig) → Buf (Elt F) ℓ)

theorem V2_t (c : Dev nD) : V2 m c main_v2 = shapeCast S1x1 (sitofp .f32 (m ((c.tc : Thread nD τ).loc main_arg1)) : FVec F S_ .f32) shapeCasts_S_S1x1 := by
  unfold V2 W2 op1 op2 op3 op4
  rw [StableHlo.reshape_result_ne (h := by decide), StableHlo.unary_result_ne (h := by decide), StableHlo.reshape_result, StableHlo.unary_result,
    W1_ne m c main_arg1 (by decide) (by decide)]
  rfl
theorem V2_q (c : Dev nD) : V2 m c main_v4 = shapeCast S1x1 (sitofp .f32 (m ((c.tc : Thread nD τ).loc main_arg3)) : FVec F S_ .f32) shapeCasts_S_S1x1 := by
  unfold V2 W2 op1 op2 op3 op4
  rw [StableHlo.reshape_result, StableHlo.unary_result, StableHlo.reshape_result_ne (h := by decide), StableHlo.unary_result_ne (h := by decide),
    W1_ne m c main_arg3 (by decide) (by decide)]
  rfl
theorem V2_v (c : Dev nD) : V2 m c main_v0_0 = vTab (m (xLoc c)) :=
  (W2_ne m c main_v0_0 (by decide) (by decide) (by decide) (by decide)).trans (W1_v m c)
theorem V2_i (c : Dev nD) : V2 m c main_v0_1 = iTab (m (xLoc c)) :=
  (W2_ne m c main_v0_1 (by decide) (by decide) (by decide) (by decide)).trans (W1_i m c)

theorem W4_out (c : Dev nD) : W4 m c main_v6 = shapeCast S128 (finV (V2 m c main_v2) (V2 m c main_v4) (V2 m c main_v0_0) (V2 m c main_v0_1)) shapeCasts_S128x1_S128 := by
  rw [← finned_eq, ← V3_out]
  unfold W4 op5
  rw [StableHlo.reshape_result]
  rfl

theorem one_at {α : Type} (z : S_.Idx → α) (i : S_.Idx) : extractAt ![0, 0] (shapeCast S1x1 z shapeCasts_S_S1x1) inpos_S1x1_p0_0 = z i :=
  congrArg z (funext fun a => a.elim0)
end

/-! ## Over the extended reals -/

variable (m : (ℓ : Loc nD τ sig) → Buf (Elt Ideal) ℓ)

theorem left_zero (X : FVec Ideal S128x100000 .f32) : Ref.left X 0 = shapeCast S128x512 (vTab (F := Ideal) X) shapeCasts_S128x512_S128x512 :=
  (shapeCast_self (vTab (F := Ideal) X) shapeCasts_S128x512_S128x512).symm

theorem left_succ (X : FVec Ideal S128x100000 .f32) (r : ℕ) : Ref.left X (r + 1) = Tx (iTab (F := Ideal) X) (Ref.left X r) := rfl

theorem value_eq (X : FVec Ideal S128x100000 .f32) (t q : FVec Ideal S_ .f32) (V0 : Valuation Cert.ReferenceIdeal.τ Cert.ReferenceIdeal.sig (Elt Ideal))
    (h0 : V0 (Proc.devRef .tc Cert.ReferenceIdeal.main_arg0) = X)
    (h1 : t = sitofp (F := Ideal) .f32 (V0 (Proc.devRef .tc Cert.ReferenceIdeal.main_arg1)))
    (h3 : q = sitofp (F := Ideal) .f32 (V0 (Proc.devRef .tc Cert.ReferenceIdeal.main_arg3)))
    (hf : Ref.finites X = fun _ => 1#1) (hu : Ref.uncrowded X = fun _ => 1#1) :
    finV (F := Ideal) (shapeCast S1x1 t shapeCasts_S_S1x1) (shapeCast S1x1 q shapeCasts_S_S1x1) (vTab (F := Ideal) X) (iTab (F := Ideal) X)
      = shapeCast S128x1 (Ref.answer V0) shapeCasts_S128_S128x1 :=
  (finV_eq (F := Ideal) (shapeCast S1x1 t shapeCasts_S_S1x1) (shapeCast S1x1 q shapeCasts_S_S1x1) (vTab (F := Ideal) X) (Ref.left X) (iTab (F := Ideal) X) (iTab (F := Ideal) X)
    (left_zero X) (shapeCast_self (iTab (F := Ideal) X) shapeCasts_S128x512_S128x512).symm (left_succ X)).trans
  (Ref.answer_eq X V0 h0 hf hu _ _ ((one_at t _).trans (congrFun h1 _)) ((one_at q _).trans (congrFun h3 _)))

theorem result_eq (c : Dev nD) (X : FVec Ideal S128x100000 .f32) (hm : m ((c.tc : Thread nD τ).loc main_arg0) = X) (V0 : Valuation Cert.ReferenceIdeal.τ Cert.ReferenceIdeal.sig (Elt Ideal))
    (h0 : V0 (Proc.devRef .tc Cert.ReferenceIdeal.main_arg0) = X)
    (h1 : V0 (Proc.devRef .tc Cert.ReferenceIdeal.main_arg1) = m ((c.tc : Thread nD τ).loc main_arg1))
    (h3 : V0 (Proc.devRef .tc Cert.ReferenceIdeal.main_arg3) = m ((c.tc : Thread nD τ).loc main_arg3))
    (hf : Ref.finites X = fun _ => 1#1) (hu : Ref.uncrowded X = fun _ => 1#1) : W4 m c main_v6 = Ref.answer V0 := by
  rw [W4_out, V2_t, V2_q, V2_v, V2_i]
  rw [show m (xLoc c) = X from hm]
  rw [value_eq X _ _ V0 h0 (congrArg _ h1.symm) (congrArg _ h3.symm) hf hu]
  exact shapeCast_shapeCast (Ref.answer V0) _ _

end Cert.Proof.Sc

end
-- ==== Proof.lean ====
/-
  The claims, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Main
public import proofs.«01_k».proof.Proof.End
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The two printed programs have the same text, so over the same float values the same bodies. -/
theorem defs₀_eq : Cert.Kernel.defs₀ (F := Bits) = Cert.KernelIdeal.defs₀ (F := Bits) := by
  funext p ℓ a
  match p, ℓ, a with
  | .scVector c s, 0, _ => rfl
  | .scVector c s, 1, _ => rfl
  | .scScalar c, 0, _ => rfl
  | .scScalar c, 1, _ => rfl
  | .tc, 0, _ => rfl
  | .tc, 1, (t, s) => rfl

theorem defs_eq : Cert.Kernel.defs (F := Bits) = Cert.KernelIdeal.defs (F := Bits) :=
  congrArg (fun D => Cert.KernelIdeal.sc.defs (Pipeline.defs Cert.KernelIdeal.pcfgs D)) defs₀_eq

/-- The kernel's frame: its run over float words, with the result dropped. -/
theorem frame_kernel : Cert.quiescent_Kernel := by
  intro m ρ _
  rw [defs_eq]
  exact (θ_run Cert.KernelIdeal.defs _ _).mono (fun _ h => ⟨fun c => (h.1 c).2, h.2⟩) (Sc.run_all (F := Bits) m ρ)

/-- The ideal kernel's frame. -/
theorem frame_ideal : Cert.quiescent_KernelIdeal := fun m ρ _ =>
  (θ_run Cert.KernelIdeal.defs _ _).mono (fun _ h => ⟨fun c => (h.1 c).2, h.2⟩) (Sc.run_all (F := Ideal) m ρ)

/-- The same under the condition on the logits. -/
theorem frame_ideal_spread : Cert.quiescent_KernelIdeal_pre_spread := fun m ρ _ =>
  (θ_run Cert.KernelIdeal.defs _ _).mono (fun _ h => ⟨fun c => (h.1 c).2, h.2⟩) (Sc.run_all (F := Ideal) m ρ)

/-- The reference's frame: it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the condition on the logits. -/
theorem frame_reference_spread : Cert.quiescent_ReferenceIdeal_pre_spread := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's sampled tokens are the reference's. -/
theorem algebraic : Cert.algebraic_KernelIdeal_ReferenceIdeal_pre_spread := fun m ρ m' ρ' hpre hm =>
  ⟨fun c => Sc.W4 (F := Ideal) m c (Proc.devRef .tc Cert.KernelIdeal.main_v6),
   (θ_run Cert.KernelIdeal.defs _ _).mono (fun _ h c => h.1 c) (Sc.run_all (F := Ideal) m ρ),
   (θ_run Cert.ReferenceIdeal.defs _ _).mono
    (fun r h c => ⟨(h c).1.trans (Sc.result_eq m c _ rfl (StableHlo.launchContents m' c) (hm c).1 (hm c).2.1 (hm c).2.2.2
      (Ref.spread_both _ _ _ _ (hpre c)).1 (Ref.spread_both _ _ _ _ (hpre c)).2).symm, (h c).2⟩)
    (Cert.ReferenceIdeal.Value.run (F := Ideal) m' ρ')⟩

theorem claim : Cert.Claim := ⟨Cert.Kernel.Gen.facts, Cert.KernelIdeal.Gen.facts, Cert.ReferenceIdeal.Gen.facts, Pre.facts,
  frame_kernel, frame_ideal, frame_ideal_spread, frame_reference, frame_reference_spread, trivial, algebraic⟩

end Cert.Proof

end
